-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18_7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x2048 : Shape := ⟨2, ![32, 2048]⟩
abbrev S2048x2048 : Shape := ⟨2, ![2048, 2048]⟩
abbrev S2048 : Shape := ⟨1, ![2048]⟩
abbrev S32 : Shape := ⟨1, ![32]⟩
abbrev S_ : Shape := ⟨0, ![]⟩
abbrev S1 : Shape := ⟨1, ![1]⟩
abbrev S2 : Shape := ⟨1, ![2]⟩
abbrev S100 : Shape := ⟨1, ![100]⟩
abbrev S100x1 : Shape := ⟨2, ![100, 1]⟩
abbrev S100x2 : Shape := ⟨2, ![100, 2]⟩
abbrev S3 : Shape := ⟨1, ![3]⟩
abbrev S1x3 : Shape := ⟨2, ![1, 3]⟩
abbrev S100x3 : Shape := ⟨2, ![100, 3]⟩
abbrev S100x3x1 : Shape := ⟨3, ![100, 3, 1]⟩
abbrev S100x3x2 : Shape := ⟨3, ![100, 3, 2]⟩
abbrev S100x1x2 : Shape := ⟨3, ![100, 1, 2]⟩
abbrev S1x32 : Shape := ⟨2, ![1, 32]⟩
abbrev S100x32 : Shape := ⟨2, ![100, 32]⟩
abbrev S1x1 : Shape := ⟨2, ![1, 1]⟩
abbrev S100x32x1 : Shape := ⟨3, ![100, 32, 1]⟩
abbrev S100x32x2 : Shape := ⟨3, ![100, 32, 2]⟩
abbrev S32x1 : Shape := ⟨2, ![32, 1]⟩
abbrev S1x2048 : Shape := ⟨2, ![1, 2048]⟩
abbrev S1x1x2 : Shape := ⟨3, ![1, 1, 2]⟩
abbrev S1x32x2 : Shape := ⟨3, ![1, 32, 2]⟩
abbrev S1x1x1 : Shape := ⟨3, ![1, 1, 1]⟩
abbrev S32x2 : Shape := ⟨2, ![32, 2]⟩
abbrev S31x2048 : Shape := ⟨2, ![31, 2048]⟩
abbrev S31x1 : Shape := ⟨2, ![31, 1]⟩

abbrev nBuf : Space → Nat
  | .hbm => 1052
  | .vmem => 9
  | .smem => 2
  | _ => 0

abbrev hbmTy0_0 (i : Nat) : BufTy := match i % 128 with
  | 0 => ⟨S32x2048, .f32⟩
  | 1 => ⟨S2048x2048, .f32⟩
  | 2 => ⟨S2048, .f32⟩
  | 3 => ⟨S32, .f32⟩
  | 4 => ⟨S_, .i32⟩
  | 5 => ⟨S_, .i32⟩
  | 6 => ⟨S_, .i32⟩
  | 7 => ⟨S_, .i32⟩
  | 8 => ⟨S1, .i32⟩
  | 9 => ⟨S_, .i32⟩
  | 10 => ⟨S_, .i32⟩
  | 11 => ⟨S_, .i32⟩
  | 12 => ⟨S1, .i32⟩
  | 13 => ⟨S2, .i32⟩
  | 14 => ⟨S100, .i32⟩
  | 15 => ⟨S100, .i32⟩
  | 16 => ⟨S_, .i32⟩
  | 17 => ⟨S100, .i32⟩
  | 18 => ⟨S100, .i32⟩
  | 19 => ⟨S100x1, .i32⟩
  | 20 => ⟨S_, .i32⟩
  | 21 => ⟨S100, .i32⟩
  | 22 => ⟨S100, .i32⟩
  | 23 => ⟨S100x1, .i32⟩
  | 24 => ⟨S100x2, .i32⟩
  | 25 => ⟨S1, .i32⟩
  | 26 => ⟨S_, .i32⟩
  | 27 => ⟨S1, .i32⟩
  | 28 => ⟨S_, .i32⟩
  | 29 => ⟨S100x1, .i32⟩
  | 30 => ⟨S100x1, .i32⟩
  | 31 => ⟨S_, .i32⟩
  | 32 => ⟨S_, .i32⟩
  | 33 => ⟨S_, .i32⟩
  | 34 => ⟨S100x1, .i32⟩
  | 35 => ⟨S100x1, .i32⟩
  | 36 => ⟨S100x1, .i32⟩
  | 37 => ⟨S100x1, .i32⟩
  | 38 => ⟨S100x1, .i32⟩
  | 39 => ⟨S_, .i32⟩
  | 40 => ⟨S100x1, .i32⟩
  | 41 => ⟨S100x1, .i32⟩
  | 42 => ⟨S_, .i32⟩
  | 43 => ⟨S100x1, .i32⟩
  | 44 => ⟨S100x1, .i32⟩
  | 45 => ⟨S100x1, .i32⟩
  | 46 => ⟨S100x1, .i32⟩
  | 47 => ⟨S100x1, .i32⟩
  | 48 => ⟨S_, .i32⟩
  | 49 => ⟨S100x1, .i32⟩
  | 50 => ⟨S100x1, .i32⟩
  | 51 => ⟨S_, .i32⟩
  | 52 => ⟨S100x1, .i32⟩
  | 53 => ⟨S100x1, .i32⟩
  | 54 => ⟨S100x1, .i32⟩
  | 55 => ⟨S100x1, .i32⟩
  | 56 => ⟨S100x1, .i32⟩
  | 57 => ⟨S_, .i32⟩
  | 58 => ⟨S100x1, .i32⟩
  | 59 => ⟨S100x1, .i32⟩
  | 60 => ⟨S_, .i32⟩
  | 61 => ⟨S100x1, .i32⟩
  | 62 => ⟨S100x1, .i32⟩
  | 63 => ⟨S100x1, .i32⟩
  | 64 => ⟨S100x1, .i32⟩
  | 65 => ⟨S100x1, .i32⟩
  | 66 => ⟨S_, .i32⟩
  | 67 => ⟨S100x1, .i32⟩
  | 68 => ⟨S100x1, .i32⟩
  | 69 => ⟨S_, .i32⟩
  | 70 => ⟨S100x1, .i32⟩
  | 71 => ⟨S100x1, .i32⟩
  | 72 => ⟨S100x1, .i32⟩
  | 73 => ⟨S100x1, .i32⟩
  | 74 => ⟨S100x1, .i32⟩
  | 75 => ⟨S100x1, .i32⟩
  | 76 => ⟨S100x1, .i32⟩
  | 77 => ⟨S100x1, .i32⟩
  | 78 => ⟨S_, .i32⟩
  | 79 => ⟨S100x1, .i32⟩
  | 80 => ⟨S100x1, .i32⟩
  | 81 => ⟨S100x1, .i32⟩
  | 82 => ⟨S_, .i32⟩
  | 83 => ⟨S100x1, .i32⟩
  | 84 => ⟨S100x1, .i32⟩
  | 85 => ⟨S_, .i32⟩
  | 86 => ⟨S100x1, .i32⟩
  | 87 => ⟨S100x1, .i32⟩
  | 88 => ⟨S100x1, .i32⟩
  | 89 => ⟨S100x1, .i32⟩
  | 90 => ⟨S100x1, .i32⟩
  | 91 => ⟨S_, .i32⟩
  | 92 => ⟨S100x1, .i32⟩
  | 93 => ⟨S100x1, .i32⟩
  | 94 => ⟨S_, .i32⟩
  | 95 => ⟨S100x1, .i32⟩
  | 96 => ⟨S100x1, .i32⟩
  | 97 => ⟨S100x1, .i32⟩
  | 98 => ⟨S100x1, .i32⟩
  | 99 => ⟨S100x1, .i32⟩
  | 100 => ⟨S_, .i32⟩
  | 101 => ⟨S100x1, .i32⟩
  | 102 => ⟨S100x1, .i32⟩
  | 103 => ⟨S_, .i32⟩
  | 104 => ⟨S100x1, .i32⟩
  | 105 => ⟨S100x1, .i32⟩
  | 106 => ⟨S100x1, .i32⟩
  | 107 => ⟨S100x1, .i32⟩
  | 108 => ⟨S100x1, .i32⟩
  | 109 => ⟨S_, .i32⟩
  | 110 => ⟨S100x1, .i32⟩
  | 111 => ⟨S100x1, .i32⟩
  | 112 => ⟨S_, .i32⟩
  | 113 => ⟨S100x1, .i32⟩
  | 114 => ⟨S100x1, .i32⟩
  | 115 => ⟨S100x1, .i32⟩
  | 116 => ⟨S100x1, .i32⟩
  | 117 => ⟨S100x1, .i32⟩
  | 118 => ⟨S100x1, .i32⟩
  | 119 => ⟨S100x1, .i32⟩
  | 120 => ⟨S100x1, .i32⟩
  | 121 => ⟨S_, .i32⟩
  | 122 => ⟨S100x1, .i32⟩
  | 123 => ⟨S100x1, .i32⟩
  | 124 => ⟨S100x1, .i32⟩
  | 125 => ⟨S_, .i32⟩
  | 126 => ⟨S100x1, .i32⟩
  | 127 => ⟨S100x1, .i32⟩
  | _ => ⟨S32x2048, .f32⟩

abbrev hbmTy0_1 (i : Nat) : BufTy := match i % 128 with
  | 0 => ⟨S_, .i32⟩
  | 1 => ⟨S100x1, .i32⟩
  | 2 => ⟨S100x1, .i32⟩
  | 3 => ⟨S100x1, .i32⟩
  | 4 => ⟨S100x1, .i32⟩
  | 5 => ⟨S100x1, .i32⟩
  | 6 => ⟨S_, .i32⟩
  | 7 => ⟨S100x1, .i32⟩
  | 8 => ⟨S100x1, .i32⟩
  | 9 => ⟨S_, .i32⟩
  | 10 => ⟨S100x1, .i32⟩
  | 11 => ⟨S100x1, .i32⟩
  | 12 => ⟨S100x1, .i32⟩
  | 13 => ⟨S100x1, .i32⟩
  | 14 => ⟨S100x1, .i32⟩
  | 15 => ⟨S_, .i32⟩
  | 16 => ⟨S100x1, .i32⟩
  | 17 => ⟨S100x1, .i32⟩
  | 18 => ⟨S_, .i32⟩
  | 19 => ⟨S100x1, .i32⟩
  | 20 => ⟨S100x1, .i32⟩
  | 21 => ⟨S100x1, .i32⟩
  | 22 => ⟨S100x1, .i32⟩
  | 23 => ⟨S100x1, .i32⟩
  | 24 => ⟨S_, .i32⟩
  | 25 => ⟨S100x1, .i32⟩
  | 26 => ⟨S100x1, .i32⟩
  | 27 => ⟨S_, .i32⟩
  | 28 => ⟨S100x1, .i32⟩
  | 29 => ⟨S100x1, .i32⟩
  | 30 => ⟨S100x1, .i32⟩
  | 31 => ⟨S100x1, .i32⟩
  | 32 => ⟨S100x1, .i32⟩
  | 33 => ⟨S100x1, .i32⟩
  | 34 => ⟨S100x1, .i32⟩
  | 35 => ⟨S100x1, .i32⟩
  | 36 => ⟨S_, .i32⟩
  | 37 => ⟨S100x1, .i32⟩
  | 38 => ⟨S100x1, .i32⟩
  | 39 => ⟨S100x1, .i32⟩
  | 40 => ⟨S_, .i32⟩
  | 41 => ⟨S100x1, .i32⟩
  | 42 => ⟨S100x1, .i32⟩
  | 43 => ⟨S_, .i32⟩
  | 44 => ⟨S100x1, .i32⟩
  | 45 => ⟨S100x1, .i32⟩
  | 46 => ⟨S100x1, .i32⟩
  | 47 => ⟨S100x1, .i32⟩
  | 48 => ⟨S100x1, .i32⟩
  | 49 => ⟨S_, .i32⟩
  | 50 => ⟨S100x1, .i32⟩
  | 51 => ⟨S100x1, .i32⟩
  | 52 => ⟨S_, .i32⟩
  | 53 => ⟨S100x1, .i32⟩
  | 54 => ⟨S100x1, .i32⟩
  | 55 => ⟨S100x1, .i32⟩
  | 56 => ⟨S100x1, .i32⟩
  | 57 => ⟨S100x1, .i32⟩
  | 58 => ⟨S_, .i32⟩
  | 59 => ⟨S100x1, .i32⟩
  | 60 => ⟨S100x1, .i32⟩
  | 61 => ⟨S_, .i32⟩
  | 62 => ⟨S100x1, .i32⟩
  | 63 => ⟨S100x1, .i32⟩
  | 64 => ⟨S100x1, .i32⟩
  | 65 => ⟨S100x1, .i32⟩
  | 66 => ⟨S100x1, .i32⟩
  | 67 => ⟨S_, .i32⟩
  | 68 => ⟨S100x1, .i32⟩
  | 69 => ⟨S100x1, .i32⟩
  | 70 => ⟨S_, .i32⟩
  | 71 => ⟨S100x1, .i32⟩
  | 72 => ⟨S100x1, .i32⟩
  | 73 => ⟨S100x1, .i32⟩
  | 74 => ⟨S100x1, .i32⟩
  | 75 => ⟨S100x1, .i32⟩
  | 76 => ⟨S100x1, .i32⟩
  | 77 => ⟨S100x1, .i32⟩
  | 78 => ⟨S100x1, .i32⟩
  | 79 => ⟨S_, .i32⟩
  | 80 => ⟨S100x1, .i32⟩
  | 81 => ⟨S100x1, .i32⟩
  | 82 => ⟨S100x1, .i32⟩
  | 83 => ⟨S_, .i32⟩
  | 84 => ⟨S100x1, .i32⟩
  | 85 => ⟨S100x1, .i32⟩
  | 86 => ⟨S_, .i32⟩
  | 87 => ⟨S100x1, .i32⟩
  | 88 => ⟨S100x1, .i32⟩
  | 89 => ⟨S100x1, .i32⟩
  | 90 => ⟨S100x1, .i32⟩
  | 91 => ⟨S100x1, .i32⟩
  | 92 => ⟨S_, .i32⟩
  | 93 => ⟨S100x1, .i32⟩
  | 94 => ⟨S100x1, .i32⟩
  | 95 => ⟨S_, .i32⟩
  | 96 => ⟨S100x1, .i32⟩
  | 97 => ⟨S100x1, .i32⟩
  | 98 => ⟨S100x1, .i32⟩
  | 99 => ⟨S100x1, .i32⟩
  | 100 => ⟨S100x1, .i32⟩
  | 101 => ⟨S_, .i32⟩
  | 102 => ⟨S100x1, .i32⟩
  | 103 => ⟨S100x1, .i32⟩
  | 104 => ⟨S_, .i32⟩
  | 105 => ⟨S100x1, .i32⟩
  | 106 => ⟨S100x1, .i32⟩
  | 107 => ⟨S100x1, .i32⟩
  | 108 => ⟨S100x1, .i32⟩
  | 109 => ⟨S100x1, .i32⟩
  | 110 => ⟨S_, .i32⟩
  | 111 => ⟨S100x1, .i32⟩
  | 112 => ⟨S100x1, .i32⟩
  | 113 => ⟨S_, .i32⟩
  | 114 => ⟨S100x1, .i32⟩
  | 115 => ⟨S100x1, .i32⟩
  | 116 => ⟨S100x1, .i32⟩
  | 117 => ⟨S100x1, .i32⟩
  | 118 => ⟨S100x1, .i32⟩
  | 119 => ⟨S100x1, .i32⟩
  | 120 => ⟨S100x1, .i32⟩
  | 121 => ⟨S100x1, .i32⟩
  | 122 => ⟨S_, .i32⟩
  | 123 => ⟨S100x1, .i32⟩
  | 124 => ⟨S100x1, .i32⟩
  | 125 => ⟨S100x2, .i32⟩
  | 126 => ⟨S100x1, .i32⟩
  | 127 => ⟨S100, .i32⟩
  | _ => ⟨S32x2048, .f32⟩

abbrev hbmTy0_2 (i : Nat) : BufTy := match i % 128 with
  | 0 => ⟨S100x1, .i32⟩
  | 1 => ⟨S100, .i32⟩
  | 2 => ⟨S3, .i64⟩
  | 3 => ⟨S_, .i64⟩
  | 4 => ⟨S3, .i64⟩
  | 5 => ⟨S3, .i64⟩
  | 6 => ⟨S_, .i64⟩
  | 7 => ⟨S3, .i64⟩
  | 8 => ⟨S3, .i64⟩
  | 9 => ⟨S3, .i32⟩
  | 10 => ⟨S3, .i32⟩
  | 11 => ⟨S1x3, .i32⟩
  | 12 => ⟨S1x3, .i32⟩
  | 13 => ⟨S100x1, .i32⟩
  | 14 => ⟨S100x1, .i32⟩
  | 15 => ⟨S100x1, .i32⟩
  | 16 => ⟨S_, .i32⟩
  | 17 => ⟨S100x1, .i32⟩
  | 18 => ⟨S100x1, .i32⟩
  | 19 => ⟨S100x3, .i32⟩
  | 20 => ⟨S100x3, .i32⟩
  | 21 => ⟨S100x3, .i32⟩
  | 22 => ⟨S100x3, .i32⟩
  | 23 => ⟨S100x3, .i32⟩
  | 24 => ⟨S100x3, .i32⟩
  | 25 => ⟨S100x3, .i32⟩
  | 26 => ⟨S_, .i32⟩
  | 27 => ⟨S100x3, .i32⟩
  | 28 => ⟨S100x3, .i32⟩
  | 29 => ⟨S_, .i32⟩
  | 30 => ⟨S100x3, .i32⟩
  | 31 => ⟨S100x3, .i32⟩
  | 32 => ⟨S100x3, .i32⟩
  | 33 => ⟨S100x3, .i32⟩
  | 34 => ⟨S100x3, .i32⟩
  | 35 => ⟨S_, .i32⟩
  | 36 => ⟨S100x3, .i32⟩
  | 37 => ⟨S100x3, .i32⟩
  | 38 => ⟨S_, .i32⟩
  | 39 => ⟨S100x3, .i32⟩
  | 40 => ⟨S100x3, .i32⟩
  | 41 => ⟨S100x3, .i32⟩
  | 42 => ⟨S100x3, .i32⟩
  | 43 => ⟨S100x3, .i32⟩
  | 44 => ⟨S_, .i32⟩
  | 45 => ⟨S100x3, .i32⟩
  | 46 => ⟨S100x3, .i32⟩
  | 47 => ⟨S_, .i32⟩
  | 48 => ⟨S100x3, .i32⟩
  | 49 => ⟨S100x3, .i32⟩
  | 50 => ⟨S100x3, .i32⟩
  | 51 => ⟨S100x3, .i32⟩
  | 52 => ⟨S100x3, .i32⟩
  | 53 => ⟨S_, .i32⟩
  | 54 => ⟨S100x3, .i32⟩
  | 55 => ⟨S100x3, .i32⟩
  | 56 => ⟨S_, .i32⟩
  | 57 => ⟨S100x3, .i32⟩
  | 58 => ⟨S100x3, .i32⟩
  | 59 => ⟨S100x3, .i32⟩
  | 60 => ⟨S100x3, .i32⟩
  | 61 => ⟨S100x3, .i32⟩
  | 62 => ⟨S100x3, .i32⟩
  | 63 => ⟨S100x3, .i32⟩
  | 64 => ⟨S100x3, .i32⟩
  | 65 => ⟨S_, .i32⟩
  | 66 => ⟨S100x3, .i32⟩
  | 67 => ⟨S100x3, .i32⟩
  | 68 => ⟨S100x3, .i32⟩
  | 69 => ⟨S_, .i32⟩
  | 70 => ⟨S100x3, .i32⟩
  | 71 => ⟨S100x3, .i32⟩
  | 72 => ⟨S_, .i32⟩
  | 73 => ⟨S100x3, .i32⟩
  | 74 => ⟨S100x3, .i32⟩
  | 75 => ⟨S100x3, .i32⟩
  | 76 => ⟨S100x3, .i32⟩
  | 77 => ⟨S100x3, .i32⟩
  | 78 => ⟨S_, .i32⟩
  | 79 => ⟨S100x3, .i32⟩
  | 80 => ⟨S100x3, .i32⟩
  | 81 => ⟨S_, .i32⟩
  | 82 => ⟨S100x3, .i32⟩
  | 83 => ⟨S100x3, .i32⟩
  | 84 => ⟨S100x3, .i32⟩
  | 85 => ⟨S100x3, .i32⟩
  | 86 => ⟨S100x3, .i32⟩
  | 87 => ⟨S_, .i32⟩
  | 88 => ⟨S100x3, .i32⟩
  | 89 => ⟨S100x3, .i32⟩
  | 90 => ⟨S_, .i32⟩
  | 91 => ⟨S100x3, .i32⟩
  | 92 => ⟨S100x3, .i32⟩
  | 93 => ⟨S100x3, .i32⟩
  | 94 => ⟨S100x3, .i32⟩
  | 95 => ⟨S100x3, .i32⟩
  | 96 => ⟨S_, .i32⟩
  | 97 => ⟨S100x3, .i32⟩
  | 98 => ⟨S100x3, .i32⟩
  | 99 => ⟨S_, .i32⟩
  | 100 => ⟨S100x3, .i32⟩
  | 101 => ⟨S100x3, .i32⟩
  | 102 => ⟨S100x3, .i32⟩
  | 103 => ⟨S100x3, .i32⟩
  | 104 => ⟨S100x3, .i32⟩
  | 105 => ⟨S100x3, .i32⟩
  | 106 => ⟨S100x3, .i32⟩
  | 107 => ⟨S100x3, .i32⟩
  | 108 => ⟨S_, .i32⟩
  | 109 => ⟨S100x3, .i32⟩
  | 110 => ⟨S100x3, .i32⟩
  | 111 => ⟨S100x3, .i32⟩
  | 112 => ⟨S_, .i32⟩
  | 113 => ⟨S100x3, .i32⟩
  | 114 => ⟨S100x3, .i32⟩
  | 115 => ⟨S_, .i32⟩
  | 116 => ⟨S100x3, .i32⟩
  | 117 => ⟨S100x3, .i32⟩
  | 118 => ⟨S100x3, .i32⟩
  | 119 => ⟨S100x3, .i32⟩
  | 120 => ⟨S100x3, .i32⟩
  | 121 => ⟨S_, .i32⟩
  | 122 => ⟨S100x3, .i32⟩
  | 123 => ⟨S100x3, .i32⟩
  | 124 => ⟨S_, .i32⟩
  | 125 => ⟨S100x3, .i32⟩
  | 126 => ⟨S100x3, .i32⟩
  | 127 => ⟨S100x3, .i32⟩
  | _ => ⟨S32x2048, .f32⟩

abbrev hbmTy0_3 (i : Nat) : BufTy := match i % 128 with
  | 0 => ⟨S100x3, .i32⟩
  | 1 => ⟨S100x3, .i32⟩
  | 2 => ⟨S_, .i32⟩
  | 3 => ⟨S100x3, .i32⟩
  | 4 => ⟨S100x3, .i32⟩
  | 5 => ⟨S_, .i32⟩
  | 6 => ⟨S100x3, .i32⟩
  | 7 => ⟨S100x3, .i32⟩
  | 8 => ⟨S100x3, .i32⟩
  | 9 => ⟨S100x3, .i32⟩
  | 10 => ⟨S100x3, .i32⟩
  | 11 => ⟨S_, .i32⟩
  | 12 => ⟨S100x3, .i32⟩
  | 13 => ⟨S100x3, .i32⟩
  | 14 => ⟨S_, .i32⟩
  | 15 => ⟨S100x3, .i32⟩
  | 16 => ⟨S100x3, .i32⟩
  | 17 => ⟨S100x3, .i32⟩
  | 18 => ⟨S100x3, .i32⟩
  | 19 => ⟨S100x3, .i32⟩
  | 20 => ⟨S100x3, .i32⟩
  | 21 => ⟨S100x3, .i32⟩
  | 22 => ⟨S100x3, .i32⟩
  | 23 => ⟨S_, .i32⟩
  | 24 => ⟨S100x3, .i32⟩
  | 25 => ⟨S100x3, .i32⟩
  | 26 => ⟨S100x3, .i32⟩
  | 27 => ⟨S_, .i32⟩
  | 28 => ⟨S100x3, .i32⟩
  | 29 => ⟨S100x3, .i32⟩
  | 30 => ⟨S_, .i32⟩
  | 31 => ⟨S100x3, .i32⟩
  | 32 => ⟨S100x3, .i32⟩
  | 33 => ⟨S100x3, .i32⟩
  | 34 => ⟨S100x3, .i32⟩
  | 35 => ⟨S100x3, .i32⟩
  | 36 => ⟨S_, .i32⟩
  | 37 => ⟨S100x3, .i32⟩
  | 38 => ⟨S100x3, .i32⟩
  | 39 => ⟨S_, .i32⟩
  | 40 => ⟨S100x3, .i32⟩
  | 41 => ⟨S100x3, .i32⟩
  | 42 => ⟨S100x3, .i32⟩
  | 43 => ⟨S100x3, .i32⟩
  | 44 => ⟨S100x3, .i32⟩
  | 45 => ⟨S_, .i32⟩
  | 46 => ⟨S100x3, .i32⟩
  | 47 => ⟨S100x3, .i32⟩
  | 48 => ⟨S_, .i32⟩
  | 49 => ⟨S100x3, .i32⟩
  | 50 => ⟨S100x3, .i32⟩
  | 51 => ⟨S100x3, .i32⟩
  | 52 => ⟨S100x3, .i32⟩
  | 53 => ⟨S100x3, .i32⟩
  | 54 => ⟨S_, .i32⟩
  | 55 => ⟨S100x3, .i32⟩
  | 56 => ⟨S100x3, .i32⟩
  | 57 => ⟨S_, .i32⟩
  | 58 => ⟨S100x3, .i32⟩
  | 59 => ⟨S100x3, .i32⟩
  | 60 => ⟨S100x3, .i32⟩
  | 61 => ⟨S100x3, .i32⟩
  | 62 => ⟨S100x3, .i32⟩
  | 63 => ⟨S100x3, .i32⟩
  | 64 => ⟨S100x3, .i32⟩
  | 65 => ⟨S100x3, .i32⟩
  | 66 => ⟨S_, .i32⟩
  | 67 => ⟨S100x3, .i32⟩
  | 68 => ⟨S100x3, .i32⟩
  | 69 => ⟨S100x3, .i32⟩
  | 70 => ⟨S_, .i32⟩
  | 71 => ⟨S100x3, .i32⟩
  | 72 => ⟨S100x3, .i32⟩
  | 73 => ⟨S_, .i32⟩
  | 74 => ⟨S100x3, .i32⟩
  | 75 => ⟨S100x3, .i32⟩
  | 76 => ⟨S100x3, .i32⟩
  | 77 => ⟨S100x3, .i32⟩
  | 78 => ⟨S100x3, .i32⟩
  | 79 => ⟨S_, .i32⟩
  | 80 => ⟨S100x3, .i32⟩
  | 81 => ⟨S100x3, .i32⟩
  | 82 => ⟨S_, .i32⟩
  | 83 => ⟨S100x3, .i32⟩
  | 84 => ⟨S100x3, .i32⟩
  | 85 => ⟨S100x3, .i32⟩
  | 86 => ⟨S100x3, .i32⟩
  | 87 => ⟨S100x3, .i32⟩
  | 88 => ⟨S_, .i32⟩
  | 89 => ⟨S100x3, .i32⟩
  | 90 => ⟨S100x3, .i32⟩
  | 91 => ⟨S_, .i32⟩
  | 92 => ⟨S100x3, .i32⟩
  | 93 => ⟨S100x3, .i32⟩
  | 94 => ⟨S100x3, .i32⟩
  | 95 => ⟨S100x3, .i32⟩
  | 96 => ⟨S100x3, .i32⟩
  | 97 => ⟨S_, .i32⟩
  | 98 => ⟨S100x3, .i32⟩
  | 99 => ⟨S100x3, .i32⟩
  | 100 => ⟨S_, .i32⟩
  | 101 => ⟨S100x3, .i32⟩
  | 102 => ⟨S100x3, .i32⟩
  | 103 => ⟨S100x3, .i32⟩
  | 104 => ⟨S100x3, .i32⟩
  | 105 => ⟨S100x3, .i32⟩
  | 106 => ⟨S100x3, .i32⟩
  | 107 => ⟨S100x3, .i32⟩
  | 108 => ⟨S100x3, .i32⟩
  | 109 => ⟨S_, .i32⟩
  | 110 => ⟨S100x3, .i32⟩
  | 111 => ⟨S100x3, .i32⟩
  | 112 => ⟨S100x3x1, .i32⟩
  | 113 => ⟨S100x3x1, .i32⟩
  | 114 => ⟨S100x3x2, .i32⟩
  | 115 => ⟨S100x1x2, .i32⟩
  | 116 => ⟨S100x2, .i32⟩
  | 117 => ⟨S100x1x2, .i32⟩
  | 118 => ⟨S100x2, .i32⟩
  | 119 => ⟨S100x1x2, .i32⟩
  | 120 => ⟨S100x2, .i32⟩
  | 121 => ⟨S_, .f32⟩
  | 122 => ⟨S_, .f32⟩
  | 123 => ⟨S_, .f32⟩
  | 124 => ⟨S_, .f32⟩
  | 125 => ⟨S1, .f32⟩
  | 126 => ⟨S1, .f32⟩
  | 127 => ⟨S100x1, .i32⟩
  | _ => ⟨S32x2048, .f32⟩

abbrev hbmTy0_4 (i : Nat) : BufTy := match i % 128 with
  | 0 => ⟨S100, .i32⟩
  | 1 => ⟨S100x1, .i32⟩
  | 2 => ⟨S100, .i32⟩
  | 3 => ⟨S32, .i64⟩
  | 4 => ⟨S_, .i64⟩
  | 5 => ⟨S32, .i64⟩
  | 6 => ⟨S32, .i64⟩
  | 7 => ⟨S_, .i64⟩
  | 8 => ⟨S32, .i64⟩
  | 9 => ⟨S32, .i64⟩
  | 10 => ⟨S32, .i32⟩
  | 11 => ⟨S32, .i32⟩
  | 12 => ⟨S1x32, .i32⟩
  | 13 => ⟨S1x32, .i32⟩
  | 14 => ⟨S100x1, .i32⟩
  | 15 => ⟨S100x1, .i32⟩
  | 16 => ⟨S100x1, .i32⟩
  | 17 => ⟨S_, .i32⟩
  | 18 => ⟨S100x1, .i32⟩
  | 19 => ⟨S100x1, .i32⟩
  | 20 => ⟨S100x32, .i32⟩
  | 21 => ⟨S100x32, .i32⟩
  | 22 => ⟨S100x32, .i32⟩
  | 23 => ⟨S100x32, .i32⟩
  | 24 => ⟨S100x32, .i32⟩
  | 25 => ⟨S100x32, .i32⟩
  | 26 => ⟨S100x32, .i32⟩
  | 27 => ⟨S_, .i32⟩
  | 28 => ⟨S100x32, .i32⟩
  | 29 => ⟨S100x32, .i32⟩
  | 30 => ⟨S_, .i32⟩
  | 31 => ⟨S100x32, .i32⟩
  | 32 => ⟨S100x32, .i32⟩
  | 33 => ⟨S100x32, .i32⟩
  | 34 => ⟨S100x32, .i32⟩
  | 35 => ⟨S100x32, .i32⟩
  | 36 => ⟨S_, .i32⟩
  | 37 => ⟨S100x32, .i32⟩
  | 38 => ⟨S100x32, .i32⟩
  | 39 => ⟨S_, .i32⟩
  | 40 => ⟨S100x32, .i32⟩
  | 41 => ⟨S100x32, .i32⟩
  | 42 => ⟨S100x32, .i32⟩
  | 43 => ⟨S100x32, .i32⟩
  | 44 => ⟨S100x32, .i32⟩
  | 45 => ⟨S_, .i32⟩
  | 46 => ⟨S100x32, .i32⟩
  | 47 => ⟨S100x32, .i32⟩
  | 48 => ⟨S_, .i32⟩
  | 49 => ⟨S100x32, .i32⟩
  | 50 => ⟨S100x32, .i32⟩
  | 51 => ⟨S100x32, .i32⟩
  | 52 => ⟨S100x32, .i32⟩
  | 53 => ⟨S100x32, .i32⟩
  | 54 => ⟨S_, .i32⟩
  | 55 => ⟨S100x32, .i32⟩
  | 56 => ⟨S100x32, .i32⟩
  | 57 => ⟨S_, .i32⟩
  | 58 => ⟨S100x32, .i32⟩
  | 59 => ⟨S100x32, .i32⟩
  | 60 => ⟨S100x32, .i32⟩
  | 61 => ⟨S100x32, .i32⟩
  | 62 => ⟨S100x32, .i32⟩
  | 63 => ⟨S100x32, .i32⟩
  | 64 => ⟨S100x32, .i32⟩
  | 65 => ⟨S100x32, .i32⟩
  | 66 => ⟨S_, .i32⟩
  | 67 => ⟨S100x32, .i32⟩
  | 68 => ⟨S100x32, .i32⟩
  | 69 => ⟨S100x32, .i32⟩
  | 70 => ⟨S_, .i32⟩
  | 71 => ⟨S100x32, .i32⟩
  | 72 => ⟨S100x32, .i32⟩
  | 73 => ⟨S_, .i32⟩
  | 74 => ⟨S100x32, .i32⟩
  | 75 => ⟨S100x32, .i32⟩
  | 76 => ⟨S100x32, .i32⟩
  | 77 => ⟨S100x32, .i32⟩
  | 78 => ⟨S100x32, .i32⟩
  | 79 => ⟨S_, .i32⟩
  | 80 => ⟨S100x32, .i32⟩
  | 81 => ⟨S100x32, .i32⟩
  | 82 => ⟨S_, .i32⟩
  | 83 => ⟨S100x32, .i32⟩
  | 84 => ⟨S100x32, .i32⟩
  | 85 => ⟨S100x32, .i32⟩
  | 86 => ⟨S100x32, .i32⟩
  | 87 => ⟨S100x32, .i32⟩
  | 88 => ⟨S_, .i32⟩
  | 89 => ⟨S100x32, .i32⟩
  | 90 => ⟨S100x32, .i32⟩
  | 91 => ⟨S_, .i32⟩
  | 92 => ⟨S100x32, .i32⟩
  | 93 => ⟨S100x32, .i32⟩
  | 94 => ⟨S100x32, .i32⟩
  | 95 => ⟨S100x32, .i32⟩
  | 96 => ⟨S100x32, .i32⟩
  | 97 => ⟨S_, .i32⟩
  | 98 => ⟨S100x32, .i32⟩
  | 99 => ⟨S100x32, .i32⟩
  | 100 => ⟨S_, .i32⟩
  | 101 => ⟨S100x32, .i32⟩
  | 102 => ⟨S100x32, .i32⟩
  | 103 => ⟨S100x32, .i32⟩
  | 104 => ⟨S100x32, .i32⟩
  | 105 => ⟨S100x32, .i32⟩
  | 106 => ⟨S100x32, .i32⟩
  | 107 => ⟨S100x32, .i32⟩
  | 108 => ⟨S100x32, .i32⟩
  | 109 => ⟨S_, .i32⟩
  | 110 => ⟨S100x32, .i32⟩
  | 111 => ⟨S100x32, .i32⟩
  | 112 => ⟨S100x32, .i32⟩
  | 113 => ⟨S_, .i32⟩
  | 114 => ⟨S100x32, .i32⟩
  | 115 => ⟨S100x32, .i32⟩
  | 116 => ⟨S_, .i32⟩
  | 117 => ⟨S100x32, .i32⟩
  | 118 => ⟨S100x32, .i32⟩
  | 119 => ⟨S100x32, .i32⟩
  | 120 => ⟨S100x32, .i32⟩
  | 121 => ⟨S100x32, .i32⟩
  | 122 => ⟨S_, .i32⟩
  | 123 => ⟨S100x32, .i32⟩
  | 124 => ⟨S100x32, .i32⟩
  | 125 => ⟨S_, .i32⟩
  | 126 => ⟨S100x32, .i32⟩
  | 127 => ⟨S100x32, .i32⟩
  | _ => ⟨S32x2048, .f32⟩

abbrev hbmTy0_5 (i : Nat) : BufTy := match i % 128 with
  | 0 => ⟨S100x32, .i32⟩
  | 1 => ⟨S100x32, .i32⟩
  | 2 => ⟨S100x32, .i32⟩
  | 3 => ⟨S_, .i32⟩
  | 4 => ⟨S100x32, .i32⟩
  | 5 => ⟨S100x32, .i32⟩
  | 6 => ⟨S_, .i32⟩
  | 7 => ⟨S100x32, .i32⟩
  | 8 => ⟨S100x32, .i32⟩
  | 9 => ⟨S100x32, .i32⟩
  | 10 => ⟨S100x32, .i32⟩
  | 11 => ⟨S100x32, .i32⟩
  | 12 => ⟨S_, .i32⟩
  | 13 => ⟨S100x32, .i32⟩
  | 14 => ⟨S100x32, .i32⟩
  | 15 => ⟨S_, .i32⟩
  | 16 => ⟨S100x32, .i32⟩
  | 17 => ⟨S100x32, .i32⟩
  | 18 => ⟨S100x32, .i32⟩
  | 19 => ⟨S100x32, .i32⟩
  | 20 => ⟨S100x32, .i32⟩
  | 21 => ⟨S100x32, .i32⟩
  | 22 => ⟨S100x32, .i32⟩
  | 23 => ⟨S100x32, .i32⟩
  | 24 => ⟨S_, .i32⟩
  | 25 => ⟨S100x32, .i32⟩
  | 26 => ⟨S100x32, .i32⟩
  | 27 => ⟨S100x32, .i32⟩
  | 28 => ⟨S_, .i32⟩
  | 29 => ⟨S100x32, .i32⟩
  | 30 => ⟨S100x32, .i32⟩
  | 31 => ⟨S_, .i32⟩
  | 32 => ⟨S100x32, .i32⟩
  | 33 => ⟨S100x32, .i32⟩
  | 34 => ⟨S100x32, .i32⟩
  | 35 => ⟨S100x32, .i32⟩
  | 36 => ⟨S100x32, .i32⟩
  | 37 => ⟨S_, .i32⟩
  | 38 => ⟨S100x32, .i32⟩
  | 39 => ⟨S100x32, .i32⟩
  | 40 => ⟨S_, .i32⟩
  | 41 => ⟨S100x32, .i32⟩
  | 42 => ⟨S100x32, .i32⟩
  | 43 => ⟨S100x32, .i32⟩
  | 44 => ⟨S100x32, .i32⟩
  | 45 => ⟨S100x32, .i32⟩
  | 46 => ⟨S_, .i32⟩
  | 47 => ⟨S100x32, .i32⟩
  | 48 => ⟨S100x32, .i32⟩
  | 49 => ⟨S_, .i32⟩
  | 50 => ⟨S100x32, .i32⟩
  | 51 => ⟨S100x32, .i32⟩
  | 52 => ⟨S100x32, .i32⟩
  | 53 => ⟨S100x32, .i32⟩
  | 54 => ⟨S100x32, .i32⟩
  | 55 => ⟨S_, .i32⟩
  | 56 => ⟨S100x32, .i32⟩
  | 57 => ⟨S100x32, .i32⟩
  | 58 => ⟨S_, .i32⟩
  | 59 => ⟨S100x32, .i32⟩
  | 60 => ⟨S100x32, .i32⟩
  | 61 => ⟨S100x32, .i32⟩
  | 62 => ⟨S100x32, .i32⟩
  | 63 => ⟨S100x32, .i32⟩
  | 64 => ⟨S100x32, .i32⟩
  | 65 => ⟨S100x32, .i32⟩
  | 66 => ⟨S100x32, .i32⟩
  | 67 => ⟨S_, .i32⟩
  | 68 => ⟨S100x32, .i32⟩
  | 69 => ⟨S100x32, .i32⟩
  | 70 => ⟨S100x32, .i32⟩
  | 71 => ⟨S_, .i32⟩
  | 72 => ⟨S100x32, .i32⟩
  | 73 => ⟨S100x32, .i32⟩
  | 74 => ⟨S_, .i32⟩
  | 75 => ⟨S100x32, .i32⟩
  | 76 => ⟨S100x32, .i32⟩
  | 77 => ⟨S100x32, .i32⟩
  | 78 => ⟨S100x32, .i32⟩
  | 79 => ⟨S100x32, .i32⟩
  | 80 => ⟨S_, .i32⟩
  | 81 => ⟨S100x32, .i32⟩
  | 82 => ⟨S100x32, .i32⟩
  | 83 => ⟨S_, .i32⟩
  | 84 => ⟨S100x32, .i32⟩
  | 85 => ⟨S100x32, .i32⟩
  | 86 => ⟨S100x32, .i32⟩
  | 87 => ⟨S100x32, .i32⟩
  | 88 => ⟨S100x32, .i32⟩
  | 89 => ⟨S_, .i32⟩
  | 90 => ⟨S100x32, .i32⟩
  | 91 => ⟨S100x32, .i32⟩
  | 92 => ⟨S_, .i32⟩
  | 93 => ⟨S100x32, .i32⟩
  | 94 => ⟨S100x32, .i32⟩
  | 95 => ⟨S100x32, .i32⟩
  | 96 => ⟨S100x32, .i32⟩
  | 97 => ⟨S100x32, .i32⟩
  | 98 => ⟨S_, .i32⟩
  | 99 => ⟨S100x32, .i32⟩
  | 100 => ⟨S100x32, .i32⟩
  | 101 => ⟨S_, .i32⟩
  | 102 => ⟨S100x32, .i32⟩
  | 103 => ⟨S100x32, .i32⟩
  | 104 => ⟨S100x32, .i32⟩
  | 105 => ⟨S100x32, .i32⟩
  | 106 => ⟨S100x32, .i32⟩
  | 107 => ⟨S100x32, .i32⟩
  | 108 => ⟨S100x32, .i32⟩
  | 109 => ⟨S100x32, .i32⟩
  | 110 => ⟨S_, .i32⟩
  | 111 => ⟨S100x32, .i32⟩
  | 112 => ⟨S100x32, .i32⟩
  | 113 => ⟨S100x32, .i32⟩
  | 114 => ⟨S_, .i32⟩
  | 115 => ⟨S100x32, .i32⟩
  | 116 => ⟨S100x32, .i32⟩
  | 117 => ⟨S_, .i32⟩
  | 118 => ⟨S100x32, .i32⟩
  | 119 => ⟨S100x32, .i32⟩
  | 120 => ⟨S100x32, .f32⟩
  | 121 => ⟨S_, .f32⟩
  | 122 => ⟨S100x32, .f32⟩
  | 123 => ⟨S100x32, .f32⟩
  | 124 => ⟨S1, .f32⟩
  | 125 => ⟨S1x1, .f32⟩
  | 126 => ⟨S100x32, .f32⟩
  | 127 => ⟨S100x32, .f32⟩
  | _ => ⟨S32x2048, .f32⟩

abbrev hbmTy0_6 (i : Nat) : BufTy := match i % 128 with
  | 0 => ⟨S1x1, .f32⟩
  | 1 => ⟨S100x32, .f32⟩
  | 2 => ⟨S100x32, .f32⟩
  | 3 => ⟨S1x1, .f32⟩
  | 4 => ⟨S100x32, .f32⟩
  | 5 => ⟨S100x32, .f32⟩
  | 6 => ⟨S100x32, .f32⟩
  | 7 => ⟨S_, .f32⟩
  | 8 => ⟨S_, .f32⟩
  | 9 => ⟨S_, .f32⟩
  | 10 => ⟨S_, .f32⟩
  | 11 => ⟨S1, .f32⟩
  | 12 => ⟨S1, .f32⟩
  | 13 => ⟨S100x1, .i32⟩
  | 14 => ⟨S100, .i32⟩
  | 15 => ⟨S100x1, .i32⟩
  | 16 => ⟨S100, .i32⟩
  | 17 => ⟨S32, .i64⟩
  | 18 => ⟨S_, .i64⟩
  | 19 => ⟨S32, .i64⟩
  | 20 => ⟨S32, .i64⟩
  | 21 => ⟨S_, .i64⟩
  | 22 => ⟨S32, .i64⟩
  | 23 => ⟨S32, .i64⟩
  | 24 => ⟨S32, .i32⟩
  | 25 => ⟨S32, .i32⟩
  | 26 => ⟨S1x32, .i32⟩
  | 27 => ⟨S1x32, .i32⟩
  | 28 => ⟨S100x1, .i32⟩
  | 29 => ⟨S100x1, .i32⟩
  | 30 => ⟨S100x1, .i32⟩
  | 31 => ⟨S_, .i32⟩
  | 32 => ⟨S100x1, .i32⟩
  | 33 => ⟨S100x1, .i32⟩
  | 34 => ⟨S100x32, .i32⟩
  | 35 => ⟨S100x32, .i32⟩
  | 36 => ⟨S100x32, .i32⟩
  | 37 => ⟨S100x32, .i32⟩
  | 38 => ⟨S100x32, .i32⟩
  | 39 => ⟨S100x32, .i32⟩
  | 40 => ⟨S100x32, .i32⟩
  | 41 => ⟨S_, .i32⟩
  | 42 => ⟨S100x32, .i32⟩
  | 43 => ⟨S100x32, .i32⟩
  | 44 => ⟨S_, .i32⟩
  | 45 => ⟨S100x32, .i32⟩
  | 46 => ⟨S100x32, .i32⟩
  | 47 => ⟨S100x32, .i32⟩
  | 48 => ⟨S100x32, .i32⟩
  | 49 => ⟨S100x32, .i32⟩
  | 50 => ⟨S_, .i32⟩
  | 51 => ⟨S100x32, .i32⟩
  | 52 => ⟨S100x32, .i32⟩
  | 53 => ⟨S_, .i32⟩
  | 54 => ⟨S100x32, .i32⟩
  | 55 => ⟨S100x32, .i32⟩
  | 56 => ⟨S100x32, .i32⟩
  | 57 => ⟨S100x32, .i32⟩
  | 58 => ⟨S100x32, .i32⟩
  | 59 => ⟨S_, .i32⟩
  | 60 => ⟨S100x32, .i32⟩
  | 61 => ⟨S100x32, .i32⟩
  | 62 => ⟨S_, .i32⟩
  | 63 => ⟨S100x32, .i32⟩
  | 64 => ⟨S100x32, .i32⟩
  | 65 => ⟨S100x32, .i32⟩
  | 66 => ⟨S100x32, .i32⟩
  | 67 => ⟨S100x32, .i32⟩
  | 68 => ⟨S_, .i32⟩
  | 69 => ⟨S100x32, .i32⟩
  | 70 => ⟨S100x32, .i32⟩
  | 71 => ⟨S_, .i32⟩
  | 72 => ⟨S100x32, .i32⟩
  | 73 => ⟨S100x32, .i32⟩
  | 74 => ⟨S100x32, .i32⟩
  | 75 => ⟨S100x32, .i32⟩
  | 76 => ⟨S100x32, .i32⟩
  | 77 => ⟨S100x32, .i32⟩
  | 78 => ⟨S100x32, .i32⟩
  | 79 => ⟨S100x32, .i32⟩
  | 80 => ⟨S_, .i32⟩
  | 81 => ⟨S100x32, .i32⟩
  | 82 => ⟨S100x32, .i32⟩
  | 83 => ⟨S100x32, .i32⟩
  | 84 => ⟨S_, .i32⟩
  | 85 => ⟨S100x32, .i32⟩
  | 86 => ⟨S100x32, .i32⟩
  | 87 => ⟨S_, .i32⟩
  | 88 => ⟨S100x32, .i32⟩
  | 89 => ⟨S100x32, .i32⟩
  | 90 => ⟨S100x32, .i32⟩
  | 91 => ⟨S100x32, .i32⟩
  | 92 => ⟨S100x32, .i32⟩
  | 93 => ⟨S_, .i32⟩
  | 94 => ⟨S100x32, .i32⟩
  | 95 => ⟨S100x32, .i32⟩
  | 96 => ⟨S_, .i32⟩
  | 97 => ⟨S100x32, .i32⟩
  | 98 => ⟨S100x32, .i32⟩
  | 99 => ⟨S100x32, .i32⟩
  | 100 => ⟨S100x32, .i32⟩
  | 101 => ⟨S100x32, .i32⟩
  | 102 => ⟨S_, .i32⟩
  | 103 => ⟨S100x32, .i32⟩
  | 104 => ⟨S100x32, .i32⟩
  | 105 => ⟨S_, .i32⟩
  | 106 => ⟨S100x32, .i32⟩
  | 107 => ⟨S100x32, .i32⟩
  | 108 => ⟨S100x32, .i32⟩
  | 109 => ⟨S100x32, .i32⟩
  | 110 => ⟨S100x32, .i32⟩
  | 111 => ⟨S_, .i32⟩
  | 112 => ⟨S100x32, .i32⟩
  | 113 => ⟨S100x32, .i32⟩
  | 114 => ⟨S_, .i32⟩
  | 115 => ⟨S100x32, .i32⟩
  | 116 => ⟨S100x32, .i32⟩
  | 117 => ⟨S100x32, .i32⟩
  | 118 => ⟨S100x32, .i32⟩
  | 119 => ⟨S100x32, .i32⟩
  | 120 => ⟨S100x32, .i32⟩
  | 121 => ⟨S100x32, .i32⟩
  | 122 => ⟨S100x32, .i32⟩
  | 123 => ⟨S_, .i32⟩
  | 124 => ⟨S100x32, .i32⟩
  | 125 => ⟨S100x32, .i32⟩
  | 126 => ⟨S100x32, .i32⟩
  | 127 => ⟨S_, .i32⟩
  | _ => ⟨S32x2048, .f32⟩

abbrev hbmTy0_7 (i : Nat) : BufTy := match i % 128 with
  | 0 => ⟨S100x32, .i32⟩
  | 1 => ⟨S100x32, .i32⟩
  | 2 => ⟨S_, .i32⟩
  | 3 => ⟨S100x32, .i32⟩
  | 4 => ⟨S100x32, .i32⟩
  | 5 => ⟨S100x32, .i32⟩
  | 6 => ⟨S100x32, .i32⟩
  | 7 => ⟨S100x32, .i32⟩
  | 8 => ⟨S_, .i32⟩
  | 9 => ⟨S100x32, .i32⟩
  | 10 => ⟨S100x32, .i32⟩
  | 11 => ⟨S_, .i32⟩
  | 12 => ⟨S100x32, .i32⟩
  | 13 => ⟨S100x32, .i32⟩
  | 14 => ⟨S100x32, .i32⟩
  | 15 => ⟨S100x32, .i32⟩
  | 16 => ⟨S100x32, .i32⟩
  | 17 => ⟨S_, .i32⟩
  | 18 => ⟨S100x32, .i32⟩
  | 19 => ⟨S100x32, .i32⟩
  | 20 => ⟨S_, .i32⟩
  | 21 => ⟨S100x32, .i32⟩
  | 22 => ⟨S100x32, .i32⟩
  | 23 => ⟨S100x32, .i32⟩
  | 24 => ⟨S100x32, .i32⟩
  | 25 => ⟨S100x32, .i32⟩
  | 26 => ⟨S_, .i32⟩
  | 27 => ⟨S100x32, .i32⟩
  | 28 => ⟨S100x32, .i32⟩
  | 29 => ⟨S_, .i32⟩
  | 30 => ⟨S100x32, .i32⟩
  | 31 => ⟨S100x32, .i32⟩
  | 32 => ⟨S100x32, .i32⟩
  | 33 => ⟨S100x32, .i32⟩
  | 34 => ⟨S100x32, .i32⟩
  | 35 => ⟨S100x32, .i32⟩
  | 36 => ⟨S100x32, .i32⟩
  | 37 => ⟨S100x32, .i32⟩
  | 38 => ⟨S_, .i32⟩
  | 39 => ⟨S100x32, .i32⟩
  | 40 => ⟨S100x32, .i32⟩
  | 41 => ⟨S100x32, .i32⟩
  | 42 => ⟨S_, .i32⟩
  | 43 => ⟨S100x32, .i32⟩
  | 44 => ⟨S100x32, .i32⟩
  | 45 => ⟨S_, .i32⟩
  | 46 => ⟨S100x32, .i32⟩
  | 47 => ⟨S100x32, .i32⟩
  | 48 => ⟨S100x32, .i32⟩
  | 49 => ⟨S100x32, .i32⟩
  | 50 => ⟨S100x32, .i32⟩
  | 51 => ⟨S_, .i32⟩
  | 52 => ⟨S100x32, .i32⟩
  | 53 => ⟨S100x32, .i32⟩
  | 54 => ⟨S_, .i32⟩
  | 55 => ⟨S100x32, .i32⟩
  | 56 => ⟨S100x32, .i32⟩
  | 57 => ⟨S100x32, .i32⟩
  | 58 => ⟨S100x32, .i32⟩
  | 59 => ⟨S100x32, .i32⟩
  | 60 => ⟨S_, .i32⟩
  | 61 => ⟨S100x32, .i32⟩
  | 62 => ⟨S100x32, .i32⟩
  | 63 => ⟨S_, .i32⟩
  | 64 => ⟨S100x32, .i32⟩
  | 65 => ⟨S100x32, .i32⟩
  | 66 => ⟨S100x32, .i32⟩
  | 67 => ⟨S100x32, .i32⟩
  | 68 => ⟨S100x32, .i32⟩
  | 69 => ⟨S_, .i32⟩
  | 70 => ⟨S100x32, .i32⟩
  | 71 => ⟨S100x32, .i32⟩
  | 72 => ⟨S_, .i32⟩
  | 73 => ⟨S100x32, .i32⟩
  | 74 => ⟨S100x32, .i32⟩
  | 75 => ⟨S100x32, .i32⟩
  | 76 => ⟨S100x32, .i32⟩
  | 77 => ⟨S100x32, .i32⟩
  | 78 => ⟨S100x32, .i32⟩
  | 79 => ⟨S100x32, .i32⟩
  | 80 => ⟨S100x32, .i32⟩
  | 81 => ⟨S_, .i32⟩
  | 82 => ⟨S100x32, .i32⟩
  | 83 => ⟨S100x32, .i32⟩
  | 84 => ⟨S100x32, .i32⟩
  | 85 => ⟨S_, .i32⟩
  | 86 => ⟨S100x32, .i32⟩
  | 87 => ⟨S100x32, .i32⟩
  | 88 => ⟨S_, .i32⟩
  | 89 => ⟨S100x32, .i32⟩
  | 90 => ⟨S100x32, .i32⟩
  | 91 => ⟨S100x32, .i32⟩
  | 92 => ⟨S100x32, .i32⟩
  | 93 => ⟨S100x32, .i32⟩
  | 94 => ⟨S_, .i32⟩
  | 95 => ⟨S100x32, .i32⟩
  | 96 => ⟨S100x32, .i32⟩
  | 97 => ⟨S_, .i32⟩
  | 98 => ⟨S100x32, .i32⟩
  | 99 => ⟨S100x32, .i32⟩
  | 100 => ⟨S100x32, .i32⟩
  | 101 => ⟨S100x32, .i32⟩
  | 102 => ⟨S100x32, .i32⟩
  | 103 => ⟨S_, .i32⟩
  | 104 => ⟨S100x32, .i32⟩
  | 105 => ⟨S100x32, .i32⟩
  | 106 => ⟨S_, .i32⟩
  | 107 => ⟨S100x32, .i32⟩
  | 108 => ⟨S100x32, .i32⟩
  | 109 => ⟨S100x32, .i32⟩
  | 110 => ⟨S100x32, .i32⟩
  | 111 => ⟨S100x32, .i32⟩
  | 112 => ⟨S_, .i32⟩
  | 113 => ⟨S100x32, .i32⟩
  | 114 => ⟨S100x32, .i32⟩
  | 115 => ⟨S_, .i32⟩
  | 116 => ⟨S100x32, .i32⟩
  | 117 => ⟨S100x32, .i32⟩
  | 118 => ⟨S100x32, .i32⟩
  | 119 => ⟨S100x32, .i32⟩
  | 120 => ⟨S100x32, .i32⟩
  | 121 => ⟨S100x32, .i32⟩
  | 122 => ⟨S100x32, .i32⟩
  | 123 => ⟨S100x32, .i32⟩
  | 124 => ⟨S_, .i32⟩
  | 125 => ⟨S100x32, .i32⟩
  | 126 => ⟨S100x32, .i32⟩
  | 127 => ⟨S100x32, .i32⟩
  | _ => ⟨S32x2048, .f32⟩

abbrev hbmTy0_8 (i : Nat) : BufTy := match i % 128 with
  | 0 => ⟨S_, .i32⟩
  | 1 => ⟨S100x32, .i32⟩
  | 2 => ⟨S100x32, .i32⟩
  | 3 => ⟨S_, .i32⟩
  | 4 => ⟨S100x32, .i32⟩
  | 5 => ⟨S100x32, .i32⟩
  | 6 => ⟨S100x32, .f32⟩
  | 7 => ⟨S_, .f32⟩
  | 8 => ⟨S100x32, .f32⟩
  | 9 => ⟨S100x32, .f32⟩
  | 10 => ⟨S1, .f32⟩
  | 11 => ⟨S1x1, .f32⟩
  | 12 => ⟨S100x32, .f32⟩
  | 13 => ⟨S100x32, .f32⟩
  | 14 => ⟨S1x1, .f32⟩
  | 15 => ⟨S100x32, .f32⟩
  | 16 => ⟨S100x32, .f32⟩
  | 17 => ⟨S1x1, .f32⟩
  | 18 => ⟨S100x32, .f32⟩
  | 19 => ⟨S100x32, .f32⟩
  | 20 => ⟨S100x32, .f32⟩
  | 21 => ⟨S100x1x2, .i32⟩
  | 22 => ⟨S100x32x1, .f32⟩
  | 23 => ⟨S100x32x1, .f32⟩
  | 24 => ⟨S100x32x2, .f32⟩
  | 25 => ⟨S32x1, .f32⟩
  | 26 => ⟨S1x2048, .f32⟩
  | 27 => ⟨S32x2048, .f32⟩
  | _ => ⟨S32x2048, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S32x2048, .f32⟩

abbrev bufTy : (tb : Table) → Fin (tcTables nBuf tb) → BufTy
  | .hbm, ⟨i, _⟩ => hbmTy i
  | .local _ .vmem, ⟨0, _⟩ => ⟨S1x32x2, .f32⟩
  | .local _ .vmem, ⟨1, _⟩ => ⟨S1x32x2, .f32⟩
  | .local _ .vmem, ⟨2, _⟩ => ⟨S32x2048, .f32⟩
  | .local _ .vmem, ⟨3, _⟩ => ⟨S2048x2048, .f32⟩
  | .local _ .vmem, ⟨4, _⟩ => ⟨S1x2048, .f32⟩
  | .local _ .vmem, ⟨5, _⟩ => ⟨S32x1, .f32⟩
  | .local _ .vmem, ⟨6, _⟩ => ⟨S32x2048, .f32⟩
  | .local _ .vmem, ⟨7, _⟩ => ⟨S32x2048, .f32⟩
  | .local _ .vmem, ⟨8, _⟩ => ⟨S32x1, .f32⟩
  | .local _ .smem, ⟨0, _⟩ => ⟨S1x1x2, .i32⟩
  | .local _ .smem, ⟨1, _⟩ => ⟨S1x1x2, .i32⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_c_0 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_call0_v0 : Ref sig .tc := ⟨.hbm, 31, rfl⟩
abbrev main_call0_call0_c : Ref sig .tc := ⟨.hbm, 32, rfl⟩
abbrev main_call0_call0_v1 : Ref sig .tc := ⟨.hbm, 33, rfl⟩
abbrev main_call0_call0_v2 : Ref sig .tc := ⟨.hbm, 34, rfl⟩
abbrev main_call0_call0_v3 : Ref sig .tc := ⟨.hbm, 35, rfl⟩
abbrev main_call0_call0_v4 : Ref sig .tc := ⟨.hbm, 36, rfl⟩
abbrev main_call0_call0_v5 : Ref sig .tc := ⟨.hbm, 37, rfl⟩
abbrev main_call0_call0_v6 : Ref sig .tc := ⟨.hbm, 38, rfl⟩
abbrev main_call0_call0_c_0 : Ref sig .tc := ⟨.hbm, 39, rfl⟩
abbrev main_call0_call0_v7 : Ref sig .tc := ⟨.hbm, 40, rfl⟩
abbrev main_call0_call0_v8 : Ref sig .tc := ⟨.hbm, 41, rfl⟩
abbrev main_call0_call0_c_1 : Ref sig .tc := ⟨.hbm, 42, rfl⟩
abbrev main_call0_call0_v9 : Ref sig .tc := ⟨.hbm, 43, rfl⟩
abbrev main_call0_call0_v10 : Ref sig .tc := ⟨.hbm, 44, rfl⟩
abbrev main_call0_call0_v11 : Ref sig .tc := ⟨.hbm, 45, rfl⟩
abbrev main_call0_call0_v12 : Ref sig .tc := ⟨.hbm, 46, rfl⟩
abbrev main_call0_call0_v13 : Ref sig .tc := ⟨.hbm, 47, rfl⟩
abbrev main_call0_call0_c_2 : Ref sig .tc := ⟨.hbm, 48, rfl⟩
abbrev main_call0_call0_v14 : Ref sig .tc := ⟨.hbm, 49, rfl⟩
abbrev main_call0_call0_v15 : Ref sig .tc := ⟨.hbm, 50, rfl⟩
abbrev main_call0_call0_c_3 : Ref sig .tc := ⟨.hbm, 51, rfl⟩
abbrev main_call0_call0_v16 : Ref sig .tc := ⟨.hbm, 52, rfl⟩
abbrev main_call0_call0_v17 : Ref sig .tc := ⟨.hbm, 53, rfl⟩
abbrev main_call0_call0_v18 : Ref sig .tc := ⟨.hbm, 54, rfl⟩
abbrev main_call0_call0_v19 : Ref sig .tc := ⟨.hbm, 55, rfl⟩
abbrev main_call0_call0_v20 : Ref sig .tc := ⟨.hbm, 56, rfl⟩
abbrev main_call0_call0_c_4 : Ref sig .tc := ⟨.hbm, 57, rfl⟩
abbrev main_call0_call0_v21 : Ref sig .tc := ⟨.hbm, 58, rfl⟩
abbrev main_call0_call0_v22 : Ref sig .tc := ⟨.hbm, 59, rfl⟩
abbrev main_call0_call0_c_5 : Ref sig .tc := ⟨.hbm, 60, rfl⟩
abbrev main_call0_call0_v23 : Ref sig .tc := ⟨.hbm, 61, rfl⟩
abbrev main_call0_call0_v24 : Ref sig .tc := ⟨.hbm, 62, rfl⟩
abbrev main_call0_call0_v25 : Ref sig .tc := ⟨.hbm, 63, rfl⟩
abbrev main_call0_call0_v26 : Ref sig .tc := ⟨.hbm, 64, rfl⟩
abbrev main_call0_call0_v27 : Ref sig .tc := ⟨.hbm, 65, rfl⟩
abbrev main_call0_call0_c_6 : Ref sig .tc := ⟨.hbm, 66, rfl⟩
abbrev main_call0_call0_v28 : Ref sig .tc := ⟨.hbm, 67, rfl⟩
abbrev main_call0_call0_v29 : Ref sig .tc := ⟨.hbm, 68, rfl⟩
abbrev main_call0_call0_c_7 : Ref sig .tc := ⟨.hbm, 69, rfl⟩
abbrev main_call0_call0_v30 : Ref sig .tc := ⟨.hbm, 70, rfl⟩
abbrev main_call0_call0_v31 : Ref sig .tc := ⟨.hbm, 71, rfl⟩
abbrev main_call0_call0_v32 : Ref sig .tc := ⟨.hbm, 72, rfl⟩
abbrev main_call0_call0_v33 : Ref sig .tc := ⟨.hbm, 73, rfl⟩
abbrev main_call0_call0_v34 : Ref sig .tc := ⟨.hbm, 74, rfl⟩
abbrev main_call0_call0_v35 : Ref sig .tc := ⟨.hbm, 75, rfl⟩
abbrev main_call0_call0_v36 : Ref sig .tc := ⟨.hbm, 76, rfl⟩
abbrev main_call0_call0_v37 : Ref sig .tc := ⟨.hbm, 77, rfl⟩
abbrev main_call0_call0_c_8 : Ref sig .tc := ⟨.hbm, 78, rfl⟩
abbrev main_call0_call0_v38 : Ref sig .tc := ⟨.hbm, 79, rfl⟩
abbrev main_call0_call0_v39 : Ref sig .tc := ⟨.hbm, 80, rfl⟩
abbrev main_call0_call0_v40 : Ref sig .tc := ⟨.hbm, 81, rfl⟩
abbrev main_call0_call0_c_9 : Ref sig .tc := ⟨.hbm, 82, rfl⟩
abbrev main_call0_call0_v41 : Ref sig .tc := ⟨.hbm, 83, rfl⟩
abbrev main_call0_call0_v42 : Ref sig .tc := ⟨.hbm, 84, rfl⟩
abbrev main_call0_call0_c_10 : Ref sig .tc := ⟨.hbm, 85, rfl⟩
abbrev main_call0_call0_v43 : Ref sig .tc := ⟨.hbm, 86, rfl⟩
abbrev main_call0_call0_v44 : Ref sig .tc := ⟨.hbm, 87, rfl⟩
abbrev main_call0_call0_v45 : Ref sig .tc := ⟨.hbm, 88, rfl⟩
abbrev main_call0_call0_v46 : Ref sig .tc := ⟨.hbm, 89, rfl⟩
abbrev main_call0_call0_v47 : Ref sig .tc := ⟨.hbm, 90, rfl⟩
abbrev main_call0_call0_c_11 : Ref sig .tc := ⟨.hbm, 91, rfl⟩
abbrev main_call0_call0_v48 : Ref sig .tc := ⟨.hbm, 92, rfl⟩
abbrev main_call0_call0_v49 : Ref sig .tc := ⟨.hbm, 93, rfl⟩
abbrev main_call0_call0_c_12 : Ref sig .tc := ⟨.hbm, 94, rfl⟩
abbrev main_call0_call0_v50 : Ref sig .tc := ⟨.hbm, 95, rfl⟩
abbrev main_call0_call0_v51 : Ref sig .tc := ⟨.hbm, 96, rfl⟩
abbrev main_call0_call0_v52 : Ref sig .tc := ⟨.hbm, 97, rfl⟩
abbrev main_call0_call0_v53 : Ref sig .tc := ⟨.hbm, 98, rfl⟩
abbrev main_call0_call0_v54 : Ref sig .tc := ⟨.hbm, 99, rfl⟩
abbrev main_call0_call0_c_13 : Ref sig .tc := ⟨.hbm, 100, rfl⟩
abbrev main_call0_call0_v55 : Ref sig .tc := ⟨.hbm, 101, rfl⟩
abbrev main_call0_call0_v56 : Ref sig .tc := ⟨.hbm, 102, rfl⟩
abbrev main_call0_call0_c_14 : Ref sig .tc := ⟨.hbm, 103, rfl⟩
abbrev main_call0_call0_v57 : Ref sig .tc := ⟨.hbm, 104, rfl⟩
abbrev main_call0_call0_v58 : Ref sig .tc := ⟨.hbm, 105, rfl⟩
abbrev main_call0_call0_v59 : Ref sig .tc := ⟨.hbm, 106, rfl⟩
abbrev main_call0_call0_v60 : Ref sig .tc := ⟨.hbm, 107, rfl⟩
abbrev main_call0_call0_v61 : Ref sig .tc := ⟨.hbm, 108, rfl⟩
abbrev main_call0_call0_c_15 : Ref sig .tc := ⟨.hbm, 109, rfl⟩
abbrev main_call0_call0_v62 : Ref sig .tc := ⟨.hbm, 110, rfl⟩
abbrev main_call0_call0_v63 : Ref sig .tc := ⟨.hbm, 111, rfl⟩
abbrev main_call0_call0_c_16 : Ref sig .tc := ⟨.hbm, 112, rfl⟩
abbrev main_call0_call0_v64 : Ref sig .tc := ⟨.hbm, 113, rfl⟩
abbrev main_call0_call0_v65 : Ref sig .tc := ⟨.hbm, 114, rfl⟩
abbrev main_call0_call0_v66 : Ref sig .tc := ⟨.hbm, 115, rfl⟩
abbrev main_call0_call0_v67 : Ref sig .tc := ⟨.hbm, 116, rfl⟩
abbrev main_call0_call0_v68 : Ref sig .tc := ⟨.hbm, 117, rfl⟩
abbrev main_call0_call0_v69 : Ref sig .tc := ⟨.hbm, 118, rfl⟩
abbrev main_call0_call0_v70 : Ref sig .tc := ⟨.hbm, 119, rfl⟩
abbrev main_call0_call0_v71 : Ref sig .tc := ⟨.hbm, 120, rfl⟩
abbrev main_call0_call0_c_17 : Ref sig .tc := ⟨.hbm, 121, rfl⟩
abbrev main_call0_call0_v72 : Ref sig .tc := ⟨.hbm, 122, rfl⟩
abbrev main_call0_call0_v73 : Ref sig .tc := ⟨.hbm, 123, rfl⟩
abbrev main_call0_call0_v74 : Ref sig .tc := ⟨.hbm, 124, rfl⟩
abbrev main_call0_call0_c_18 : Ref sig .tc := ⟨.hbm, 125, rfl⟩
abbrev main_call0_call0_v75 : Ref sig .tc := ⟨.hbm, 126, rfl⟩
abbrev main_call0_call0_v76 : Ref sig .tc := ⟨.hbm, 127, rfl⟩
abbrev main_call0_call0_c_19 : Ref sig .tc := ⟨.hbm, 128, rfl⟩
abbrev main_call0_call0_v77 : Ref sig .tc := ⟨.hbm, 129, rfl⟩
abbrev main_call0_call0_v78 : Ref sig .tc := ⟨.hbm, 130, rfl⟩
abbrev main_call0_call0_v79 : Ref sig .tc := ⟨.hbm, 131, rfl⟩
abbrev main_call0_call0_v80 : Ref sig .tc := ⟨.hbm, 132, rfl⟩
abbrev main_call0_call0_v81 : Ref sig .tc := ⟨.hbm, 133, rfl⟩
abbrev main_call0_call0_c_20 : Ref sig .tc := ⟨.hbm, 134, rfl⟩
abbrev main_call0_call0_v82 : Ref sig .tc := ⟨.hbm, 135, rfl⟩
abbrev main_call0_call0_v83 : Ref sig .tc := ⟨.hbm, 136, rfl⟩
abbrev main_call0_call0_c_21 : Ref sig .tc := ⟨.hbm, 137, rfl⟩
abbrev main_call0_call0_v84 : Ref sig .tc := ⟨.hbm, 138, rfl⟩
abbrev main_call0_call0_v85 : Ref sig .tc := ⟨.hbm, 139, rfl⟩
abbrev main_call0_call0_v86 : Ref sig .tc := ⟨.hbm, 140, rfl⟩
abbrev main_call0_call0_v87 : Ref sig .tc := ⟨.hbm, 141, rfl⟩
abbrev main_call0_call0_v88 : Ref sig .tc := ⟨.hbm, 142, rfl⟩
abbrev main_call0_call0_c_22 : Ref sig .tc := ⟨.hbm, 143, rfl⟩
abbrev main_call0_call0_v89 : Ref sig .tc := ⟨.hbm, 144, rfl⟩
abbrev main_call0_call0_v90 : Ref sig .tc := ⟨.hbm, 145, rfl⟩
abbrev main_call0_call0_c_23 : Ref sig .tc := ⟨.hbm, 146, rfl⟩
abbrev main_call0_call0_v91 : Ref sig .tc := ⟨.hbm, 147, rfl⟩
abbrev main_call0_call0_v92 : Ref sig .tc := ⟨.hbm, 148, rfl⟩
abbrev main_call0_call0_v93 : Ref sig .tc := ⟨.hbm, 149, rfl⟩
abbrev main_call0_call0_v94 : Ref sig .tc := ⟨.hbm, 150, rfl⟩
abbrev main_call0_call0_v95 : Ref sig .tc := ⟨.hbm, 151, rfl⟩
abbrev main_call0_call0_c_24 : Ref sig .tc := ⟨.hbm, 152, rfl⟩
abbrev main_call0_call0_v96 : Ref sig .tc := ⟨.hbm, 153, rfl⟩
abbrev main_call0_call0_v97 : Ref sig .tc := ⟨.hbm, 154, rfl⟩
abbrev main_call0_call0_c_25 : Ref sig .tc := ⟨.hbm, 155, rfl⟩
abbrev main_call0_call0_v98 : Ref sig .tc := ⟨.hbm, 156, rfl⟩
abbrev main_call0_call0_v99 : Ref sig .tc := ⟨.hbm, 157, rfl⟩
abbrev main_call0_call0_v100 : Ref sig .tc := ⟨.hbm, 158, rfl⟩
abbrev main_call0_call0_v101 : Ref sig .tc := ⟨.hbm, 159, rfl⟩
abbrev main_call0_call0_v102 : Ref sig .tc := ⟨.hbm, 160, rfl⟩
abbrev main_call0_call0_v103 : Ref sig .tc := ⟨.hbm, 161, rfl⟩
abbrev main_call0_call0_v104 : Ref sig .tc := ⟨.hbm, 162, rfl⟩
abbrev main_call0_call0_v105 : Ref sig .tc := ⟨.hbm, 163, rfl⟩
abbrev main_call0_call0_c_26 : Ref sig .tc := ⟨.hbm, 164, rfl⟩
abbrev main_call0_call0_v106 : Ref sig .tc := ⟨.hbm, 165, rfl⟩
abbrev main_call0_call0_v107 : Ref sig .tc := ⟨.hbm, 166, rfl⟩
abbrev main_call0_call0_v108 : Ref sig .tc := ⟨.hbm, 167, rfl⟩
abbrev main_call0_call0_c_27 : Ref sig .tc := ⟨.hbm, 168, rfl⟩
abbrev main_call0_call0_v109 : Ref sig .tc := ⟨.hbm, 169, rfl⟩
abbrev main_call0_call0_v110 : Ref sig .tc := ⟨.hbm, 170, rfl⟩
abbrev main_call0_call0_c_28 : Ref sig .tc := ⟨.hbm, 171, rfl⟩
abbrev main_call0_call0_v111 : Ref sig .tc := ⟨.hbm, 172, rfl⟩
abbrev main_call0_call0_v112 : Ref sig .tc := ⟨.hbm, 173, rfl⟩
abbrev main_call0_call0_v113 : Ref sig .tc := ⟨.hbm, 174, rfl⟩
abbrev main_call0_call0_v114 : Ref sig .tc := ⟨.hbm, 175, rfl⟩
abbrev main_call0_call0_v115 : Ref sig .tc := ⟨.hbm, 176, rfl⟩
abbrev main_call0_call0_c_29 : Ref sig .tc := ⟨.hbm, 177, rfl⟩
abbrev main_call0_call0_v116 : Ref sig .tc := ⟨.hbm, 178, rfl⟩
abbrev main_call0_call0_v117 : Ref sig .tc := ⟨.hbm, 179, rfl⟩
abbrev main_call0_call0_c_30 : Ref sig .tc := ⟨.hbm, 180, rfl⟩
abbrev main_call0_call0_v118 : Ref sig .tc := ⟨.hbm, 181, rfl⟩
abbrev main_call0_call0_v119 : Ref sig .tc := ⟨.hbm, 182, rfl⟩
abbrev main_call0_call0_v120 : Ref sig .tc := ⟨.hbm, 183, rfl⟩
abbrev main_call0_call0_v121 : Ref sig .tc := ⟨.hbm, 184, rfl⟩
abbrev main_call0_call0_v122 : Ref sig .tc := ⟨.hbm, 185, rfl⟩
abbrev main_call0_call0_c_31 : Ref sig .tc := ⟨.hbm, 186, rfl⟩
abbrev main_call0_call0_v123 : Ref sig .tc := ⟨.hbm, 187, rfl⟩
abbrev main_call0_call0_v124 : Ref sig .tc := ⟨.hbm, 188, rfl⟩
abbrev main_call0_call0_c_32 : Ref sig .tc := ⟨.hbm, 189, rfl⟩
abbrev main_call0_call0_v125 : Ref sig .tc := ⟨.hbm, 190, rfl⟩
abbrev main_call0_call0_v126 : Ref sig .tc := ⟨.hbm, 191, rfl⟩
abbrev main_call0_call0_v127 : Ref sig .tc := ⟨.hbm, 192, rfl⟩
abbrev main_call0_call0_v128 : Ref sig .tc := ⟨.hbm, 193, rfl⟩
abbrev main_call0_call0_v129 : Ref sig .tc := ⟨.hbm, 194, rfl⟩
abbrev main_call0_call0_c_33 : Ref sig .tc := ⟨.hbm, 195, rfl⟩
abbrev main_call0_call0_v130 : Ref sig .tc := ⟨.hbm, 196, rfl⟩
abbrev main_call0_call0_v131 : Ref sig .tc := ⟨.hbm, 197, rfl⟩
abbrev main_call0_call0_c_34 : Ref sig .tc := ⟨.hbm, 198, rfl⟩
abbrev main_call0_call0_v132 : Ref sig .tc := ⟨.hbm, 199, rfl⟩
abbrev main_call0_call0_v133 : Ref sig .tc := ⟨.hbm, 200, rfl⟩
abbrev main_call0_call0_v134 : Ref sig .tc := ⟨.hbm, 201, rfl⟩
abbrev main_call0_call0_v135 : Ref sig .tc := ⟨.hbm, 202, rfl⟩
abbrev main_call0_call0_v136 : Ref sig .tc := ⟨.hbm, 203, rfl⟩
abbrev main_call0_call0_v137 : Ref sig .tc := ⟨.hbm, 204, rfl⟩
abbrev main_call0_call0_v138 : Ref sig .tc := ⟨.hbm, 205, rfl⟩
abbrev main_call0_call0_v139 : Ref sig .tc := ⟨.hbm, 206, rfl⟩
abbrev main_call0_call0_c_35 : Ref sig .tc := ⟨.hbm, 207, rfl⟩
abbrev main_call0_call0_v140 : Ref sig .tc := ⟨.hbm, 208, rfl⟩
abbrev main_call0_call0_v141 : Ref sig .tc := ⟨.hbm, 209, rfl⟩
abbrev main_call0_call0_v142 : Ref sig .tc := ⟨.hbm, 210, rfl⟩
abbrev main_call0_call0_c_36 : Ref sig .tc := ⟨.hbm, 211, rfl⟩
abbrev main_call0_call0_v143 : Ref sig .tc := ⟨.hbm, 212, rfl⟩
abbrev main_call0_call0_v144 : Ref sig .tc := ⟨.hbm, 213, rfl⟩
abbrev main_call0_call0_c_37 : Ref sig .tc := ⟨.hbm, 214, rfl⟩
abbrev main_call0_call0_v145 : Ref sig .tc := ⟨.hbm, 215, rfl⟩
abbrev main_call0_call0_v146 : Ref sig .tc := ⟨.hbm, 216, rfl⟩
abbrev main_call0_call0_v147 : Ref sig .tc := ⟨.hbm, 217, rfl⟩
abbrev main_call0_call0_v148 : Ref sig .tc := ⟨.hbm, 218, rfl⟩
abbrev main_call0_call0_v149 : Ref sig .tc := ⟨.hbm, 219, rfl⟩
abbrev main_call0_call0_c_38 : Ref sig .tc := ⟨.hbm, 220, rfl⟩
abbrev main_call0_call0_v150 : Ref sig .tc := ⟨.hbm, 221, rfl⟩
abbrev main_call0_call0_v151 : Ref sig .tc := ⟨.hbm, 222, rfl⟩
abbrev main_call0_call0_c_39 : Ref sig .tc := ⟨.hbm, 223, rfl⟩
abbrev main_call0_call0_v152 : Ref sig .tc := ⟨.hbm, 224, rfl⟩
abbrev main_call0_call0_v153 : Ref sig .tc := ⟨.hbm, 225, rfl⟩
abbrev main_call0_call0_v154 : Ref sig .tc := ⟨.hbm, 226, rfl⟩
abbrev main_call0_call0_v155 : Ref sig .tc := ⟨.hbm, 227, rfl⟩
abbrev main_call0_call0_v156 : Ref sig .tc := ⟨.hbm, 228, rfl⟩
abbrev main_call0_call0_c_40 : Ref sig .tc := ⟨.hbm, 229, rfl⟩
abbrev main_call0_call0_v157 : Ref sig .tc := ⟨.hbm, 230, rfl⟩
abbrev main_call0_call0_v158 : Ref sig .tc := ⟨.hbm, 231, rfl⟩
abbrev main_call0_call0_c_41 : Ref sig .tc := ⟨.hbm, 232, rfl⟩
abbrev main_call0_call0_v159 : Ref sig .tc := ⟨.hbm, 233, rfl⟩
abbrev main_call0_call0_v160 : Ref sig .tc := ⟨.hbm, 234, rfl⟩
abbrev main_call0_call0_v161 : Ref sig .tc := ⟨.hbm, 235, rfl⟩
abbrev main_call0_call0_v162 : Ref sig .tc := ⟨.hbm, 236, rfl⟩
abbrev main_call0_call0_v163 : Ref sig .tc := ⟨.hbm, 237, rfl⟩
abbrev main_call0_call0_c_42 : Ref sig .tc := ⟨.hbm, 238, rfl⟩
abbrev main_call0_call0_v164 : Ref sig .tc := ⟨.hbm, 239, rfl⟩
abbrev main_call0_call0_v165 : Ref sig .tc := ⟨.hbm, 240, rfl⟩
abbrev main_call0_call0_c_43 : Ref sig .tc := ⟨.hbm, 241, rfl⟩
abbrev main_call0_call0_v166 : Ref sig .tc := ⟨.hbm, 242, rfl⟩
abbrev main_call0_call0_v167 : Ref sig .tc := ⟨.hbm, 243, rfl⟩
abbrev main_call0_call0_v168 : Ref sig .tc := ⟨.hbm, 244, rfl⟩
abbrev main_call0_call0_v169 : Ref sig .tc := ⟨.hbm, 245, rfl⟩
abbrev main_call0_call0_v170 : Ref sig .tc := ⟨.hbm, 246, rfl⟩
abbrev main_call0_v13_0 : Ref sig .tc := ⟨.hbm, 247, rfl⟩
abbrev main_call0_call0_v172 : Ref sig .tc := ⟨.hbm, 248, rfl⟩
abbrev main_call0_call0_v173 : Ref sig .tc := ⟨.hbm, 249, rfl⟩
abbrev main_call0_call0_c_44 : Ref sig .tc := ⟨.hbm, 250, rfl⟩
abbrev main_call0_call0_v174 : Ref sig .tc := ⟨.hbm, 251, rfl⟩
abbrev main_call0_v13_1 : Ref sig .tc := ⟨.hbm, 252, rfl⟩
abbrev main_v9 : Ref sig .tc := ⟨.hbm, 253, rfl⟩
abbrev main_call1_v0 : Ref sig .tc := ⟨.hbm, 254, rfl⟩
abbrev main_call1_v1 : Ref sig .tc := ⟨.hbm, 255, rfl⟩
abbrev main_call1_v2 : Ref sig .tc := ⟨.hbm, 256, rfl⟩
abbrev main_call1_v3 : Ref sig .tc := ⟨.hbm, 257, rfl⟩
abbrev main_call1_v4 : Ref sig .tc := ⟨.hbm, 258, rfl⟩
abbrev main_call1_c : Ref sig .tc := ⟨.hbm, 259, rfl⟩
abbrev main_call1_v5 : Ref sig .tc := ⟨.hbm, 260, rfl⟩
abbrev main_call1_v6 : Ref sig .tc := ⟨.hbm, 261, rfl⟩
abbrev main_call1_c_0 : Ref sig .tc := ⟨.hbm, 262, rfl⟩
abbrev main_call1_v7 : Ref sig .tc := ⟨.hbm, 263, rfl⟩
abbrev main_call1_v8 : Ref sig .tc := ⟨.hbm, 264, rfl⟩
abbrev main_call1_v9 : Ref sig .tc := ⟨.hbm, 265, rfl⟩
abbrev main_call1_v10 : Ref sig .tc := ⟨.hbm, 266, rfl⟩
abbrev main_call1_v11 : Ref sig .tc := ⟨.hbm, 267, rfl⟩
abbrev main_call1_v12 : Ref sig .tc := ⟨.hbm, 268, rfl⟩
abbrev main_call1_v13 : Ref sig .tc := ⟨.hbm, 269, rfl⟩
abbrev main_call1_v14 : Ref sig .tc := ⟨.hbm, 270, rfl⟩
abbrev main_call1_call0_v0 : Ref sig .tc := ⟨.hbm, 271, rfl⟩
abbrev main_call1_call0_c : Ref sig .tc := ⟨.hbm, 272, rfl⟩
abbrev main_call1_call0_v1 : Ref sig .tc := ⟨.hbm, 273, rfl⟩
abbrev main_call1_call0_v2 : Ref sig .tc := ⟨.hbm, 274, rfl⟩
abbrev main_call1_call0_v3 : Ref sig .tc := ⟨.hbm, 275, rfl⟩
abbrev main_call1_call0_v4 : Ref sig .tc := ⟨.hbm, 276, rfl⟩
abbrev main_call1_call0_v5 : Ref sig .tc := ⟨.hbm, 277, rfl⟩
abbrev main_call1_call0_v6 : Ref sig .tc := ⟨.hbm, 278, rfl⟩
abbrev main_call1_call0_v7 : Ref sig .tc := ⟨.hbm, 279, rfl⟩
abbrev main_call1_call0_v8 : Ref sig .tc := ⟨.hbm, 280, rfl⟩
abbrev main_call1_call0_v9 : Ref sig .tc := ⟨.hbm, 281, rfl⟩
abbrev main_call1_call0_c_0 : Ref sig .tc := ⟨.hbm, 282, rfl⟩
abbrev main_call1_call0_v10 : Ref sig .tc := ⟨.hbm, 283, rfl⟩
abbrev main_call1_call0_v11 : Ref sig .tc := ⟨.hbm, 284, rfl⟩
abbrev main_call1_call0_c_1 : Ref sig .tc := ⟨.hbm, 285, rfl⟩
abbrev main_call1_call0_v12 : Ref sig .tc := ⟨.hbm, 286, rfl⟩
abbrev main_call1_call0_v13 : Ref sig .tc := ⟨.hbm, 287, rfl⟩
abbrev main_call1_call0_v14 : Ref sig .tc := ⟨.hbm, 288, rfl⟩
abbrev main_call1_call0_v15 : Ref sig .tc := ⟨.hbm, 289, rfl⟩
abbrev main_call1_call0_v16 : Ref sig .tc := ⟨.hbm, 290, rfl⟩
abbrev main_call1_call0_c_2 : Ref sig .tc := ⟨.hbm, 291, rfl⟩
abbrev main_call1_call0_v17 : Ref sig .tc := ⟨.hbm, 292, rfl⟩
abbrev main_call1_call0_v18 : Ref sig .tc := ⟨.hbm, 293, rfl⟩
abbrev main_call1_call0_c_3 : Ref sig .tc := ⟨.hbm, 294, rfl⟩
abbrev main_call1_call0_v19 : Ref sig .tc := ⟨.hbm, 295, rfl⟩
abbrev main_call1_call0_v20 : Ref sig .tc := ⟨.hbm, 296, rfl⟩
abbrev main_call1_call0_v21 : Ref sig .tc := ⟨.hbm, 297, rfl⟩
abbrev main_call1_call0_v22 : Ref sig .tc := ⟨.hbm, 298, rfl⟩
abbrev main_call1_call0_v23 : Ref sig .tc := ⟨.hbm, 299, rfl⟩
abbrev main_call1_call0_c_4 : Ref sig .tc := ⟨.hbm, 300, rfl⟩
abbrev main_call1_call0_v24 : Ref sig .tc := ⟨.hbm, 301, rfl⟩
abbrev main_call1_call0_v25 : Ref sig .tc := ⟨.hbm, 302, rfl⟩
abbrev main_call1_call0_c_5 : Ref sig .tc := ⟨.hbm, 303, rfl⟩
abbrev main_call1_call0_v26 : Ref sig .tc := ⟨.hbm, 304, rfl⟩
abbrev main_call1_call0_v27 : Ref sig .tc := ⟨.hbm, 305, rfl⟩
abbrev main_call1_call0_v28 : Ref sig .tc := ⟨.hbm, 306, rfl⟩
abbrev main_call1_call0_v29 : Ref sig .tc := ⟨.hbm, 307, rfl⟩
abbrev main_call1_call0_v30 : Ref sig .tc := ⟨.hbm, 308, rfl⟩
abbrev main_call1_call0_c_6 : Ref sig .tc := ⟨.hbm, 309, rfl⟩
abbrev main_call1_call0_v31 : Ref sig .tc := ⟨.hbm, 310, rfl⟩
abbrev main_call1_call0_v32 : Ref sig .tc := ⟨.hbm, 311, rfl⟩
abbrev main_call1_call0_c_7 : Ref sig .tc := ⟨.hbm, 312, rfl⟩
abbrev main_call1_call0_v33 : Ref sig .tc := ⟨.hbm, 313, rfl⟩
abbrev main_call1_call0_v34 : Ref sig .tc := ⟨.hbm, 314, rfl⟩
abbrev main_call1_call0_v35 : Ref sig .tc := ⟨.hbm, 315, rfl⟩
abbrev main_call1_call0_v36 : Ref sig .tc := ⟨.hbm, 316, rfl⟩
abbrev main_call1_call0_v37 : Ref sig .tc := ⟨.hbm, 317, rfl⟩
abbrev main_call1_call0_v38 : Ref sig .tc := ⟨.hbm, 318, rfl⟩
abbrev main_call1_call0_v39 : Ref sig .tc := ⟨.hbm, 319, rfl⟩
abbrev main_call1_call0_v40 : Ref sig .tc := ⟨.hbm, 320, rfl⟩
abbrev main_call1_call0_c_8 : Ref sig .tc := ⟨.hbm, 321, rfl⟩
abbrev main_call1_call0_v41 : Ref sig .tc := ⟨.hbm, 322, rfl⟩
abbrev main_call1_call0_v42 : Ref sig .tc := ⟨.hbm, 323, rfl⟩
abbrev main_call1_call0_v43 : Ref sig .tc := ⟨.hbm, 324, rfl⟩
abbrev main_call1_call0_c_9 : Ref sig .tc := ⟨.hbm, 325, rfl⟩
abbrev main_call1_call0_v44 : Ref sig .tc := ⟨.hbm, 326, rfl⟩
abbrev main_call1_call0_v45 : Ref sig .tc := ⟨.hbm, 327, rfl⟩
abbrev main_call1_call0_c_10 : Ref sig .tc := ⟨.hbm, 328, rfl⟩
abbrev main_call1_call0_v46 : Ref sig .tc := ⟨.hbm, 329, rfl⟩
abbrev main_call1_call0_v47 : Ref sig .tc := ⟨.hbm, 330, rfl⟩
abbrev main_call1_call0_v48 : Ref sig .tc := ⟨.hbm, 331, rfl⟩
abbrev main_call1_call0_v49 : Ref sig .tc := ⟨.hbm, 332, rfl⟩
abbrev main_call1_call0_v50 : Ref sig .tc := ⟨.hbm, 333, rfl⟩
abbrev main_call1_call0_c_11 : Ref sig .tc := ⟨.hbm, 334, rfl⟩
abbrev main_call1_call0_v51 : Ref sig .tc := ⟨.hbm, 335, rfl⟩
abbrev main_call1_call0_v52 : Ref sig .tc := ⟨.hbm, 336, rfl⟩
abbrev main_call1_call0_c_12 : Ref sig .tc := ⟨.hbm, 337, rfl⟩
abbrev main_call1_call0_v53 : Ref sig .tc := ⟨.hbm, 338, rfl⟩
abbrev main_call1_call0_v54 : Ref sig .tc := ⟨.hbm, 339, rfl⟩
abbrev main_call1_call0_v55 : Ref sig .tc := ⟨.hbm, 340, rfl⟩
abbrev main_call1_call0_v56 : Ref sig .tc := ⟨.hbm, 341, rfl⟩
abbrev main_call1_call0_v57 : Ref sig .tc := ⟨.hbm, 342, rfl⟩
abbrev main_call1_call0_c_13 : Ref sig .tc := ⟨.hbm, 343, rfl⟩
abbrev main_call1_call0_v58 : Ref sig .tc := ⟨.hbm, 344, rfl⟩
abbrev main_call1_call0_v59 : Ref sig .tc := ⟨.hbm, 345, rfl⟩
abbrev main_call1_call0_c_14 : Ref sig .tc := ⟨.hbm, 346, rfl⟩
abbrev main_call1_call0_v60 : Ref sig .tc := ⟨.hbm, 347, rfl⟩
abbrev main_call1_call0_v61 : Ref sig .tc := ⟨.hbm, 348, rfl⟩
abbrev main_call1_call0_v62 : Ref sig .tc := ⟨.hbm, 349, rfl⟩
abbrev main_call1_call0_v63 : Ref sig .tc := ⟨.hbm, 350, rfl⟩
abbrev main_call1_call0_v64 : Ref sig .tc := ⟨.hbm, 351, rfl⟩
abbrev main_call1_call0_c_15 : Ref sig .tc := ⟨.hbm, 352, rfl⟩
abbrev main_call1_call0_v65 : Ref sig .tc := ⟨.hbm, 353, rfl⟩
abbrev main_call1_call0_v66 : Ref sig .tc := ⟨.hbm, 354, rfl⟩
abbrev main_call1_call0_c_16 : Ref sig .tc := ⟨.hbm, 355, rfl⟩
abbrev main_call1_call0_v67 : Ref sig .tc := ⟨.hbm, 356, rfl⟩
abbrev main_call1_call0_v68 : Ref sig .tc := ⟨.hbm, 357, rfl⟩
abbrev main_call1_call0_v69 : Ref sig .tc := ⟨.hbm, 358, rfl⟩
abbrev main_call1_call0_v70 : Ref sig .tc := ⟨.hbm, 359, rfl⟩
abbrev main_call1_call0_v71 : Ref sig .tc := ⟨.hbm, 360, rfl⟩
abbrev main_call1_call0_v72 : Ref sig .tc := ⟨.hbm, 361, rfl⟩
abbrev main_call1_call0_v73 : Ref sig .tc := ⟨.hbm, 362, rfl⟩
abbrev main_call1_call0_v74 : Ref sig .tc := ⟨.hbm, 363, rfl⟩
abbrev main_call1_call0_c_17 : Ref sig .tc := ⟨.hbm, 364, rfl⟩
abbrev main_call1_call0_v75 : Ref sig .tc := ⟨.hbm, 365, rfl⟩
abbrev main_call1_call0_v76 : Ref sig .tc := ⟨.hbm, 366, rfl⟩
abbrev main_call1_call0_v77 : Ref sig .tc := ⟨.hbm, 367, rfl⟩
abbrev main_call1_call0_c_18 : Ref sig .tc := ⟨.hbm, 368, rfl⟩
abbrev main_call1_call0_v78 : Ref sig .tc := ⟨.hbm, 369, rfl⟩
abbrev main_call1_call0_v79 : Ref sig .tc := ⟨.hbm, 370, rfl⟩
abbrev main_call1_call0_c_19 : Ref sig .tc := ⟨.hbm, 371, rfl⟩
abbrev main_call1_call0_v80 : Ref sig .tc := ⟨.hbm, 372, rfl⟩
abbrev main_call1_call0_v81 : Ref sig .tc := ⟨.hbm, 373, rfl⟩
abbrev main_call1_call0_v82 : Ref sig .tc := ⟨.hbm, 374, rfl⟩
abbrev main_call1_call0_v83 : Ref sig .tc := ⟨.hbm, 375, rfl⟩
abbrev main_call1_call0_v84 : Ref sig .tc := ⟨.hbm, 376, rfl⟩
abbrev main_call1_call0_c_20 : Ref sig .tc := ⟨.hbm, 377, rfl⟩
abbrev main_call1_call0_v85 : Ref sig .tc := ⟨.hbm, 378, rfl⟩
abbrev main_call1_call0_v86 : Ref sig .tc := ⟨.hbm, 379, rfl⟩
abbrev main_call1_call0_c_21 : Ref sig .tc := ⟨.hbm, 380, rfl⟩
abbrev main_call1_call0_v87 : Ref sig .tc := ⟨.hbm, 381, rfl⟩
abbrev main_call1_call0_v88 : Ref sig .tc := ⟨.hbm, 382, rfl⟩
abbrev main_call1_call0_v89 : Ref sig .tc := ⟨.hbm, 383, rfl⟩
abbrev main_call1_call0_v90 : Ref sig .tc := ⟨.hbm, 384, rfl⟩
abbrev main_call1_call0_v91 : Ref sig .tc := ⟨.hbm, 385, rfl⟩
abbrev main_call1_call0_c_22 : Ref sig .tc := ⟨.hbm, 386, rfl⟩
abbrev main_call1_call0_v92 : Ref sig .tc := ⟨.hbm, 387, rfl⟩
abbrev main_call1_call0_v93 : Ref sig .tc := ⟨.hbm, 388, rfl⟩
abbrev main_call1_call0_c_23 : Ref sig .tc := ⟨.hbm, 389, rfl⟩
abbrev main_call1_call0_v94 : Ref sig .tc := ⟨.hbm, 390, rfl⟩
abbrev main_call1_call0_v95 : Ref sig .tc := ⟨.hbm, 391, rfl⟩
abbrev main_call1_call0_v96 : Ref sig .tc := ⟨.hbm, 392, rfl⟩
abbrev main_call1_call0_v97 : Ref sig .tc := ⟨.hbm, 393, rfl⟩
abbrev main_call1_call0_v98 : Ref sig .tc := ⟨.hbm, 394, rfl⟩
abbrev main_call1_call0_c_24 : Ref sig .tc := ⟨.hbm, 395, rfl⟩
abbrev main_call1_call0_v99 : Ref sig .tc := ⟨.hbm, 396, rfl⟩
abbrev main_call1_call0_v100 : Ref sig .tc := ⟨.hbm, 397, rfl⟩
abbrev main_call1_call0_c_25 : Ref sig .tc := ⟨.hbm, 398, rfl⟩
abbrev main_call1_call0_v101 : Ref sig .tc := ⟨.hbm, 399, rfl⟩
abbrev main_call1_call0_v102 : Ref sig .tc := ⟨.hbm, 400, rfl⟩
abbrev main_call1_call0_v103 : Ref sig .tc := ⟨.hbm, 401, rfl⟩
abbrev main_call1_call0_v104 : Ref sig .tc := ⟨.hbm, 402, rfl⟩
abbrev main_call1_call0_v105 : Ref sig .tc := ⟨.hbm, 403, rfl⟩
abbrev main_call1_call0_v106 : Ref sig .tc := ⟨.hbm, 404, rfl⟩
abbrev main_call1_call0_v107 : Ref sig .tc := ⟨.hbm, 405, rfl⟩
abbrev main_call1_call0_v108 : Ref sig .tc := ⟨.hbm, 406, rfl⟩
abbrev main_call1_call0_c_26 : Ref sig .tc := ⟨.hbm, 407, rfl⟩
abbrev main_call1_call0_v109 : Ref sig .tc := ⟨.hbm, 408, rfl⟩
abbrev main_call1_call0_v110 : Ref sig .tc := ⟨.hbm, 409, rfl⟩
abbrev main_call1_call0_v111 : Ref sig .tc := ⟨.hbm, 410, rfl⟩
abbrev main_call1_call0_c_27 : Ref sig .tc := ⟨.hbm, 411, rfl⟩
abbrev main_call1_call0_v112 : Ref sig .tc := ⟨.hbm, 412, rfl⟩
abbrev main_call1_call0_v113 : Ref sig .tc := ⟨.hbm, 413, rfl⟩
abbrev main_call1_call0_c_28 : Ref sig .tc := ⟨.hbm, 414, rfl⟩
abbrev main_call1_call0_v114 : Ref sig .tc := ⟨.hbm, 415, rfl⟩
abbrev main_call1_call0_v115 : Ref sig .tc := ⟨.hbm, 416, rfl⟩
abbrev main_call1_call0_v116 : Ref sig .tc := ⟨.hbm, 417, rfl⟩
abbrev main_call1_call0_v117 : Ref sig .tc := ⟨.hbm, 418, rfl⟩
abbrev main_call1_call0_v118 : Ref sig .tc := ⟨.hbm, 419, rfl⟩
abbrev main_call1_call0_c_29 : Ref sig .tc := ⟨.hbm, 420, rfl⟩
abbrev main_call1_call0_v119 : Ref sig .tc := ⟨.hbm, 421, rfl⟩
abbrev main_call1_call0_v120 : Ref sig .tc := ⟨.hbm, 422, rfl⟩
abbrev main_call1_call0_c_30 : Ref sig .tc := ⟨.hbm, 423, rfl⟩
abbrev main_call1_call0_v121 : Ref sig .tc := ⟨.hbm, 424, rfl⟩
abbrev main_call1_call0_v122 : Ref sig .tc := ⟨.hbm, 425, rfl⟩
abbrev main_call1_call0_v123 : Ref sig .tc := ⟨.hbm, 426, rfl⟩
abbrev main_call1_call0_v124 : Ref sig .tc := ⟨.hbm, 427, rfl⟩
abbrev main_call1_call0_v125 : Ref sig .tc := ⟨.hbm, 428, rfl⟩
abbrev main_call1_call0_c_31 : Ref sig .tc := ⟨.hbm, 429, rfl⟩
abbrev main_call1_call0_v126 : Ref sig .tc := ⟨.hbm, 430, rfl⟩
abbrev main_call1_call0_v127 : Ref sig .tc := ⟨.hbm, 431, rfl⟩
abbrev main_call1_call0_c_32 : Ref sig .tc := ⟨.hbm, 432, rfl⟩
abbrev main_call1_call0_v128 : Ref sig .tc := ⟨.hbm, 433, rfl⟩
abbrev main_call1_call0_v129 : Ref sig .tc := ⟨.hbm, 434, rfl⟩
abbrev main_call1_call0_v130 : Ref sig .tc := ⟨.hbm, 435, rfl⟩
abbrev main_call1_call0_v131 : Ref sig .tc := ⟨.hbm, 436, rfl⟩
abbrev main_call1_call0_v132 : Ref sig .tc := ⟨.hbm, 437, rfl⟩
abbrev main_call1_call0_c_33 : Ref sig .tc := ⟨.hbm, 438, rfl⟩
abbrev main_call1_call0_v133 : Ref sig .tc := ⟨.hbm, 439, rfl⟩
abbrev main_call1_call0_v134 : Ref sig .tc := ⟨.hbm, 440, rfl⟩
abbrev main_call1_call0_c_34 : Ref sig .tc := ⟨.hbm, 441, rfl⟩
abbrev main_call1_call0_v135 : Ref sig .tc := ⟨.hbm, 442, rfl⟩
abbrev main_call1_call0_v136 : Ref sig .tc := ⟨.hbm, 443, rfl⟩
abbrev main_call1_call0_v137 : Ref sig .tc := ⟨.hbm, 444, rfl⟩
abbrev main_call1_call0_v138 : Ref sig .tc := ⟨.hbm, 445, rfl⟩
abbrev main_call1_call0_v139 : Ref sig .tc := ⟨.hbm, 446, rfl⟩
abbrev main_call1_call0_v140 : Ref sig .tc := ⟨.hbm, 447, rfl⟩
abbrev main_call1_call0_v141 : Ref sig .tc := ⟨.hbm, 448, rfl⟩
abbrev main_call1_call0_v142 : Ref sig .tc := ⟨.hbm, 449, rfl⟩
abbrev main_call1_call0_c_35 : Ref sig .tc := ⟨.hbm, 450, rfl⟩
abbrev main_call1_call0_v143 : Ref sig .tc := ⟨.hbm, 451, rfl⟩
abbrev main_call1_call0_v144 : Ref sig .tc := ⟨.hbm, 452, rfl⟩
abbrev main_call1_call0_v145 : Ref sig .tc := ⟨.hbm, 453, rfl⟩
abbrev main_call1_call0_c_36 : Ref sig .tc := ⟨.hbm, 454, rfl⟩
abbrev main_call1_call0_v146 : Ref sig .tc := ⟨.hbm, 455, rfl⟩
abbrev main_call1_call0_v147 : Ref sig .tc := ⟨.hbm, 456, rfl⟩
abbrev main_call1_call0_c_37 : Ref sig .tc := ⟨.hbm, 457, rfl⟩
abbrev main_call1_call0_v148 : Ref sig .tc := ⟨.hbm, 458, rfl⟩
abbrev main_call1_call0_v149 : Ref sig .tc := ⟨.hbm, 459, rfl⟩
abbrev main_call1_call0_v150 : Ref sig .tc := ⟨.hbm, 460, rfl⟩
abbrev main_call1_call0_v151 : Ref sig .tc := ⟨.hbm, 461, rfl⟩
abbrev main_call1_call0_v152 : Ref sig .tc := ⟨.hbm, 462, rfl⟩
abbrev main_call1_call0_c_38 : Ref sig .tc := ⟨.hbm, 463, rfl⟩
abbrev main_call1_call0_v153 : Ref sig .tc := ⟨.hbm, 464, rfl⟩
abbrev main_call1_call0_v154 : Ref sig .tc := ⟨.hbm, 465, rfl⟩
abbrev main_call1_call0_c_39 : Ref sig .tc := ⟨.hbm, 466, rfl⟩
abbrev main_call1_call0_v155 : Ref sig .tc := ⟨.hbm, 467, rfl⟩
abbrev main_call1_call0_v156 : Ref sig .tc := ⟨.hbm, 468, rfl⟩
abbrev main_call1_call0_v157 : Ref sig .tc := ⟨.hbm, 469, rfl⟩
abbrev main_call1_call0_v158 : Ref sig .tc := ⟨.hbm, 470, rfl⟩
abbrev main_call1_call0_v159 : Ref sig .tc := ⟨.hbm, 471, rfl⟩
abbrev main_call1_call0_c_40 : Ref sig .tc := ⟨.hbm, 472, rfl⟩
abbrev main_call1_call0_v160 : Ref sig .tc := ⟨.hbm, 473, rfl⟩
abbrev main_call1_call0_v161 : Ref sig .tc := ⟨.hbm, 474, rfl⟩
abbrev main_call1_call0_c_41 : Ref sig .tc := ⟨.hbm, 475, rfl⟩
abbrev main_call1_call0_v162 : Ref sig .tc := ⟨.hbm, 476, rfl⟩
abbrev main_call1_call0_v163 : Ref sig .tc := ⟨.hbm, 477, rfl⟩
abbrev main_call1_call0_v164 : Ref sig .tc := ⟨.hbm, 478, rfl⟩
abbrev main_call1_call0_v165 : Ref sig .tc := ⟨.hbm, 479, rfl⟩
abbrev main_call1_call0_v166 : Ref sig .tc := ⟨.hbm, 480, rfl⟩
abbrev main_call1_call0_c_42 : Ref sig .tc := ⟨.hbm, 481, rfl⟩
abbrev main_call1_call0_v167 : Ref sig .tc := ⟨.hbm, 482, rfl⟩
abbrev main_call1_call0_v168 : Ref sig .tc := ⟨.hbm, 483, rfl⟩
abbrev main_call1_call0_c_43 : Ref sig .tc := ⟨.hbm, 484, rfl⟩
abbrev main_call1_call0_v169 : Ref sig .tc := ⟨.hbm, 485, rfl⟩
abbrev main_call1_call0_v170 : Ref sig .tc := ⟨.hbm, 486, rfl⟩
abbrev main_call1_call0_v171 : Ref sig .tc := ⟨.hbm, 487, rfl⟩
abbrev main_call1_call0_v172 : Ref sig .tc := ⟨.hbm, 488, rfl⟩
abbrev main_call1_call0_v173 : Ref sig .tc := ⟨.hbm, 489, rfl⟩
abbrev main_call1_v15_0 : Ref sig .tc := ⟨.hbm, 490, rfl⟩
abbrev main_call1_call0_v175 : Ref sig .tc := ⟨.hbm, 491, rfl⟩
abbrev main_call1_call0_v176 : Ref sig .tc := ⟨.hbm, 492, rfl⟩
abbrev main_call1_call0_c_44 : Ref sig .tc := ⟨.hbm, 493, rfl⟩
abbrev main_call1_call0_v177 : Ref sig .tc := ⟨.hbm, 494, rfl⟩
abbrev main_call1_v15_1 : Ref sig .tc := ⟨.hbm, 495, rfl⟩
abbrev main_call1_v16 : Ref sig .tc := ⟨.hbm, 496, rfl⟩
abbrev main_call1_v17 : Ref sig .tc := ⟨.hbm, 497, rfl⟩
abbrev main_v10 : Ref sig .tc := ⟨.hbm, 498, rfl⟩
abbrev main_v11 : Ref sig .tc := ⟨.hbm, 499, rfl⟩
abbrev main_v12 : Ref sig .tc := ⟨.hbm, 500, rfl⟩
abbrev main_v13 : Ref sig .tc := ⟨.hbm, 501, rfl⟩
abbrev main_v14 : Ref sig .tc := ⟨.hbm, 502, rfl⟩
abbrev main_v15 : Ref sig .tc := ⟨.hbm, 503, rfl⟩
abbrev main_v16 : Ref sig .tc := ⟨.hbm, 504, rfl⟩
abbrev main_cst_2 : Ref sig .tc := ⟨.hbm, 505, rfl⟩
abbrev main_cst_3 : Ref sig .tc := ⟨.hbm, 506, rfl⟩
abbrev main_call2_v0 : Ref sig .tc := ⟨.hbm, 507, rfl⟩
abbrev main_call2_v1 : Ref sig .tc := ⟨.hbm, 508, rfl⟩
abbrev main_call2_v2 : Ref sig .tc := ⟨.hbm, 509, rfl⟩
abbrev main_call2_v3 : Ref sig .tc := ⟨.hbm, 510, rfl⟩
abbrev main_call2_v4 : Ref sig .tc := ⟨.hbm, 511, rfl⟩
abbrev main_call2_v5 : Ref sig .tc := ⟨.hbm, 512, rfl⟩
abbrev main_call2_v6 : Ref sig .tc := ⟨.hbm, 513, rfl⟩
abbrev main_call2_v7 : Ref sig .tc := ⟨.hbm, 514, rfl⟩
abbrev main_call2_v8 : Ref sig .tc := ⟨.hbm, 515, rfl⟩
abbrev main_call2_c : Ref sig .tc := ⟨.hbm, 516, rfl⟩
abbrev main_call2_v9 : Ref sig .tc := ⟨.hbm, 517, rfl⟩
abbrev main_call2_v10 : Ref sig .tc := ⟨.hbm, 518, rfl⟩
abbrev main_call2_c_0 : Ref sig .tc := ⟨.hbm, 519, rfl⟩
abbrev main_call2_v11 : Ref sig .tc := ⟨.hbm, 520, rfl⟩
abbrev main_call2_v12 : Ref sig .tc := ⟨.hbm, 521, rfl⟩
abbrev main_call2_v13 : Ref sig .tc := ⟨.hbm, 522, rfl⟩
abbrev main_call2_v14 : Ref sig .tc := ⟨.hbm, 523, rfl⟩
abbrev main_call2_v15 : Ref sig .tc := ⟨.hbm, 524, rfl⟩
abbrev main_call2_v16 : Ref sig .tc := ⟨.hbm, 525, rfl⟩
abbrev main_call2_v17 : Ref sig .tc := ⟨.hbm, 526, rfl⟩
abbrev main_call2_v18 : Ref sig .tc := ⟨.hbm, 527, rfl⟩
abbrev main_call2_call0_v0 : Ref sig .tc := ⟨.hbm, 528, rfl⟩
abbrev main_call2_call0_c : Ref sig .tc := ⟨.hbm, 529, rfl⟩
abbrev main_call2_call0_v1 : Ref sig .tc := ⟨.hbm, 530, rfl⟩
abbrev main_call2_call0_v2 : Ref sig .tc := ⟨.hbm, 531, rfl⟩
abbrev main_call2_call0_v3 : Ref sig .tc := ⟨.hbm, 532, rfl⟩
abbrev main_call2_call0_v4 : Ref sig .tc := ⟨.hbm, 533, rfl⟩
abbrev main_call2_call0_v5 : Ref sig .tc := ⟨.hbm, 534, rfl⟩
abbrev main_call2_call0_v6 : Ref sig .tc := ⟨.hbm, 535, rfl⟩
abbrev main_call2_call0_v7 : Ref sig .tc := ⟨.hbm, 536, rfl⟩
abbrev main_call2_call0_v8 : Ref sig .tc := ⟨.hbm, 537, rfl⟩
abbrev main_call2_call0_v9 : Ref sig .tc := ⟨.hbm, 538, rfl⟩
abbrev main_call2_call0_c_0 : Ref sig .tc := ⟨.hbm, 539, rfl⟩
abbrev main_call2_call0_v10 : Ref sig .tc := ⟨.hbm, 540, rfl⟩
abbrev main_call2_call0_v11 : Ref sig .tc := ⟨.hbm, 541, rfl⟩
abbrev main_call2_call0_c_1 : Ref sig .tc := ⟨.hbm, 542, rfl⟩
abbrev main_call2_call0_v12 : Ref sig .tc := ⟨.hbm, 543, rfl⟩
abbrev main_call2_call0_v13 : Ref sig .tc := ⟨.hbm, 544, rfl⟩
abbrev main_call2_call0_v14 : Ref sig .tc := ⟨.hbm, 545, rfl⟩
abbrev main_call2_call0_v15 : Ref sig .tc := ⟨.hbm, 546, rfl⟩
abbrev main_call2_call0_v16 : Ref sig .tc := ⟨.hbm, 547, rfl⟩
abbrev main_call2_call0_c_2 : Ref sig .tc := ⟨.hbm, 548, rfl⟩
abbrev main_call2_call0_v17 : Ref sig .tc := ⟨.hbm, 549, rfl⟩
abbrev main_call2_call0_v18 : Ref sig .tc := ⟨.hbm, 550, rfl⟩
abbrev main_call2_call0_c_3 : Ref sig .tc := ⟨.hbm, 551, rfl⟩
abbrev main_call2_call0_v19 : Ref sig .tc := ⟨.hbm, 552, rfl⟩
abbrev main_call2_call0_v20 : Ref sig .tc := ⟨.hbm, 553, rfl⟩
abbrev main_call2_call0_v21 : Ref sig .tc := ⟨.hbm, 554, rfl⟩
abbrev main_call2_call0_v22 : Ref sig .tc := ⟨.hbm, 555, rfl⟩
abbrev main_call2_call0_v23 : Ref sig .tc := ⟨.hbm, 556, rfl⟩
abbrev main_call2_call0_c_4 : Ref sig .tc := ⟨.hbm, 557, rfl⟩
abbrev main_call2_call0_v24 : Ref sig .tc := ⟨.hbm, 558, rfl⟩
abbrev main_call2_call0_v25 : Ref sig .tc := ⟨.hbm, 559, rfl⟩
abbrev main_call2_call0_c_5 : Ref sig .tc := ⟨.hbm, 560, rfl⟩
abbrev main_call2_call0_v26 : Ref sig .tc := ⟨.hbm, 561, rfl⟩
abbrev main_call2_call0_v27 : Ref sig .tc := ⟨.hbm, 562, rfl⟩
abbrev main_call2_call0_v28 : Ref sig .tc := ⟨.hbm, 563, rfl⟩
abbrev main_call2_call0_v29 : Ref sig .tc := ⟨.hbm, 564, rfl⟩
abbrev main_call2_call0_v30 : Ref sig .tc := ⟨.hbm, 565, rfl⟩
abbrev main_call2_call0_c_6 : Ref sig .tc := ⟨.hbm, 566, rfl⟩
abbrev main_call2_call0_v31 : Ref sig .tc := ⟨.hbm, 567, rfl⟩
abbrev main_call2_call0_v32 : Ref sig .tc := ⟨.hbm, 568, rfl⟩
abbrev main_call2_call0_c_7 : Ref sig .tc := ⟨.hbm, 569, rfl⟩
abbrev main_call2_call0_v33 : Ref sig .tc := ⟨.hbm, 570, rfl⟩
abbrev main_call2_call0_v34 : Ref sig .tc := ⟨.hbm, 571, rfl⟩
abbrev main_call2_call0_v35 : Ref sig .tc := ⟨.hbm, 572, rfl⟩
abbrev main_call2_call0_v36 : Ref sig .tc := ⟨.hbm, 573, rfl⟩
abbrev main_call2_call0_v37 : Ref sig .tc := ⟨.hbm, 574, rfl⟩
abbrev main_call2_call0_v38 : Ref sig .tc := ⟨.hbm, 575, rfl⟩
abbrev main_call2_call0_v39 : Ref sig .tc := ⟨.hbm, 576, rfl⟩
abbrev main_call2_call0_v40 : Ref sig .tc := ⟨.hbm, 577, rfl⟩
abbrev main_call2_call0_c_8 : Ref sig .tc := ⟨.hbm, 578, rfl⟩
abbrev main_call2_call0_v41 : Ref sig .tc := ⟨.hbm, 579, rfl⟩
abbrev main_call2_call0_v42 : Ref sig .tc := ⟨.hbm, 580, rfl⟩
abbrev main_call2_call0_v43 : Ref sig .tc := ⟨.hbm, 581, rfl⟩
abbrev main_call2_call0_c_9 : Ref sig .tc := ⟨.hbm, 582, rfl⟩
abbrev main_call2_call0_v44 : Ref sig .tc := ⟨.hbm, 583, rfl⟩
abbrev main_call2_call0_v45 : Ref sig .tc := ⟨.hbm, 584, rfl⟩
abbrev main_call2_call0_c_10 : Ref sig .tc := ⟨.hbm, 585, rfl⟩
abbrev main_call2_call0_v46 : Ref sig .tc := ⟨.hbm, 586, rfl⟩
abbrev main_call2_call0_v47 : Ref sig .tc := ⟨.hbm, 587, rfl⟩
abbrev main_call2_call0_v48 : Ref sig .tc := ⟨.hbm, 588, rfl⟩
abbrev main_call2_call0_v49 : Ref sig .tc := ⟨.hbm, 589, rfl⟩
abbrev main_call2_call0_v50 : Ref sig .tc := ⟨.hbm, 590, rfl⟩
abbrev main_call2_call0_c_11 : Ref sig .tc := ⟨.hbm, 591, rfl⟩
abbrev main_call2_call0_v51 : Ref sig .tc := ⟨.hbm, 592, rfl⟩
abbrev main_call2_call0_v52 : Ref sig .tc := ⟨.hbm, 593, rfl⟩
abbrev main_call2_call0_c_12 : Ref sig .tc := ⟨.hbm, 594, rfl⟩
abbrev main_call2_call0_v53 : Ref sig .tc := ⟨.hbm, 595, rfl⟩
abbrev main_call2_call0_v54 : Ref sig .tc := ⟨.hbm, 596, rfl⟩
abbrev main_call2_call0_v55 : Ref sig .tc := ⟨.hbm, 597, rfl⟩
abbrev main_call2_call0_v56 : Ref sig .tc := ⟨.hbm, 598, rfl⟩
abbrev main_call2_call0_v57 : Ref sig .tc := ⟨.hbm, 599, rfl⟩
abbrev main_call2_call0_c_13 : Ref sig .tc := ⟨.hbm, 600, rfl⟩
abbrev main_call2_call0_v58 : Ref sig .tc := ⟨.hbm, 601, rfl⟩
abbrev main_call2_call0_v59 : Ref sig .tc := ⟨.hbm, 602, rfl⟩
abbrev main_call2_call0_c_14 : Ref sig .tc := ⟨.hbm, 603, rfl⟩
abbrev main_call2_call0_v60 : Ref sig .tc := ⟨.hbm, 604, rfl⟩
abbrev main_call2_call0_v61 : Ref sig .tc := ⟨.hbm, 605, rfl⟩
abbrev main_call2_call0_v62 : Ref sig .tc := ⟨.hbm, 606, rfl⟩
abbrev main_call2_call0_v63 : Ref sig .tc := ⟨.hbm, 607, rfl⟩
abbrev main_call2_call0_v64 : Ref sig .tc := ⟨.hbm, 608, rfl⟩
abbrev main_call2_call0_c_15 : Ref sig .tc := ⟨.hbm, 609, rfl⟩
abbrev main_call2_call0_v65 : Ref sig .tc := ⟨.hbm, 610, rfl⟩
abbrev main_call2_call0_v66 : Ref sig .tc := ⟨.hbm, 611, rfl⟩
abbrev main_call2_call0_c_16 : Ref sig .tc := ⟨.hbm, 612, rfl⟩
abbrev main_call2_call0_v67 : Ref sig .tc := ⟨.hbm, 613, rfl⟩
abbrev main_call2_call0_v68 : Ref sig .tc := ⟨.hbm, 614, rfl⟩
abbrev main_call2_call0_v69 : Ref sig .tc := ⟨.hbm, 615, rfl⟩
abbrev main_call2_call0_v70 : Ref sig .tc := ⟨.hbm, 616, rfl⟩
abbrev main_call2_call0_v71 : Ref sig .tc := ⟨.hbm, 617, rfl⟩
abbrev main_call2_call0_v72 : Ref sig .tc := ⟨.hbm, 618, rfl⟩
abbrev main_call2_call0_v73 : Ref sig .tc := ⟨.hbm, 619, rfl⟩
abbrev main_call2_call0_v74 : Ref sig .tc := ⟨.hbm, 620, rfl⟩
abbrev main_call2_call0_c_17 : Ref sig .tc := ⟨.hbm, 621, rfl⟩
abbrev main_call2_call0_v75 : Ref sig .tc := ⟨.hbm, 622, rfl⟩
abbrev main_call2_call0_v76 : Ref sig .tc := ⟨.hbm, 623, rfl⟩
abbrev main_call2_call0_v77 : Ref sig .tc := ⟨.hbm, 624, rfl⟩
abbrev main_call2_call0_c_18 : Ref sig .tc := ⟨.hbm, 625, rfl⟩
abbrev main_call2_call0_v78 : Ref sig .tc := ⟨.hbm, 626, rfl⟩
abbrev main_call2_call0_v79 : Ref sig .tc := ⟨.hbm, 627, rfl⟩
abbrev main_call2_call0_c_19 : Ref sig .tc := ⟨.hbm, 628, rfl⟩
abbrev main_call2_call0_v80 : Ref sig .tc := ⟨.hbm, 629, rfl⟩
abbrev main_call2_call0_v81 : Ref sig .tc := ⟨.hbm, 630, rfl⟩
abbrev main_call2_call0_v82 : Ref sig .tc := ⟨.hbm, 631, rfl⟩
abbrev main_call2_call0_v83 : Ref sig .tc := ⟨.hbm, 632, rfl⟩
abbrev main_call2_call0_v84 : Ref sig .tc := ⟨.hbm, 633, rfl⟩
abbrev main_call2_call0_c_20 : Ref sig .tc := ⟨.hbm, 634, rfl⟩
abbrev main_call2_call0_v85 : Ref sig .tc := ⟨.hbm, 635, rfl⟩
abbrev main_call2_call0_v86 : Ref sig .tc := ⟨.hbm, 636, rfl⟩
abbrev main_call2_call0_c_21 : Ref sig .tc := ⟨.hbm, 637, rfl⟩
abbrev main_call2_call0_v87 : Ref sig .tc := ⟨.hbm, 638, rfl⟩
abbrev main_call2_call0_v88 : Ref sig .tc := ⟨.hbm, 639, rfl⟩
abbrev main_call2_call0_v89 : Ref sig .tc := ⟨.hbm, 640, rfl⟩
abbrev main_call2_call0_v90 : Ref sig .tc := ⟨.hbm, 641, rfl⟩
abbrev main_call2_call0_v91 : Ref sig .tc := ⟨.hbm, 642, rfl⟩
abbrev main_call2_call0_c_22 : Ref sig .tc := ⟨.hbm, 643, rfl⟩
abbrev main_call2_call0_v92 : Ref sig .tc := ⟨.hbm, 644, rfl⟩
abbrev main_call2_call0_v93 : Ref sig .tc := ⟨.hbm, 645, rfl⟩
abbrev main_call2_call0_c_23 : Ref sig .tc := ⟨.hbm, 646, rfl⟩
abbrev main_call2_call0_v94 : Ref sig .tc := ⟨.hbm, 647, rfl⟩
abbrev main_call2_call0_v95 : Ref sig .tc := ⟨.hbm, 648, rfl⟩
abbrev main_call2_call0_v96 : Ref sig .tc := ⟨.hbm, 649, rfl⟩
abbrev main_call2_call0_v97 : Ref sig .tc := ⟨.hbm, 650, rfl⟩
abbrev main_call2_call0_v98 : Ref sig .tc := ⟨.hbm, 651, rfl⟩
abbrev main_call2_call0_c_24 : Ref sig .tc := ⟨.hbm, 652, rfl⟩
abbrev main_call2_call0_v99 : Ref sig .tc := ⟨.hbm, 653, rfl⟩
abbrev main_call2_call0_v100 : Ref sig .tc := ⟨.hbm, 654, rfl⟩
abbrev main_call2_call0_c_25 : Ref sig .tc := ⟨.hbm, 655, rfl⟩
abbrev main_call2_call0_v101 : Ref sig .tc := ⟨.hbm, 656, rfl⟩
abbrev main_call2_call0_v102 : Ref sig .tc := ⟨.hbm, 657, rfl⟩
abbrev main_call2_call0_v103 : Ref sig .tc := ⟨.hbm, 658, rfl⟩
abbrev main_call2_call0_v104 : Ref sig .tc := ⟨.hbm, 659, rfl⟩
abbrev main_call2_call0_v105 : Ref sig .tc := ⟨.hbm, 660, rfl⟩
abbrev main_call2_call0_v106 : Ref sig .tc := ⟨.hbm, 661, rfl⟩
abbrev main_call2_call0_v107 : Ref sig .tc := ⟨.hbm, 662, rfl⟩
abbrev main_call2_call0_v108 : Ref sig .tc := ⟨.hbm, 663, rfl⟩
abbrev main_call2_call0_c_26 : Ref sig .tc := ⟨.hbm, 664, rfl⟩
abbrev main_call2_call0_v109 : Ref sig .tc := ⟨.hbm, 665, rfl⟩
abbrev main_call2_call0_v110 : Ref sig .tc := ⟨.hbm, 666, rfl⟩
abbrev main_call2_call0_v111 : Ref sig .tc := ⟨.hbm, 667, rfl⟩
abbrev main_call2_call0_c_27 : Ref sig .tc := ⟨.hbm, 668, rfl⟩
abbrev main_call2_call0_v112 : Ref sig .tc := ⟨.hbm, 669, rfl⟩
abbrev main_call2_call0_v113 : Ref sig .tc := ⟨.hbm, 670, rfl⟩
abbrev main_call2_call0_c_28 : Ref sig .tc := ⟨.hbm, 671, rfl⟩
abbrev main_call2_call0_v114 : Ref sig .tc := ⟨.hbm, 672, rfl⟩
abbrev main_call2_call0_v115 : Ref sig .tc := ⟨.hbm, 673, rfl⟩
abbrev main_call2_call0_v116 : Ref sig .tc := ⟨.hbm, 674, rfl⟩
abbrev main_call2_call0_v117 : Ref sig .tc := ⟨.hbm, 675, rfl⟩
abbrev main_call2_call0_v118 : Ref sig .tc := ⟨.hbm, 676, rfl⟩
abbrev main_call2_call0_c_29 : Ref sig .tc := ⟨.hbm, 677, rfl⟩
abbrev main_call2_call0_v119 : Ref sig .tc := ⟨.hbm, 678, rfl⟩
abbrev main_call2_call0_v120 : Ref sig .tc := ⟨.hbm, 679, rfl⟩
abbrev main_call2_call0_c_30 : Ref sig .tc := ⟨.hbm, 680, rfl⟩
abbrev main_call2_call0_v121 : Ref sig .tc := ⟨.hbm, 681, rfl⟩
abbrev main_call2_call0_v122 : Ref sig .tc := ⟨.hbm, 682, rfl⟩
abbrev main_call2_call0_v123 : Ref sig .tc := ⟨.hbm, 683, rfl⟩
abbrev main_call2_call0_v124 : Ref sig .tc := ⟨.hbm, 684, rfl⟩
abbrev main_call2_call0_v125 : Ref sig .tc := ⟨.hbm, 685, rfl⟩
abbrev main_call2_call0_c_31 : Ref sig .tc := ⟨.hbm, 686, rfl⟩
abbrev main_call2_call0_v126 : Ref sig .tc := ⟨.hbm, 687, rfl⟩
abbrev main_call2_call0_v127 : Ref sig .tc := ⟨.hbm, 688, rfl⟩
abbrev main_call2_call0_c_32 : Ref sig .tc := ⟨.hbm, 689, rfl⟩
abbrev main_call2_call0_v128 : Ref sig .tc := ⟨.hbm, 690, rfl⟩
abbrev main_call2_call0_v129 : Ref sig .tc := ⟨.hbm, 691, rfl⟩
abbrev main_call2_call0_v130 : Ref sig .tc := ⟨.hbm, 692, rfl⟩
abbrev main_call2_call0_v131 : Ref sig .tc := ⟨.hbm, 693, rfl⟩
abbrev main_call2_call0_v132 : Ref sig .tc := ⟨.hbm, 694, rfl⟩
abbrev main_call2_call0_c_33 : Ref sig .tc := ⟨.hbm, 695, rfl⟩
abbrev main_call2_call0_v133 : Ref sig .tc := ⟨.hbm, 696, rfl⟩
abbrev main_call2_call0_v134 : Ref sig .tc := ⟨.hbm, 697, rfl⟩
abbrev main_call2_call0_c_34 : Ref sig .tc := ⟨.hbm, 698, rfl⟩
abbrev main_call2_call0_v135 : Ref sig .tc := ⟨.hbm, 699, rfl⟩
abbrev main_call2_call0_v136 : Ref sig .tc := ⟨.hbm, 700, rfl⟩
abbrev main_call2_call0_v137 : Ref sig .tc := ⟨.hbm, 701, rfl⟩
abbrev main_call2_call0_v138 : Ref sig .tc := ⟨.hbm, 702, rfl⟩
abbrev main_call2_call0_v139 : Ref sig .tc := ⟨.hbm, 703, rfl⟩
abbrev main_call2_call0_v140 : Ref sig .tc := ⟨.hbm, 704, rfl⟩
abbrev main_call2_call0_v141 : Ref sig .tc := ⟨.hbm, 705, rfl⟩
abbrev main_call2_call0_v142 : Ref sig .tc := ⟨.hbm, 706, rfl⟩
abbrev main_call2_call0_c_35 : Ref sig .tc := ⟨.hbm, 707, rfl⟩
abbrev main_call2_call0_v143 : Ref sig .tc := ⟨.hbm, 708, rfl⟩
abbrev main_call2_call0_v144 : Ref sig .tc := ⟨.hbm, 709, rfl⟩
abbrev main_call2_call0_v145 : Ref sig .tc := ⟨.hbm, 710, rfl⟩
abbrev main_call2_call0_c_36 : Ref sig .tc := ⟨.hbm, 711, rfl⟩
abbrev main_call2_call0_v146 : Ref sig .tc := ⟨.hbm, 712, rfl⟩
abbrev main_call2_call0_v147 : Ref sig .tc := ⟨.hbm, 713, rfl⟩
abbrev main_call2_call0_c_37 : Ref sig .tc := ⟨.hbm, 714, rfl⟩
abbrev main_call2_call0_v148 : Ref sig .tc := ⟨.hbm, 715, rfl⟩
abbrev main_call2_call0_v149 : Ref sig .tc := ⟨.hbm, 716, rfl⟩
abbrev main_call2_call0_v150 : Ref sig .tc := ⟨.hbm, 717, rfl⟩
abbrev main_call2_call0_v151 : Ref sig .tc := ⟨.hbm, 718, rfl⟩
abbrev main_call2_call0_v152 : Ref sig .tc := ⟨.hbm, 719, rfl⟩
abbrev main_call2_call0_c_38 : Ref sig .tc := ⟨.hbm, 720, rfl⟩
abbrev main_call2_call0_v153 : Ref sig .tc := ⟨.hbm, 721, rfl⟩
abbrev main_call2_call0_v154 : Ref sig .tc := ⟨.hbm, 722, rfl⟩
abbrev main_call2_call0_c_39 : Ref sig .tc := ⟨.hbm, 723, rfl⟩
abbrev main_call2_call0_v155 : Ref sig .tc := ⟨.hbm, 724, rfl⟩
abbrev main_call2_call0_v156 : Ref sig .tc := ⟨.hbm, 725, rfl⟩
abbrev main_call2_call0_v157 : Ref sig .tc := ⟨.hbm, 726, rfl⟩
abbrev main_call2_call0_v158 : Ref sig .tc := ⟨.hbm, 727, rfl⟩
abbrev main_call2_call0_v159 : Ref sig .tc := ⟨.hbm, 728, rfl⟩
abbrev main_call2_call0_c_40 : Ref sig .tc := ⟨.hbm, 729, rfl⟩
abbrev main_call2_call0_v160 : Ref sig .tc := ⟨.hbm, 730, rfl⟩
abbrev main_call2_call0_v161 : Ref sig .tc := ⟨.hbm, 731, rfl⟩
abbrev main_call2_call0_c_41 : Ref sig .tc := ⟨.hbm, 732, rfl⟩
abbrev main_call2_call0_v162 : Ref sig .tc := ⟨.hbm, 733, rfl⟩
abbrev main_call2_call0_v163 : Ref sig .tc := ⟨.hbm, 734, rfl⟩
abbrev main_call2_call0_v164 : Ref sig .tc := ⟨.hbm, 735, rfl⟩
abbrev main_call2_call0_v165 : Ref sig .tc := ⟨.hbm, 736, rfl⟩
abbrev main_call2_call0_v166 : Ref sig .tc := ⟨.hbm, 737, rfl⟩
abbrev main_call2_call0_c_42 : Ref sig .tc := ⟨.hbm, 738, rfl⟩
abbrev main_call2_call0_v167 : Ref sig .tc := ⟨.hbm, 739, rfl⟩
abbrev main_call2_call0_v168 : Ref sig .tc := ⟨.hbm, 740, rfl⟩
abbrev main_call2_call0_c_43 : Ref sig .tc := ⟨.hbm, 741, rfl⟩
abbrev main_call2_call0_v169 : Ref sig .tc := ⟨.hbm, 742, rfl⟩
abbrev main_call2_call0_v170 : Ref sig .tc := ⟨.hbm, 743, rfl⟩
abbrev main_call2_call0_v171 : Ref sig .tc := ⟨.hbm, 744, rfl⟩
abbrev main_call2_call0_v172 : Ref sig .tc := ⟨.hbm, 745, rfl⟩
abbrev main_call2_call0_v173 : Ref sig .tc := ⟨.hbm, 746, rfl⟩
abbrev main_call2_v19_0 : Ref sig .tc := ⟨.hbm, 747, rfl⟩
abbrev main_call2_call0_v175 : Ref sig .tc := ⟨.hbm, 748, rfl⟩
abbrev main_call2_call0_v176 : Ref sig .tc := ⟨.hbm, 749, rfl⟩
abbrev main_call2_call0_c_44 : Ref sig .tc := ⟨.hbm, 750, rfl⟩
abbrev main_call2_call0_v177 : Ref sig .tc := ⟨.hbm, 751, rfl⟩
abbrev main_call2_v19_1 : Ref sig .tc := ⟨.hbm, 752, rfl⟩
abbrev main_call2_v20 : Ref sig .tc := ⟨.hbm, 753, rfl⟩
abbrev main_call2_c_1 : Ref sig .tc := ⟨.hbm, 754, rfl⟩
abbrev main_call2_v21 : Ref sig .tc := ⟨.hbm, 755, rfl⟩
abbrev main_call2_v22 : Ref sig .tc := ⟨.hbm, 756, rfl⟩
abbrev main_call2_c_2 : Ref sig .tc := ⟨.hbm, 757, rfl⟩
abbrev main_call2_v23 : Ref sig .tc := ⟨.hbm, 758, rfl⟩
abbrev main_call2_v24 : Ref sig .tc := ⟨.hbm, 759, rfl⟩
abbrev main_call2_v25 : Ref sig .tc := ⟨.hbm, 760, rfl⟩
abbrev main_call2_cst : Ref sig .tc := ⟨.hbm, 761, rfl⟩
abbrev main_call2_v26 : Ref sig .tc := ⟨.hbm, 762, rfl⟩
abbrev main_call2_v27 : Ref sig .tc := ⟨.hbm, 763, rfl⟩
abbrev main_call2_v28 : Ref sig .tc := ⟨.hbm, 764, rfl⟩
abbrev main_call2_v29 : Ref sig .tc := ⟨.hbm, 765, rfl⟩
abbrev main_call2_v30 : Ref sig .tc := ⟨.hbm, 766, rfl⟩
abbrev main_call2_v31 : Ref sig .tc := ⟨.hbm, 767, rfl⟩
abbrev main_call2_v32 : Ref sig .tc := ⟨.hbm, 768, rfl⟩
abbrev main_call2_v33 : Ref sig .tc := ⟨.hbm, 769, rfl⟩
abbrev main_call2_v34 : Ref sig .tc := ⟨.hbm, 770, rfl⟩
abbrev main_call2_v35 : Ref sig .tc := ⟨.hbm, 771, rfl⟩
abbrev main_call2_v36 : Ref sig .tc := ⟨.hbm, 772, rfl⟩
abbrev main_v17 : Ref sig .tc := ⟨.hbm, 773, rfl⟩
abbrev main_v18 : Ref sig .tc := ⟨.hbm, 774, rfl⟩
abbrev main_cst_4 : Ref sig .tc := ⟨.hbm, 775, rfl⟩
abbrev main_cst_5 : Ref sig .tc := ⟨.hbm, 776, rfl⟩
abbrev main_call3_v0 : Ref sig .tc := ⟨.hbm, 777, rfl⟩
abbrev main_call3_v1 : Ref sig .tc := ⟨.hbm, 778, rfl⟩
abbrev main_call3_v2 : Ref sig .tc := ⟨.hbm, 779, rfl⟩
abbrev main_call3_v3 : Ref sig .tc := ⟨.hbm, 780, rfl⟩
abbrev main_call3_v4 : Ref sig .tc := ⟨.hbm, 781, rfl⟩
abbrev main_call3_v5 : Ref sig .tc := ⟨.hbm, 782, rfl⟩
abbrev main_call3_v6 : Ref sig .tc := ⟨.hbm, 783, rfl⟩
abbrev main_call3_v7 : Ref sig .tc := ⟨.hbm, 784, rfl⟩
abbrev main_call3_v8 : Ref sig .tc := ⟨.hbm, 785, rfl⟩
abbrev main_call3_c : Ref sig .tc := ⟨.hbm, 786, rfl⟩
abbrev main_call3_v9 : Ref sig .tc := ⟨.hbm, 787, rfl⟩
abbrev main_call3_v10 : Ref sig .tc := ⟨.hbm, 788, rfl⟩
abbrev main_call3_c_0 : Ref sig .tc := ⟨.hbm, 789, rfl⟩
abbrev main_call3_v11 : Ref sig .tc := ⟨.hbm, 790, rfl⟩
abbrev main_call3_v12 : Ref sig .tc := ⟨.hbm, 791, rfl⟩
abbrev main_call3_v13 : Ref sig .tc := ⟨.hbm, 792, rfl⟩
abbrev main_call3_v14 : Ref sig .tc := ⟨.hbm, 793, rfl⟩
abbrev main_call3_v15 : Ref sig .tc := ⟨.hbm, 794, rfl⟩
abbrev main_call3_v16 : Ref sig .tc := ⟨.hbm, 795, rfl⟩
abbrev main_call3_v17 : Ref sig .tc := ⟨.hbm, 796, rfl⟩
abbrev main_call3_v18 : Ref sig .tc := ⟨.hbm, 797, rfl⟩
abbrev main_call3_call0_v0 : Ref sig .tc := ⟨.hbm, 798, rfl⟩
abbrev main_call3_call0_c : Ref sig .tc := ⟨.hbm, 799, rfl⟩
abbrev main_call3_call0_v1 : Ref sig .tc := ⟨.hbm, 800, rfl⟩
abbrev main_call3_call0_v2 : Ref sig .tc := ⟨.hbm, 801, rfl⟩
abbrev main_call3_call0_v3 : Ref sig .tc := ⟨.hbm, 802, rfl⟩
abbrev main_call3_call0_v4 : Ref sig .tc := ⟨.hbm, 803, rfl⟩
abbrev main_call3_call0_v5 : Ref sig .tc := ⟨.hbm, 804, rfl⟩
abbrev main_call3_call0_v6 : Ref sig .tc := ⟨.hbm, 805, rfl⟩
abbrev main_call3_call0_v7 : Ref sig .tc := ⟨.hbm, 806, rfl⟩
abbrev main_call3_call0_v8 : Ref sig .tc := ⟨.hbm, 807, rfl⟩
abbrev main_call3_call0_v9 : Ref sig .tc := ⟨.hbm, 808, rfl⟩
abbrev main_call3_call0_c_0 : Ref sig .tc := ⟨.hbm, 809, rfl⟩
abbrev main_call3_call0_v10 : Ref sig .tc := ⟨.hbm, 810, rfl⟩
abbrev main_call3_call0_v11 : Ref sig .tc := ⟨.hbm, 811, rfl⟩
abbrev main_call3_call0_c_1 : Ref sig .tc := ⟨.hbm, 812, rfl⟩
abbrev main_call3_call0_v12 : Ref sig .tc := ⟨.hbm, 813, rfl⟩
abbrev main_call3_call0_v13 : Ref sig .tc := ⟨.hbm, 814, rfl⟩
abbrev main_call3_call0_v14 : Ref sig .tc := ⟨.hbm, 815, rfl⟩
abbrev main_call3_call0_v15 : Ref sig .tc := ⟨.hbm, 816, rfl⟩
abbrev main_call3_call0_v16 : Ref sig .tc := ⟨.hbm, 817, rfl⟩
abbrev main_call3_call0_c_2 : Ref sig .tc := ⟨.hbm, 818, rfl⟩
abbrev main_call3_call0_v17 : Ref sig .tc := ⟨.hbm, 819, rfl⟩
abbrev main_call3_call0_v18 : Ref sig .tc := ⟨.hbm, 820, rfl⟩
abbrev main_call3_call0_c_3 : Ref sig .tc := ⟨.hbm, 821, rfl⟩
abbrev main_call3_call0_v19 : Ref sig .tc := ⟨.hbm, 822, rfl⟩
abbrev main_call3_call0_v20 : Ref sig .tc := ⟨.hbm, 823, rfl⟩
abbrev main_call3_call0_v21 : Ref sig .tc := ⟨.hbm, 824, rfl⟩
abbrev main_call3_call0_v22 : Ref sig .tc := ⟨.hbm, 825, rfl⟩
abbrev main_call3_call0_v23 : Ref sig .tc := ⟨.hbm, 826, rfl⟩
abbrev main_call3_call0_c_4 : Ref sig .tc := ⟨.hbm, 827, rfl⟩
abbrev main_call3_call0_v24 : Ref sig .tc := ⟨.hbm, 828, rfl⟩
abbrev main_call3_call0_v25 : Ref sig .tc := ⟨.hbm, 829, rfl⟩
abbrev main_call3_call0_c_5 : Ref sig .tc := ⟨.hbm, 830, rfl⟩
abbrev main_call3_call0_v26 : Ref sig .tc := ⟨.hbm, 831, rfl⟩
abbrev main_call3_call0_v27 : Ref sig .tc := ⟨.hbm, 832, rfl⟩
abbrev main_call3_call0_v28 : Ref sig .tc := ⟨.hbm, 833, rfl⟩
abbrev main_call3_call0_v29 : Ref sig .tc := ⟨.hbm, 834, rfl⟩
abbrev main_call3_call0_v30 : Ref sig .tc := ⟨.hbm, 835, rfl⟩
abbrev main_call3_call0_c_6 : Ref sig .tc := ⟨.hbm, 836, rfl⟩
abbrev main_call3_call0_v31 : Ref sig .tc := ⟨.hbm, 837, rfl⟩
abbrev main_call3_call0_v32 : Ref sig .tc := ⟨.hbm, 838, rfl⟩
abbrev main_call3_call0_c_7 : Ref sig .tc := ⟨.hbm, 839, rfl⟩
abbrev main_call3_call0_v33 : Ref sig .tc := ⟨.hbm, 840, rfl⟩
abbrev main_call3_call0_v34 : Ref sig .tc := ⟨.hbm, 841, rfl⟩
abbrev main_call3_call0_v35 : Ref sig .tc := ⟨.hbm, 842, rfl⟩
abbrev main_call3_call0_v36 : Ref sig .tc := ⟨.hbm, 843, rfl⟩
abbrev main_call3_call0_v37 : Ref sig .tc := ⟨.hbm, 844, rfl⟩
abbrev main_call3_call0_v38 : Ref sig .tc := ⟨.hbm, 845, rfl⟩
abbrev main_call3_call0_v39 : Ref sig .tc := ⟨.hbm, 846, rfl⟩
abbrev main_call3_call0_v40 : Ref sig .tc := ⟨.hbm, 847, rfl⟩
abbrev main_call3_call0_c_8 : Ref sig .tc := ⟨.hbm, 848, rfl⟩
abbrev main_call3_call0_v41 : Ref sig .tc := ⟨.hbm, 849, rfl⟩
abbrev main_call3_call0_v42 : Ref sig .tc := ⟨.hbm, 850, rfl⟩
abbrev main_call3_call0_v43 : Ref sig .tc := ⟨.hbm, 851, rfl⟩
abbrev main_call3_call0_c_9 : Ref sig .tc := ⟨.hbm, 852, rfl⟩
abbrev main_call3_call0_v44 : Ref sig .tc := ⟨.hbm, 853, rfl⟩
abbrev main_call3_call0_v45 : Ref sig .tc := ⟨.hbm, 854, rfl⟩
abbrev main_call3_call0_c_10 : Ref sig .tc := ⟨.hbm, 855, rfl⟩
abbrev main_call3_call0_v46 : Ref sig .tc := ⟨.hbm, 856, rfl⟩
abbrev main_call3_call0_v47 : Ref sig .tc := ⟨.hbm, 857, rfl⟩
abbrev main_call3_call0_v48 : Ref sig .tc := ⟨.hbm, 858, rfl⟩
abbrev main_call3_call0_v49 : Ref sig .tc := ⟨.hbm, 859, rfl⟩
abbrev main_call3_call0_v50 : Ref sig .tc := ⟨.hbm, 860, rfl⟩
abbrev main_call3_call0_c_11 : Ref sig .tc := ⟨.hbm, 861, rfl⟩
abbrev main_call3_call0_v51 : Ref sig .tc := ⟨.hbm, 862, rfl⟩
abbrev main_call3_call0_v52 : Ref sig .tc := ⟨.hbm, 863, rfl⟩
abbrev main_call3_call0_c_12 : Ref sig .tc := ⟨.hbm, 864, rfl⟩
abbrev main_call3_call0_v53 : Ref sig .tc := ⟨.hbm, 865, rfl⟩
abbrev main_call3_call0_v54 : Ref sig .tc := ⟨.hbm, 866, rfl⟩
abbrev main_call3_call0_v55 : Ref sig .tc := ⟨.hbm, 867, rfl⟩
abbrev main_call3_call0_v56 : Ref sig .tc := ⟨.hbm, 868, rfl⟩
abbrev main_call3_call0_v57 : Ref sig .tc := ⟨.hbm, 869, rfl⟩
abbrev main_call3_call0_c_13 : Ref sig .tc := ⟨.hbm, 870, rfl⟩
abbrev main_call3_call0_v58 : Ref sig .tc := ⟨.hbm, 871, rfl⟩
abbrev main_call3_call0_v59 : Ref sig .tc := ⟨.hbm, 872, rfl⟩
abbrev main_call3_call0_c_14 : Ref sig .tc := ⟨.hbm, 873, rfl⟩
abbrev main_call3_call0_v60 : Ref sig .tc := ⟨.hbm, 874, rfl⟩
abbrev main_call3_call0_v61 : Ref sig .tc := ⟨.hbm, 875, rfl⟩
abbrev main_call3_call0_v62 : Ref sig .tc := ⟨.hbm, 876, rfl⟩
abbrev main_call3_call0_v63 : Ref sig .tc := ⟨.hbm, 877, rfl⟩
abbrev main_call3_call0_v64 : Ref sig .tc := ⟨.hbm, 878, rfl⟩
abbrev main_call3_call0_c_15 : Ref sig .tc := ⟨.hbm, 879, rfl⟩
abbrev main_call3_call0_v65 : Ref sig .tc := ⟨.hbm, 880, rfl⟩
abbrev main_call3_call0_v66 : Ref sig .tc := ⟨.hbm, 881, rfl⟩
abbrev main_call3_call0_c_16 : Ref sig .tc := ⟨.hbm, 882, rfl⟩
abbrev main_call3_call0_v67 : Ref sig .tc := ⟨.hbm, 883, rfl⟩
abbrev main_call3_call0_v68 : Ref sig .tc := ⟨.hbm, 884, rfl⟩
abbrev main_call3_call0_v69 : Ref sig .tc := ⟨.hbm, 885, rfl⟩
abbrev main_call3_call0_v70 : Ref sig .tc := ⟨.hbm, 886, rfl⟩
abbrev main_call3_call0_v71 : Ref sig .tc := ⟨.hbm, 887, rfl⟩
abbrev main_call3_call0_v72 : Ref sig .tc := ⟨.hbm, 888, rfl⟩
abbrev main_call3_call0_v73 : Ref sig .tc := ⟨.hbm, 889, rfl⟩
abbrev main_call3_call0_v74 : Ref sig .tc := ⟨.hbm, 890, rfl⟩
abbrev main_call3_call0_c_17 : Ref sig .tc := ⟨.hbm, 891, rfl⟩
abbrev main_call3_call0_v75 : Ref sig .tc := ⟨.hbm, 892, rfl⟩
abbrev main_call3_call0_v76 : Ref sig .tc := ⟨.hbm, 893, rfl⟩
abbrev main_call3_call0_v77 : Ref sig .tc := ⟨.hbm, 894, rfl⟩
abbrev main_call3_call0_c_18 : Ref sig .tc := ⟨.hbm, 895, rfl⟩
abbrev main_call3_call0_v78 : Ref sig .tc := ⟨.hbm, 896, rfl⟩
abbrev main_call3_call0_v79 : Ref sig .tc := ⟨.hbm, 897, rfl⟩
abbrev main_call3_call0_c_19 : Ref sig .tc := ⟨.hbm, 898, rfl⟩
abbrev main_call3_call0_v80 : Ref sig .tc := ⟨.hbm, 899, rfl⟩
abbrev main_call3_call0_v81 : Ref sig .tc := ⟨.hbm, 900, rfl⟩
abbrev main_call3_call0_v82 : Ref sig .tc := ⟨.hbm, 901, rfl⟩
abbrev main_call3_call0_v83 : Ref sig .tc := ⟨.hbm, 902, rfl⟩
abbrev main_call3_call0_v84 : Ref sig .tc := ⟨.hbm, 903, rfl⟩
abbrev main_call3_call0_c_20 : Ref sig .tc := ⟨.hbm, 904, rfl⟩
abbrev main_call3_call0_v85 : Ref sig .tc := ⟨.hbm, 905, rfl⟩
abbrev main_call3_call0_v86 : Ref sig .tc := ⟨.hbm, 906, rfl⟩
abbrev main_call3_call0_c_21 : Ref sig .tc := ⟨.hbm, 907, rfl⟩
abbrev main_call3_call0_v87 : Ref sig .tc := ⟨.hbm, 908, rfl⟩
abbrev main_call3_call0_v88 : Ref sig .tc := ⟨.hbm, 909, rfl⟩
abbrev main_call3_call0_v89 : Ref sig .tc := ⟨.hbm, 910, rfl⟩
abbrev main_call3_call0_v90 : Ref sig .tc := ⟨.hbm, 911, rfl⟩
abbrev main_call3_call0_v91 : Ref sig .tc := ⟨.hbm, 912, rfl⟩
abbrev main_call3_call0_c_22 : Ref sig .tc := ⟨.hbm, 913, rfl⟩
abbrev main_call3_call0_v92 : Ref sig .tc := ⟨.hbm, 914, rfl⟩
abbrev main_call3_call0_v93 : Ref sig .tc := ⟨.hbm, 915, rfl⟩
abbrev main_call3_call0_c_23 : Ref sig .tc := ⟨.hbm, 916, rfl⟩
abbrev main_call3_call0_v94 : Ref sig .tc := ⟨.hbm, 917, rfl⟩
abbrev main_call3_call0_v95 : Ref sig .tc := ⟨.hbm, 918, rfl⟩
abbrev main_call3_call0_v96 : Ref sig .tc := ⟨.hbm, 919, rfl⟩
abbrev main_call3_call0_v97 : Ref sig .tc := ⟨.hbm, 920, rfl⟩
abbrev main_call3_call0_v98 : Ref sig .tc := ⟨.hbm, 921, rfl⟩
abbrev main_call3_call0_c_24 : Ref sig .tc := ⟨.hbm, 922, rfl⟩
abbrev main_call3_call0_v99 : Ref sig .tc := ⟨.hbm, 923, rfl⟩
abbrev main_call3_call0_v100 : Ref sig .tc := ⟨.hbm, 924, rfl⟩
abbrev main_call3_call0_c_25 : Ref sig .tc := ⟨.hbm, 925, rfl⟩
abbrev main_call3_call0_v101 : Ref sig .tc := ⟨.hbm, 926, rfl⟩
abbrev main_call3_call0_v102 : Ref sig .tc := ⟨.hbm, 927, rfl⟩
abbrev main_call3_call0_v103 : Ref sig .tc := ⟨.hbm, 928, rfl⟩
abbrev main_call3_call0_v104 : Ref sig .tc := ⟨.hbm, 929, rfl⟩
abbrev main_call3_call0_v105 : Ref sig .tc := ⟨.hbm, 930, rfl⟩
abbrev main_call3_call0_v106 : Ref sig .tc := ⟨.hbm, 931, rfl⟩
abbrev main_call3_call0_v107 : Ref sig .tc := ⟨.hbm, 932, rfl⟩
abbrev main_call3_call0_v108 : Ref sig .tc := ⟨.hbm, 933, rfl⟩
abbrev main_call3_call0_c_26 : Ref sig .tc := ⟨.hbm, 934, rfl⟩
abbrev main_call3_call0_v109 : Ref sig .tc := ⟨.hbm, 935, rfl⟩
abbrev main_call3_call0_v110 : Ref sig .tc := ⟨.hbm, 936, rfl⟩
abbrev main_call3_call0_v111 : Ref sig .tc := ⟨.hbm, 937, rfl⟩
abbrev main_call3_call0_c_27 : Ref sig .tc := ⟨.hbm, 938, rfl⟩
abbrev main_call3_call0_v112 : Ref sig .tc := ⟨.hbm, 939, rfl⟩
abbrev main_call3_call0_v113 : Ref sig .tc := ⟨.hbm, 940, rfl⟩
abbrev main_call3_call0_c_28 : Ref sig .tc := ⟨.hbm, 941, rfl⟩
abbrev main_call3_call0_v114 : Ref sig .tc := ⟨.hbm, 942, rfl⟩
abbrev main_call3_call0_v115 : Ref sig .tc := ⟨.hbm, 943, rfl⟩
abbrev main_call3_call0_v116 : Ref sig .tc := ⟨.hbm, 944, rfl⟩
abbrev main_call3_call0_v117 : Ref sig .tc := ⟨.hbm, 945, rfl⟩
abbrev main_call3_call0_v118 : Ref sig .tc := ⟨.hbm, 946, rfl⟩
abbrev main_call3_call0_c_29 : Ref sig .tc := ⟨.hbm, 947, rfl⟩
abbrev main_call3_call0_v119 : Ref sig .tc := ⟨.hbm, 948, rfl⟩
abbrev main_call3_call0_v120 : Ref sig .tc := ⟨.hbm, 949, rfl⟩
abbrev main_call3_call0_c_30 : Ref sig .tc := ⟨.hbm, 950, rfl⟩
abbrev main_call3_call0_v121 : Ref sig .tc := ⟨.hbm, 951, rfl⟩
abbrev main_call3_call0_v122 : Ref sig .tc := ⟨.hbm, 952, rfl⟩
abbrev main_call3_call0_v123 : Ref sig .tc := ⟨.hbm, 953, rfl⟩
abbrev main_call3_call0_v124 : Ref sig .tc := ⟨.hbm, 954, rfl⟩
abbrev main_call3_call0_v125 : Ref sig .tc := ⟨.hbm, 955, rfl⟩
abbrev main_call3_call0_c_31 : Ref sig .tc := ⟨.hbm, 956, rfl⟩
abbrev main_call3_call0_v126 : Ref sig .tc := ⟨.hbm, 957, rfl⟩
abbrev main_call3_call0_v127 : Ref sig .tc := ⟨.hbm, 958, rfl⟩
abbrev main_call3_call0_c_32 : Ref sig .tc := ⟨.hbm, 959, rfl⟩
abbrev main_call3_call0_v128 : Ref sig .tc := ⟨.hbm, 960, rfl⟩
abbrev main_call3_call0_v129 : Ref sig .tc := ⟨.hbm, 961, rfl⟩
abbrev main_call3_call0_v130 : Ref sig .tc := ⟨.hbm, 962, rfl⟩
abbrev main_call3_call0_v131 : Ref sig .tc := ⟨.hbm, 963, rfl⟩
abbrev main_call3_call0_v132 : Ref sig .tc := ⟨.hbm, 964, rfl⟩
abbrev main_call3_call0_c_33 : Ref sig .tc := ⟨.hbm, 965, rfl⟩
abbrev main_call3_call0_v133 : Ref sig .tc := ⟨.hbm, 966, rfl⟩
abbrev main_call3_call0_v134 : Ref sig .tc := ⟨.hbm, 967, rfl⟩
abbrev main_call3_call0_c_34 : Ref sig .tc := ⟨.hbm, 968, rfl⟩
abbrev main_call3_call0_v135 : Ref sig .tc := ⟨.hbm, 969, rfl⟩
abbrev main_call3_call0_v136 : Ref sig .tc := ⟨.hbm, 970, rfl⟩
abbrev main_call3_call0_v137 : Ref sig .tc := ⟨.hbm, 971, rfl⟩
abbrev main_call3_call0_v138 : Ref sig .tc := ⟨.hbm, 972, rfl⟩
abbrev main_call3_call0_v139 : Ref sig .tc := ⟨.hbm, 973, rfl⟩
abbrev main_call3_call0_v140 : Ref sig .tc := ⟨.hbm, 974, rfl⟩
abbrev main_call3_call0_v141 : Ref sig .tc := ⟨.hbm, 975, rfl⟩
abbrev main_call3_call0_v142 : Ref sig .tc := ⟨.hbm, 976, rfl⟩
abbrev main_call3_call0_c_35 : Ref sig .tc := ⟨.hbm, 977, rfl⟩
abbrev main_call3_call0_v143 : Ref sig .tc := ⟨.hbm, 978, rfl⟩
abbrev main_call3_call0_v144 : Ref sig .tc := ⟨.hbm, 979, rfl⟩
abbrev main_call3_call0_v145 : Ref sig .tc := ⟨.hbm, 980, rfl⟩
abbrev main_call3_call0_c_36 : Ref sig .tc := ⟨.hbm, 981, rfl⟩
abbrev main_call3_call0_v146 : Ref sig .tc := ⟨.hbm, 982, rfl⟩
abbrev main_call3_call0_v147 : Ref sig .tc := ⟨.hbm, 983, rfl⟩
abbrev main_call3_call0_c_37 : Ref sig .tc := ⟨.hbm, 984, rfl⟩
abbrev main_call3_call0_v148 : Ref sig .tc := ⟨.hbm, 985, rfl⟩
abbrev main_call3_call0_v149 : Ref sig .tc := ⟨.hbm, 986, rfl⟩
abbrev main_call3_call0_v150 : Ref sig .tc := ⟨.hbm, 987, rfl⟩
abbrev main_call3_call0_v151 : Ref sig .tc := ⟨.hbm, 988, rfl⟩
abbrev main_call3_call0_v152 : Ref sig .tc := ⟨.hbm, 989, rfl⟩
abbrev main_call3_call0_c_38 : Ref sig .tc := ⟨.hbm, 990, rfl⟩
abbrev main_call3_call0_v153 : Ref sig .tc := ⟨.hbm, 991, rfl⟩
abbrev main_call3_call0_v154 : Ref sig .tc := ⟨.hbm, 992, rfl⟩
abbrev main_call3_call0_c_39 : Ref sig .tc := ⟨.hbm, 993, rfl⟩
abbrev main_call3_call0_v155 : Ref sig .tc := ⟨.hbm, 994, rfl⟩
abbrev main_call3_call0_v156 : Ref sig .tc := ⟨.hbm, 995, rfl⟩
abbrev main_call3_call0_v157 : Ref sig .tc := ⟨.hbm, 996, rfl⟩
abbrev main_call3_call0_v158 : Ref sig .tc := ⟨.hbm, 997, rfl⟩
abbrev main_call3_call0_v159 : Ref sig .tc := ⟨.hbm, 998, rfl⟩
abbrev main_call3_call0_c_40 : Ref sig .tc := ⟨.hbm, 999, rfl⟩
abbrev main_call3_call0_v160 : Ref sig .tc := ⟨.hbm, 1000, rfl⟩
abbrev main_call3_call0_v161 : Ref sig .tc := ⟨.hbm, 1001, rfl⟩
abbrev main_call3_call0_c_41 : Ref sig .tc := ⟨.hbm, 1002, rfl⟩
abbrev main_call3_call0_v162 : Ref sig .tc := ⟨.hbm, 1003, rfl⟩
abbrev main_call3_call0_v163 : Ref sig .tc := ⟨.hbm, 1004, rfl⟩
abbrev main_call3_call0_v164 : Ref sig .tc := ⟨.hbm, 1005, rfl⟩
abbrev main_call3_call0_v165 : Ref sig .tc := ⟨.hbm, 1006, rfl⟩
abbrev main_call3_call0_v166 : Ref sig .tc := ⟨.hbm, 1007, rfl⟩
abbrev main_call3_call0_c_42 : Ref sig .tc := ⟨.hbm, 1008, rfl⟩
abbrev main_call3_call0_v167 : Ref sig .tc := ⟨.hbm, 1009, rfl⟩
abbrev main_call3_call0_v168 : Ref sig .tc := ⟨.hbm, 1010, rfl⟩
abbrev main_call3_call0_c_43 : Ref sig .tc := ⟨.hbm, 1011, rfl⟩
abbrev main_call3_call0_v169 : Ref sig .tc := ⟨.hbm, 1012, rfl⟩
abbrev main_call3_call0_v170 : Ref sig .tc := ⟨.hbm, 1013, rfl⟩
abbrev main_call3_call0_v171 : Ref sig .tc := ⟨.hbm, 1014, rfl⟩
abbrev main_call3_call0_v172 : Ref sig .tc := ⟨.hbm, 1015, rfl⟩
abbrev main_call3_call0_v173 : Ref sig .tc := ⟨.hbm, 1016, rfl⟩
abbrev main_call3_v19_0 : Ref sig .tc := ⟨.hbm, 1017, rfl⟩
abbrev main_call3_call0_v175 : Ref sig .tc := ⟨.hbm, 1018, rfl⟩
abbrev main_call3_call0_v176 : Ref sig .tc := ⟨.hbm, 1019, rfl⟩
abbrev main_call3_call0_c_44 : Ref sig .tc := ⟨.hbm, 1020, rfl⟩
abbrev main_call3_call0_v177 : Ref sig .tc := ⟨.hbm, 1021, rfl⟩
abbrev main_call3_v19_1 : Ref sig .tc := ⟨.hbm, 1022, rfl⟩
abbrev main_call3_v20 : Ref sig .tc := ⟨.hbm, 1023, rfl⟩
abbrev main_call3_c_1 : Ref sig .tc := ⟨.hbm, 1024, rfl⟩
abbrev main_call3_v21 : Ref sig .tc := ⟨.hbm, 1025, rfl⟩
abbrev main_call3_v22 : Ref sig .tc := ⟨.hbm, 1026, rfl⟩
abbrev main_call3_c_2 : Ref sig .tc := ⟨.hbm, 1027, rfl⟩
abbrev main_call3_v23 : Ref sig .tc := ⟨.hbm, 1028, rfl⟩
abbrev main_call3_v24 : Ref sig .tc := ⟨.hbm, 1029, rfl⟩
abbrev main_call3_v25 : Ref sig .tc := ⟨.hbm, 1030, rfl⟩
abbrev main_call3_cst : Ref sig .tc := ⟨.hbm, 1031, rfl⟩
abbrev main_call3_v26 : Ref sig .tc := ⟨.hbm, 1032, rfl⟩
abbrev main_call3_v27 : Ref sig .tc := ⟨.hbm, 1033, rfl⟩
abbrev main_call3_v28 : Ref sig .tc := ⟨.hbm, 1034, rfl⟩
abbrev main_call3_v29 : Ref sig .tc := ⟨.hbm, 1035, rfl⟩
abbrev main_call3_v30 : Ref sig .tc := ⟨.hbm, 1036, rfl⟩
abbrev main_call3_v31 : Ref sig .tc := ⟨.hbm, 1037, rfl⟩
abbrev main_call3_v32 : Ref sig .tc := ⟨.hbm, 1038, rfl⟩
abbrev main_call3_v33 : Ref sig .tc := ⟨.hbm, 1039, rfl⟩
abbrev main_call3_v34 : Ref sig .tc := ⟨.hbm, 1040, rfl⟩
abbrev main_call3_v35 : Ref sig .tc := ⟨.hbm, 1041, rfl⟩
abbrev main_call3_v36 : Ref sig .tc := ⟨.hbm, 1042, rfl⟩
abbrev main_v19 : Ref sig .tc := ⟨.hbm, 1043, rfl⟩
abbrev main_v20 : Ref sig .tc := ⟨.hbm, 1044, rfl⟩
abbrev main_v21 : Ref sig .tc := ⟨.hbm, 1045, rfl⟩
abbrev main_v22 : Ref sig .tc := ⟨.hbm, 1046, rfl⟩
abbrev main_v23 : Ref sig .tc := ⟨.hbm, 1047, rfl⟩
abbrev main_v24 : Ref sig .tc := ⟨.hbm, 1048, rfl⟩
abbrev main_v25 : Ref sig .tc := ⟨.hbm, 1049, rfl⟩
abbrev main_v26 : Ref sig .tc := ⟨.hbm, 1050, rfl⟩
abbrev main_v27 : Ref sig .tc := ⟨.hbm, 1051, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_scratch1 : Ref sig .tc := ⟨.vmem, 8, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![100], ![false]⟩

def k0_cond2 (i : grid0.Coords) : BitVec 1 :=
  let arg0 : BitVec 32 := BitVec.ofNat 32 (i 0).val
  let c99_i32 : BitVec 32 := 99#32
  let v376 : BitVec 1 := Scalar.cmpi .eq arg0 c99_i32
  let v377 : BitVec 32 := Scalar.extui v376
  let c0_i32_101 : BitVec 32 := 0#32
  let v378 : BitVec 1 := Scalar.cmpi .ne v377 c0_i32_101
  v378

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .smem S1x1x2 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S32x2048 : Shape := ⟨2, ![32, 2048]⟩
abbrev S2048x2048 : Shape := ⟨2, ![2048, 2048]⟩
abbrev S2048 : Shape := ⟨1, ![2048]⟩
abbrev S32 : Shape := ⟨1, ![32]⟩
abbrev S_ : Shape := ⟨0, ![]⟩
abbrev S1 : Shape := ⟨1, ![1]⟩
abbrev S2 : Shape := ⟨1, ![2]⟩
abbrev S1x2048 : Shape := ⟨2, ![1, 2048]⟩
abbrev S100 : Shape := ⟨1, ![100]⟩
abbrev S100x32 : Shape := ⟨2, ![100, 32]⟩
abbrev S3 : Shape := ⟨1, ![3]⟩
abbrev S3x1 : Shape := ⟨2, ![3, 1]⟩
abbrev S3x2 : Shape := ⟨2, ![3, 2]⟩
abbrev S1x2 : Shape := ⟨2, ![1, 2]⟩
abbrev S32x1 : Shape := ⟨2, ![32, 1]⟩
abbrev S1x32 : Shape := ⟨2, ![1, 32]⟩

abbrev nBuf : Space → Nat
  | .hbm => 1539
  | .vmem => 0
  | .smem => 0
  | _ => 0

abbrev hbmTy0_0 (i : Nat) : BufTy := match i % 128 with
  | 0 => ⟨S32x2048, .f32⟩
  | 1 => ⟨S2048x2048, .f32⟩
  | 2 => ⟨S2048, .f32⟩
  | 3 => ⟨S32, .f32⟩
  | 4 => ⟨S_, .i32⟩
  | 5 => ⟨S_, .i32⟩
  | 6 => ⟨S_, .i32⟩
  | 7 => ⟨S_, .i32⟩
  | 8 => ⟨S1, .i32⟩
  | 9 => ⟨S_, .i32⟩
  | 10 => ⟨S_, .i32⟩
  | 11 => ⟨S_, .i32⟩
  | 12 => ⟨S1, .i32⟩
  | 13 => ⟨S2, .i32⟩
  | 14 => ⟨S32, .i32⟩
  | 15 => ⟨S1x2048, .f32⟩
  | 16 => ⟨S32x2048, .f32⟩
  | 17 => ⟨S32x2048, .f32⟩
  | 18 => ⟨S32x2048, .f32⟩
  | 19 => ⟨S32x2048, .f32⟩
  | 20 => ⟨S_, .f32⟩
  | 21 => ⟨S32, .f32⟩
  | 22 => ⟨S_, .f32⟩
  | 23 => ⟨S32, .f32⟩
  | 24 => ⟨S32, .f32⟩
  | 25 => ⟨S100, .i32⟩
  | 26 => ⟨S_, .f32⟩
  | 27 => ⟨S100x32, .f32⟩
  | 28 => ⟨S_, .i32⟩
  | 29 => ⟨S100, .i32⟩
  | 30 => ⟨S2, .i32⟩
  | 31 => ⟨S2048, .f32⟩
  | 32 => ⟨S2048x2048, .f32⟩
  | 33 => ⟨S32, .f32⟩
  | 34 => ⟨S32, .i32⟩
  | 35 => ⟨S_, .i32⟩
  | 36 => ⟨S32x2048, .f32⟩
  | 37 => ⟨S32, .f32⟩
  | 38 => ⟨S100x32, .f32⟩
  | 39 => ⟨S_, .i32⟩
  | 40 => ⟨S_, .i1⟩
  | 41 => ⟨S1, .i32⟩
  | 42 => ⟨S_, .i32⟩
  | 43 => ⟨S_, .i32⟩
  | 44 => ⟨S_, .i32⟩
  | 45 => ⟨S_, .i32⟩
  | 46 => ⟨S1, .i32⟩
  | 47 => ⟨S_, .i32⟩
  | 48 => ⟨S_, .i32⟩
  | 49 => ⟨S1, .i32⟩
  | 50 => ⟨S2, .i32⟩
  | 51 => ⟨S1, .i32⟩
  | 52 => ⟨S_, .i32⟩
  | 53 => ⟨S1, .i32⟩
  | 54 => ⟨S_, .i32⟩
  | 55 => ⟨S1, .i32⟩
  | 56 => ⟨S1, .i32⟩
  | 57 => ⟨S_, .i32⟩
  | 58 => ⟨S_, .i32⟩
  | 59 => ⟨S_, .i32⟩
  | 60 => ⟨S1, .i32⟩
  | 61 => ⟨S1, .i32⟩
  | 62 => ⟨S1, .i32⟩
  | 63 => ⟨S1, .i32⟩
  | 64 => ⟨S1, .i32⟩
  | 65 => ⟨S_, .i32⟩
  | 66 => ⟨S1, .i32⟩
  | 67 => ⟨S1, .i32⟩
  | 68 => ⟨S_, .i32⟩
  | 69 => ⟨S1, .i32⟩
  | 70 => ⟨S1, .i32⟩
  | 71 => ⟨S1, .i32⟩
  | 72 => ⟨S1, .i32⟩
  | 73 => ⟨S1, .i32⟩
  | 74 => ⟨S_, .i32⟩
  | 75 => ⟨S1, .i32⟩
  | 76 => ⟨S1, .i32⟩
  | 77 => ⟨S_, .i32⟩
  | 78 => ⟨S1, .i32⟩
  | 79 => ⟨S1, .i32⟩
  | 80 => ⟨S1, .i32⟩
  | 81 => ⟨S1, .i32⟩
  | 82 => ⟨S1, .i32⟩
  | 83 => ⟨S_, .i32⟩
  | 84 => ⟨S1, .i32⟩
  | 85 => ⟨S1, .i32⟩
  | 86 => ⟨S_, .i32⟩
  | 87 => ⟨S1, .i32⟩
  | 88 => ⟨S1, .i32⟩
  | 89 => ⟨S1, .i32⟩
  | 90 => ⟨S1, .i32⟩
  | 91 => ⟨S1, .i32⟩
  | 92 => ⟨S_, .i32⟩
  | 93 => ⟨S1, .i32⟩
  | 94 => ⟨S1, .i32⟩
  | 95 => ⟨S_, .i32⟩
  | 96 => ⟨S1, .i32⟩
  | 97 => ⟨S1, .i32⟩
  | 98 => ⟨S1, .i32⟩
  | 99 => ⟨S1, .i32⟩
  | 100 => ⟨S1, .i32⟩
  | 101 => ⟨S1, .i32⟩
  | 102 => ⟨S1, .i32⟩
  | 103 => ⟨S1, .i32⟩
  | 104 => ⟨S_, .i32⟩
  | 105 => ⟨S1, .i32⟩
  | 106 => ⟨S1, .i32⟩
  | 107 => ⟨S1, .i32⟩
  | 108 => ⟨S_, .i32⟩
  | 109 => ⟨S1, .i32⟩
  | 110 => ⟨S1, .i32⟩
  | 111 => ⟨S_, .i32⟩
  | 112 => ⟨S1, .i32⟩
  | 113 => ⟨S1, .i32⟩
  | 114 => ⟨S1, .i32⟩
  | 115 => ⟨S1, .i32⟩
  | 116 => ⟨S1, .i32⟩
  | 117 => ⟨S_, .i32⟩
  | 118 => ⟨S1, .i32⟩
  | 119 => ⟨S1, .i32⟩
  | 120 => ⟨S_, .i32⟩
  | 121 => ⟨S1, .i32⟩
  | 122 => ⟨S1, .i32⟩
  | 123 => ⟨S1, .i32⟩
  | 124 => ⟨S1, .i32⟩
  | 125 => ⟨S1, .i32⟩
  | 126 => ⟨S_, .i32⟩
  | 127 => ⟨S1, .i32⟩
  | _ => ⟨S32x2048, .f32⟩

abbrev hbmTy0_1 (i : Nat) : BufTy := match i % 128 with
  | 0 => ⟨S1, .i32⟩
  | 1 => ⟨S_, .i32⟩
  | 2 => ⟨S1, .i32⟩
  | 3 => ⟨S1, .i32⟩
  | 4 => ⟨S1, .i32⟩
  | 5 => ⟨S1, .i32⟩
  | 6 => ⟨S1, .i32⟩
  | 7 => ⟨S_, .i32⟩
  | 8 => ⟨S1, .i32⟩
  | 9 => ⟨S1, .i32⟩
  | 10 => ⟨S_, .i32⟩
  | 11 => ⟨S1, .i32⟩
  | 12 => ⟨S1, .i32⟩
  | 13 => ⟨S1, .i32⟩
  | 14 => ⟨S1, .i32⟩
  | 15 => ⟨S1, .i32⟩
  | 16 => ⟨S1, .i32⟩
  | 17 => ⟨S1, .i32⟩
  | 18 => ⟨S1, .i32⟩
  | 19 => ⟨S_, .i32⟩
  | 20 => ⟨S1, .i32⟩
  | 21 => ⟨S1, .i32⟩
  | 22 => ⟨S1, .i32⟩
  | 23 => ⟨S_, .i32⟩
  | 24 => ⟨S1, .i32⟩
  | 25 => ⟨S1, .i32⟩
  | 26 => ⟨S_, .i32⟩
  | 27 => ⟨S1, .i32⟩
  | 28 => ⟨S1, .i32⟩
  | 29 => ⟨S1, .i32⟩
  | 30 => ⟨S1, .i32⟩
  | 31 => ⟨S1, .i32⟩
  | 32 => ⟨S_, .i32⟩
  | 33 => ⟨S1, .i32⟩
  | 34 => ⟨S1, .i32⟩
  | 35 => ⟨S_, .i32⟩
  | 36 => ⟨S1, .i32⟩
  | 37 => ⟨S1, .i32⟩
  | 38 => ⟨S1, .i32⟩
  | 39 => ⟨S1, .i32⟩
  | 40 => ⟨S1, .i32⟩
  | 41 => ⟨S_, .i32⟩
  | 42 => ⟨S1, .i32⟩
  | 43 => ⟨S1, .i32⟩
  | 44 => ⟨S_, .i32⟩
  | 45 => ⟨S1, .i32⟩
  | 46 => ⟨S1, .i32⟩
  | 47 => ⟨S1, .i32⟩
  | 48 => ⟨S1, .i32⟩
  | 49 => ⟨S1, .i32⟩
  | 50 => ⟨S_, .i32⟩
  | 51 => ⟨S1, .i32⟩
  | 52 => ⟨S1, .i32⟩
  | 53 => ⟨S_, .i32⟩
  | 54 => ⟨S1, .i32⟩
  | 55 => ⟨S1, .i32⟩
  | 56 => ⟨S1, .i32⟩
  | 57 => ⟨S1, .i32⟩
  | 58 => ⟨S1, .i32⟩
  | 59 => ⟨S1, .i32⟩
  | 60 => ⟨S1, .i32⟩
  | 61 => ⟨S1, .i32⟩
  | 62 => ⟨S_, .i32⟩
  | 63 => ⟨S1, .i32⟩
  | 64 => ⟨S1, .i32⟩
  | 65 => ⟨S1, .i32⟩
  | 66 => ⟨S_, .i32⟩
  | 67 => ⟨S1, .i32⟩
  | 68 => ⟨S1, .i32⟩
  | 69 => ⟨S_, .i32⟩
  | 70 => ⟨S1, .i32⟩
  | 71 => ⟨S1, .i32⟩
  | 72 => ⟨S1, .i32⟩
  | 73 => ⟨S1, .i32⟩
  | 74 => ⟨S1, .i32⟩
  | 75 => ⟨S_, .i32⟩
  | 76 => ⟨S1, .i32⟩
  | 77 => ⟨S1, .i32⟩
  | 78 => ⟨S_, .i32⟩
  | 79 => ⟨S1, .i32⟩
  | 80 => ⟨S1, .i32⟩
  | 81 => ⟨S1, .i32⟩
  | 82 => ⟨S1, .i32⟩
  | 83 => ⟨S1, .i32⟩
  | 84 => ⟨S_, .i32⟩
  | 85 => ⟨S1, .i32⟩
  | 86 => ⟨S1, .i32⟩
  | 87 => ⟨S_, .i32⟩
  | 88 => ⟨S1, .i32⟩
  | 89 => ⟨S1, .i32⟩
  | 90 => ⟨S1, .i32⟩
  | 91 => ⟨S1, .i32⟩
  | 92 => ⟨S1, .i32⟩
  | 93 => ⟨S_, .i32⟩
  | 94 => ⟨S1, .i32⟩
  | 95 => ⟨S1, .i32⟩
  | 96 => ⟨S_, .i32⟩
  | 97 => ⟨S1, .i32⟩
  | 98 => ⟨S1, .i32⟩
  | 99 => ⟨S1, .i32⟩
  | 100 => ⟨S1, .i32⟩
  | 101 => ⟨S1, .i32⟩
  | 102 => ⟨S1, .i32⟩
  | 103 => ⟨S1, .i32⟩
  | 104 => ⟨S1, .i32⟩
  | 105 => ⟨S_, .i32⟩
  | 106 => ⟨S1, .i32⟩
  | 107 => ⟨S1, .i32⟩
  | 108 => ⟨S1, .i32⟩
  | 109 => ⟨S_, .i32⟩
  | 110 => ⟨S1, .i32⟩
  | 111 => ⟨S1, .i32⟩
  | 112 => ⟨S_, .i32⟩
  | 113 => ⟨S1, .i32⟩
  | 114 => ⟨S1, .i32⟩
  | 115 => ⟨S1, .i32⟩
  | 116 => ⟨S1, .i32⟩
  | 117 => ⟨S1, .i32⟩
  | 118 => ⟨S_, .i32⟩
  | 119 => ⟨S1, .i32⟩
  | 120 => ⟨S1, .i32⟩
  | 121 => ⟨S_, .i32⟩
  | 122 => ⟨S1, .i32⟩
  | 123 => ⟨S1, .i32⟩
  | 124 => ⟨S1, .i32⟩
  | 125 => ⟨S1, .i32⟩
  | 126 => ⟨S1, .i32⟩
  | 127 => ⟨S_, .i32⟩
  | _ => ⟨S32x2048, .f32⟩

abbrev hbmTy0_2 (i : Nat) : BufTy := match i % 128 with
  | 0 => ⟨S1, .i32⟩
  | 1 => ⟨S1, .i32⟩
  | 2 => ⟨S_, .i32⟩
  | 3 => ⟨S1, .i32⟩
  | 4 => ⟨S1, .i32⟩
  | 5 => ⟨S1, .i32⟩
  | 6 => ⟨S1, .i32⟩
  | 7 => ⟨S1, .i32⟩
  | 8 => ⟨S_, .i32⟩
  | 9 => ⟨S1, .i32⟩
  | 10 => ⟨S1, .i32⟩
  | 11 => ⟨S_, .i32⟩
  | 12 => ⟨S1, .i32⟩
  | 13 => ⟨S1, .i32⟩
  | 14 => ⟨S1, .i32⟩
  | 15 => ⟨S1, .i32⟩
  | 16 => ⟨S1, .i32⟩
  | 17 => ⟨S1, .i32⟩
  | 18 => ⟨S1, .i32⟩
  | 19 => ⟨S1, .i32⟩
  | 20 => ⟨S_, .i32⟩
  | 21 => ⟨S1, .i32⟩
  | 22 => ⟨S1, .i32⟩
  | 23 => ⟨S2, .i32⟩
  | 24 => ⟨S1, .i32⟩
  | 25 => ⟨S_, .i32⟩
  | 26 => ⟨S1, .i32⟩
  | 27 => ⟨S_, .i32⟩
  | 28 => ⟨S3, .i64⟩
  | 29 => ⟨S_, .i64⟩
  | 30 => ⟨S3, .i64⟩
  | 31 => ⟨S3, .i64⟩
  | 32 => ⟨S_, .i64⟩
  | 33 => ⟨S3, .i64⟩
  | 34 => ⟨S3, .i64⟩
  | 35 => ⟨S3, .i32⟩
  | 36 => ⟨S3, .i32⟩
  | 37 => ⟨S_, .i32⟩
  | 38 => ⟨S_, .i32⟩
  | 39 => ⟨S_, .i32⟩
  | 40 => ⟨S3, .i32⟩
  | 41 => ⟨S3, .i32⟩
  | 42 => ⟨S3, .i32⟩
  | 43 => ⟨S3, .i32⟩
  | 44 => ⟨S3, .i32⟩
  | 45 => ⟨S_, .i32⟩
  | 46 => ⟨S3, .i32⟩
  | 47 => ⟨S3, .i32⟩
  | 48 => ⟨S_, .i32⟩
  | 49 => ⟨S3, .i32⟩
  | 50 => ⟨S3, .i32⟩
  | 51 => ⟨S3, .i32⟩
  | 52 => ⟨S3, .i32⟩
  | 53 => ⟨S3, .i32⟩
  | 54 => ⟨S_, .i32⟩
  | 55 => ⟨S3, .i32⟩
  | 56 => ⟨S3, .i32⟩
  | 57 => ⟨S_, .i32⟩
  | 58 => ⟨S3, .i32⟩
  | 59 => ⟨S3, .i32⟩
  | 60 => ⟨S3, .i32⟩
  | 61 => ⟨S3, .i32⟩
  | 62 => ⟨S3, .i32⟩
  | 63 => ⟨S_, .i32⟩
  | 64 => ⟨S3, .i32⟩
  | 65 => ⟨S3, .i32⟩
  | 66 => ⟨S_, .i32⟩
  | 67 => ⟨S3, .i32⟩
  | 68 => ⟨S3, .i32⟩
  | 69 => ⟨S3, .i32⟩
  | 70 => ⟨S3, .i32⟩
  | 71 => ⟨S3, .i32⟩
  | 72 => ⟨S_, .i32⟩
  | 73 => ⟨S3, .i32⟩
  | 74 => ⟨S3, .i32⟩
  | 75 => ⟨S_, .i32⟩
  | 76 => ⟨S3, .i32⟩
  | 77 => ⟨S3, .i32⟩
  | 78 => ⟨S3, .i32⟩
  | 79 => ⟨S3, .i32⟩
  | 80 => ⟨S3, .i32⟩
  | 81 => ⟨S3, .i32⟩
  | 82 => ⟨S3, .i32⟩
  | 83 => ⟨S3, .i32⟩
  | 84 => ⟨S_, .i32⟩
  | 85 => ⟨S3, .i32⟩
  | 86 => ⟨S3, .i32⟩
  | 87 => ⟨S3, .i32⟩
  | 88 => ⟨S_, .i32⟩
  | 89 => ⟨S3, .i32⟩
  | 90 => ⟨S3, .i32⟩
  | 91 => ⟨S_, .i32⟩
  | 92 => ⟨S3, .i32⟩
  | 93 => ⟨S3, .i32⟩
  | 94 => ⟨S3, .i32⟩
  | 95 => ⟨S3, .i32⟩
  | 96 => ⟨S3, .i32⟩
  | 97 => ⟨S_, .i32⟩
  | 98 => ⟨S3, .i32⟩
  | 99 => ⟨S3, .i32⟩
  | 100 => ⟨S_, .i32⟩
  | 101 => ⟨S3, .i32⟩
  | 102 => ⟨S3, .i32⟩
  | 103 => ⟨S3, .i32⟩
  | 104 => ⟨S3, .i32⟩
  | 105 => ⟨S3, .i32⟩
  | 106 => ⟨S_, .i32⟩
  | 107 => ⟨S3, .i32⟩
  | 108 => ⟨S3, .i32⟩
  | 109 => ⟨S_, .i32⟩
  | 110 => ⟨S3, .i32⟩
  | 111 => ⟨S3, .i32⟩
  | 112 => ⟨S3, .i32⟩
  | 113 => ⟨S3, .i32⟩
  | 114 => ⟨S3, .i32⟩
  | 115 => ⟨S_, .i32⟩
  | 116 => ⟨S3, .i32⟩
  | 117 => ⟨S3, .i32⟩
  | 118 => ⟨S_, .i32⟩
  | 119 => ⟨S3, .i32⟩
  | 120 => ⟨S3, .i32⟩
  | 121 => ⟨S3, .i32⟩
  | 122 => ⟨S3, .i32⟩
  | 123 => ⟨S3, .i32⟩
  | 124 => ⟨S3, .i32⟩
  | 125 => ⟨S3, .i32⟩
  | 126 => ⟨S3, .i32⟩
  | 127 => ⟨S_, .i32⟩
  | _ => ⟨S32x2048, .f32⟩

abbrev hbmTy0_3 (i : Nat) : BufTy := match i % 128 with
  | 0 => ⟨S3, .i32⟩
  | 1 => ⟨S3, .i32⟩
  | 2 => ⟨S3, .i32⟩
  | 3 => ⟨S_, .i32⟩
  | 4 => ⟨S3, .i32⟩
  | 5 => ⟨S3, .i32⟩
  | 6 => ⟨S_, .i32⟩
  | 7 => ⟨S3, .i32⟩
  | 8 => ⟨S3, .i32⟩
  | 9 => ⟨S3, .i32⟩
  | 10 => ⟨S3, .i32⟩
  | 11 => ⟨S3, .i32⟩
  | 12 => ⟨S_, .i32⟩
  | 13 => ⟨S3, .i32⟩
  | 14 => ⟨S3, .i32⟩
  | 15 => ⟨S_, .i32⟩
  | 16 => ⟨S3, .i32⟩
  | 17 => ⟨S3, .i32⟩
  | 18 => ⟨S3, .i32⟩
  | 19 => ⟨S3, .i32⟩
  | 20 => ⟨S3, .i32⟩
  | 21 => ⟨S_, .i32⟩
  | 22 => ⟨S3, .i32⟩
  | 23 => ⟨S3, .i32⟩
  | 24 => ⟨S_, .i32⟩
  | 25 => ⟨S3, .i32⟩
  | 26 => ⟨S3, .i32⟩
  | 27 => ⟨S3, .i32⟩
  | 28 => ⟨S3, .i32⟩
  | 29 => ⟨S3, .i32⟩
  | 30 => ⟨S_, .i32⟩
  | 31 => ⟨S3, .i32⟩
  | 32 => ⟨S3, .i32⟩
  | 33 => ⟨S_, .i32⟩
  | 34 => ⟨S3, .i32⟩
  | 35 => ⟨S3, .i32⟩
  | 36 => ⟨S3, .i32⟩
  | 37 => ⟨S3, .i32⟩
  | 38 => ⟨S3, .i32⟩
  | 39 => ⟨S3, .i32⟩
  | 40 => ⟨S3, .i32⟩
  | 41 => ⟨S3, .i32⟩
  | 42 => ⟨S_, .i32⟩
  | 43 => ⟨S3, .i32⟩
  | 44 => ⟨S3, .i32⟩
  | 45 => ⟨S3, .i32⟩
  | 46 => ⟨S_, .i32⟩
  | 47 => ⟨S3, .i32⟩
  | 48 => ⟨S3, .i32⟩
  | 49 => ⟨S_, .i32⟩
  | 50 => ⟨S3, .i32⟩
  | 51 => ⟨S3, .i32⟩
  | 52 => ⟨S3, .i32⟩
  | 53 => ⟨S3, .i32⟩
  | 54 => ⟨S3, .i32⟩
  | 55 => ⟨S_, .i32⟩
  | 56 => ⟨S3, .i32⟩
  | 57 => ⟨S3, .i32⟩
  | 58 => ⟨S_, .i32⟩
  | 59 => ⟨S3, .i32⟩
  | 60 => ⟨S3, .i32⟩
  | 61 => ⟨S3, .i32⟩
  | 62 => ⟨S3, .i32⟩
  | 63 => ⟨S3, .i32⟩
  | 64 => ⟨S_, .i32⟩
  | 65 => ⟨S3, .i32⟩
  | 66 => ⟨S3, .i32⟩
  | 67 => ⟨S_, .i32⟩
  | 68 => ⟨S3, .i32⟩
  | 69 => ⟨S3, .i32⟩
  | 70 => ⟨S3, .i32⟩
  | 71 => ⟨S3, .i32⟩
  | 72 => ⟨S3, .i32⟩
  | 73 => ⟨S_, .i32⟩
  | 74 => ⟨S3, .i32⟩
  | 75 => ⟨S3, .i32⟩
  | 76 => ⟨S_, .i32⟩
  | 77 => ⟨S3, .i32⟩
  | 78 => ⟨S3, .i32⟩
  | 79 => ⟨S3, .i32⟩
  | 80 => ⟨S3, .i32⟩
  | 81 => ⟨S3, .i32⟩
  | 82 => ⟨S3, .i32⟩
  | 83 => ⟨S3, .i32⟩
  | 84 => ⟨S3, .i32⟩
  | 85 => ⟨S_, .i32⟩
  | 86 => ⟨S3, .i32⟩
  | 87 => ⟨S3, .i32⟩
  | 88 => ⟨S3, .i32⟩
  | 89 => ⟨S_, .i32⟩
  | 90 => ⟨S3, .i32⟩
  | 91 => ⟨S3, .i32⟩
  | 92 => ⟨S_, .i32⟩
  | 93 => ⟨S3, .i32⟩
  | 94 => ⟨S3, .i32⟩
  | 95 => ⟨S3, .i32⟩
  | 96 => ⟨S3, .i32⟩
  | 97 => ⟨S3, .i32⟩
  | 98 => ⟨S_, .i32⟩
  | 99 => ⟨S3, .i32⟩
  | 100 => ⟨S3, .i32⟩
  | 101 => ⟨S_, .i32⟩
  | 102 => ⟨S3, .i32⟩
  | 103 => ⟨S3, .i32⟩
  | 104 => ⟨S3, .i32⟩
  | 105 => ⟨S3, .i32⟩
  | 106 => ⟨S3, .i32⟩
  | 107 => ⟨S_, .i32⟩
  | 108 => ⟨S3, .i32⟩
  | 109 => ⟨S3, .i32⟩
  | 110 => ⟨S_, .i32⟩
  | 111 => ⟨S3, .i32⟩
  | 112 => ⟨S3, .i32⟩
  | 113 => ⟨S3, .i32⟩
  | 114 => ⟨S3, .i32⟩
  | 115 => ⟨S3, .i32⟩
  | 116 => ⟨S_, .i32⟩
  | 117 => ⟨S3, .i32⟩
  | 118 => ⟨S3, .i32⟩
  | 119 => ⟨S_, .i32⟩
  | 120 => ⟨S3, .i32⟩
  | 121 => ⟨S3, .i32⟩
  | 122 => ⟨S3, .i32⟩
  | 123 => ⟨S3, .i32⟩
  | 124 => ⟨S3, .i32⟩
  | 125 => ⟨S3, .i32⟩
  | 126 => ⟨S3, .i32⟩
  | 127 => ⟨S3, .i32⟩
  | _ => ⟨S32x2048, .f32⟩

abbrev hbmTy0_4 (i : Nat) : BufTy := match i % 128 with
  | 0 => ⟨S_, .i32⟩
  | 1 => ⟨S3, .i32⟩
  | 2 => ⟨S3, .i32⟩
  | 3 => ⟨S3x1, .i32⟩
  | 4 => ⟨S3x1, .i32⟩
  | 5 => ⟨S3x2, .i32⟩
  | 6 => ⟨S1x2, .i32⟩
  | 7 => ⟨S2, .i32⟩
  | 8 => ⟨S1x2, .i32⟩
  | 9 => ⟨S2, .i32⟩
  | 10 => ⟨S1x2, .i32⟩
  | 11 => ⟨S2, .i32⟩
  | 12 => ⟨S1, .i32⟩
  | 13 => ⟨S_, .i32⟩
  | 14 => ⟨S1, .i32⟩
  | 15 => ⟨S_, .i32⟩
  | 16 => ⟨S32x2048, .i64⟩
  | 17 => ⟨S32x2048, .i64⟩
  | 18 => ⟨S_, .i64⟩
  | 19 => ⟨S32x2048, .i64⟩
  | 20 => ⟨S32x2048, .i64⟩
  | 21 => ⟨S_, .i64⟩
  | 22 => ⟨S32x2048, .i64⟩
  | 23 => ⟨S32x2048, .i64⟩
  | 24 => ⟨S32x2048, .i64⟩
  | 25 => ⟨S_, .i64⟩
  | 26 => ⟨S32x2048, .i64⟩
  | 27 => ⟨S32x2048, .i64⟩
  | 28 => ⟨S32x2048, .i32⟩
  | 29 => ⟨S32x2048, .i32⟩
  | 30 => ⟨S_, .i32⟩
  | 31 => ⟨S_, .i32⟩
  | 32 => ⟨S_, .i32⟩
  | 33 => ⟨S32x2048, .i32⟩
  | 34 => ⟨S32x2048, .i32⟩
  | 35 => ⟨S32x2048, .i32⟩
  | 36 => ⟨S32x2048, .i32⟩
  | 37 => ⟨S32x2048, .i32⟩
  | 38 => ⟨S_, .i32⟩
  | 39 => ⟨S32x2048, .i32⟩
  | 40 => ⟨S32x2048, .i32⟩
  | 41 => ⟨S_, .i32⟩
  | 42 => ⟨S32x2048, .i32⟩
  | 43 => ⟨S32x2048, .i32⟩
  | 44 => ⟨S32x2048, .i32⟩
  | 45 => ⟨S32x2048, .i32⟩
  | 46 => ⟨S32x2048, .i32⟩
  | 47 => ⟨S_, .i32⟩
  | 48 => ⟨S32x2048, .i32⟩
  | 49 => ⟨S32x2048, .i32⟩
  | 50 => ⟨S_, .i32⟩
  | 51 => ⟨S32x2048, .i32⟩
  | 52 => ⟨S32x2048, .i32⟩
  | 53 => ⟨S32x2048, .i32⟩
  | 54 => ⟨S32x2048, .i32⟩
  | 55 => ⟨S32x2048, .i32⟩
  | 56 => ⟨S_, .i32⟩
  | 57 => ⟨S32x2048, .i32⟩
  | 58 => ⟨S32x2048, .i32⟩
  | 59 => ⟨S_, .i32⟩
  | 60 => ⟨S32x2048, .i32⟩
  | 61 => ⟨S32x2048, .i32⟩
  | 62 => ⟨S32x2048, .i32⟩
  | 63 => ⟨S32x2048, .i32⟩
  | 64 => ⟨S32x2048, .i32⟩
  | 65 => ⟨S_, .i32⟩
  | 66 => ⟨S32x2048, .i32⟩
  | 67 => ⟨S32x2048, .i32⟩
  | 68 => ⟨S_, .i32⟩
  | 69 => ⟨S32x2048, .i32⟩
  | 70 => ⟨S32x2048, .i32⟩
  | 71 => ⟨S32x2048, .i32⟩
  | 72 => ⟨S32x2048, .i32⟩
  | 73 => ⟨S32x2048, .i32⟩
  | 74 => ⟨S32x2048, .i32⟩
  | 75 => ⟨S32x2048, .i32⟩
  | 76 => ⟨S32x2048, .i32⟩
  | 77 => ⟨S_, .i32⟩
  | 78 => ⟨S32x2048, .i32⟩
  | 79 => ⟨S32x2048, .i32⟩
  | 80 => ⟨S32x2048, .i32⟩
  | 81 => ⟨S_, .i32⟩
  | 82 => ⟨S32x2048, .i32⟩
  | 83 => ⟨S32x2048, .i32⟩
  | 84 => ⟨S_, .i32⟩
  | 85 => ⟨S32x2048, .i32⟩
  | 86 => ⟨S32x2048, .i32⟩
  | 87 => ⟨S32x2048, .i32⟩
  | 88 => ⟨S32x2048, .i32⟩
  | 89 => ⟨S32x2048, .i32⟩
  | 90 => ⟨S_, .i32⟩
  | 91 => ⟨S32x2048, .i32⟩
  | 92 => ⟨S32x2048, .i32⟩
  | 93 => ⟨S_, .i32⟩
  | 94 => ⟨S32x2048, .i32⟩
  | 95 => ⟨S32x2048, .i32⟩
  | 96 => ⟨S32x2048, .i32⟩
  | 97 => ⟨S32x2048, .i32⟩
  | 98 => ⟨S32x2048, .i32⟩
  | 99 => ⟨S_, .i32⟩
  | 100 => ⟨S32x2048, .i32⟩
  | 101 => ⟨S32x2048, .i32⟩
  | 102 => ⟨S_, .i32⟩
  | 103 => ⟨S32x2048, .i32⟩
  | 104 => ⟨S32x2048, .i32⟩
  | 105 => ⟨S32x2048, .i32⟩
  | 106 => ⟨S32x2048, .i32⟩
  | 107 => ⟨S32x2048, .i32⟩
  | 108 => ⟨S_, .i32⟩
  | 109 => ⟨S32x2048, .i32⟩
  | 110 => ⟨S32x2048, .i32⟩
  | 111 => ⟨S_, .i32⟩
  | 112 => ⟨S32x2048, .i32⟩
  | 113 => ⟨S32x2048, .i32⟩
  | 114 => ⟨S32x2048, .i32⟩
  | 115 => ⟨S32x2048, .i32⟩
  | 116 => ⟨S32x2048, .i32⟩
  | 117 => ⟨S32x2048, .i32⟩
  | 118 => ⟨S32x2048, .i32⟩
  | 119 => ⟨S32x2048, .i32⟩
  | 120 => ⟨S_, .i32⟩
  | 121 => ⟨S32x2048, .i32⟩
  | 122 => ⟨S32x2048, .i32⟩
  | 123 => ⟨S32x2048, .i32⟩
  | 124 => ⟨S_, .i32⟩
  | 125 => ⟨S32x2048, .i32⟩
  | 126 => ⟨S32x2048, .i32⟩
  | 127 => ⟨S_, .i32⟩
  | _ => ⟨S32x2048, .f32⟩

abbrev hbmTy0_5 (i : Nat) : BufTy := match i % 128 with
  | 0 => ⟨S32x2048, .i32⟩
  | 1 => ⟨S32x2048, .i32⟩
  | 2 => ⟨S32x2048, .i32⟩
  | 3 => ⟨S32x2048, .i32⟩
  | 4 => ⟨S32x2048, .i32⟩
  | 5 => ⟨S_, .i32⟩
  | 6 => ⟨S32x2048, .i32⟩
  | 7 => ⟨S32x2048, .i32⟩
  | 8 => ⟨S_, .i32⟩
  | 9 => ⟨S32x2048, .i32⟩
  | 10 => ⟨S32x2048, .i32⟩
  | 11 => ⟨S32x2048, .i32⟩
  | 12 => ⟨S32x2048, .i32⟩
  | 13 => ⟨S32x2048, .i32⟩
  | 14 => ⟨S_, .i32⟩
  | 15 => ⟨S32x2048, .i32⟩
  | 16 => ⟨S32x2048, .i32⟩
  | 17 => ⟨S_, .i32⟩
  | 18 => ⟨S32x2048, .i32⟩
  | 19 => ⟨S32x2048, .i32⟩
  | 20 => ⟨S32x2048, .i32⟩
  | 21 => ⟨S32x2048, .i32⟩
  | 22 => ⟨S32x2048, .i32⟩
  | 23 => ⟨S_, .i32⟩
  | 24 => ⟨S32x2048, .i32⟩
  | 25 => ⟨S32x2048, .i32⟩
  | 26 => ⟨S_, .i32⟩
  | 27 => ⟨S32x2048, .i32⟩
  | 28 => ⟨S32x2048, .i32⟩
  | 29 => ⟨S32x2048, .i32⟩
  | 30 => ⟨S32x2048, .i32⟩
  | 31 => ⟨S32x2048, .i32⟩
  | 32 => ⟨S32x2048, .i32⟩
  | 33 => ⟨S32x2048, .i32⟩
  | 34 => ⟨S32x2048, .i32⟩
  | 35 => ⟨S_, .i32⟩
  | 36 => ⟨S32x2048, .i32⟩
  | 37 => ⟨S32x2048, .i32⟩
  | 38 => ⟨S32x2048, .i32⟩
  | 39 => ⟨S_, .i32⟩
  | 40 => ⟨S32x2048, .i32⟩
  | 41 => ⟨S32x2048, .i32⟩
  | 42 => ⟨S_, .i32⟩
  | 43 => ⟨S32x2048, .i32⟩
  | 44 => ⟨S32x2048, .i32⟩
  | 45 => ⟨S32x2048, .i32⟩
  | 46 => ⟨S32x2048, .i32⟩
  | 47 => ⟨S32x2048, .i32⟩
  | 48 => ⟨S_, .i32⟩
  | 49 => ⟨S32x2048, .i32⟩
  | 50 => ⟨S32x2048, .i32⟩
  | 51 => ⟨S_, .i32⟩
  | 52 => ⟨S32x2048, .i32⟩
  | 53 => ⟨S32x2048, .i32⟩
  | 54 => ⟨S32x2048, .i32⟩
  | 55 => ⟨S32x2048, .i32⟩
  | 56 => ⟨S32x2048, .i32⟩
  | 57 => ⟨S_, .i32⟩
  | 58 => ⟨S32x2048, .i32⟩
  | 59 => ⟨S32x2048, .i32⟩
  | 60 => ⟨S_, .i32⟩
  | 61 => ⟨S32x2048, .i32⟩
  | 62 => ⟨S32x2048, .i32⟩
  | 63 => ⟨S32x2048, .i32⟩
  | 64 => ⟨S32x2048, .i32⟩
  | 65 => ⟨S32x2048, .i32⟩
  | 66 => ⟨S_, .i32⟩
  | 67 => ⟨S32x2048, .i32⟩
  | 68 => ⟨S32x2048, .i32⟩
  | 69 => ⟨S_, .i32⟩
  | 70 => ⟨S32x2048, .i32⟩
  | 71 => ⟨S32x2048, .i32⟩
  | 72 => ⟨S32x2048, .i32⟩
  | 73 => ⟨S32x2048, .i32⟩
  | 74 => ⟨S32x2048, .i32⟩
  | 75 => ⟨S32x2048, .i32⟩
  | 76 => ⟨S32x2048, .i32⟩
  | 77 => ⟨S32x2048, .i32⟩
  | 78 => ⟨S_, .i32⟩
  | 79 => ⟨S32x2048, .i32⟩
  | 80 => ⟨S32x2048, .i32⟩
  | 81 => ⟨S32x2048, .i32⟩
  | 82 => ⟨S_, .i32⟩
  | 83 => ⟨S32x2048, .i32⟩
  | 84 => ⟨S32x2048, .i32⟩
  | 85 => ⟨S_, .i32⟩
  | 86 => ⟨S32x2048, .i32⟩
  | 87 => ⟨S32x2048, .i32⟩
  | 88 => ⟨S32x2048, .i32⟩
  | 89 => ⟨S32x2048, .i32⟩
  | 90 => ⟨S32x2048, .i32⟩
  | 91 => ⟨S_, .i32⟩
  | 92 => ⟨S32x2048, .i32⟩
  | 93 => ⟨S32x2048, .i32⟩
  | 94 => ⟨S_, .i32⟩
  | 95 => ⟨S32x2048, .i32⟩
  | 96 => ⟨S32x2048, .i32⟩
  | 97 => ⟨S32x2048, .i32⟩
  | 98 => ⟨S32x2048, .i32⟩
  | 99 => ⟨S32x2048, .i32⟩
  | 100 => ⟨S_, .i32⟩
  | 101 => ⟨S32x2048, .i32⟩
  | 102 => ⟨S32x2048, .i32⟩
  | 103 => ⟨S_, .i32⟩
  | 104 => ⟨S32x2048, .i32⟩
  | 105 => ⟨S32x2048, .i32⟩
  | 106 => ⟨S32x2048, .i32⟩
  | 107 => ⟨S32x2048, .i32⟩
  | 108 => ⟨S32x2048, .i32⟩
  | 109 => ⟨S_, .i32⟩
  | 110 => ⟨S32x2048, .i32⟩
  | 111 => ⟨S32x2048, .i32⟩
  | 112 => ⟨S_, .i32⟩
  | 113 => ⟨S32x2048, .i32⟩
  | 114 => ⟨S32x2048, .i32⟩
  | 115 => ⟨S32x2048, .i32⟩
  | 116 => ⟨S32x2048, .i32⟩
  | 117 => ⟨S32x2048, .i32⟩
  | 118 => ⟨S32x2048, .i32⟩
  | 119 => ⟨S32x2048, .i32⟩
  | 120 => ⟨S32x2048, .i32⟩
  | 121 => ⟨S_, .i32⟩
  | 122 => ⟨S32x2048, .i32⟩
  | 123 => ⟨S32x2048, .i32⟩
  | 124 => ⟨S32x2048, .i32⟩
  | 125 => ⟨S_, .i32⟩
  | 126 => ⟨S32x2048, .i32⟩
  | 127 => ⟨S32x2048, .i32⟩
  | _ => ⟨S32x2048, .f32⟩

abbrev hbmTy0_6 (i : Nat) : BufTy := match i % 128 with
  | 0 => ⟨S_, .i32⟩
  | 1 => ⟨S32x2048, .i32⟩
  | 2 => ⟨S32x2048, .i32⟩
  | 3 => ⟨S32x2048, .f32⟩
  | 4 => ⟨S_, .f32⟩
  | 5 => ⟨S32x2048, .f32⟩
  | 6 => ⟨S32x2048, .f32⟩
  | 7 => ⟨S_, .f32⟩
  | 8 => ⟨S32x2048, .f32⟩
  | 9 => ⟨S32x2048, .f32⟩
  | 10 => ⟨S_, .f32⟩
  | 11 => ⟨S32x2048, .f32⟩
  | 12 => ⟨S32x2048, .f32⟩
  | 13 => ⟨S_, .f32⟩
  | 14 => ⟨S32x2048, .f32⟩
  | 15 => ⟨S32x2048, .f32⟩
  | 16 => ⟨S32x2048, .f32⟩
  | 17 => ⟨S32x2048, .f32⟩
  | 18 => ⟨S32x2048, .f32⟩
  | 19 => ⟨S32x2048, .f32⟩
  | 20 => ⟨S_, .f32⟩
  | 21 => ⟨S32x2048, .f32⟩
  | 22 => ⟨S32x2048, .i1⟩
  | 23 => ⟨S_, .f32⟩
  | 24 => ⟨S32x2048, .f32⟩
  | 25 => ⟨S32x2048, .f32⟩
  | 26 => ⟨S32x2048, .f32⟩
  | 27 => ⟨S_, .f32⟩
  | 28 => ⟨S32x2048, .f32⟩
  | 29 => ⟨S32x2048, .f32⟩
  | 30 => ⟨S32x2048, .f32⟩
  | 31 => ⟨S_, .f32⟩
  | 32 => ⟨S_, .f32⟩
  | 33 => ⟨S32x2048, .f32⟩
  | 34 => ⟨S32x2048, .f32⟩
  | 35 => ⟨S32x2048, .f32⟩
  | 36 => ⟨S_, .f32⟩
  | 37 => ⟨S_, .f32⟩
  | 38 => ⟨S32x2048, .f32⟩
  | 39 => ⟨S32x2048, .f32⟩
  | 40 => ⟨S32x2048, .f32⟩
  | 41 => ⟨S32x2048, .f32⟩
  | 42 => ⟨S32x2048, .f32⟩
  | 43 => ⟨S32x2048, .f32⟩
  | 44 => ⟨S32x2048, .f32⟩
  | 45 => ⟨S_, .f32⟩
  | 46 => ⟨S_, .f32⟩
  | 47 => ⟨S32x2048, .f32⟩
  | 48 => ⟨S32x2048, .f32⟩
  | 49 => ⟨S32x2048, .f32⟩
  | 50 => ⟨S32x2048, .f32⟩
  | 51 => ⟨S32x2048, .f32⟩
  | 52 => ⟨S32x2048, .f32⟩
  | 53 => ⟨S_, .f32⟩
  | 54 => ⟨S_, .f32⟩
  | 55 => ⟨S32x2048, .f32⟩
  | 56 => ⟨S32x2048, .f32⟩
  | 57 => ⟨S32x2048, .f32⟩
  | 58 => ⟨S32x2048, .f32⟩
  | 59 => ⟨S32x2048, .f32⟩
  | 60 => ⟨S32x2048, .f32⟩
  | 61 => ⟨S_, .f32⟩
  | 62 => ⟨S_, .f32⟩
  | 63 => ⟨S32x2048, .f32⟩
  | 64 => ⟨S32x2048, .f32⟩
  | 65 => ⟨S32x2048, .f32⟩
  | 66 => ⟨S32x2048, .f32⟩
  | 67 => ⟨S32x2048, .f32⟩
  | 68 => ⟨S32x2048, .f32⟩
  | 69 => ⟨S_, .f32⟩
  | 70 => ⟨S_, .f32⟩
  | 71 => ⟨S32x2048, .f32⟩
  | 72 => ⟨S32x2048, .f32⟩
  | 73 => ⟨S32x2048, .f32⟩
  | 74 => ⟨S32x2048, .f32⟩
  | 75 => ⟨S32x2048, .f32⟩
  | 76 => ⟨S32x2048, .f32⟩
  | 77 => ⟨S_, .f32⟩
  | 78 => ⟨S_, .f32⟩
  | 79 => ⟨S32x2048, .f32⟩
  | 80 => ⟨S32x2048, .f32⟩
  | 81 => ⟨S32x2048, .f32⟩
  | 82 => ⟨S32x2048, .f32⟩
  | 83 => ⟨S32x2048, .f32⟩
  | 84 => ⟨S32x2048, .f32⟩
  | 85 => ⟨S_, .f32⟩
  | 86 => ⟨S_, .f32⟩
  | 87 => ⟨S32x2048, .f32⟩
  | 88 => ⟨S32x2048, .f32⟩
  | 89 => ⟨S32x2048, .f32⟩
  | 90 => ⟨S32x2048, .f32⟩
  | 91 => ⟨S32x2048, .f32⟩
  | 92 => ⟨S32x2048, .f32⟩
  | 93 => ⟨S_, .f32⟩
  | 94 => ⟨S_, .f32⟩
  | 95 => ⟨S32x2048, .f32⟩
  | 96 => ⟨S32x2048, .f32⟩
  | 97 => ⟨S32x2048, .f32⟩
  | 98 => ⟨S32x2048, .f32⟩
  | 99 => ⟨S32x2048, .f32⟩
  | 100 => ⟨S32x2048, .f32⟩
  | 101 => ⟨S32x2048, .f32⟩
  | 102 => ⟨S_, .f32⟩
  | 103 => ⟨S32x2048, .f32⟩
  | 104 => ⟨S32x2048, .i1⟩
  | 105 => ⟨S_, .f32⟩
  | 106 => ⟨S32x2048, .f32⟩
  | 107 => ⟨S32x2048, .f32⟩
  | 108 => ⟨S32x2048, .f32⟩
  | 109 => ⟨S32x2048, .f32⟩
  | 110 => ⟨S_, .f32⟩
  | 111 => ⟨S32x2048, .f32⟩
  | 112 => ⟨S32x2048, .f32⟩
  | 113 => ⟨S_, .f32⟩
  | 114 => ⟨S32x2048, .f32⟩
  | 115 => ⟨S32x2048, .f32⟩
  | 116 => ⟨S32x2048, .f32⟩
  | 117 => ⟨S1x2048, .f32⟩
  | 118 => ⟨S32x2048, .f32⟩
  | 119 => ⟨S32x2048, .f32⟩
  | 120 => ⟨S32x2048, .f32⟩
  | 121 => ⟨S32x2048, .f32⟩
  | 122 => ⟨S_, .f32⟩
  | 123 => ⟨S32, .f32⟩
  | 124 => ⟨S_, .f32⟩
  | 125 => ⟨S32, .f32⟩
  | 126 => ⟨S32, .f32⟩
  | 127 => ⟨S_, .f32⟩
  | _ => ⟨S32x2048, .f32⟩

abbrev hbmTy0_7 (i : Nat) : BufTy := match i % 128 with
  | 0 => ⟨S_, .f32⟩
  | 1 => ⟨S_, .f32⟩
  | 2 => ⟨S_, .f32⟩
  | 3 => ⟨S1, .f32⟩
  | 4 => ⟨S1, .f32⟩
  | 5 => ⟨S1, .i32⟩
  | 6 => ⟨S_, .i32⟩
  | 7 => ⟨S1, .i32⟩
  | 8 => ⟨S_, .i32⟩
  | 9 => ⟨S32, .i64⟩
  | 10 => ⟨S_, .i64⟩
  | 11 => ⟨S32, .i64⟩
  | 12 => ⟨S32, .i64⟩
  | 13 => ⟨S_, .i64⟩
  | 14 => ⟨S32, .i64⟩
  | 15 => ⟨S32, .i64⟩
  | 16 => ⟨S32, .i32⟩
  | 17 => ⟨S32, .i32⟩
  | 18 => ⟨S_, .i32⟩
  | 19 => ⟨S_, .i32⟩
  | 20 => ⟨S_, .i32⟩
  | 21 => ⟨S32, .i32⟩
  | 22 => ⟨S32, .i32⟩
  | 23 => ⟨S32, .i32⟩
  | 24 => ⟨S32, .i32⟩
  | 25 => ⟨S32, .i32⟩
  | 26 => ⟨S_, .i32⟩
  | 27 => ⟨S32, .i32⟩
  | 28 => ⟨S32, .i32⟩
  | 29 => ⟨S_, .i32⟩
  | 30 => ⟨S32, .i32⟩
  | 31 => ⟨S32, .i32⟩
  | 32 => ⟨S32, .i32⟩
  | 33 => ⟨S32, .i32⟩
  | 34 => ⟨S32, .i32⟩
  | 35 => ⟨S_, .i32⟩
  | 36 => ⟨S32, .i32⟩
  | 37 => ⟨S32, .i32⟩
  | 38 => ⟨S_, .i32⟩
  | 39 => ⟨S32, .i32⟩
  | 40 => ⟨S32, .i32⟩
  | 41 => ⟨S32, .i32⟩
  | 42 => ⟨S32, .i32⟩
  | 43 => ⟨S32, .i32⟩
  | 44 => ⟨S_, .i32⟩
  | 45 => ⟨S32, .i32⟩
  | 46 => ⟨S32, .i32⟩
  | 47 => ⟨S_, .i32⟩
  | 48 => ⟨S32, .i32⟩
  | 49 => ⟨S32, .i32⟩
  | 50 => ⟨S32, .i32⟩
  | 51 => ⟨S32, .i32⟩
  | 52 => ⟨S32, .i32⟩
  | 53 => ⟨S_, .i32⟩
  | 54 => ⟨S32, .i32⟩
  | 55 => ⟨S32, .i32⟩
  | 56 => ⟨S_, .i32⟩
  | 57 => ⟨S32, .i32⟩
  | 58 => ⟨S32, .i32⟩
  | 59 => ⟨S32, .i32⟩
  | 60 => ⟨S32, .i32⟩
  | 61 => ⟨S32, .i32⟩
  | 62 => ⟨S32, .i32⟩
  | 63 => ⟨S32, .i32⟩
  | 64 => ⟨S32, .i32⟩
  | 65 => ⟨S_, .i32⟩
  | 66 => ⟨S32, .i32⟩
  | 67 => ⟨S32, .i32⟩
  | 68 => ⟨S32, .i32⟩
  | 69 => ⟨S_, .i32⟩
  | 70 => ⟨S32, .i32⟩
  | 71 => ⟨S32, .i32⟩
  | 72 => ⟨S_, .i32⟩
  | 73 => ⟨S32, .i32⟩
  | 74 => ⟨S32, .i32⟩
  | 75 => ⟨S32, .i32⟩
  | 76 => ⟨S32, .i32⟩
  | 77 => ⟨S32, .i32⟩
  | 78 => ⟨S_, .i32⟩
  | 79 => ⟨S32, .i32⟩
  | 80 => ⟨S32, .i32⟩
  | 81 => ⟨S_, .i32⟩
  | 82 => ⟨S32, .i32⟩
  | 83 => ⟨S32, .i32⟩
  | 84 => ⟨S32, .i32⟩
  | 85 => ⟨S32, .i32⟩
  | 86 => ⟨S32, .i32⟩
  | 87 => ⟨S_, .i32⟩
  | 88 => ⟨S32, .i32⟩
  | 89 => ⟨S32, .i32⟩
  | 90 => ⟨S_, .i32⟩
  | 91 => ⟨S32, .i32⟩
  | 92 => ⟨S32, .i32⟩
  | 93 => ⟨S32, .i32⟩
  | 94 => ⟨S32, .i32⟩
  | 95 => ⟨S32, .i32⟩
  | 96 => ⟨S_, .i32⟩
  | 97 => ⟨S32, .i32⟩
  | 98 => ⟨S32, .i32⟩
  | 99 => ⟨S_, .i32⟩
  | 100 => ⟨S32, .i32⟩
  | 101 => ⟨S32, .i32⟩
  | 102 => ⟨S32, .i32⟩
  | 103 => ⟨S32, .i32⟩
  | 104 => ⟨S32, .i32⟩
  | 105 => ⟨S32, .i32⟩
  | 106 => ⟨S32, .i32⟩
  | 107 => ⟨S32, .i32⟩
  | 108 => ⟨S_, .i32⟩
  | 109 => ⟨S32, .i32⟩
  | 110 => ⟨S32, .i32⟩
  | 111 => ⟨S32, .i32⟩
  | 112 => ⟨S_, .i32⟩
  | 113 => ⟨S32, .i32⟩
  | 114 => ⟨S32, .i32⟩
  | 115 => ⟨S_, .i32⟩
  | 116 => ⟨S32, .i32⟩
  | 117 => ⟨S32, .i32⟩
  | 118 => ⟨S32, .i32⟩
  | 119 => ⟨S32, .i32⟩
  | 120 => ⟨S32, .i32⟩
  | 121 => ⟨S_, .i32⟩
  | 122 => ⟨S32, .i32⟩
  | 123 => ⟨S32, .i32⟩
  | 124 => ⟨S_, .i32⟩
  | 125 => ⟨S32, .i32⟩
  | 126 => ⟨S32, .i32⟩
  | 127 => ⟨S32, .i32⟩
  | _ => ⟨S32x2048, .f32⟩

abbrev hbmTy0_8 (i : Nat) : BufTy := match i % 128 with
  | 0 => ⟨S32, .i32⟩
  | 1 => ⟨S32, .i32⟩
  | 2 => ⟨S_, .i32⟩
  | 3 => ⟨S32, .i32⟩
  | 4 => ⟨S32, .i32⟩
  | 5 => ⟨S_, .i32⟩
  | 6 => ⟨S32, .i32⟩
  | 7 => ⟨S32, .i32⟩
  | 8 => ⟨S32, .i32⟩
  | 9 => ⟨S32, .i32⟩
  | 10 => ⟨S32, .i32⟩
  | 11 => ⟨S_, .i32⟩
  | 12 => ⟨S32, .i32⟩
  | 13 => ⟨S32, .i32⟩
  | 14 => ⟨S_, .i32⟩
  | 15 => ⟨S32, .i32⟩
  | 16 => ⟨S32, .i32⟩
  | 17 => ⟨S32, .i32⟩
  | 18 => ⟨S32, .i32⟩
  | 19 => ⟨S32, .i32⟩
  | 20 => ⟨S32, .i32⟩
  | 21 => ⟨S32, .i32⟩
  | 22 => ⟨S32, .i32⟩
  | 23 => ⟨S_, .i32⟩
  | 24 => ⟨S32, .i32⟩
  | 25 => ⟨S32, .i32⟩
  | 26 => ⟨S32, .i32⟩
  | 27 => ⟨S_, .i32⟩
  | 28 => ⟨S32, .i32⟩
  | 29 => ⟨S32, .i32⟩
  | 30 => ⟨S_, .i32⟩
  | 31 => ⟨S32, .i32⟩
  | 32 => ⟨S32, .i32⟩
  | 33 => ⟨S32, .i32⟩
  | 34 => ⟨S32, .i32⟩
  | 35 => ⟨S32, .i32⟩
  | 36 => ⟨S_, .i32⟩
  | 37 => ⟨S32, .i32⟩
  | 38 => ⟨S32, .i32⟩
  | 39 => ⟨S_, .i32⟩
  | 40 => ⟨S32, .i32⟩
  | 41 => ⟨S32, .i32⟩
  | 42 => ⟨S32, .i32⟩
  | 43 => ⟨S32, .i32⟩
  | 44 => ⟨S32, .i32⟩
  | 45 => ⟨S_, .i32⟩
  | 46 => ⟨S32, .i32⟩
  | 47 => ⟨S32, .i32⟩
  | 48 => ⟨S_, .i32⟩
  | 49 => ⟨S32, .i32⟩
  | 50 => ⟨S32, .i32⟩
  | 51 => ⟨S32, .i32⟩
  | 52 => ⟨S32, .i32⟩
  | 53 => ⟨S32, .i32⟩
  | 54 => ⟨S_, .i32⟩
  | 55 => ⟨S32, .i32⟩
  | 56 => ⟨S32, .i32⟩
  | 57 => ⟨S_, .i32⟩
  | 58 => ⟨S32, .i32⟩
  | 59 => ⟨S32, .i32⟩
  | 60 => ⟨S32, .i32⟩
  | 61 => ⟨S32, .i32⟩
  | 62 => ⟨S32, .i32⟩
  | 63 => ⟨S32, .i32⟩
  | 64 => ⟨S32, .i32⟩
  | 65 => ⟨S32, .i32⟩
  | 66 => ⟨S_, .i32⟩
  | 67 => ⟨S32, .i32⟩
  | 68 => ⟨S32, .i32⟩
  | 69 => ⟨S32, .i32⟩
  | 70 => ⟨S_, .i32⟩
  | 71 => ⟨S32, .i32⟩
  | 72 => ⟨S32, .i32⟩
  | 73 => ⟨S_, .i32⟩
  | 74 => ⟨S32, .i32⟩
  | 75 => ⟨S32, .i32⟩
  | 76 => ⟨S32, .i32⟩
  | 77 => ⟨S32, .i32⟩
  | 78 => ⟨S32, .i32⟩
  | 79 => ⟨S_, .i32⟩
  | 80 => ⟨S32, .i32⟩
  | 81 => ⟨S32, .i32⟩
  | 82 => ⟨S_, .i32⟩
  | 83 => ⟨S32, .i32⟩
  | 84 => ⟨S32, .i32⟩
  | 85 => ⟨S32, .i32⟩
  | 86 => ⟨S32, .i32⟩
  | 87 => ⟨S32, .i32⟩
  | 88 => ⟨S_, .i32⟩
  | 89 => ⟨S32, .i32⟩
  | 90 => ⟨S32, .i32⟩
  | 91 => ⟨S_, .i32⟩
  | 92 => ⟨S32, .i32⟩
  | 93 => ⟨S32, .i32⟩
  | 94 => ⟨S32, .i32⟩
  | 95 => ⟨S32, .i32⟩
  | 96 => ⟨S32, .i32⟩
  | 97 => ⟨S_, .i32⟩
  | 98 => ⟨S32, .i32⟩
  | 99 => ⟨S32, .i32⟩
  | 100 => ⟨S_, .i32⟩
  | 101 => ⟨S32, .i32⟩
  | 102 => ⟨S32, .i32⟩
  | 103 => ⟨S32, .i32⟩
  | 104 => ⟨S32, .i32⟩
  | 105 => ⟨S32, .i32⟩
  | 106 => ⟨S32, .i32⟩
  | 107 => ⟨S32, .i32⟩
  | 108 => ⟨S32, .i32⟩
  | 109 => ⟨S_, .i32⟩
  | 110 => ⟨S32, .i32⟩
  | 111 => ⟨S32, .i32⟩
  | 112 => ⟨S32, .i32⟩
  | 113 => ⟨S_, .i32⟩
  | 114 => ⟨S32, .i32⟩
  | 115 => ⟨S32, .i32⟩
  | 116 => ⟨S_, .i32⟩
  | 117 => ⟨S32, .i32⟩
  | 118 => ⟨S32, .i32⟩
  | 119 => ⟨S32, .f32⟩
  | 120 => ⟨S_, .f32⟩
  | 121 => ⟨S32, .f32⟩
  | 122 => ⟨S32, .f32⟩
  | 123 => ⟨S1, .f32⟩
  | 124 => ⟨S32, .f32⟩
  | 125 => ⟨S32, .f32⟩
  | 126 => ⟨S32, .f32⟩
  | 127 => ⟨S32, .f32⟩
  | _ => ⟨S32x2048, .f32⟩

abbrev hbmTy0_9 (i : Nat) : BufTy := match i % 128 with
  | 0 => ⟨S32, .f32⟩
  | 1 => ⟨S32, .f32⟩
  | 2 => ⟨S32, .f32⟩
  | 3 => ⟨S32, .f32⟩
  | 4 => ⟨S32, .f32⟩
  | 5 => ⟨S32, .i1⟩
  | 6 => ⟨S32x1, .i1⟩
  | 7 => ⟨S32x2048, .i1⟩
  | 8 => ⟨S32x2048, .f32⟩
  | 9 => ⟨S32, .f32⟩
  | 10 => ⟨S_, .i32⟩
  | 11 => ⟨S_, .i32⟩
  | 12 => ⟨S_, .i32⟩
  | 13 => ⟨S_, .i1⟩
  | 14 => ⟨S_, .i32⟩
  | 15 => ⟨S_, .i32⟩
  | 16 => ⟨S_, .i32⟩
  | 17 => ⟨S_, .i32⟩
  | 18 => ⟨S_, .i1⟩
  | 19 => ⟨S_, .i32⟩
  | 20 => ⟨S_, .i1⟩
  | 21 => ⟨S_, .i32⟩
  | 22 => ⟨S_, .i1⟩
  | 23 => ⟨S_, .i1⟩
  | 24 => ⟨S_, .i1⟩
  | 25 => ⟨S_, .i32⟩
  | 26 => ⟨S_, .i32⟩
  | 27 => ⟨S_, .i32⟩
  | 28 => ⟨S_, .i32⟩
  | 29 => ⟨S_, .i32⟩
  | 30 => ⟨S_, .i1⟩
  | 31 => ⟨S_, .i32⟩
  | 32 => ⟨S_, .i32⟩
  | 33 => ⟨S32, .i32⟩
  | 34 => ⟨S32, .i32⟩
  | 35 => ⟨S_, .i32⟩
  | 36 => ⟨S32, .i32⟩
  | 37 => ⟨S32, .i1⟩
  | 38 => ⟨S_, .i32⟩
  | 39 => ⟨S32, .i32⟩
  | 40 => ⟨S32, .i1⟩
  | 41 => ⟨S_, .i32⟩
  | 42 => ⟨S_, .i1⟩
  | 43 => ⟨S32, .i1⟩
  | 44 => ⟨S32, .i1⟩
  | 45 => ⟨S32, .i1⟩
  | 46 => ⟨S32, .i32⟩
  | 47 => ⟨S32, .i32⟩
  | 48 => ⟨S32, .i32⟩
  | 49 => ⟨S32, .i32⟩
  | 50 => ⟨S32, .i1⟩
  | 51 => ⟨S_, .i32⟩
  | 52 => ⟨S_, .i32⟩
  | 53 => ⟨S32, .i32⟩
  | 54 => ⟨S32, .i32⟩
  | 55 => ⟨S32, .i32⟩
  | 56 => ⟨S32, .i32⟩
  | 57 => ⟨S32, .i32⟩
  | 58 => ⟨S_, .i32⟩
  | 59 => ⟨S_, .i32⟩
  | 60 => ⟨S_, .i32⟩
  | 61 => ⟨S32, .i32⟩
  | 62 => ⟨S32, .i32⟩
  | 63 => ⟨S_, .i32⟩
  | 64 => ⟨S32, .i32⟩
  | 65 => ⟨S32, .i32⟩
  | 66 => ⟨S_, .i32⟩
  | 67 => ⟨S32, .i32⟩
  | 68 => ⟨S32, .i1⟩
  | 69 => ⟨S_, .i32⟩
  | 70 => ⟨S32, .i32⟩
  | 71 => ⟨S32, .i32⟩
  | 72 => ⟨S32, .i32⟩
  | 73 => ⟨S32x1, .i32⟩
  | 74 => ⟨S32, .f32⟩
  | 75 => ⟨S32, .f32⟩
  | 76 => ⟨S_, .i32⟩
  | 77 => ⟨S32, .i32⟩
  | 78 => ⟨S32, .i1⟩
  | 79 => ⟨S_, .i32⟩
  | 80 => ⟨S32, .i32⟩
  | 81 => ⟨S32, .i32⟩
  | 82 => ⟨S32, .i32⟩
  | 83 => ⟨S32x1, .i32⟩
  | 84 => ⟨S32, .f32⟩
  | 85 => ⟨S32, .f32⟩
  | 86 => ⟨S32, .f32⟩
  | 87 => ⟨S_, .f32⟩
  | 88 => ⟨S_, .f32⟩
  | 89 => ⟨S_, .f32⟩
  | 90 => ⟨S_, .f32⟩
  | 91 => ⟨S1, .f32⟩
  | 92 => ⟨S1, .f32⟩
  | 93 => ⟨S1, .i32⟩
  | 94 => ⟨S_, .i32⟩
  | 95 => ⟨S1, .i32⟩
  | 96 => ⟨S_, .i32⟩
  | 97 => ⟨S32, .i64⟩
  | 98 => ⟨S_, .i64⟩
  | 99 => ⟨S32, .i64⟩
  | 100 => ⟨S32, .i64⟩
  | 101 => ⟨S_, .i64⟩
  | 102 => ⟨S32, .i64⟩
  | 103 => ⟨S32, .i64⟩
  | 104 => ⟨S32, .i32⟩
  | 105 => ⟨S32, .i32⟩
  | 106 => ⟨S_, .i32⟩
  | 107 => ⟨S_, .i32⟩
  | 108 => ⟨S_, .i32⟩
  | 109 => ⟨S32, .i32⟩
  | 110 => ⟨S32, .i32⟩
  | 111 => ⟨S32, .i32⟩
  | 112 => ⟨S32, .i32⟩
  | 113 => ⟨S32, .i32⟩
  | 114 => ⟨S_, .i32⟩
  | 115 => ⟨S32, .i32⟩
  | 116 => ⟨S32, .i32⟩
  | 117 => ⟨S_, .i32⟩
  | 118 => ⟨S32, .i32⟩
  | 119 => ⟨S32, .i32⟩
  | 120 => ⟨S32, .i32⟩
  | 121 => ⟨S32, .i32⟩
  | 122 => ⟨S32, .i32⟩
  | 123 => ⟨S_, .i32⟩
  | 124 => ⟨S32, .i32⟩
  | 125 => ⟨S32, .i32⟩
  | 126 => ⟨S_, .i32⟩
  | 127 => ⟨S32, .i32⟩
  | _ => ⟨S32x2048, .f32⟩

abbrev hbmTy0_10 (i : Nat) : BufTy := match i % 128 with
  | 0 => ⟨S32, .i32⟩
  | 1 => ⟨S32, .i32⟩
  | 2 => ⟨S32, .i32⟩
  | 3 => ⟨S32, .i32⟩
  | 4 => ⟨S_, .i32⟩
  | 5 => ⟨S32, .i32⟩
  | 6 => ⟨S32, .i32⟩
  | 7 => ⟨S_, .i32⟩
  | 8 => ⟨S32, .i32⟩
  | 9 => ⟨S32, .i32⟩
  | 10 => ⟨S32, .i32⟩
  | 11 => ⟨S32, .i32⟩
  | 12 => ⟨S32, .i32⟩
  | 13 => ⟨S_, .i32⟩
  | 14 => ⟨S32, .i32⟩
  | 15 => ⟨S32, .i32⟩
  | 16 => ⟨S_, .i32⟩
  | 17 => ⟨S32, .i32⟩
  | 18 => ⟨S32, .i32⟩
  | 19 => ⟨S32, .i32⟩
  | 20 => ⟨S32, .i32⟩
  | 21 => ⟨S32, .i32⟩
  | 22 => ⟨S32, .i32⟩
  | 23 => ⟨S32, .i32⟩
  | 24 => ⟨S32, .i32⟩
  | 25 => ⟨S_, .i32⟩
  | 26 => ⟨S32, .i32⟩
  | 27 => ⟨S32, .i32⟩
  | 28 => ⟨S32, .i32⟩
  | 29 => ⟨S_, .i32⟩
  | 30 => ⟨S32, .i32⟩
  | 31 => ⟨S32, .i32⟩
  | 32 => ⟨S_, .i32⟩
  | 33 => ⟨S32, .i32⟩
  | 34 => ⟨S32, .i32⟩
  | 35 => ⟨S32, .i32⟩
  | 36 => ⟨S32, .i32⟩
  | 37 => ⟨S32, .i32⟩
  | 38 => ⟨S_, .i32⟩
  | 39 => ⟨S32, .i32⟩
  | 40 => ⟨S32, .i32⟩
  | 41 => ⟨S_, .i32⟩
  | 42 => ⟨S32, .i32⟩
  | 43 => ⟨S32, .i32⟩
  | 44 => ⟨S32, .i32⟩
  | 45 => ⟨S32, .i32⟩
  | 46 => ⟨S32, .i32⟩
  | 47 => ⟨S_, .i32⟩
  | 48 => ⟨S32, .i32⟩
  | 49 => ⟨S32, .i32⟩
  | 50 => ⟨S_, .i32⟩
  | 51 => ⟨S32, .i32⟩
  | 52 => ⟨S32, .i32⟩
  | 53 => ⟨S32, .i32⟩
  | 54 => ⟨S32, .i32⟩
  | 55 => ⟨S32, .i32⟩
  | 56 => ⟨S_, .i32⟩
  | 57 => ⟨S32, .i32⟩
  | 58 => ⟨S32, .i32⟩
  | 59 => ⟨S_, .i32⟩
  | 60 => ⟨S32, .i32⟩
  | 61 => ⟨S32, .i32⟩
  | 62 => ⟨S32, .i32⟩
  | 63 => ⟨S32, .i32⟩
  | 64 => ⟨S32, .i32⟩
  | 65 => ⟨S32, .i32⟩
  | 66 => ⟨S32, .i32⟩
  | 67 => ⟨S32, .i32⟩
  | 68 => ⟨S_, .i32⟩
  | 69 => ⟨S32, .i32⟩
  | 70 => ⟨S32, .i32⟩
  | 71 => ⟨S32, .i32⟩
  | 72 => ⟨S_, .i32⟩
  | 73 => ⟨S32, .i32⟩
  | 74 => ⟨S32, .i32⟩
  | 75 => ⟨S_, .i32⟩
  | 76 => ⟨S32, .i32⟩
  | 77 => ⟨S32, .i32⟩
  | 78 => ⟨S32, .i32⟩
  | 79 => ⟨S32, .i32⟩
  | 80 => ⟨S32, .i32⟩
  | 81 => ⟨S_, .i32⟩
  | 82 => ⟨S32, .i32⟩
  | 83 => ⟨S32, .i32⟩
  | 84 => ⟨S_, .i32⟩
  | 85 => ⟨S32, .i32⟩
  | 86 => ⟨S32, .i32⟩
  | 87 => ⟨S32, .i32⟩
  | 88 => ⟨S32, .i32⟩
  | 89 => ⟨S32, .i32⟩
  | 90 => ⟨S_, .i32⟩
  | 91 => ⟨S32, .i32⟩
  | 92 => ⟨S32, .i32⟩
  | 93 => ⟨S_, .i32⟩
  | 94 => ⟨S32, .i32⟩
  | 95 => ⟨S32, .i32⟩
  | 96 => ⟨S32, .i32⟩
  | 97 => ⟨S32, .i32⟩
  | 98 => ⟨S32, .i32⟩
  | 99 => ⟨S_, .i32⟩
  | 100 => ⟨S32, .i32⟩
  | 101 => ⟨S32, .i32⟩
  | 102 => ⟨S_, .i32⟩
  | 103 => ⟨S32, .i32⟩
  | 104 => ⟨S32, .i32⟩
  | 105 => ⟨S32, .i32⟩
  | 106 => ⟨S32, .i32⟩
  | 107 => ⟨S32, .i32⟩
  | 108 => ⟨S32, .i32⟩
  | 109 => ⟨S32, .i32⟩
  | 110 => ⟨S32, .i32⟩
  | 111 => ⟨S_, .i32⟩
  | 112 => ⟨S32, .i32⟩
  | 113 => ⟨S32, .i32⟩
  | 114 => ⟨S32, .i32⟩
  | 115 => ⟨S_, .i32⟩
  | 116 => ⟨S32, .i32⟩
  | 117 => ⟨S32, .i32⟩
  | 118 => ⟨S_, .i32⟩
  | 119 => ⟨S32, .i32⟩
  | 120 => ⟨S32, .i32⟩
  | 121 => ⟨S32, .i32⟩
  | 122 => ⟨S32, .i32⟩
  | 123 => ⟨S32, .i32⟩
  | 124 => ⟨S_, .i32⟩
  | 125 => ⟨S32, .i32⟩
  | 126 => ⟨S32, .i32⟩
  | 127 => ⟨S_, .i32⟩
  | _ => ⟨S32x2048, .f32⟩

abbrev hbmTy0_11 (i : Nat) : BufTy := match i % 128 with
  | 0 => ⟨S32, .i32⟩
  | 1 => ⟨S32, .i32⟩
  | 2 => ⟨S32, .i32⟩
  | 3 => ⟨S32, .i32⟩
  | 4 => ⟨S32, .i32⟩
  | 5 => ⟨S_, .i32⟩
  | 6 => ⟨S32, .i32⟩
  | 7 => ⟨S32, .i32⟩
  | 8 => ⟨S_, .i32⟩
  | 9 => ⟨S32, .i32⟩
  | 10 => ⟨S32, .i32⟩
  | 11 => ⟨S32, .i32⟩
  | 12 => ⟨S32, .i32⟩
  | 13 => ⟨S32, .i32⟩
  | 14 => ⟨S_, .i32⟩
  | 15 => ⟨S32, .i32⟩
  | 16 => ⟨S32, .i32⟩
  | 17 => ⟨S_, .i32⟩
  | 18 => ⟨S32, .i32⟩
  | 19 => ⟨S32, .i32⟩
  | 20 => ⟨S32, .i32⟩
  | 21 => ⟨S32, .i32⟩
  | 22 => ⟨S32, .i32⟩
  | 23 => ⟨S32, .i32⟩
  | 24 => ⟨S32, .i32⟩
  | 25 => ⟨S32, .i32⟩
  | 26 => ⟨S_, .i32⟩
  | 27 => ⟨S32, .i32⟩
  | 28 => ⟨S32, .i32⟩
  | 29 => ⟨S32, .i32⟩
  | 30 => ⟨S_, .i32⟩
  | 31 => ⟨S32, .i32⟩
  | 32 => ⟨S32, .i32⟩
  | 33 => ⟨S_, .i32⟩
  | 34 => ⟨S32, .i32⟩
  | 35 => ⟨S32, .i32⟩
  | 36 => ⟨S32, .i32⟩
  | 37 => ⟨S32, .i32⟩
  | 38 => ⟨S32, .i32⟩
  | 39 => ⟨S_, .i32⟩
  | 40 => ⟨S32, .i32⟩
  | 41 => ⟨S32, .i32⟩
  | 42 => ⟨S_, .i32⟩
  | 43 => ⟨S32, .i32⟩
  | 44 => ⟨S32, .i32⟩
  | 45 => ⟨S32, .i32⟩
  | 46 => ⟨S32, .i32⟩
  | 47 => ⟨S32, .i32⟩
  | 48 => ⟨S_, .i32⟩
  | 49 => ⟨S32, .i32⟩
  | 50 => ⟨S32, .i32⟩
  | 51 => ⟨S_, .i32⟩
  | 52 => ⟨S32, .i32⟩
  | 53 => ⟨S32, .i32⟩
  | 54 => ⟨S32, .i32⟩
  | 55 => ⟨S32, .i32⟩
  | 56 => ⟨S32, .i32⟩
  | 57 => ⟨S_, .i32⟩
  | 58 => ⟨S32, .i32⟩
  | 59 => ⟨S32, .i32⟩
  | 60 => ⟨S_, .i32⟩
  | 61 => ⟨S32, .i32⟩
  | 62 => ⟨S32, .i32⟩
  | 63 => ⟨S32, .i32⟩
  | 64 => ⟨S32, .i32⟩
  | 65 => ⟨S32, .i32⟩
  | 66 => ⟨S32, .i32⟩
  | 67 => ⟨S32, .i32⟩
  | 68 => ⟨S32, .i32⟩
  | 69 => ⟨S_, .i32⟩
  | 70 => ⟨S32, .i32⟩
  | 71 => ⟨S32, .i32⟩
  | 72 => ⟨S32, .i32⟩
  | 73 => ⟨S_, .i32⟩
  | 74 => ⟨S32, .i32⟩
  | 75 => ⟨S32, .i32⟩
  | 76 => ⟨S_, .i32⟩
  | 77 => ⟨S32, .i32⟩
  | 78 => ⟨S32, .i32⟩
  | 79 => ⟨S32, .f32⟩
  | 80 => ⟨S_, .f32⟩
  | 81 => ⟨S32, .f32⟩
  | 82 => ⟨S32, .f32⟩
  | 83 => ⟨S1, .f32⟩
  | 84 => ⟨S32, .f32⟩
  | 85 => ⟨S32, .f32⟩
  | 86 => ⟨S32, .f32⟩
  | 87 => ⟨S32, .f32⟩
  | 88 => ⟨S32, .f32⟩
  | 89 => ⟨S32, .f32⟩
  | 90 => ⟨S32, .f32⟩
  | 91 => ⟨S32, .i32⟩
  | 92 => ⟨S_, .i32⟩
  | 93 => ⟨S32, .i32⟩
  | 94 => ⟨S32, .i1⟩
  | 95 => ⟨S_, .i32⟩
  | 96 => ⟨S32, .i32⟩
  | 97 => ⟨S32, .i32⟩
  | 98 => ⟨S32, .i32⟩
  | 99 => ⟨S32x1, .i32⟩
  | 100 => ⟨S32, .f32⟩
  | 101 => ⟨S32, .i1⟩
  | 102 => ⟨S32, .i1⟩
  | 103 => ⟨S32, .i1⟩
  | 104 => ⟨S32x1, .i1⟩
  | 105 => ⟨S_, .i32⟩
  | 106 => ⟨S32, .i32⟩
  | 107 => ⟨S32, .i1⟩
  | 108 => ⟨S_, .i32⟩
  | 109 => ⟨S32, .i32⟩
  | 110 => ⟨S32, .i32⟩
  | 111 => ⟨S32, .i32⟩
  | 112 => ⟨S32x1, .i32⟩
  | 113 => ⟨S32x2048, .f32⟩
  | 114 => ⟨S32x2048, .i1⟩
  | 115 => ⟨S32x2048, .f32⟩
  | 116 => ⟨S_, .i32⟩
  | 117 => ⟨S32, .i32⟩
  | 118 => ⟨S32, .i1⟩
  | 119 => ⟨S_, .i32⟩
  | 120 => ⟨S32, .i32⟩
  | 121 => ⟨S32, .i32⟩
  | 122 => ⟨S32, .i32⟩
  | 123 => ⟨S32x1, .i32⟩
  | 124 => ⟨S32, .f32⟩
  | 125 => ⟨S32, .f32⟩
  | 126 => ⟨S1x32, .f32⟩
  | 127 => ⟨S_, .i32⟩
  | _ => ⟨S32x2048, .f32⟩

abbrev hbmTy0_12 (i : Nat) : BufTy := match i % 128 with
  | 0 => ⟨S100x32, .f32⟩
  | 1 => ⟨S_, .i32⟩
  | 2 => ⟨S_, .i32⟩
  | _ => ⟨S32x2048, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | _ => ⟨S32x2048, .f32⟩

abbrev bufTy : (tb : Table) → Fin (tcTables nBuf tb) → BufTy
  | .hbm, ⟨i, _⟩ => hbmTy i
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_c_5 : Ref sig .tc := ⟨.hbm, 28, rfl⟩
abbrev main_v18_0 : Ref sig .tc := ⟨.hbm, 29, rfl⟩
abbrev main_v18_1 : Ref sig .tc := ⟨.hbm, 30, rfl⟩
abbrev main_v18_2 : Ref sig .tc := ⟨.hbm, 31, rfl⟩
abbrev main_v18_3 : Ref sig .tc := ⟨.hbm, 32, rfl⟩
abbrev main_v18_4 : Ref sig .tc := ⟨.hbm, 33, rfl⟩
abbrev main_v18_5 : Ref sig .tc := ⟨.hbm, 34, rfl⟩
abbrev main_v18_6 : Ref sig .tc := ⟨.hbm, 35, rfl⟩
abbrev main_v18_7 : Ref sig .tc := ⟨.hbm, 36, rfl⟩
abbrev main_v18_8 : Ref sig .tc := ⟨.hbm, 37, rfl⟩
abbrev main_v18_9 : Ref sig .tc := ⟨.hbm, 38, rfl⟩
abbrev main_while0c_c_15 : Ref sig .tc := ⟨.hbm, 39, rfl⟩
abbrev main_while0c_v19 : Ref sig .tc := ⟨.hbm, 40, rfl⟩
abbrev main_while0b_call0_v0 : Ref sig .tc := ⟨.hbm, 41, rfl⟩
abbrev main_while0b_v19 : Ref sig .tc := ⟨.hbm, 42, rfl⟩
abbrev main_while0b_v20 : Ref sig .tc := ⟨.hbm, 43, rfl⟩
abbrev main_while0b_call1_c : Ref sig .tc := ⟨.hbm, 44, rfl⟩
abbrev main_while0b_call1_v0 : Ref sig .tc := ⟨.hbm, 45, rfl⟩
abbrev main_while0b_call1_v1 : Ref sig .tc := ⟨.hbm, 46, rfl⟩
abbrev main_while0b_call1_c_0 : Ref sig .tc := ⟨.hbm, 47, rfl⟩
abbrev main_while0b_call1_v2 : Ref sig .tc := ⟨.hbm, 48, rfl⟩
abbrev main_while0b_call1_v3 : Ref sig .tc := ⟨.hbm, 49, rfl⟩
abbrev main_while0b_call1_v4 : Ref sig .tc := ⟨.hbm, 50, rfl⟩
abbrev main_while0b_call1_v5 : Ref sig .tc := ⟨.hbm, 51, rfl⟩
abbrev main_while0b_call1_v6 : Ref sig .tc := ⟨.hbm, 52, rfl⟩
abbrev main_while0b_call1_v7 : Ref sig .tc := ⟨.hbm, 53, rfl⟩
abbrev main_while0b_call1_v8 : Ref sig .tc := ⟨.hbm, 54, rfl⟩
abbrev main_while0b_call1_v9 : Ref sig .tc := ⟨.hbm, 55, rfl⟩
abbrev main_while0b_call1_v10 : Ref sig .tc := ⟨.hbm, 56, rfl⟩
abbrev main_while0b_call1_call0_v0 : Ref sig .tc := ⟨.hbm, 57, rfl⟩
abbrev main_while0b_call1_call0_c : Ref sig .tc := ⟨.hbm, 58, rfl⟩
abbrev main_while0b_call1_call0_v1 : Ref sig .tc := ⟨.hbm, 59, rfl⟩
abbrev main_while0b_call1_call0_v2 : Ref sig .tc := ⟨.hbm, 60, rfl⟩
abbrev main_while0b_call1_call0_v3 : Ref sig .tc := ⟨.hbm, 61, rfl⟩
abbrev main_while0b_call1_call0_v4 : Ref sig .tc := ⟨.hbm, 62, rfl⟩
abbrev main_while0b_call1_call0_v5 : Ref sig .tc := ⟨.hbm, 63, rfl⟩
abbrev main_while0b_call1_call0_v6 : Ref sig .tc := ⟨.hbm, 64, rfl⟩
abbrev main_while0b_call1_call0_c_0 : Ref sig .tc := ⟨.hbm, 65, rfl⟩
abbrev main_while0b_call1_call0_v7 : Ref sig .tc := ⟨.hbm, 66, rfl⟩
abbrev main_while0b_call1_call0_v8 : Ref sig .tc := ⟨.hbm, 67, rfl⟩
abbrev main_while0b_call1_call0_c_1 : Ref sig .tc := ⟨.hbm, 68, rfl⟩
abbrev main_while0b_call1_call0_v9 : Ref sig .tc := ⟨.hbm, 69, rfl⟩
abbrev main_while0b_call1_call0_v10 : Ref sig .tc := ⟨.hbm, 70, rfl⟩
abbrev main_while0b_call1_call0_v11 : Ref sig .tc := ⟨.hbm, 71, rfl⟩
abbrev main_while0b_call1_call0_v12 : Ref sig .tc := ⟨.hbm, 72, rfl⟩
abbrev main_while0b_call1_call0_v13 : Ref sig .tc := ⟨.hbm, 73, rfl⟩
abbrev main_while0b_call1_call0_c_2 : Ref sig .tc := ⟨.hbm, 74, rfl⟩
abbrev main_while0b_call1_call0_v14 : Ref sig .tc := ⟨.hbm, 75, rfl⟩
abbrev main_while0b_call1_call0_v15 : Ref sig .tc := ⟨.hbm, 76, rfl⟩
abbrev main_while0b_call1_call0_c_3 : Ref sig .tc := ⟨.hbm, 77, rfl⟩
abbrev main_while0b_call1_call0_v16 : Ref sig .tc := ⟨.hbm, 78, rfl⟩
abbrev main_while0b_call1_call0_v17 : Ref sig .tc := ⟨.hbm, 79, rfl⟩
abbrev main_while0b_call1_call0_v18 : Ref sig .tc := ⟨.hbm, 80, rfl⟩
abbrev main_while0b_call1_call0_v19 : Ref sig .tc := ⟨.hbm, 81, rfl⟩
abbrev main_while0b_call1_call0_v20 : Ref sig .tc := ⟨.hbm, 82, rfl⟩
abbrev main_while0b_call1_call0_c_4 : Ref sig .tc := ⟨.hbm, 83, rfl⟩
abbrev main_while0b_call1_call0_v21 : Ref sig .tc := ⟨.hbm, 84, rfl⟩
abbrev main_while0b_call1_call0_v22 : Ref sig .tc := ⟨.hbm, 85, rfl⟩
abbrev main_while0b_call1_call0_c_5 : Ref sig .tc := ⟨.hbm, 86, rfl⟩
abbrev main_while0b_call1_call0_v23 : Ref sig .tc := ⟨.hbm, 87, rfl⟩
abbrev main_while0b_call1_call0_v24 : Ref sig .tc := ⟨.hbm, 88, rfl⟩
abbrev main_while0b_call1_call0_v25 : Ref sig .tc := ⟨.hbm, 89, rfl⟩
abbrev main_while0b_call1_call0_v26 : Ref sig .tc := ⟨.hbm, 90, rfl⟩
abbrev main_while0b_call1_call0_v27 : Ref sig .tc := ⟨.hbm, 91, rfl⟩
abbrev main_while0b_call1_call0_c_6 : Ref sig .tc := ⟨.hbm, 92, rfl⟩
abbrev main_while0b_call1_call0_v28 : Ref sig .tc := ⟨.hbm, 93, rfl⟩
abbrev main_while0b_call1_call0_v29 : Ref sig .tc := ⟨.hbm, 94, rfl⟩
abbrev main_while0b_call1_call0_c_7 : Ref sig .tc := ⟨.hbm, 95, rfl⟩
abbrev main_while0b_call1_call0_v30 : Ref sig .tc := ⟨.hbm, 96, rfl⟩
abbrev main_while0b_call1_call0_v31 : Ref sig .tc := ⟨.hbm, 97, rfl⟩
abbrev main_while0b_call1_call0_v32 : Ref sig .tc := ⟨.hbm, 98, rfl⟩
abbrev main_while0b_call1_call0_v33 : Ref sig .tc := ⟨.hbm, 99, rfl⟩
abbrev main_while0b_call1_call0_v34 : Ref sig .tc := ⟨.hbm, 100, rfl⟩
abbrev main_while0b_call1_call0_v35 : Ref sig .tc := ⟨.hbm, 101, rfl⟩
abbrev main_while0b_call1_call0_v36 : Ref sig .tc := ⟨.hbm, 102, rfl⟩
abbrev main_while0b_call1_call0_v37 : Ref sig .tc := ⟨.hbm, 103, rfl⟩
abbrev main_while0b_call1_call0_c_8 : Ref sig .tc := ⟨.hbm, 104, rfl⟩
abbrev main_while0b_call1_call0_v38 : Ref sig .tc := ⟨.hbm, 105, rfl⟩
abbrev main_while0b_call1_call0_v39 : Ref sig .tc := ⟨.hbm, 106, rfl⟩
abbrev main_while0b_call1_call0_v40 : Ref sig .tc := ⟨.hbm, 107, rfl⟩
abbrev main_while0b_call1_call0_c_9 : Ref sig .tc := ⟨.hbm, 108, rfl⟩
abbrev main_while0b_call1_call0_v41 : Ref sig .tc := ⟨.hbm, 109, rfl⟩
abbrev main_while0b_call1_call0_v42 : Ref sig .tc := ⟨.hbm, 110, rfl⟩
abbrev main_while0b_call1_call0_c_10 : Ref sig .tc := ⟨.hbm, 111, rfl⟩
abbrev main_while0b_call1_call0_v43 : Ref sig .tc := ⟨.hbm, 112, rfl⟩
abbrev main_while0b_call1_call0_v44 : Ref sig .tc := ⟨.hbm, 113, rfl⟩
abbrev main_while0b_call1_call0_v45 : Ref sig .tc := ⟨.hbm, 114, rfl⟩
abbrev main_while0b_call1_call0_v46 : Ref sig .tc := ⟨.hbm, 115, rfl⟩
abbrev main_while0b_call1_call0_v47 : Ref sig .tc := ⟨.hbm, 116, rfl⟩
abbrev main_while0b_call1_call0_c_11 : Ref sig .tc := ⟨.hbm, 117, rfl⟩
abbrev main_while0b_call1_call0_v48 : Ref sig .tc := ⟨.hbm, 118, rfl⟩
abbrev main_while0b_call1_call0_v49 : Ref sig .tc := ⟨.hbm, 119, rfl⟩
abbrev main_while0b_call1_call0_c_12 : Ref sig .tc := ⟨.hbm, 120, rfl⟩
abbrev main_while0b_call1_call0_v50 : Ref sig .tc := ⟨.hbm, 121, rfl⟩
abbrev main_while0b_call1_call0_v51 : Ref sig .tc := ⟨.hbm, 122, rfl⟩
abbrev main_while0b_call1_call0_v52 : Ref sig .tc := ⟨.hbm, 123, rfl⟩
abbrev main_while0b_call1_call0_v53 : Ref sig .tc := ⟨.hbm, 124, rfl⟩
abbrev main_while0b_call1_call0_v54 : Ref sig .tc := ⟨.hbm, 125, rfl⟩
abbrev main_while0b_call1_call0_c_13 : Ref sig .tc := ⟨.hbm, 126, rfl⟩
abbrev main_while0b_call1_call0_v55 : Ref sig .tc := ⟨.hbm, 127, rfl⟩
abbrev main_while0b_call1_call0_v56 : Ref sig .tc := ⟨.hbm, 128, rfl⟩
abbrev main_while0b_call1_call0_c_14 : Ref sig .tc := ⟨.hbm, 129, rfl⟩
abbrev main_while0b_call1_call0_v57 : Ref sig .tc := ⟨.hbm, 130, rfl⟩
abbrev main_while0b_call1_call0_v58 : Ref sig .tc := ⟨.hbm, 131, rfl⟩
abbrev main_while0b_call1_call0_v59 : Ref sig .tc := ⟨.hbm, 132, rfl⟩
abbrev main_while0b_call1_call0_v60 : Ref sig .tc := ⟨.hbm, 133, rfl⟩
abbrev main_while0b_call1_call0_v61 : Ref sig .tc := ⟨.hbm, 134, rfl⟩
abbrev main_while0b_call1_call0_c_15 : Ref sig .tc := ⟨.hbm, 135, rfl⟩
abbrev main_while0b_call1_call0_v62 : Ref sig .tc := ⟨.hbm, 136, rfl⟩
abbrev main_while0b_call1_call0_v63 : Ref sig .tc := ⟨.hbm, 137, rfl⟩
abbrev main_while0b_call1_call0_c_16 : Ref sig .tc := ⟨.hbm, 138, rfl⟩
abbrev main_while0b_call1_call0_v64 : Ref sig .tc := ⟨.hbm, 139, rfl⟩
abbrev main_while0b_call1_call0_v65 : Ref sig .tc := ⟨.hbm, 140, rfl⟩
abbrev main_while0b_call1_call0_v66 : Ref sig .tc := ⟨.hbm, 141, rfl⟩
abbrev main_while0b_call1_call0_v67 : Ref sig .tc := ⟨.hbm, 142, rfl⟩
abbrev main_while0b_call1_call0_v68 : Ref sig .tc := ⟨.hbm, 143, rfl⟩
abbrev main_while0b_call1_call0_v69 : Ref sig .tc := ⟨.hbm, 144, rfl⟩
abbrev main_while0b_call1_call0_v70 : Ref sig .tc := ⟨.hbm, 145, rfl⟩
abbrev main_while0b_call1_call0_v71 : Ref sig .tc := ⟨.hbm, 146, rfl⟩
abbrev main_while0b_call1_call0_c_17 : Ref sig .tc := ⟨.hbm, 147, rfl⟩
abbrev main_while0b_call1_call0_v72 : Ref sig .tc := ⟨.hbm, 148, rfl⟩
abbrev main_while0b_call1_call0_v73 : Ref sig .tc := ⟨.hbm, 149, rfl⟩
abbrev main_while0b_call1_call0_v74 : Ref sig .tc := ⟨.hbm, 150, rfl⟩
abbrev main_while0b_call1_call0_c_18 : Ref sig .tc := ⟨.hbm, 151, rfl⟩
abbrev main_while0b_call1_call0_v75 : Ref sig .tc := ⟨.hbm, 152, rfl⟩
abbrev main_while0b_call1_call0_v76 : Ref sig .tc := ⟨.hbm, 153, rfl⟩
abbrev main_while0b_call1_call0_c_19 : Ref sig .tc := ⟨.hbm, 154, rfl⟩
abbrev main_while0b_call1_call0_v77 : Ref sig .tc := ⟨.hbm, 155, rfl⟩
abbrev main_while0b_call1_call0_v78 : Ref sig .tc := ⟨.hbm, 156, rfl⟩
abbrev main_while0b_call1_call0_v79 : Ref sig .tc := ⟨.hbm, 157, rfl⟩
abbrev main_while0b_call1_call0_v80 : Ref sig .tc := ⟨.hbm, 158, rfl⟩
abbrev main_while0b_call1_call0_v81 : Ref sig .tc := ⟨.hbm, 159, rfl⟩
abbrev main_while0b_call1_call0_c_20 : Ref sig .tc := ⟨.hbm, 160, rfl⟩
abbrev main_while0b_call1_call0_v82 : Ref sig .tc := ⟨.hbm, 161, rfl⟩
abbrev main_while0b_call1_call0_v83 : Ref sig .tc := ⟨.hbm, 162, rfl⟩
abbrev main_while0b_call1_call0_c_21 : Ref sig .tc := ⟨.hbm, 163, rfl⟩
abbrev main_while0b_call1_call0_v84 : Ref sig .tc := ⟨.hbm, 164, rfl⟩
abbrev main_while0b_call1_call0_v85 : Ref sig .tc := ⟨.hbm, 165, rfl⟩
abbrev main_while0b_call1_call0_v86 : Ref sig .tc := ⟨.hbm, 166, rfl⟩
abbrev main_while0b_call1_call0_v87 : Ref sig .tc := ⟨.hbm, 167, rfl⟩
abbrev main_while0b_call1_call0_v88 : Ref sig .tc := ⟨.hbm, 168, rfl⟩
abbrev main_while0b_call1_call0_c_22 : Ref sig .tc := ⟨.hbm, 169, rfl⟩
abbrev main_while0b_call1_call0_v89 : Ref sig .tc := ⟨.hbm, 170, rfl⟩
abbrev main_while0b_call1_call0_v90 : Ref sig .tc := ⟨.hbm, 171, rfl⟩
abbrev main_while0b_call1_call0_c_23 : Ref sig .tc := ⟨.hbm, 172, rfl⟩
abbrev main_while0b_call1_call0_v91 : Ref sig .tc := ⟨.hbm, 173, rfl⟩
abbrev main_while0b_call1_call0_v92 : Ref sig .tc := ⟨.hbm, 174, rfl⟩
abbrev main_while0b_call1_call0_v93 : Ref sig .tc := ⟨.hbm, 175, rfl⟩
abbrev main_while0b_call1_call0_v94 : Ref sig .tc := ⟨.hbm, 176, rfl⟩
abbrev main_while0b_call1_call0_v95 : Ref sig .tc := ⟨.hbm, 177, rfl⟩
abbrev main_while0b_call1_call0_c_24 : Ref sig .tc := ⟨.hbm, 178, rfl⟩
abbrev main_while0b_call1_call0_v96 : Ref sig .tc := ⟨.hbm, 179, rfl⟩
abbrev main_while0b_call1_call0_v97 : Ref sig .tc := ⟨.hbm, 180, rfl⟩
abbrev main_while0b_call1_call0_c_25 : Ref sig .tc := ⟨.hbm, 181, rfl⟩
abbrev main_while0b_call1_call0_v98 : Ref sig .tc := ⟨.hbm, 182, rfl⟩
abbrev main_while0b_call1_call0_v99 : Ref sig .tc := ⟨.hbm, 183, rfl⟩
abbrev main_while0b_call1_call0_v100 : Ref sig .tc := ⟨.hbm, 184, rfl⟩
abbrev main_while0b_call1_call0_v101 : Ref sig .tc := ⟨.hbm, 185, rfl⟩
abbrev main_while0b_call1_call0_v102 : Ref sig .tc := ⟨.hbm, 186, rfl⟩
abbrev main_while0b_call1_call0_v103 : Ref sig .tc := ⟨.hbm, 187, rfl⟩
abbrev main_while0b_call1_call0_v104 : Ref sig .tc := ⟨.hbm, 188, rfl⟩
abbrev main_while0b_call1_call0_v105 : Ref sig .tc := ⟨.hbm, 189, rfl⟩
abbrev main_while0b_call1_call0_c_26 : Ref sig .tc := ⟨.hbm, 190, rfl⟩
abbrev main_while0b_call1_call0_v106 : Ref sig .tc := ⟨.hbm, 191, rfl⟩
abbrev main_while0b_call1_call0_v107 : Ref sig .tc := ⟨.hbm, 192, rfl⟩
abbrev main_while0b_call1_call0_v108 : Ref sig .tc := ⟨.hbm, 193, rfl⟩
abbrev main_while0b_call1_call0_c_27 : Ref sig .tc := ⟨.hbm, 194, rfl⟩
abbrev main_while0b_call1_call0_v109 : Ref sig .tc := ⟨.hbm, 195, rfl⟩
abbrev main_while0b_call1_call0_v110 : Ref sig .tc := ⟨.hbm, 196, rfl⟩
abbrev main_while0b_call1_call0_c_28 : Ref sig .tc := ⟨.hbm, 197, rfl⟩
abbrev main_while0b_call1_call0_v111 : Ref sig .tc := ⟨.hbm, 198, rfl⟩
abbrev main_while0b_call1_call0_v112 : Ref sig .tc := ⟨.hbm, 199, rfl⟩
abbrev main_while0b_call1_call0_v113 : Ref sig .tc := ⟨.hbm, 200, rfl⟩
abbrev main_while0b_call1_call0_v114 : Ref sig .tc := ⟨.hbm, 201, rfl⟩
abbrev main_while0b_call1_call0_v115 : Ref sig .tc := ⟨.hbm, 202, rfl⟩
abbrev main_while0b_call1_call0_c_29 : Ref sig .tc := ⟨.hbm, 203, rfl⟩
abbrev main_while0b_call1_call0_v116 : Ref sig .tc := ⟨.hbm, 204, rfl⟩
abbrev main_while0b_call1_call0_v117 : Ref sig .tc := ⟨.hbm, 205, rfl⟩
abbrev main_while0b_call1_call0_c_30 : Ref sig .tc := ⟨.hbm, 206, rfl⟩
abbrev main_while0b_call1_call0_v118 : Ref sig .tc := ⟨.hbm, 207, rfl⟩
abbrev main_while0b_call1_call0_v119 : Ref sig .tc := ⟨.hbm, 208, rfl⟩
abbrev main_while0b_call1_call0_v120 : Ref sig .tc := ⟨.hbm, 209, rfl⟩
abbrev main_while0b_call1_call0_v121 : Ref sig .tc := ⟨.hbm, 210, rfl⟩
abbrev main_while0b_call1_call0_v122 : Ref sig .tc := ⟨.hbm, 211, rfl⟩
abbrev main_while0b_call1_call0_c_31 : Ref sig .tc := ⟨.hbm, 212, rfl⟩
abbrev main_while0b_call1_call0_v123 : Ref sig .tc := ⟨.hbm, 213, rfl⟩
abbrev main_while0b_call1_call0_v124 : Ref sig .tc := ⟨.hbm, 214, rfl⟩
abbrev main_while0b_call1_call0_c_32 : Ref sig .tc := ⟨.hbm, 215, rfl⟩
abbrev main_while0b_call1_call0_v125 : Ref sig .tc := ⟨.hbm, 216, rfl⟩
abbrev main_while0b_call1_call0_v126 : Ref sig .tc := ⟨.hbm, 217, rfl⟩
abbrev main_while0b_call1_call0_v127 : Ref sig .tc := ⟨.hbm, 218, rfl⟩
abbrev main_while0b_call1_call0_v128 : Ref sig .tc := ⟨.hbm, 219, rfl⟩
abbrev main_while0b_call1_call0_v129 : Ref sig .tc := ⟨.hbm, 220, rfl⟩
abbrev main_while0b_call1_call0_c_33 : Ref sig .tc := ⟨.hbm, 221, rfl⟩
abbrev main_while0b_call1_call0_v130 : Ref sig .tc := ⟨.hbm, 222, rfl⟩
abbrev main_while0b_call1_call0_v131 : Ref sig .tc := ⟨.hbm, 223, rfl⟩
abbrev main_while0b_call1_call0_c_34 : Ref sig .tc := ⟨.hbm, 224, rfl⟩
abbrev main_while0b_call1_call0_v132 : Ref sig .tc := ⟨.hbm, 225, rfl⟩
abbrev main_while0b_call1_call0_v133 : Ref sig .tc := ⟨.hbm, 226, rfl⟩
abbrev main_while0b_call1_call0_v134 : Ref sig .tc := ⟨.hbm, 227, rfl⟩
abbrev main_while0b_call1_call0_v135 : Ref sig .tc := ⟨.hbm, 228, rfl⟩
abbrev main_while0b_call1_call0_v136 : Ref sig .tc := ⟨.hbm, 229, rfl⟩
abbrev main_while0b_call1_call0_v137 : Ref sig .tc := ⟨.hbm, 230, rfl⟩
abbrev main_while0b_call1_call0_v138 : Ref sig .tc := ⟨.hbm, 231, rfl⟩
abbrev main_while0b_call1_call0_v139 : Ref sig .tc := ⟨.hbm, 232, rfl⟩
abbrev main_while0b_call1_call0_c_35 : Ref sig .tc := ⟨.hbm, 233, rfl⟩
abbrev main_while0b_call1_call0_v140 : Ref sig .tc := ⟨.hbm, 234, rfl⟩
abbrev main_while0b_call1_call0_v141 : Ref sig .tc := ⟨.hbm, 235, rfl⟩
abbrev main_while0b_call1_call0_v142 : Ref sig .tc := ⟨.hbm, 236, rfl⟩
abbrev main_while0b_call1_call0_c_36 : Ref sig .tc := ⟨.hbm, 237, rfl⟩
abbrev main_while0b_call1_call0_v143 : Ref sig .tc := ⟨.hbm, 238, rfl⟩
abbrev main_while0b_call1_call0_v144 : Ref sig .tc := ⟨.hbm, 239, rfl⟩
abbrev main_while0b_call1_call0_c_37 : Ref sig .tc := ⟨.hbm, 240, rfl⟩
abbrev main_while0b_call1_call0_v145 : Ref sig .tc := ⟨.hbm, 241, rfl⟩
abbrev main_while0b_call1_call0_v146 : Ref sig .tc := ⟨.hbm, 242, rfl⟩
abbrev main_while0b_call1_call0_v147 : Ref sig .tc := ⟨.hbm, 243, rfl⟩
abbrev main_while0b_call1_call0_v148 : Ref sig .tc := ⟨.hbm, 244, rfl⟩
abbrev main_while0b_call1_call0_v149 : Ref sig .tc := ⟨.hbm, 245, rfl⟩
abbrev main_while0b_call1_call0_c_38 : Ref sig .tc := ⟨.hbm, 246, rfl⟩
abbrev main_while0b_call1_call0_v150 : Ref sig .tc := ⟨.hbm, 247, rfl⟩
abbrev main_while0b_call1_call0_v151 : Ref sig .tc := ⟨.hbm, 248, rfl⟩
abbrev main_while0b_call1_call0_c_39 : Ref sig .tc := ⟨.hbm, 249, rfl⟩
abbrev main_while0b_call1_call0_v152 : Ref sig .tc := ⟨.hbm, 250, rfl⟩
abbrev main_while0b_call1_call0_v153 : Ref sig .tc := ⟨.hbm, 251, rfl⟩
abbrev main_while0b_call1_call0_v154 : Ref sig .tc := ⟨.hbm, 252, rfl⟩
abbrev main_while0b_call1_call0_v155 : Ref sig .tc := ⟨.hbm, 253, rfl⟩
abbrev main_while0b_call1_call0_v156 : Ref sig .tc := ⟨.hbm, 254, rfl⟩
abbrev main_while0b_call1_call0_c_40 : Ref sig .tc := ⟨.hbm, 255, rfl⟩
abbrev main_while0b_call1_call0_v157 : Ref sig .tc := ⟨.hbm, 256, rfl⟩
abbrev main_while0b_call1_call0_v158 : Ref sig .tc := ⟨.hbm, 257, rfl⟩
abbrev main_while0b_call1_call0_c_41 : Ref sig .tc := ⟨.hbm, 258, rfl⟩
abbrev main_while0b_call1_call0_v159 : Ref sig .tc := ⟨.hbm, 259, rfl⟩
abbrev main_while0b_call1_call0_v160 : Ref sig .tc := ⟨.hbm, 260, rfl⟩
abbrev main_while0b_call1_call0_v161 : Ref sig .tc := ⟨.hbm, 261, rfl⟩
abbrev main_while0b_call1_call0_v162 : Ref sig .tc := ⟨.hbm, 262, rfl⟩
abbrev main_while0b_call1_call0_v163 : Ref sig .tc := ⟨.hbm, 263, rfl⟩
abbrev main_while0b_call1_call0_c_42 : Ref sig .tc := ⟨.hbm, 264, rfl⟩
abbrev main_while0b_call1_call0_v164 : Ref sig .tc := ⟨.hbm, 265, rfl⟩
abbrev main_while0b_call1_call0_v165 : Ref sig .tc := ⟨.hbm, 266, rfl⟩
abbrev main_while0b_call1_call0_c_43 : Ref sig .tc := ⟨.hbm, 267, rfl⟩
abbrev main_while0b_call1_call0_v166 : Ref sig .tc := ⟨.hbm, 268, rfl⟩
abbrev main_while0b_call1_call0_v167 : Ref sig .tc := ⟨.hbm, 269, rfl⟩
abbrev main_while0b_call1_call0_v168 : Ref sig .tc := ⟨.hbm, 270, rfl⟩
abbrev main_while0b_call1_call0_v169 : Ref sig .tc := ⟨.hbm, 271, rfl⟩
abbrev main_while0b_call1_call0_v170 : Ref sig .tc := ⟨.hbm, 272, rfl⟩
abbrev main_while0b_call1_v11_0 : Ref sig .tc := ⟨.hbm, 273, rfl⟩
abbrev main_while0b_call1_call0_v172 : Ref sig .tc := ⟨.hbm, 274, rfl⟩
abbrev main_while0b_call1_call0_v173 : Ref sig .tc := ⟨.hbm, 275, rfl⟩
abbrev main_while0b_call1_call0_c_44 : Ref sig .tc := ⟨.hbm, 276, rfl⟩
abbrev main_while0b_call1_call0_v174 : Ref sig .tc := ⟨.hbm, 277, rfl⟩
abbrev main_while0b_call1_v11_1 : Ref sig .tc := ⟨.hbm, 278, rfl⟩
abbrev main_while0b_v21 : Ref sig .tc := ⟨.hbm, 279, rfl⟩
abbrev main_while0b_call2_v0 : Ref sig .tc := ⟨.hbm, 280, rfl⟩
abbrev main_while0b_call2_v1 : Ref sig .tc := ⟨.hbm, 281, rfl⟩
abbrev main_while0b_call2_v2 : Ref sig .tc := ⟨.hbm, 282, rfl⟩
abbrev main_while0b_call2_v3 : Ref sig .tc := ⟨.hbm, 283, rfl⟩
abbrev main_while0b_call2_v4 : Ref sig .tc := ⟨.hbm, 284, rfl⟩
abbrev main_while0b_call2_c : Ref sig .tc := ⟨.hbm, 285, rfl⟩
abbrev main_while0b_call2_v5 : Ref sig .tc := ⟨.hbm, 286, rfl⟩
abbrev main_while0b_call2_v6 : Ref sig .tc := ⟨.hbm, 287, rfl⟩
abbrev main_while0b_call2_c_0 : Ref sig .tc := ⟨.hbm, 288, rfl⟩
abbrev main_while0b_call2_v7 : Ref sig .tc := ⟨.hbm, 289, rfl⟩
abbrev main_while0b_call2_v8 : Ref sig .tc := ⟨.hbm, 290, rfl⟩
abbrev main_while0b_call2_v9 : Ref sig .tc := ⟨.hbm, 291, rfl⟩
abbrev main_while0b_call2_v10 : Ref sig .tc := ⟨.hbm, 292, rfl⟩
abbrev main_while0b_call2_call0_v0 : Ref sig .tc := ⟨.hbm, 293, rfl⟩
abbrev main_while0b_call2_call0_c : Ref sig .tc := ⟨.hbm, 294, rfl⟩
abbrev main_while0b_call2_call0_v1 : Ref sig .tc := ⟨.hbm, 295, rfl⟩
abbrev main_while0b_call2_call0_v2 : Ref sig .tc := ⟨.hbm, 296, rfl⟩
abbrev main_while0b_call2_call0_v3 : Ref sig .tc := ⟨.hbm, 297, rfl⟩
abbrev main_while0b_call2_call0_v4 : Ref sig .tc := ⟨.hbm, 298, rfl⟩
abbrev main_while0b_call2_call0_v5 : Ref sig .tc := ⟨.hbm, 299, rfl⟩
abbrev main_while0b_call2_call0_v6 : Ref sig .tc := ⟨.hbm, 300, rfl⟩
abbrev main_while0b_call2_call0_c_0 : Ref sig .tc := ⟨.hbm, 301, rfl⟩
abbrev main_while0b_call2_call0_v7 : Ref sig .tc := ⟨.hbm, 302, rfl⟩
abbrev main_while0b_call2_call0_v8 : Ref sig .tc := ⟨.hbm, 303, rfl⟩
abbrev main_while0b_call2_call0_c_1 : Ref sig .tc := ⟨.hbm, 304, rfl⟩
abbrev main_while0b_call2_call0_v9 : Ref sig .tc := ⟨.hbm, 305, rfl⟩
abbrev main_while0b_call2_call0_v10 : Ref sig .tc := ⟨.hbm, 306, rfl⟩
abbrev main_while0b_call2_call0_v11 : Ref sig .tc := ⟨.hbm, 307, rfl⟩
abbrev main_while0b_call2_call0_v12 : Ref sig .tc := ⟨.hbm, 308, rfl⟩
abbrev main_while0b_call2_call0_v13 : Ref sig .tc := ⟨.hbm, 309, rfl⟩
abbrev main_while0b_call2_call0_c_2 : Ref sig .tc := ⟨.hbm, 310, rfl⟩
abbrev main_while0b_call2_call0_v14 : Ref sig .tc := ⟨.hbm, 311, rfl⟩
abbrev main_while0b_call2_call0_v15 : Ref sig .tc := ⟨.hbm, 312, rfl⟩
abbrev main_while0b_call2_call0_c_3 : Ref sig .tc := ⟨.hbm, 313, rfl⟩
abbrev main_while0b_call2_call0_v16 : Ref sig .tc := ⟨.hbm, 314, rfl⟩
abbrev main_while0b_call2_call0_v17 : Ref sig .tc := ⟨.hbm, 315, rfl⟩
abbrev main_while0b_call2_call0_v18 : Ref sig .tc := ⟨.hbm, 316, rfl⟩
abbrev main_while0b_call2_call0_v19 : Ref sig .tc := ⟨.hbm, 317, rfl⟩
abbrev main_while0b_call2_call0_v20 : Ref sig .tc := ⟨.hbm, 318, rfl⟩
abbrev main_while0b_call2_call0_c_4 : Ref sig .tc := ⟨.hbm, 319, rfl⟩
abbrev main_while0b_call2_call0_v21 : Ref sig .tc := ⟨.hbm, 320, rfl⟩
abbrev main_while0b_call2_call0_v22 : Ref sig .tc := ⟨.hbm, 321, rfl⟩
abbrev main_while0b_call2_call0_c_5 : Ref sig .tc := ⟨.hbm, 322, rfl⟩
abbrev main_while0b_call2_call0_v23 : Ref sig .tc := ⟨.hbm, 323, rfl⟩
abbrev main_while0b_call2_call0_v24 : Ref sig .tc := ⟨.hbm, 324, rfl⟩
abbrev main_while0b_call2_call0_v25 : Ref sig .tc := ⟨.hbm, 325, rfl⟩
abbrev main_while0b_call2_call0_v26 : Ref sig .tc := ⟨.hbm, 326, rfl⟩
abbrev main_while0b_call2_call0_v27 : Ref sig .tc := ⟨.hbm, 327, rfl⟩
abbrev main_while0b_call2_call0_c_6 : Ref sig .tc := ⟨.hbm, 328, rfl⟩
abbrev main_while0b_call2_call0_v28 : Ref sig .tc := ⟨.hbm, 329, rfl⟩
abbrev main_while0b_call2_call0_v29 : Ref sig .tc := ⟨.hbm, 330, rfl⟩
abbrev main_while0b_call2_call0_c_7 : Ref sig .tc := ⟨.hbm, 331, rfl⟩
abbrev main_while0b_call2_call0_v30 : Ref sig .tc := ⟨.hbm, 332, rfl⟩
abbrev main_while0b_call2_call0_v31 : Ref sig .tc := ⟨.hbm, 333, rfl⟩
abbrev main_while0b_call2_call0_v32 : Ref sig .tc := ⟨.hbm, 334, rfl⟩
abbrev main_while0b_call2_call0_v33 : Ref sig .tc := ⟨.hbm, 335, rfl⟩
abbrev main_while0b_call2_call0_v34 : Ref sig .tc := ⟨.hbm, 336, rfl⟩
abbrev main_while0b_call2_call0_v35 : Ref sig .tc := ⟨.hbm, 337, rfl⟩
abbrev main_while0b_call2_call0_v36 : Ref sig .tc := ⟨.hbm, 338, rfl⟩
abbrev main_while0b_call2_call0_v37 : Ref sig .tc := ⟨.hbm, 339, rfl⟩
abbrev main_while0b_call2_call0_c_8 : Ref sig .tc := ⟨.hbm, 340, rfl⟩
abbrev main_while0b_call2_call0_v38 : Ref sig .tc := ⟨.hbm, 341, rfl⟩
abbrev main_while0b_call2_call0_v39 : Ref sig .tc := ⟨.hbm, 342, rfl⟩
abbrev main_while0b_call2_call0_v40 : Ref sig .tc := ⟨.hbm, 343, rfl⟩
abbrev main_while0b_call2_call0_c_9 : Ref sig .tc := ⟨.hbm, 344, rfl⟩
abbrev main_while0b_call2_call0_v41 : Ref sig .tc := ⟨.hbm, 345, rfl⟩
abbrev main_while0b_call2_call0_v42 : Ref sig .tc := ⟨.hbm, 346, rfl⟩
abbrev main_while0b_call2_call0_c_10 : Ref sig .tc := ⟨.hbm, 347, rfl⟩
abbrev main_while0b_call2_call0_v43 : Ref sig .tc := ⟨.hbm, 348, rfl⟩
abbrev main_while0b_call2_call0_v44 : Ref sig .tc := ⟨.hbm, 349, rfl⟩
abbrev main_while0b_call2_call0_v45 : Ref sig .tc := ⟨.hbm, 350, rfl⟩
abbrev main_while0b_call2_call0_v46 : Ref sig .tc := ⟨.hbm, 351, rfl⟩
abbrev main_while0b_call2_call0_v47 : Ref sig .tc := ⟨.hbm, 352, rfl⟩
abbrev main_while0b_call2_call0_c_11 : Ref sig .tc := ⟨.hbm, 353, rfl⟩
abbrev main_while0b_call2_call0_v48 : Ref sig .tc := ⟨.hbm, 354, rfl⟩
abbrev main_while0b_call2_call0_v49 : Ref sig .tc := ⟨.hbm, 355, rfl⟩
abbrev main_while0b_call2_call0_c_12 : Ref sig .tc := ⟨.hbm, 356, rfl⟩
abbrev main_while0b_call2_call0_v50 : Ref sig .tc := ⟨.hbm, 357, rfl⟩
abbrev main_while0b_call2_call0_v51 : Ref sig .tc := ⟨.hbm, 358, rfl⟩
abbrev main_while0b_call2_call0_v52 : Ref sig .tc := ⟨.hbm, 359, rfl⟩
abbrev main_while0b_call2_call0_v53 : Ref sig .tc := ⟨.hbm, 360, rfl⟩
abbrev main_while0b_call2_call0_v54 : Ref sig .tc := ⟨.hbm, 361, rfl⟩
abbrev main_while0b_call2_call0_c_13 : Ref sig .tc := ⟨.hbm, 362, rfl⟩
abbrev main_while0b_call2_call0_v55 : Ref sig .tc := ⟨.hbm, 363, rfl⟩
abbrev main_while0b_call2_call0_v56 : Ref sig .tc := ⟨.hbm, 364, rfl⟩
abbrev main_while0b_call2_call0_c_14 : Ref sig .tc := ⟨.hbm, 365, rfl⟩
abbrev main_while0b_call2_call0_v57 : Ref sig .tc := ⟨.hbm, 366, rfl⟩
abbrev main_while0b_call2_call0_v58 : Ref sig .tc := ⟨.hbm, 367, rfl⟩
abbrev main_while0b_call2_call0_v59 : Ref sig .tc := ⟨.hbm, 368, rfl⟩
abbrev main_while0b_call2_call0_v60 : Ref sig .tc := ⟨.hbm, 369, rfl⟩
abbrev main_while0b_call2_call0_v61 : Ref sig .tc := ⟨.hbm, 370, rfl⟩
abbrev main_while0b_call2_call0_c_15 : Ref sig .tc := ⟨.hbm, 371, rfl⟩
abbrev main_while0b_call2_call0_v62 : Ref sig .tc := ⟨.hbm, 372, rfl⟩
abbrev main_while0b_call2_call0_v63 : Ref sig .tc := ⟨.hbm, 373, rfl⟩
abbrev main_while0b_call2_call0_c_16 : Ref sig .tc := ⟨.hbm, 374, rfl⟩
abbrev main_while0b_call2_call0_v64 : Ref sig .tc := ⟨.hbm, 375, rfl⟩
abbrev main_while0b_call2_call0_v65 : Ref sig .tc := ⟨.hbm, 376, rfl⟩
abbrev main_while0b_call2_call0_v66 : Ref sig .tc := ⟨.hbm, 377, rfl⟩
abbrev main_while0b_call2_call0_v67 : Ref sig .tc := ⟨.hbm, 378, rfl⟩
abbrev main_while0b_call2_call0_v68 : Ref sig .tc := ⟨.hbm, 379, rfl⟩
abbrev main_while0b_call2_call0_v69 : Ref sig .tc := ⟨.hbm, 380, rfl⟩
abbrev main_while0b_call2_call0_v70 : Ref sig .tc := ⟨.hbm, 381, rfl⟩
abbrev main_while0b_call2_call0_v71 : Ref sig .tc := ⟨.hbm, 382, rfl⟩
abbrev main_while0b_call2_call0_c_17 : Ref sig .tc := ⟨.hbm, 383, rfl⟩
abbrev main_while0b_call2_call0_v72 : Ref sig .tc := ⟨.hbm, 384, rfl⟩
abbrev main_while0b_call2_call0_v73 : Ref sig .tc := ⟨.hbm, 385, rfl⟩
abbrev main_while0b_call2_call0_v74 : Ref sig .tc := ⟨.hbm, 386, rfl⟩
abbrev main_while0b_call2_call0_c_18 : Ref sig .tc := ⟨.hbm, 387, rfl⟩
abbrev main_while0b_call2_call0_v75 : Ref sig .tc := ⟨.hbm, 388, rfl⟩
abbrev main_while0b_call2_call0_v76 : Ref sig .tc := ⟨.hbm, 389, rfl⟩
abbrev main_while0b_call2_call0_c_19 : Ref sig .tc := ⟨.hbm, 390, rfl⟩
abbrev main_while0b_call2_call0_v77 : Ref sig .tc := ⟨.hbm, 391, rfl⟩
abbrev main_while0b_call2_call0_v78 : Ref sig .tc := ⟨.hbm, 392, rfl⟩
abbrev main_while0b_call2_call0_v79 : Ref sig .tc := ⟨.hbm, 393, rfl⟩
abbrev main_while0b_call2_call0_v80 : Ref sig .tc := ⟨.hbm, 394, rfl⟩
abbrev main_while0b_call2_call0_v81 : Ref sig .tc := ⟨.hbm, 395, rfl⟩
abbrev main_while0b_call2_call0_c_20 : Ref sig .tc := ⟨.hbm, 396, rfl⟩
abbrev main_while0b_call2_call0_v82 : Ref sig .tc := ⟨.hbm, 397, rfl⟩
abbrev main_while0b_call2_call0_v83 : Ref sig .tc := ⟨.hbm, 398, rfl⟩
abbrev main_while0b_call2_call0_c_21 : Ref sig .tc := ⟨.hbm, 399, rfl⟩
abbrev main_while0b_call2_call0_v84 : Ref sig .tc := ⟨.hbm, 400, rfl⟩
abbrev main_while0b_call2_call0_v85 : Ref sig .tc := ⟨.hbm, 401, rfl⟩
abbrev main_while0b_call2_call0_v86 : Ref sig .tc := ⟨.hbm, 402, rfl⟩
abbrev main_while0b_call2_call0_v87 : Ref sig .tc := ⟨.hbm, 403, rfl⟩
abbrev main_while0b_call2_call0_v88 : Ref sig .tc := ⟨.hbm, 404, rfl⟩
abbrev main_while0b_call2_call0_c_22 : Ref sig .tc := ⟨.hbm, 405, rfl⟩
abbrev main_while0b_call2_call0_v89 : Ref sig .tc := ⟨.hbm, 406, rfl⟩
abbrev main_while0b_call2_call0_v90 : Ref sig .tc := ⟨.hbm, 407, rfl⟩
abbrev main_while0b_call2_call0_c_23 : Ref sig .tc := ⟨.hbm, 408, rfl⟩
abbrev main_while0b_call2_call0_v91 : Ref sig .tc := ⟨.hbm, 409, rfl⟩
abbrev main_while0b_call2_call0_v92 : Ref sig .tc := ⟨.hbm, 410, rfl⟩
abbrev main_while0b_call2_call0_v93 : Ref sig .tc := ⟨.hbm, 411, rfl⟩
abbrev main_while0b_call2_call0_v94 : Ref sig .tc := ⟨.hbm, 412, rfl⟩
abbrev main_while0b_call2_call0_v95 : Ref sig .tc := ⟨.hbm, 413, rfl⟩
abbrev main_while0b_call2_call0_c_24 : Ref sig .tc := ⟨.hbm, 414, rfl⟩
abbrev main_while0b_call2_call0_v96 : Ref sig .tc := ⟨.hbm, 415, rfl⟩
abbrev main_while0b_call2_call0_v97 : Ref sig .tc := ⟨.hbm, 416, rfl⟩
abbrev main_while0b_call2_call0_c_25 : Ref sig .tc := ⟨.hbm, 417, rfl⟩
abbrev main_while0b_call2_call0_v98 : Ref sig .tc := ⟨.hbm, 418, rfl⟩
abbrev main_while0b_call2_call0_v99 : Ref sig .tc := ⟨.hbm, 419, rfl⟩
abbrev main_while0b_call2_call0_v100 : Ref sig .tc := ⟨.hbm, 420, rfl⟩
abbrev main_while0b_call2_call0_v101 : Ref sig .tc := ⟨.hbm, 421, rfl⟩
abbrev main_while0b_call2_call0_v102 : Ref sig .tc := ⟨.hbm, 422, rfl⟩
abbrev main_while0b_call2_call0_v103 : Ref sig .tc := ⟨.hbm, 423, rfl⟩
abbrev main_while0b_call2_call0_v104 : Ref sig .tc := ⟨.hbm, 424, rfl⟩
abbrev main_while0b_call2_call0_v105 : Ref sig .tc := ⟨.hbm, 425, rfl⟩
abbrev main_while0b_call2_call0_c_26 : Ref sig .tc := ⟨.hbm, 426, rfl⟩
abbrev main_while0b_call2_call0_v106 : Ref sig .tc := ⟨.hbm, 427, rfl⟩
abbrev main_while0b_call2_call0_v107 : Ref sig .tc := ⟨.hbm, 428, rfl⟩
abbrev main_while0b_call2_call0_v108 : Ref sig .tc := ⟨.hbm, 429, rfl⟩
abbrev main_while0b_call2_call0_c_27 : Ref sig .tc := ⟨.hbm, 430, rfl⟩
abbrev main_while0b_call2_call0_v109 : Ref sig .tc := ⟨.hbm, 431, rfl⟩
abbrev main_while0b_call2_call0_v110 : Ref sig .tc := ⟨.hbm, 432, rfl⟩
abbrev main_while0b_call2_call0_c_28 : Ref sig .tc := ⟨.hbm, 433, rfl⟩
abbrev main_while0b_call2_call0_v111 : Ref sig .tc := ⟨.hbm, 434, rfl⟩
abbrev main_while0b_call2_call0_v112 : Ref sig .tc := ⟨.hbm, 435, rfl⟩
abbrev main_while0b_call2_call0_v113 : Ref sig .tc := ⟨.hbm, 436, rfl⟩
abbrev main_while0b_call2_call0_v114 : Ref sig .tc := ⟨.hbm, 437, rfl⟩
abbrev main_while0b_call2_call0_v115 : Ref sig .tc := ⟨.hbm, 438, rfl⟩
abbrev main_while0b_call2_call0_c_29 : Ref sig .tc := ⟨.hbm, 439, rfl⟩
abbrev main_while0b_call2_call0_v116 : Ref sig .tc := ⟨.hbm, 440, rfl⟩
abbrev main_while0b_call2_call0_v117 : Ref sig .tc := ⟨.hbm, 441, rfl⟩
abbrev main_while0b_call2_call0_c_30 : Ref sig .tc := ⟨.hbm, 442, rfl⟩
abbrev main_while0b_call2_call0_v118 : Ref sig .tc := ⟨.hbm, 443, rfl⟩
abbrev main_while0b_call2_call0_v119 : Ref sig .tc := ⟨.hbm, 444, rfl⟩
abbrev main_while0b_call2_call0_v120 : Ref sig .tc := ⟨.hbm, 445, rfl⟩
abbrev main_while0b_call2_call0_v121 : Ref sig .tc := ⟨.hbm, 446, rfl⟩
abbrev main_while0b_call2_call0_v122 : Ref sig .tc := ⟨.hbm, 447, rfl⟩
abbrev main_while0b_call2_call0_c_31 : Ref sig .tc := ⟨.hbm, 448, rfl⟩
abbrev main_while0b_call2_call0_v123 : Ref sig .tc := ⟨.hbm, 449, rfl⟩
abbrev main_while0b_call2_call0_v124 : Ref sig .tc := ⟨.hbm, 450, rfl⟩
abbrev main_while0b_call2_call0_c_32 : Ref sig .tc := ⟨.hbm, 451, rfl⟩
abbrev main_while0b_call2_call0_v125 : Ref sig .tc := ⟨.hbm, 452, rfl⟩
abbrev main_while0b_call2_call0_v126 : Ref sig .tc := ⟨.hbm, 453, rfl⟩
abbrev main_while0b_call2_call0_v127 : Ref sig .tc := ⟨.hbm, 454, rfl⟩
abbrev main_while0b_call2_call0_v128 : Ref sig .tc := ⟨.hbm, 455, rfl⟩
abbrev main_while0b_call2_call0_v129 : Ref sig .tc := ⟨.hbm, 456, rfl⟩
abbrev main_while0b_call2_call0_c_33 : Ref sig .tc := ⟨.hbm, 457, rfl⟩
abbrev main_while0b_call2_call0_v130 : Ref sig .tc := ⟨.hbm, 458, rfl⟩
abbrev main_while0b_call2_call0_v131 : Ref sig .tc := ⟨.hbm, 459, rfl⟩
abbrev main_while0b_call2_call0_c_34 : Ref sig .tc := ⟨.hbm, 460, rfl⟩
abbrev main_while0b_call2_call0_v132 : Ref sig .tc := ⟨.hbm, 461, rfl⟩
abbrev main_while0b_call2_call0_v133 : Ref sig .tc := ⟨.hbm, 462, rfl⟩
abbrev main_while0b_call2_call0_v134 : Ref sig .tc := ⟨.hbm, 463, rfl⟩
abbrev main_while0b_call2_call0_v135 : Ref sig .tc := ⟨.hbm, 464, rfl⟩
abbrev main_while0b_call2_call0_v136 : Ref sig .tc := ⟨.hbm, 465, rfl⟩
abbrev main_while0b_call2_call0_v137 : Ref sig .tc := ⟨.hbm, 466, rfl⟩
abbrev main_while0b_call2_call0_v138 : Ref sig .tc := ⟨.hbm, 467, rfl⟩
abbrev main_while0b_call2_call0_v139 : Ref sig .tc := ⟨.hbm, 468, rfl⟩
abbrev main_while0b_call2_call0_c_35 : Ref sig .tc := ⟨.hbm, 469, rfl⟩
abbrev main_while0b_call2_call0_v140 : Ref sig .tc := ⟨.hbm, 470, rfl⟩
abbrev main_while0b_call2_call0_v141 : Ref sig .tc := ⟨.hbm, 471, rfl⟩
abbrev main_while0b_call2_call0_v142 : Ref sig .tc := ⟨.hbm, 472, rfl⟩
abbrev main_while0b_call2_call0_c_36 : Ref sig .tc := ⟨.hbm, 473, rfl⟩
abbrev main_while0b_call2_call0_v143 : Ref sig .tc := ⟨.hbm, 474, rfl⟩
abbrev main_while0b_call2_call0_v144 : Ref sig .tc := ⟨.hbm, 475, rfl⟩
abbrev main_while0b_call2_call0_c_37 : Ref sig .tc := ⟨.hbm, 476, rfl⟩
abbrev main_while0b_call2_call0_v145 : Ref sig .tc := ⟨.hbm, 477, rfl⟩
abbrev main_while0b_call2_call0_v146 : Ref sig .tc := ⟨.hbm, 478, rfl⟩
abbrev main_while0b_call2_call0_v147 : Ref sig .tc := ⟨.hbm, 479, rfl⟩
abbrev main_while0b_call2_call0_v148 : Ref sig .tc := ⟨.hbm, 480, rfl⟩
abbrev main_while0b_call2_call0_v149 : Ref sig .tc := ⟨.hbm, 481, rfl⟩
abbrev main_while0b_call2_call0_c_38 : Ref sig .tc := ⟨.hbm, 482, rfl⟩
abbrev main_while0b_call2_call0_v150 : Ref sig .tc := ⟨.hbm, 483, rfl⟩
abbrev main_while0b_call2_call0_v151 : Ref sig .tc := ⟨.hbm, 484, rfl⟩
abbrev main_while0b_call2_call0_c_39 : Ref sig .tc := ⟨.hbm, 485, rfl⟩
abbrev main_while0b_call2_call0_v152 : Ref sig .tc := ⟨.hbm, 486, rfl⟩
abbrev main_while0b_call2_call0_v153 : Ref sig .tc := ⟨.hbm, 487, rfl⟩
abbrev main_while0b_call2_call0_v154 : Ref sig .tc := ⟨.hbm, 488, rfl⟩
abbrev main_while0b_call2_call0_v155 : Ref sig .tc := ⟨.hbm, 489, rfl⟩
abbrev main_while0b_call2_call0_v156 : Ref sig .tc := ⟨.hbm, 490, rfl⟩
abbrev main_while0b_call2_call0_c_40 : Ref sig .tc := ⟨.hbm, 491, rfl⟩
abbrev main_while0b_call2_call0_v157 : Ref sig .tc := ⟨.hbm, 492, rfl⟩
abbrev main_while0b_call2_call0_v158 : Ref sig .tc := ⟨.hbm, 493, rfl⟩
abbrev main_while0b_call2_call0_c_41 : Ref sig .tc := ⟨.hbm, 494, rfl⟩
abbrev main_while0b_call2_call0_v159 : Ref sig .tc := ⟨.hbm, 495, rfl⟩
abbrev main_while0b_call2_call0_v160 : Ref sig .tc := ⟨.hbm, 496, rfl⟩
abbrev main_while0b_call2_call0_v161 : Ref sig .tc := ⟨.hbm, 497, rfl⟩
abbrev main_while0b_call2_call0_v162 : Ref sig .tc := ⟨.hbm, 498, rfl⟩
abbrev main_while0b_call2_call0_v163 : Ref sig .tc := ⟨.hbm, 499, rfl⟩
abbrev main_while0b_call2_call0_c_42 : Ref sig .tc := ⟨.hbm, 500, rfl⟩
abbrev main_while0b_call2_call0_v164 : Ref sig .tc := ⟨.hbm, 501, rfl⟩
abbrev main_while0b_call2_call0_v165 : Ref sig .tc := ⟨.hbm, 502, rfl⟩
abbrev main_while0b_call2_call0_c_43 : Ref sig .tc := ⟨.hbm, 503, rfl⟩
abbrev main_while0b_call2_call0_v166 : Ref sig .tc := ⟨.hbm, 504, rfl⟩
abbrev main_while0b_call2_call0_v167 : Ref sig .tc := ⟨.hbm, 505, rfl⟩
abbrev main_while0b_call2_call0_v168 : Ref sig .tc := ⟨.hbm, 506, rfl⟩
abbrev main_while0b_call2_call0_v169 : Ref sig .tc := ⟨.hbm, 507, rfl⟩
abbrev main_while0b_call2_call0_v170 : Ref sig .tc := ⟨.hbm, 508, rfl⟩
abbrev main_while0b_call2_v11_0 : Ref sig .tc := ⟨.hbm, 509, rfl⟩
abbrev main_while0b_call2_call0_v172 : Ref sig .tc := ⟨.hbm, 510, rfl⟩
abbrev main_while0b_call2_call0_v173 : Ref sig .tc := ⟨.hbm, 511, rfl⟩
abbrev main_while0b_call2_call0_c_44 : Ref sig .tc := ⟨.hbm, 512, rfl⟩
abbrev main_while0b_call2_call0_v174 : Ref sig .tc := ⟨.hbm, 513, rfl⟩
abbrev main_while0b_call2_v11_1 : Ref sig .tc := ⟨.hbm, 514, rfl⟩
abbrev main_while0b_call2_v12 : Ref sig .tc := ⟨.hbm, 515, rfl⟩
abbrev main_while0b_call2_v13 : Ref sig .tc := ⟨.hbm, 516, rfl⟩
abbrev main_while0b_v22 : Ref sig .tc := ⟨.hbm, 517, rfl⟩
abbrev main_while0b_v23 : Ref sig .tc := ⟨.hbm, 518, rfl⟩
abbrev main_while0b_v24 : Ref sig .tc := ⟨.hbm, 519, rfl⟩
abbrev main_while0b_v25 : Ref sig .tc := ⟨.hbm, 520, rfl⟩
abbrev main_while0b_v26 : Ref sig .tc := ⟨.hbm, 521, rfl⟩
abbrev main_while0b_v27 : Ref sig .tc := ⟨.hbm, 522, rfl⟩
abbrev main_while0b_v28 : Ref sig .tc := ⟨.hbm, 523, rfl⟩
abbrev main_while0b_v29 : Ref sig .tc := ⟨.hbm, 524, rfl⟩
abbrev main_while0b_v30 : Ref sig .tc := ⟨.hbm, 525, rfl⟩
abbrev main_while0b_v31 : Ref sig .tc := ⟨.hbm, 526, rfl⟩
abbrev main_while0b_v32 : Ref sig .tc := ⟨.hbm, 527, rfl⟩
abbrev main_while0b_v33 : Ref sig .tc := ⟨.hbm, 528, rfl⟩
abbrev main_while0b_v34 : Ref sig .tc := ⟨.hbm, 529, rfl⟩
abbrev main_while0b_c_15 : Ref sig .tc := ⟨.hbm, 530, rfl⟩
abbrev main_while0b_v35 : Ref sig .tc := ⟨.hbm, 531, rfl⟩
abbrev main_while0b_v36 : Ref sig .tc := ⟨.hbm, 532, rfl⟩
abbrev main_while0b_c_16 : Ref sig .tc := ⟨.hbm, 533, rfl⟩
abbrev main_while0b_v37 : Ref sig .tc := ⟨.hbm, 534, rfl⟩
abbrev main_while0b_v38 : Ref sig .tc := ⟨.hbm, 535, rfl⟩
abbrev main_while0b_v39 : Ref sig .tc := ⟨.hbm, 536, rfl⟩
abbrev main_while0b_c_17 : Ref sig .tc := ⟨.hbm, 537, rfl⟩
abbrev main_while0b_v40 : Ref sig .tc := ⟨.hbm, 538, rfl⟩
abbrev main_while0b_v41 : Ref sig .tc := ⟨.hbm, 539, rfl⟩
abbrev main_while0b_v42 : Ref sig .tc := ⟨.hbm, 540, rfl⟩
abbrev main_while0b_v43 : Ref sig .tc := ⟨.hbm, 541, rfl⟩
abbrev main_while0b_call3_v0 : Ref sig .tc := ⟨.hbm, 542, rfl⟩
abbrev main_while0b_call3_c : Ref sig .tc := ⟨.hbm, 543, rfl⟩
abbrev main_while0b_call3_v1 : Ref sig .tc := ⟨.hbm, 544, rfl⟩
abbrev main_while0b_call3_v2 : Ref sig .tc := ⟨.hbm, 545, rfl⟩
abbrev main_while0b_call3_v3 : Ref sig .tc := ⟨.hbm, 546, rfl⟩
abbrev main_while0b_call3_v4 : Ref sig .tc := ⟨.hbm, 547, rfl⟩
abbrev main_while0b_call3_v5 : Ref sig .tc := ⟨.hbm, 548, rfl⟩
abbrev main_while0b_call3_v6 : Ref sig .tc := ⟨.hbm, 549, rfl⟩
abbrev main_while0b_call3_c_0 : Ref sig .tc := ⟨.hbm, 550, rfl⟩
abbrev main_while0b_call3_v7 : Ref sig .tc := ⟨.hbm, 551, rfl⟩
abbrev main_while0b_call3_v8 : Ref sig .tc := ⟨.hbm, 552, rfl⟩
abbrev main_while0b_call3_c_1 : Ref sig .tc := ⟨.hbm, 553, rfl⟩
abbrev main_while0b_call3_v9 : Ref sig .tc := ⟨.hbm, 554, rfl⟩
abbrev main_while0b_call3_v10 : Ref sig .tc := ⟨.hbm, 555, rfl⟩
abbrev main_while0b_call3_v11 : Ref sig .tc := ⟨.hbm, 556, rfl⟩
abbrev main_while0b_call3_v12 : Ref sig .tc := ⟨.hbm, 557, rfl⟩
abbrev main_while0b_call3_v13 : Ref sig .tc := ⟨.hbm, 558, rfl⟩
abbrev main_while0b_call3_c_2 : Ref sig .tc := ⟨.hbm, 559, rfl⟩
abbrev main_while0b_call3_v14 : Ref sig .tc := ⟨.hbm, 560, rfl⟩
abbrev main_while0b_call3_v15 : Ref sig .tc := ⟨.hbm, 561, rfl⟩
abbrev main_while0b_call3_c_3 : Ref sig .tc := ⟨.hbm, 562, rfl⟩
abbrev main_while0b_call3_v16 : Ref sig .tc := ⟨.hbm, 563, rfl⟩
abbrev main_while0b_call3_v17 : Ref sig .tc := ⟨.hbm, 564, rfl⟩
abbrev main_while0b_call3_v18 : Ref sig .tc := ⟨.hbm, 565, rfl⟩
abbrev main_while0b_call3_v19 : Ref sig .tc := ⟨.hbm, 566, rfl⟩
abbrev main_while0b_call3_v20 : Ref sig .tc := ⟨.hbm, 567, rfl⟩
abbrev main_while0b_call3_c_4 : Ref sig .tc := ⟨.hbm, 568, rfl⟩
abbrev main_while0b_call3_v21 : Ref sig .tc := ⟨.hbm, 569, rfl⟩
abbrev main_while0b_call3_v22 : Ref sig .tc := ⟨.hbm, 570, rfl⟩
abbrev main_while0b_call3_c_5 : Ref sig .tc := ⟨.hbm, 571, rfl⟩
abbrev main_while0b_call3_v23 : Ref sig .tc := ⟨.hbm, 572, rfl⟩
abbrev main_while0b_call3_v24 : Ref sig .tc := ⟨.hbm, 573, rfl⟩
abbrev main_while0b_call3_v25 : Ref sig .tc := ⟨.hbm, 574, rfl⟩
abbrev main_while0b_call3_v26 : Ref sig .tc := ⟨.hbm, 575, rfl⟩
abbrev main_while0b_call3_v27 : Ref sig .tc := ⟨.hbm, 576, rfl⟩
abbrev main_while0b_call3_c_6 : Ref sig .tc := ⟨.hbm, 577, rfl⟩
abbrev main_while0b_call3_v28 : Ref sig .tc := ⟨.hbm, 578, rfl⟩
abbrev main_while0b_call3_v29 : Ref sig .tc := ⟨.hbm, 579, rfl⟩
abbrev main_while0b_call3_c_7 : Ref sig .tc := ⟨.hbm, 580, rfl⟩
abbrev main_while0b_call3_v30 : Ref sig .tc := ⟨.hbm, 581, rfl⟩
abbrev main_while0b_call3_v31 : Ref sig .tc := ⟨.hbm, 582, rfl⟩
abbrev main_while0b_call3_v32 : Ref sig .tc := ⟨.hbm, 583, rfl⟩
abbrev main_while0b_call3_v33 : Ref sig .tc := ⟨.hbm, 584, rfl⟩
abbrev main_while0b_call3_v34 : Ref sig .tc := ⟨.hbm, 585, rfl⟩
abbrev main_while0b_call3_v35 : Ref sig .tc := ⟨.hbm, 586, rfl⟩
abbrev main_while0b_call3_v36 : Ref sig .tc := ⟨.hbm, 587, rfl⟩
abbrev main_while0b_call3_v37 : Ref sig .tc := ⟨.hbm, 588, rfl⟩
abbrev main_while0b_call3_c_8 : Ref sig .tc := ⟨.hbm, 589, rfl⟩
abbrev main_while0b_call3_v38 : Ref sig .tc := ⟨.hbm, 590, rfl⟩
abbrev main_while0b_call3_v39 : Ref sig .tc := ⟨.hbm, 591, rfl⟩
abbrev main_while0b_call3_v40 : Ref sig .tc := ⟨.hbm, 592, rfl⟩
abbrev main_while0b_call3_c_9 : Ref sig .tc := ⟨.hbm, 593, rfl⟩
abbrev main_while0b_call3_v41 : Ref sig .tc := ⟨.hbm, 594, rfl⟩
abbrev main_while0b_call3_v42 : Ref sig .tc := ⟨.hbm, 595, rfl⟩
abbrev main_while0b_call3_c_10 : Ref sig .tc := ⟨.hbm, 596, rfl⟩
abbrev main_while0b_call3_v43 : Ref sig .tc := ⟨.hbm, 597, rfl⟩
abbrev main_while0b_call3_v44 : Ref sig .tc := ⟨.hbm, 598, rfl⟩
abbrev main_while0b_call3_v45 : Ref sig .tc := ⟨.hbm, 599, rfl⟩
abbrev main_while0b_call3_v46 : Ref sig .tc := ⟨.hbm, 600, rfl⟩
abbrev main_while0b_call3_v47 : Ref sig .tc := ⟨.hbm, 601, rfl⟩
abbrev main_while0b_call3_c_11 : Ref sig .tc := ⟨.hbm, 602, rfl⟩
abbrev main_while0b_call3_v48 : Ref sig .tc := ⟨.hbm, 603, rfl⟩
abbrev main_while0b_call3_v49 : Ref sig .tc := ⟨.hbm, 604, rfl⟩
abbrev main_while0b_call3_c_12 : Ref sig .tc := ⟨.hbm, 605, rfl⟩
abbrev main_while0b_call3_v50 : Ref sig .tc := ⟨.hbm, 606, rfl⟩
abbrev main_while0b_call3_v51 : Ref sig .tc := ⟨.hbm, 607, rfl⟩
abbrev main_while0b_call3_v52 : Ref sig .tc := ⟨.hbm, 608, rfl⟩
abbrev main_while0b_call3_v53 : Ref sig .tc := ⟨.hbm, 609, rfl⟩
abbrev main_while0b_call3_v54 : Ref sig .tc := ⟨.hbm, 610, rfl⟩
abbrev main_while0b_call3_c_13 : Ref sig .tc := ⟨.hbm, 611, rfl⟩
abbrev main_while0b_call3_v55 : Ref sig .tc := ⟨.hbm, 612, rfl⟩
abbrev main_while0b_call3_v56 : Ref sig .tc := ⟨.hbm, 613, rfl⟩
abbrev main_while0b_call3_c_14 : Ref sig .tc := ⟨.hbm, 614, rfl⟩
abbrev main_while0b_call3_v57 : Ref sig .tc := ⟨.hbm, 615, rfl⟩
abbrev main_while0b_call3_v58 : Ref sig .tc := ⟨.hbm, 616, rfl⟩
abbrev main_while0b_call3_v59 : Ref sig .tc := ⟨.hbm, 617, rfl⟩
abbrev main_while0b_call3_v60 : Ref sig .tc := ⟨.hbm, 618, rfl⟩
abbrev main_while0b_call3_v61 : Ref sig .tc := ⟨.hbm, 619, rfl⟩
abbrev main_while0b_call3_c_15 : Ref sig .tc := ⟨.hbm, 620, rfl⟩
abbrev main_while0b_call3_v62 : Ref sig .tc := ⟨.hbm, 621, rfl⟩
abbrev main_while0b_call3_v63 : Ref sig .tc := ⟨.hbm, 622, rfl⟩
abbrev main_while0b_call3_c_16 : Ref sig .tc := ⟨.hbm, 623, rfl⟩
abbrev main_while0b_call3_v64 : Ref sig .tc := ⟨.hbm, 624, rfl⟩
abbrev main_while0b_call3_v65 : Ref sig .tc := ⟨.hbm, 625, rfl⟩
abbrev main_while0b_call3_v66 : Ref sig .tc := ⟨.hbm, 626, rfl⟩
abbrev main_while0b_call3_v67 : Ref sig .tc := ⟨.hbm, 627, rfl⟩
abbrev main_while0b_call3_v68 : Ref sig .tc := ⟨.hbm, 628, rfl⟩
abbrev main_while0b_call3_v69 : Ref sig .tc := ⟨.hbm, 629, rfl⟩
abbrev main_while0b_call3_v70 : Ref sig .tc := ⟨.hbm, 630, rfl⟩
abbrev main_while0b_call3_v71 : Ref sig .tc := ⟨.hbm, 631, rfl⟩
abbrev main_while0b_call3_c_17 : Ref sig .tc := ⟨.hbm, 632, rfl⟩
abbrev main_while0b_call3_v72 : Ref sig .tc := ⟨.hbm, 633, rfl⟩
abbrev main_while0b_call3_v73 : Ref sig .tc := ⟨.hbm, 634, rfl⟩
abbrev main_while0b_call3_v74 : Ref sig .tc := ⟨.hbm, 635, rfl⟩
abbrev main_while0b_call3_c_18 : Ref sig .tc := ⟨.hbm, 636, rfl⟩
abbrev main_while0b_call3_v75 : Ref sig .tc := ⟨.hbm, 637, rfl⟩
abbrev main_while0b_call3_v76 : Ref sig .tc := ⟨.hbm, 638, rfl⟩
abbrev main_while0b_call3_c_19 : Ref sig .tc := ⟨.hbm, 639, rfl⟩
abbrev main_while0b_call3_v77 : Ref sig .tc := ⟨.hbm, 640, rfl⟩
abbrev main_while0b_call3_v78 : Ref sig .tc := ⟨.hbm, 641, rfl⟩
abbrev main_while0b_call3_v79 : Ref sig .tc := ⟨.hbm, 642, rfl⟩
abbrev main_while0b_call3_v80 : Ref sig .tc := ⟨.hbm, 643, rfl⟩
abbrev main_while0b_call3_v81 : Ref sig .tc := ⟨.hbm, 644, rfl⟩
abbrev main_while0b_call3_c_20 : Ref sig .tc := ⟨.hbm, 645, rfl⟩
abbrev main_while0b_call3_v82 : Ref sig .tc := ⟨.hbm, 646, rfl⟩
abbrev main_while0b_call3_v83 : Ref sig .tc := ⟨.hbm, 647, rfl⟩
abbrev main_while0b_call3_c_21 : Ref sig .tc := ⟨.hbm, 648, rfl⟩
abbrev main_while0b_call3_v84 : Ref sig .tc := ⟨.hbm, 649, rfl⟩
abbrev main_while0b_call3_v85 : Ref sig .tc := ⟨.hbm, 650, rfl⟩
abbrev main_while0b_call3_v86 : Ref sig .tc := ⟨.hbm, 651, rfl⟩
abbrev main_while0b_call3_v87 : Ref sig .tc := ⟨.hbm, 652, rfl⟩
abbrev main_while0b_call3_v88 : Ref sig .tc := ⟨.hbm, 653, rfl⟩
abbrev main_while0b_call3_c_22 : Ref sig .tc := ⟨.hbm, 654, rfl⟩
abbrev main_while0b_call3_v89 : Ref sig .tc := ⟨.hbm, 655, rfl⟩
abbrev main_while0b_call3_v90 : Ref sig .tc := ⟨.hbm, 656, rfl⟩
abbrev main_while0b_call3_c_23 : Ref sig .tc := ⟨.hbm, 657, rfl⟩
abbrev main_while0b_call3_v91 : Ref sig .tc := ⟨.hbm, 658, rfl⟩
abbrev main_while0b_call3_v92 : Ref sig .tc := ⟨.hbm, 659, rfl⟩
abbrev main_while0b_call3_v93 : Ref sig .tc := ⟨.hbm, 660, rfl⟩
abbrev main_while0b_call3_v94 : Ref sig .tc := ⟨.hbm, 661, rfl⟩
abbrev main_while0b_call3_v95 : Ref sig .tc := ⟨.hbm, 662, rfl⟩
abbrev main_while0b_call3_c_24 : Ref sig .tc := ⟨.hbm, 663, rfl⟩
abbrev main_while0b_call3_v96 : Ref sig .tc := ⟨.hbm, 664, rfl⟩
abbrev main_while0b_call3_v97 : Ref sig .tc := ⟨.hbm, 665, rfl⟩
abbrev main_while0b_call3_c_25 : Ref sig .tc := ⟨.hbm, 666, rfl⟩
abbrev main_while0b_call3_v98 : Ref sig .tc := ⟨.hbm, 667, rfl⟩
abbrev main_while0b_call3_v99 : Ref sig .tc := ⟨.hbm, 668, rfl⟩
abbrev main_while0b_call3_v100 : Ref sig .tc := ⟨.hbm, 669, rfl⟩
abbrev main_while0b_call3_v101 : Ref sig .tc := ⟨.hbm, 670, rfl⟩
abbrev main_while0b_call3_v102 : Ref sig .tc := ⟨.hbm, 671, rfl⟩
abbrev main_while0b_call3_v103 : Ref sig .tc := ⟨.hbm, 672, rfl⟩
abbrev main_while0b_call3_v104 : Ref sig .tc := ⟨.hbm, 673, rfl⟩
abbrev main_while0b_call3_v105 : Ref sig .tc := ⟨.hbm, 674, rfl⟩
abbrev main_while0b_call3_c_26 : Ref sig .tc := ⟨.hbm, 675, rfl⟩
abbrev main_while0b_call3_v106 : Ref sig .tc := ⟨.hbm, 676, rfl⟩
abbrev main_while0b_call3_v107 : Ref sig .tc := ⟨.hbm, 677, rfl⟩
abbrev main_while0b_call3_v108 : Ref sig .tc := ⟨.hbm, 678, rfl⟩
abbrev main_while0b_call3_c_27 : Ref sig .tc := ⟨.hbm, 679, rfl⟩
abbrev main_while0b_call3_v109 : Ref sig .tc := ⟨.hbm, 680, rfl⟩
abbrev main_while0b_call3_v110 : Ref sig .tc := ⟨.hbm, 681, rfl⟩
abbrev main_while0b_call3_c_28 : Ref sig .tc := ⟨.hbm, 682, rfl⟩
abbrev main_while0b_call3_v111 : Ref sig .tc := ⟨.hbm, 683, rfl⟩
abbrev main_while0b_call3_v112 : Ref sig .tc := ⟨.hbm, 684, rfl⟩
abbrev main_while0b_call3_v113 : Ref sig .tc := ⟨.hbm, 685, rfl⟩
abbrev main_while0b_call3_v114 : Ref sig .tc := ⟨.hbm, 686, rfl⟩
abbrev main_while0b_call3_v115 : Ref sig .tc := ⟨.hbm, 687, rfl⟩
abbrev main_while0b_call3_c_29 : Ref sig .tc := ⟨.hbm, 688, rfl⟩
abbrev main_while0b_call3_v116 : Ref sig .tc := ⟨.hbm, 689, rfl⟩
abbrev main_while0b_call3_v117 : Ref sig .tc := ⟨.hbm, 690, rfl⟩
abbrev main_while0b_call3_c_30 : Ref sig .tc := ⟨.hbm, 691, rfl⟩
abbrev main_while0b_call3_v118 : Ref sig .tc := ⟨.hbm, 692, rfl⟩
abbrev main_while0b_call3_v119 : Ref sig .tc := ⟨.hbm, 693, rfl⟩
abbrev main_while0b_call3_v120 : Ref sig .tc := ⟨.hbm, 694, rfl⟩
abbrev main_while0b_call3_v121 : Ref sig .tc := ⟨.hbm, 695, rfl⟩
abbrev main_while0b_call3_v122 : Ref sig .tc := ⟨.hbm, 696, rfl⟩
abbrev main_while0b_call3_c_31 : Ref sig .tc := ⟨.hbm, 697, rfl⟩
abbrev main_while0b_call3_v123 : Ref sig .tc := ⟨.hbm, 698, rfl⟩
abbrev main_while0b_call3_v124 : Ref sig .tc := ⟨.hbm, 699, rfl⟩
abbrev main_while0b_call3_c_32 : Ref sig .tc := ⟨.hbm, 700, rfl⟩
abbrev main_while0b_call3_v125 : Ref sig .tc := ⟨.hbm, 701, rfl⟩
abbrev main_while0b_call3_v126 : Ref sig .tc := ⟨.hbm, 702, rfl⟩
abbrev main_while0b_call3_v127 : Ref sig .tc := ⟨.hbm, 703, rfl⟩
abbrev main_while0b_call3_v128 : Ref sig .tc := ⟨.hbm, 704, rfl⟩
abbrev main_while0b_call3_v129 : Ref sig .tc := ⟨.hbm, 705, rfl⟩
abbrev main_while0b_call3_c_33 : Ref sig .tc := ⟨.hbm, 706, rfl⟩
abbrev main_while0b_call3_v130 : Ref sig .tc := ⟨.hbm, 707, rfl⟩
abbrev main_while0b_call3_v131 : Ref sig .tc := ⟨.hbm, 708, rfl⟩
abbrev main_while0b_call3_c_34 : Ref sig .tc := ⟨.hbm, 709, rfl⟩
abbrev main_while0b_call3_v132 : Ref sig .tc := ⟨.hbm, 710, rfl⟩
abbrev main_while0b_call3_v133 : Ref sig .tc := ⟨.hbm, 711, rfl⟩
abbrev main_while0b_call3_v134 : Ref sig .tc := ⟨.hbm, 712, rfl⟩
abbrev main_while0b_call3_v135 : Ref sig .tc := ⟨.hbm, 713, rfl⟩
abbrev main_while0b_call3_v136 : Ref sig .tc := ⟨.hbm, 714, rfl⟩
abbrev main_while0b_call3_v137 : Ref sig .tc := ⟨.hbm, 715, rfl⟩
abbrev main_while0b_call3_v138 : Ref sig .tc := ⟨.hbm, 716, rfl⟩
abbrev main_while0b_call3_v139 : Ref sig .tc := ⟨.hbm, 717, rfl⟩
abbrev main_while0b_call3_c_35 : Ref sig .tc := ⟨.hbm, 718, rfl⟩
abbrev main_while0b_call3_v140 : Ref sig .tc := ⟨.hbm, 719, rfl⟩
abbrev main_while0b_call3_v141 : Ref sig .tc := ⟨.hbm, 720, rfl⟩
abbrev main_while0b_call3_v142 : Ref sig .tc := ⟨.hbm, 721, rfl⟩
abbrev main_while0b_call3_c_36 : Ref sig .tc := ⟨.hbm, 722, rfl⟩
abbrev main_while0b_call3_v143 : Ref sig .tc := ⟨.hbm, 723, rfl⟩
abbrev main_while0b_call3_v144 : Ref sig .tc := ⟨.hbm, 724, rfl⟩
abbrev main_while0b_call3_c_37 : Ref sig .tc := ⟨.hbm, 725, rfl⟩
abbrev main_while0b_call3_v145 : Ref sig .tc := ⟨.hbm, 726, rfl⟩
abbrev main_while0b_call3_v146 : Ref sig .tc := ⟨.hbm, 727, rfl⟩
abbrev main_while0b_call3_v147 : Ref sig .tc := ⟨.hbm, 728, rfl⟩
abbrev main_while0b_call3_v148 : Ref sig .tc := ⟨.hbm, 729, rfl⟩
abbrev main_while0b_call3_v149 : Ref sig .tc := ⟨.hbm, 730, rfl⟩
abbrev main_while0b_call3_c_38 : Ref sig .tc := ⟨.hbm, 731, rfl⟩
abbrev main_while0b_call3_v150 : Ref sig .tc := ⟨.hbm, 732, rfl⟩
abbrev main_while0b_call3_v151 : Ref sig .tc := ⟨.hbm, 733, rfl⟩
abbrev main_while0b_call3_c_39 : Ref sig .tc := ⟨.hbm, 734, rfl⟩
abbrev main_while0b_call3_v152 : Ref sig .tc := ⟨.hbm, 735, rfl⟩
abbrev main_while0b_call3_v153 : Ref sig .tc := ⟨.hbm, 736, rfl⟩
abbrev main_while0b_call3_v154 : Ref sig .tc := ⟨.hbm, 737, rfl⟩
abbrev main_while0b_call3_v155 : Ref sig .tc := ⟨.hbm, 738, rfl⟩
abbrev main_while0b_call3_v156 : Ref sig .tc := ⟨.hbm, 739, rfl⟩
abbrev main_while0b_call3_c_40 : Ref sig .tc := ⟨.hbm, 740, rfl⟩
abbrev main_while0b_call3_v157 : Ref sig .tc := ⟨.hbm, 741, rfl⟩
abbrev main_while0b_call3_v158 : Ref sig .tc := ⟨.hbm, 742, rfl⟩
abbrev main_while0b_call3_c_41 : Ref sig .tc := ⟨.hbm, 743, rfl⟩
abbrev main_while0b_call3_v159 : Ref sig .tc := ⟨.hbm, 744, rfl⟩
abbrev main_while0b_call3_v160 : Ref sig .tc := ⟨.hbm, 745, rfl⟩
abbrev main_while0b_call3_v161 : Ref sig .tc := ⟨.hbm, 746, rfl⟩
abbrev main_while0b_call3_v162 : Ref sig .tc := ⟨.hbm, 747, rfl⟩
abbrev main_while0b_call3_v163 : Ref sig .tc := ⟨.hbm, 748, rfl⟩
abbrev main_while0b_call3_c_42 : Ref sig .tc := ⟨.hbm, 749, rfl⟩
abbrev main_while0b_call3_v164 : Ref sig .tc := ⟨.hbm, 750, rfl⟩
abbrev main_while0b_call3_v165 : Ref sig .tc := ⟨.hbm, 751, rfl⟩
abbrev main_while0b_call3_c_43 : Ref sig .tc := ⟨.hbm, 752, rfl⟩
abbrev main_while0b_call3_v166 : Ref sig .tc := ⟨.hbm, 753, rfl⟩
abbrev main_while0b_call3_v167 : Ref sig .tc := ⟨.hbm, 754, rfl⟩
abbrev main_while0b_call3_v168 : Ref sig .tc := ⟨.hbm, 755, rfl⟩
abbrev main_while0b_call3_v169 : Ref sig .tc := ⟨.hbm, 756, rfl⟩
abbrev main_while0b_call3_v170 : Ref sig .tc := ⟨.hbm, 757, rfl⟩
abbrev main_while0b_v44_0 : Ref sig .tc := ⟨.hbm, 758, rfl⟩
abbrev main_while0b_call3_v172 : Ref sig .tc := ⟨.hbm, 759, rfl⟩
abbrev main_while0b_call3_v173 : Ref sig .tc := ⟨.hbm, 760, rfl⟩
abbrev main_while0b_call3_c_44 : Ref sig .tc := ⟨.hbm, 761, rfl⟩
abbrev main_while0b_call3_v174 : Ref sig .tc := ⟨.hbm, 762, rfl⟩
abbrev main_while0b_v44_1 : Ref sig .tc := ⟨.hbm, 763, rfl⟩
abbrev main_while0b_v45 : Ref sig .tc := ⟨.hbm, 764, rfl⟩
abbrev main_while0b_c_18 : Ref sig .tc := ⟨.hbm, 765, rfl⟩
abbrev main_while0b_v46 : Ref sig .tc := ⟨.hbm, 766, rfl⟩
abbrev main_while0b_v47 : Ref sig .tc := ⟨.hbm, 767, rfl⟩
abbrev main_while0b_c_19 : Ref sig .tc := ⟨.hbm, 768, rfl⟩
abbrev main_while0b_v48 : Ref sig .tc := ⟨.hbm, 769, rfl⟩
abbrev main_while0b_v49 : Ref sig .tc := ⟨.hbm, 770, rfl⟩
abbrev main_while0b_v50 : Ref sig .tc := ⟨.hbm, 771, rfl⟩
abbrev main_while0b_cst_20 : Ref sig .tc := ⟨.hbm, 772, rfl⟩
abbrev main_while0b_v51 : Ref sig .tc := ⟨.hbm, 773, rfl⟩
abbrev main_while0b_v52 : Ref sig .tc := ⟨.hbm, 774, rfl⟩
abbrev main_while0b_cst_21 : Ref sig .tc := ⟨.hbm, 775, rfl⟩
abbrev main_while0b_v53 : Ref sig .tc := ⟨.hbm, 776, rfl⟩
abbrev main_while0b_v54 : Ref sig .tc := ⟨.hbm, 777, rfl⟩
abbrev main_while0b_cst_22 : Ref sig .tc := ⟨.hbm, 778, rfl⟩
abbrev main_while0b_v55 : Ref sig .tc := ⟨.hbm, 779, rfl⟩
abbrev main_while0b_v56 : Ref sig .tc := ⟨.hbm, 780, rfl⟩
abbrev main_while0b_cst_23 : Ref sig .tc := ⟨.hbm, 781, rfl⟩
abbrev main_while0b_v57 : Ref sig .tc := ⟨.hbm, 782, rfl⟩
abbrev main_while0b_v58 : Ref sig .tc := ⟨.hbm, 783, rfl⟩
abbrev main_while0b_v59 : Ref sig .tc := ⟨.hbm, 784, rfl⟩
abbrev main_while0b_v60 : Ref sig .tc := ⟨.hbm, 785, rfl⟩
abbrev main_while0b_v61 : Ref sig .tc := ⟨.hbm, 786, rfl⟩
abbrev main_while0b_v62 : Ref sig .tc := ⟨.hbm, 787, rfl⟩
abbrev main_while0b_cst_24 : Ref sig .tc := ⟨.hbm, 788, rfl⟩
abbrev main_while0b_v63 : Ref sig .tc := ⟨.hbm, 789, rfl⟩
abbrev main_while0b_v64 : Ref sig .tc := ⟨.hbm, 790, rfl⟩
abbrev main_while0b_cst_25 : Ref sig .tc := ⟨.hbm, 791, rfl⟩
abbrev main_while0b_v65 : Ref sig .tc := ⟨.hbm, 792, rfl⟩
abbrev main_while0b_v66 : Ref sig .tc := ⟨.hbm, 793, rfl⟩
abbrev main_while0b_v67 : Ref sig .tc := ⟨.hbm, 794, rfl⟩
abbrev main_while0b_cst_26 : Ref sig .tc := ⟨.hbm, 795, rfl⟩
abbrev main_while0b_v68 : Ref sig .tc := ⟨.hbm, 796, rfl⟩
abbrev main_while0b_v69 : Ref sig .tc := ⟨.hbm, 797, rfl⟩
abbrev main_while0b_v70 : Ref sig .tc := ⟨.hbm, 798, rfl⟩
abbrev main_while0b_cst_27 : Ref sig .tc := ⟨.hbm, 799, rfl⟩
abbrev main_while0b_cst_28 : Ref sig .tc := ⟨.hbm, 800, rfl⟩
abbrev main_while0b_call5_v0 : Ref sig .tc := ⟨.hbm, 801, rfl⟩
abbrev main_while0b_call5_v1 : Ref sig .tc := ⟨.hbm, 802, rfl⟩
abbrev main_while0b_v71 : Ref sig .tc := ⟨.hbm, 803, rfl⟩
abbrev main_while0b_cst_29 : Ref sig .tc := ⟨.hbm, 804, rfl⟩
abbrev main_while0b_cst_30 : Ref sig .tc := ⟨.hbm, 805, rfl⟩
abbrev main_while0b_call6_v0 : Ref sig .tc := ⟨.hbm, 806, rfl⟩
abbrev main_while0b_call6_v1 : Ref sig .tc := ⟨.hbm, 807, rfl⟩
abbrev main_while0b_v72 : Ref sig .tc := ⟨.hbm, 808, rfl⟩
abbrev main_while0b_v73 : Ref sig .tc := ⟨.hbm, 809, rfl⟩
abbrev main_while0b_v74 : Ref sig .tc := ⟨.hbm, 810, rfl⟩
abbrev main_while0b_v75 : Ref sig .tc := ⟨.hbm, 811, rfl⟩
abbrev main_while0b_v76 : Ref sig .tc := ⟨.hbm, 812, rfl⟩
abbrev main_while0b_cst_31 : Ref sig .tc := ⟨.hbm, 813, rfl⟩
abbrev main_while0b_cst_32 : Ref sig .tc := ⟨.hbm, 814, rfl⟩
abbrev main_while0b_call7_v0 : Ref sig .tc := ⟨.hbm, 815, rfl⟩
abbrev main_while0b_call7_v1 : Ref sig .tc := ⟨.hbm, 816, rfl⟩
abbrev main_while0b_v77 : Ref sig .tc := ⟨.hbm, 817, rfl⟩
abbrev main_while0b_v78 : Ref sig .tc := ⟨.hbm, 818, rfl⟩
abbrev main_while0b_v79 : Ref sig .tc := ⟨.hbm, 819, rfl⟩
abbrev main_while0b_v80 : Ref sig .tc := ⟨.hbm, 820, rfl⟩
abbrev main_while0b_cst_33 : Ref sig .tc := ⟨.hbm, 821, rfl⟩
abbrev main_while0b_cst_34 : Ref sig .tc := ⟨.hbm, 822, rfl⟩
abbrev main_while0b_call8_v0 : Ref sig .tc := ⟨.hbm, 823, rfl⟩
abbrev main_while0b_call8_v1 : Ref sig .tc := ⟨.hbm, 824, rfl⟩
abbrev main_while0b_v81 : Ref sig .tc := ⟨.hbm, 825, rfl⟩
abbrev main_while0b_v82 : Ref sig .tc := ⟨.hbm, 826, rfl⟩
abbrev main_while0b_v83 : Ref sig .tc := ⟨.hbm, 827, rfl⟩
abbrev main_while0b_v84 : Ref sig .tc := ⟨.hbm, 828, rfl⟩
abbrev main_while0b_cst_35 : Ref sig .tc := ⟨.hbm, 829, rfl⟩
abbrev main_while0b_cst_36 : Ref sig .tc := ⟨.hbm, 830, rfl⟩
abbrev main_while0b_call9_v0 : Ref sig .tc := ⟨.hbm, 831, rfl⟩
abbrev main_while0b_call9_v1 : Ref sig .tc := ⟨.hbm, 832, rfl⟩
abbrev main_while0b_v85 : Ref sig .tc := ⟨.hbm, 833, rfl⟩
abbrev main_while0b_v86 : Ref sig .tc := ⟨.hbm, 834, rfl⟩
abbrev main_while0b_v87 : Ref sig .tc := ⟨.hbm, 835, rfl⟩
abbrev main_while0b_v88 : Ref sig .tc := ⟨.hbm, 836, rfl⟩
abbrev main_while0b_cst_37 : Ref sig .tc := ⟨.hbm, 837, rfl⟩
abbrev main_while0b_cst_38 : Ref sig .tc := ⟨.hbm, 838, rfl⟩
abbrev main_while0b_call10_v0 : Ref sig .tc := ⟨.hbm, 839, rfl⟩
abbrev main_while0b_call10_v1 : Ref sig .tc := ⟨.hbm, 840, rfl⟩
abbrev main_while0b_v89 : Ref sig .tc := ⟨.hbm, 841, rfl⟩
abbrev main_while0b_v90 : Ref sig .tc := ⟨.hbm, 842, rfl⟩
abbrev main_while0b_v91 : Ref sig .tc := ⟨.hbm, 843, rfl⟩
abbrev main_while0b_v92 : Ref sig .tc := ⟨.hbm, 844, rfl⟩
abbrev main_while0b_cst_39 : Ref sig .tc := ⟨.hbm, 845, rfl⟩
abbrev main_while0b_cst_40 : Ref sig .tc := ⟨.hbm, 846, rfl⟩
abbrev main_while0b_call11_v0 : Ref sig .tc := ⟨.hbm, 847, rfl⟩
abbrev main_while0b_call11_v1 : Ref sig .tc := ⟨.hbm, 848, rfl⟩
abbrev main_while0b_v93 : Ref sig .tc := ⟨.hbm, 849, rfl⟩
abbrev main_while0b_v94 : Ref sig .tc := ⟨.hbm, 850, rfl⟩
abbrev main_while0b_v95 : Ref sig .tc := ⟨.hbm, 851, rfl⟩
abbrev main_while0b_v96 : Ref sig .tc := ⟨.hbm, 852, rfl⟩
abbrev main_while0b_cst_41 : Ref sig .tc := ⟨.hbm, 853, rfl⟩
abbrev main_while0b_cst_42 : Ref sig .tc := ⟨.hbm, 854, rfl⟩
abbrev main_while0b_call12_v0 : Ref sig .tc := ⟨.hbm, 855, rfl⟩
abbrev main_while0b_call12_v1 : Ref sig .tc := ⟨.hbm, 856, rfl⟩
abbrev main_while0b_v97 : Ref sig .tc := ⟨.hbm, 857, rfl⟩
abbrev main_while0b_v98 : Ref sig .tc := ⟨.hbm, 858, rfl⟩
abbrev main_while0b_v99 : Ref sig .tc := ⟨.hbm, 859, rfl⟩
abbrev main_while0b_v100 : Ref sig .tc := ⟨.hbm, 860, rfl⟩
abbrev main_while0b_cst_43 : Ref sig .tc := ⟨.hbm, 861, rfl⟩
abbrev main_while0b_cst_44 : Ref sig .tc := ⟨.hbm, 862, rfl⟩
abbrev main_while0b_call13_v0 : Ref sig .tc := ⟨.hbm, 863, rfl⟩
abbrev main_while0b_call13_v1 : Ref sig .tc := ⟨.hbm, 864, rfl⟩
abbrev main_while0b_v101 : Ref sig .tc := ⟨.hbm, 865, rfl⟩
abbrev main_while0b_v102 : Ref sig .tc := ⟨.hbm, 866, rfl⟩
abbrev main_while0b_v103 : Ref sig .tc := ⟨.hbm, 867, rfl⟩
abbrev main_while0b_v104 : Ref sig .tc := ⟨.hbm, 868, rfl⟩
abbrev main_while0b_v105 : Ref sig .tc := ⟨.hbm, 869, rfl⟩
abbrev main_while0b_cst_45 : Ref sig .tc := ⟨.hbm, 870, rfl⟩
abbrev main_while0b_v106 : Ref sig .tc := ⟨.hbm, 871, rfl⟩
abbrev main_while0b_v107 : Ref sig .tc := ⟨.hbm, 872, rfl⟩
abbrev main_while0b_cst_46 : Ref sig .tc := ⟨.hbm, 873, rfl⟩
abbrev main_while0b_v108 : Ref sig .tc := ⟨.hbm, 874, rfl⟩
abbrev main_while0b_v109 : Ref sig .tc := ⟨.hbm, 875, rfl⟩
abbrev main_while0b_v110 : Ref sig .tc := ⟨.hbm, 876, rfl⟩
abbrev main_while0b_v111 : Ref sig .tc := ⟨.hbm, 877, rfl⟩
abbrev main_while0b_cst_47 : Ref sig .tc := ⟨.hbm, 878, rfl⟩
abbrev main_while0b_v112 : Ref sig .tc := ⟨.hbm, 879, rfl⟩
abbrev main_while0b_v113 : Ref sig .tc := ⟨.hbm, 880, rfl⟩
abbrev main_while0b_cst_48 : Ref sig .tc := ⟨.hbm, 881, rfl⟩
abbrev main_while0b_v114 : Ref sig .tc := ⟨.hbm, 882, rfl⟩
abbrev main_while0b_v115 : Ref sig .tc := ⟨.hbm, 883, rfl⟩
abbrev main_while0b_v116 : Ref sig .tc := ⟨.hbm, 884, rfl⟩
abbrev main_while0b_v117 : Ref sig .tc := ⟨.hbm, 885, rfl⟩
abbrev main_while0b_v118 : Ref sig .tc := ⟨.hbm, 886, rfl⟩
abbrev main_while0b_v119 : Ref sig .tc := ⟨.hbm, 887, rfl⟩
abbrev main_while0b_v120 : Ref sig .tc := ⟨.hbm, 888, rfl⟩
abbrev main_while0b_v121 : Ref sig .tc := ⟨.hbm, 889, rfl⟩
abbrev main_while0b_cst_49 : Ref sig .tc := ⟨.hbm, 890, rfl⟩
abbrev main_while0b_v122 : Ref sig .tc := ⟨.hbm, 891, rfl⟩
abbrev main_while0b_cst_50 : Ref sig .tc := ⟨.hbm, 892, rfl⟩
abbrev main_while0b_v123 : Ref sig .tc := ⟨.hbm, 893, rfl⟩
abbrev main_while0b_v124 : Ref sig .tc := ⟨.hbm, 894, rfl⟩
abbrev main_while0b_cst_51 : Ref sig .tc := ⟨.hbm, 895, rfl⟩
abbrev main_while0b_cst_52 : Ref sig .tc := ⟨.hbm, 896, rfl⟩
abbrev main_while0b_call15_v0 : Ref sig .tc := ⟨.hbm, 897, rfl⟩
abbrev main_while0b_call15_v1 : Ref sig .tc := ⟨.hbm, 898, rfl⟩
abbrev main_while0b_call15_v2 : Ref sig .tc := ⟨.hbm, 899, rfl⟩
abbrev main_while0b_call15_v3 : Ref sig .tc := ⟨.hbm, 900, rfl⟩
abbrev main_while0b_call15_v4 : Ref sig .tc := ⟨.hbm, 901, rfl⟩
abbrev main_while0b_call15_v5 : Ref sig .tc := ⟨.hbm, 902, rfl⟩
abbrev main_while0b_call15_v6 : Ref sig .tc := ⟨.hbm, 903, rfl⟩
abbrev main_while0b_call15_v7 : Ref sig .tc := ⟨.hbm, 904, rfl⟩
abbrev main_while0b_call15_v8 : Ref sig .tc := ⟨.hbm, 905, rfl⟩
abbrev main_while0b_call15_c : Ref sig .tc := ⟨.hbm, 906, rfl⟩
abbrev main_while0b_call15_v9 : Ref sig .tc := ⟨.hbm, 907, rfl⟩
abbrev main_while0b_call15_v10 : Ref sig .tc := ⟨.hbm, 908, rfl⟩
abbrev main_while0b_call15_c_0 : Ref sig .tc := ⟨.hbm, 909, rfl⟩
abbrev main_while0b_call15_v11 : Ref sig .tc := ⟨.hbm, 910, rfl⟩
abbrev main_while0b_call15_v12 : Ref sig .tc := ⟨.hbm, 911, rfl⟩
abbrev main_while0b_call15_v13 : Ref sig .tc := ⟨.hbm, 912, rfl⟩
abbrev main_while0b_call15_v14 : Ref sig .tc := ⟨.hbm, 913, rfl⟩
abbrev main_while0b_call15_call0_v0 : Ref sig .tc := ⟨.hbm, 914, rfl⟩
abbrev main_while0b_call15_call0_c : Ref sig .tc := ⟨.hbm, 915, rfl⟩
abbrev main_while0b_call15_call0_v1 : Ref sig .tc := ⟨.hbm, 916, rfl⟩
abbrev main_while0b_call15_call0_v2 : Ref sig .tc := ⟨.hbm, 917, rfl⟩
abbrev main_while0b_call15_call0_v3 : Ref sig .tc := ⟨.hbm, 918, rfl⟩
abbrev main_while0b_call15_call0_v4 : Ref sig .tc := ⟨.hbm, 919, rfl⟩
abbrev main_while0b_call15_call0_v5 : Ref sig .tc := ⟨.hbm, 920, rfl⟩
abbrev main_while0b_call15_call0_v6 : Ref sig .tc := ⟨.hbm, 921, rfl⟩
abbrev main_while0b_call15_call0_c_0 : Ref sig .tc := ⟨.hbm, 922, rfl⟩
abbrev main_while0b_call15_call0_v7 : Ref sig .tc := ⟨.hbm, 923, rfl⟩
abbrev main_while0b_call15_call0_v8 : Ref sig .tc := ⟨.hbm, 924, rfl⟩
abbrev main_while0b_call15_call0_c_1 : Ref sig .tc := ⟨.hbm, 925, rfl⟩
abbrev main_while0b_call15_call0_v9 : Ref sig .tc := ⟨.hbm, 926, rfl⟩
abbrev main_while0b_call15_call0_v10 : Ref sig .tc := ⟨.hbm, 927, rfl⟩
abbrev main_while0b_call15_call0_v11 : Ref sig .tc := ⟨.hbm, 928, rfl⟩
abbrev main_while0b_call15_call0_v12 : Ref sig .tc := ⟨.hbm, 929, rfl⟩
abbrev main_while0b_call15_call0_v13 : Ref sig .tc := ⟨.hbm, 930, rfl⟩
abbrev main_while0b_call15_call0_c_2 : Ref sig .tc := ⟨.hbm, 931, rfl⟩
abbrev main_while0b_call15_call0_v14 : Ref sig .tc := ⟨.hbm, 932, rfl⟩
abbrev main_while0b_call15_call0_v15 : Ref sig .tc := ⟨.hbm, 933, rfl⟩
abbrev main_while0b_call15_call0_c_3 : Ref sig .tc := ⟨.hbm, 934, rfl⟩
abbrev main_while0b_call15_call0_v16 : Ref sig .tc := ⟨.hbm, 935, rfl⟩
abbrev main_while0b_call15_call0_v17 : Ref sig .tc := ⟨.hbm, 936, rfl⟩
abbrev main_while0b_call15_call0_v18 : Ref sig .tc := ⟨.hbm, 937, rfl⟩
abbrev main_while0b_call15_call0_v19 : Ref sig .tc := ⟨.hbm, 938, rfl⟩
abbrev main_while0b_call15_call0_v20 : Ref sig .tc := ⟨.hbm, 939, rfl⟩
abbrev main_while0b_call15_call0_c_4 : Ref sig .tc := ⟨.hbm, 940, rfl⟩
abbrev main_while0b_call15_call0_v21 : Ref sig .tc := ⟨.hbm, 941, rfl⟩
abbrev main_while0b_call15_call0_v22 : Ref sig .tc := ⟨.hbm, 942, rfl⟩
abbrev main_while0b_call15_call0_c_5 : Ref sig .tc := ⟨.hbm, 943, rfl⟩
abbrev main_while0b_call15_call0_v23 : Ref sig .tc := ⟨.hbm, 944, rfl⟩
abbrev main_while0b_call15_call0_v24 : Ref sig .tc := ⟨.hbm, 945, rfl⟩
abbrev main_while0b_call15_call0_v25 : Ref sig .tc := ⟨.hbm, 946, rfl⟩
abbrev main_while0b_call15_call0_v26 : Ref sig .tc := ⟨.hbm, 947, rfl⟩
abbrev main_while0b_call15_call0_v27 : Ref sig .tc := ⟨.hbm, 948, rfl⟩
abbrev main_while0b_call15_call0_c_6 : Ref sig .tc := ⟨.hbm, 949, rfl⟩
abbrev main_while0b_call15_call0_v28 : Ref sig .tc := ⟨.hbm, 950, rfl⟩
abbrev main_while0b_call15_call0_v29 : Ref sig .tc := ⟨.hbm, 951, rfl⟩
abbrev main_while0b_call15_call0_c_7 : Ref sig .tc := ⟨.hbm, 952, rfl⟩
abbrev main_while0b_call15_call0_v30 : Ref sig .tc := ⟨.hbm, 953, rfl⟩
abbrev main_while0b_call15_call0_v31 : Ref sig .tc := ⟨.hbm, 954, rfl⟩
abbrev main_while0b_call15_call0_v32 : Ref sig .tc := ⟨.hbm, 955, rfl⟩
abbrev main_while0b_call15_call0_v33 : Ref sig .tc := ⟨.hbm, 956, rfl⟩
abbrev main_while0b_call15_call0_v34 : Ref sig .tc := ⟨.hbm, 957, rfl⟩
abbrev main_while0b_call15_call0_v35 : Ref sig .tc := ⟨.hbm, 958, rfl⟩
abbrev main_while0b_call15_call0_v36 : Ref sig .tc := ⟨.hbm, 959, rfl⟩
abbrev main_while0b_call15_call0_v37 : Ref sig .tc := ⟨.hbm, 960, rfl⟩
abbrev main_while0b_call15_call0_c_8 : Ref sig .tc := ⟨.hbm, 961, rfl⟩
abbrev main_while0b_call15_call0_v38 : Ref sig .tc := ⟨.hbm, 962, rfl⟩
abbrev main_while0b_call15_call0_v39 : Ref sig .tc := ⟨.hbm, 963, rfl⟩
abbrev main_while0b_call15_call0_v40 : Ref sig .tc := ⟨.hbm, 964, rfl⟩
abbrev main_while0b_call15_call0_c_9 : Ref sig .tc := ⟨.hbm, 965, rfl⟩
abbrev main_while0b_call15_call0_v41 : Ref sig .tc := ⟨.hbm, 966, rfl⟩
abbrev main_while0b_call15_call0_v42 : Ref sig .tc := ⟨.hbm, 967, rfl⟩
abbrev main_while0b_call15_call0_c_10 : Ref sig .tc := ⟨.hbm, 968, rfl⟩
abbrev main_while0b_call15_call0_v43 : Ref sig .tc := ⟨.hbm, 969, rfl⟩
abbrev main_while0b_call15_call0_v44 : Ref sig .tc := ⟨.hbm, 970, rfl⟩
abbrev main_while0b_call15_call0_v45 : Ref sig .tc := ⟨.hbm, 971, rfl⟩
abbrev main_while0b_call15_call0_v46 : Ref sig .tc := ⟨.hbm, 972, rfl⟩
abbrev main_while0b_call15_call0_v47 : Ref sig .tc := ⟨.hbm, 973, rfl⟩
abbrev main_while0b_call15_call0_c_11 : Ref sig .tc := ⟨.hbm, 974, rfl⟩
abbrev main_while0b_call15_call0_v48 : Ref sig .tc := ⟨.hbm, 975, rfl⟩
abbrev main_while0b_call15_call0_v49 : Ref sig .tc := ⟨.hbm, 976, rfl⟩
abbrev main_while0b_call15_call0_c_12 : Ref sig .tc := ⟨.hbm, 977, rfl⟩
abbrev main_while0b_call15_call0_v50 : Ref sig .tc := ⟨.hbm, 978, rfl⟩
abbrev main_while0b_call15_call0_v51 : Ref sig .tc := ⟨.hbm, 979, rfl⟩
abbrev main_while0b_call15_call0_v52 : Ref sig .tc := ⟨.hbm, 980, rfl⟩
abbrev main_while0b_call15_call0_v53 : Ref sig .tc := ⟨.hbm, 981, rfl⟩
abbrev main_while0b_call15_call0_v54 : Ref sig .tc := ⟨.hbm, 982, rfl⟩
abbrev main_while0b_call15_call0_c_13 : Ref sig .tc := ⟨.hbm, 983, rfl⟩
abbrev main_while0b_call15_call0_v55 : Ref sig .tc := ⟨.hbm, 984, rfl⟩
abbrev main_while0b_call15_call0_v56 : Ref sig .tc := ⟨.hbm, 985, rfl⟩
abbrev main_while0b_call15_call0_c_14 : Ref sig .tc := ⟨.hbm, 986, rfl⟩
abbrev main_while0b_call15_call0_v57 : Ref sig .tc := ⟨.hbm, 987, rfl⟩
abbrev main_while0b_call15_call0_v58 : Ref sig .tc := ⟨.hbm, 988, rfl⟩
abbrev main_while0b_call15_call0_v59 : Ref sig .tc := ⟨.hbm, 989, rfl⟩
abbrev main_while0b_call15_call0_v60 : Ref sig .tc := ⟨.hbm, 990, rfl⟩
abbrev main_while0b_call15_call0_v61 : Ref sig .tc := ⟨.hbm, 991, rfl⟩
abbrev main_while0b_call15_call0_c_15 : Ref sig .tc := ⟨.hbm, 992, rfl⟩
abbrev main_while0b_call15_call0_v62 : Ref sig .tc := ⟨.hbm, 993, rfl⟩
abbrev main_while0b_call15_call0_v63 : Ref sig .tc := ⟨.hbm, 994, rfl⟩
abbrev main_while0b_call15_call0_c_16 : Ref sig .tc := ⟨.hbm, 995, rfl⟩
abbrev main_while0b_call15_call0_v64 : Ref sig .tc := ⟨.hbm, 996, rfl⟩
abbrev main_while0b_call15_call0_v65 : Ref sig .tc := ⟨.hbm, 997, rfl⟩
abbrev main_while0b_call15_call0_v66 : Ref sig .tc := ⟨.hbm, 998, rfl⟩
abbrev main_while0b_call15_call0_v67 : Ref sig .tc := ⟨.hbm, 999, rfl⟩
abbrev main_while0b_call15_call0_v68 : Ref sig .tc := ⟨.hbm, 1000, rfl⟩
abbrev main_while0b_call15_call0_v69 : Ref sig .tc := ⟨.hbm, 1001, rfl⟩
abbrev main_while0b_call15_call0_v70 : Ref sig .tc := ⟨.hbm, 1002, rfl⟩
abbrev main_while0b_call15_call0_v71 : Ref sig .tc := ⟨.hbm, 1003, rfl⟩
abbrev main_while0b_call15_call0_c_17 : Ref sig .tc := ⟨.hbm, 1004, rfl⟩
abbrev main_while0b_call15_call0_v72 : Ref sig .tc := ⟨.hbm, 1005, rfl⟩
abbrev main_while0b_call15_call0_v73 : Ref sig .tc := ⟨.hbm, 1006, rfl⟩
abbrev main_while0b_call15_call0_v74 : Ref sig .tc := ⟨.hbm, 1007, rfl⟩
abbrev main_while0b_call15_call0_c_18 : Ref sig .tc := ⟨.hbm, 1008, rfl⟩
abbrev main_while0b_call15_call0_v75 : Ref sig .tc := ⟨.hbm, 1009, rfl⟩
abbrev main_while0b_call15_call0_v76 : Ref sig .tc := ⟨.hbm, 1010, rfl⟩
abbrev main_while0b_call15_call0_c_19 : Ref sig .tc := ⟨.hbm, 1011, rfl⟩
abbrev main_while0b_call15_call0_v77 : Ref sig .tc := ⟨.hbm, 1012, rfl⟩
abbrev main_while0b_call15_call0_v78 : Ref sig .tc := ⟨.hbm, 1013, rfl⟩
abbrev main_while0b_call15_call0_v79 : Ref sig .tc := ⟨.hbm, 1014, rfl⟩
abbrev main_while0b_call15_call0_v80 : Ref sig .tc := ⟨.hbm, 1015, rfl⟩
abbrev main_while0b_call15_call0_v81 : Ref sig .tc := ⟨.hbm, 1016, rfl⟩
abbrev main_while0b_call15_call0_c_20 : Ref sig .tc := ⟨.hbm, 1017, rfl⟩
abbrev main_while0b_call15_call0_v82 : Ref sig .tc := ⟨.hbm, 1018, rfl⟩
abbrev main_while0b_call15_call0_v83 : Ref sig .tc := ⟨.hbm, 1019, rfl⟩
abbrev main_while0b_call15_call0_c_21 : Ref sig .tc := ⟨.hbm, 1020, rfl⟩
abbrev main_while0b_call15_call0_v84 : Ref sig .tc := ⟨.hbm, 1021, rfl⟩
abbrev main_while0b_call15_call0_v85 : Ref sig .tc := ⟨.hbm, 1022, rfl⟩
abbrev main_while0b_call15_call0_v86 : Ref sig .tc := ⟨.hbm, 1023, rfl⟩
abbrev main_while0b_call15_call0_v87 : Ref sig .tc := ⟨.hbm, 1024, rfl⟩
abbrev main_while0b_call15_call0_v88 : Ref sig .tc := ⟨.hbm, 1025, rfl⟩
abbrev main_while0b_call15_call0_c_22 : Ref sig .tc := ⟨.hbm, 1026, rfl⟩
abbrev main_while0b_call15_call0_v89 : Ref sig .tc := ⟨.hbm, 1027, rfl⟩
abbrev main_while0b_call15_call0_v90 : Ref sig .tc := ⟨.hbm, 1028, rfl⟩
abbrev main_while0b_call15_call0_c_23 : Ref sig .tc := ⟨.hbm, 1029, rfl⟩
abbrev main_while0b_call15_call0_v91 : Ref sig .tc := ⟨.hbm, 1030, rfl⟩
abbrev main_while0b_call15_call0_v92 : Ref sig .tc := ⟨.hbm, 1031, rfl⟩
abbrev main_while0b_call15_call0_v93 : Ref sig .tc := ⟨.hbm, 1032, rfl⟩
abbrev main_while0b_call15_call0_v94 : Ref sig .tc := ⟨.hbm, 1033, rfl⟩
abbrev main_while0b_call15_call0_v95 : Ref sig .tc := ⟨.hbm, 1034, rfl⟩
abbrev main_while0b_call15_call0_c_24 : Ref sig .tc := ⟨.hbm, 1035, rfl⟩
abbrev main_while0b_call15_call0_v96 : Ref sig .tc := ⟨.hbm, 1036, rfl⟩
abbrev main_while0b_call15_call0_v97 : Ref sig .tc := ⟨.hbm, 1037, rfl⟩
abbrev main_while0b_call15_call0_c_25 : Ref sig .tc := ⟨.hbm, 1038, rfl⟩
abbrev main_while0b_call15_call0_v98 : Ref sig .tc := ⟨.hbm, 1039, rfl⟩
abbrev main_while0b_call15_call0_v99 : Ref sig .tc := ⟨.hbm, 1040, rfl⟩
abbrev main_while0b_call15_call0_v100 : Ref sig .tc := ⟨.hbm, 1041, rfl⟩
abbrev main_while0b_call15_call0_v101 : Ref sig .tc := ⟨.hbm, 1042, rfl⟩
abbrev main_while0b_call15_call0_v102 : Ref sig .tc := ⟨.hbm, 1043, rfl⟩
abbrev main_while0b_call15_call0_v103 : Ref sig .tc := ⟨.hbm, 1044, rfl⟩
abbrev main_while0b_call15_call0_v104 : Ref sig .tc := ⟨.hbm, 1045, rfl⟩
abbrev main_while0b_call15_call0_v105 : Ref sig .tc := ⟨.hbm, 1046, rfl⟩
abbrev main_while0b_call15_call0_c_26 : Ref sig .tc := ⟨.hbm, 1047, rfl⟩
abbrev main_while0b_call15_call0_v106 : Ref sig .tc := ⟨.hbm, 1048, rfl⟩
abbrev main_while0b_call15_call0_v107 : Ref sig .tc := ⟨.hbm, 1049, rfl⟩
abbrev main_while0b_call15_call0_v108 : Ref sig .tc := ⟨.hbm, 1050, rfl⟩
abbrev main_while0b_call15_call0_c_27 : Ref sig .tc := ⟨.hbm, 1051, rfl⟩
abbrev main_while0b_call15_call0_v109 : Ref sig .tc := ⟨.hbm, 1052, rfl⟩
abbrev main_while0b_call15_call0_v110 : Ref sig .tc := ⟨.hbm, 1053, rfl⟩
abbrev main_while0b_call15_call0_c_28 : Ref sig .tc := ⟨.hbm, 1054, rfl⟩
abbrev main_while0b_call15_call0_v111 : Ref sig .tc := ⟨.hbm, 1055, rfl⟩
abbrev main_while0b_call15_call0_v112 : Ref sig .tc := ⟨.hbm, 1056, rfl⟩
abbrev main_while0b_call15_call0_v113 : Ref sig .tc := ⟨.hbm, 1057, rfl⟩
abbrev main_while0b_call15_call0_v114 : Ref sig .tc := ⟨.hbm, 1058, rfl⟩
abbrev main_while0b_call15_call0_v115 : Ref sig .tc := ⟨.hbm, 1059, rfl⟩
abbrev main_while0b_call15_call0_c_29 : Ref sig .tc := ⟨.hbm, 1060, rfl⟩
abbrev main_while0b_call15_call0_v116 : Ref sig .tc := ⟨.hbm, 1061, rfl⟩
abbrev main_while0b_call15_call0_v117 : Ref sig .tc := ⟨.hbm, 1062, rfl⟩
abbrev main_while0b_call15_call0_c_30 : Ref sig .tc := ⟨.hbm, 1063, rfl⟩
abbrev main_while0b_call15_call0_v118 : Ref sig .tc := ⟨.hbm, 1064, rfl⟩
abbrev main_while0b_call15_call0_v119 : Ref sig .tc := ⟨.hbm, 1065, rfl⟩
abbrev main_while0b_call15_call0_v120 : Ref sig .tc := ⟨.hbm, 1066, rfl⟩
abbrev main_while0b_call15_call0_v121 : Ref sig .tc := ⟨.hbm, 1067, rfl⟩
abbrev main_while0b_call15_call0_v122 : Ref sig .tc := ⟨.hbm, 1068, rfl⟩
abbrev main_while0b_call15_call0_c_31 : Ref sig .tc := ⟨.hbm, 1069, rfl⟩
abbrev main_while0b_call15_call0_v123 : Ref sig .tc := ⟨.hbm, 1070, rfl⟩
abbrev main_while0b_call15_call0_v124 : Ref sig .tc := ⟨.hbm, 1071, rfl⟩
abbrev main_while0b_call15_call0_c_32 : Ref sig .tc := ⟨.hbm, 1072, rfl⟩
abbrev main_while0b_call15_call0_v125 : Ref sig .tc := ⟨.hbm, 1073, rfl⟩
abbrev main_while0b_call15_call0_v126 : Ref sig .tc := ⟨.hbm, 1074, rfl⟩
abbrev main_while0b_call15_call0_v127 : Ref sig .tc := ⟨.hbm, 1075, rfl⟩
abbrev main_while0b_call15_call0_v128 : Ref sig .tc := ⟨.hbm, 1076, rfl⟩
abbrev main_while0b_call15_call0_v129 : Ref sig .tc := ⟨.hbm, 1077, rfl⟩
abbrev main_while0b_call15_call0_c_33 : Ref sig .tc := ⟨.hbm, 1078, rfl⟩
abbrev main_while0b_call15_call0_v130 : Ref sig .tc := ⟨.hbm, 1079, rfl⟩
abbrev main_while0b_call15_call0_v131 : Ref sig .tc := ⟨.hbm, 1080, rfl⟩
abbrev main_while0b_call15_call0_c_34 : Ref sig .tc := ⟨.hbm, 1081, rfl⟩
abbrev main_while0b_call15_call0_v132 : Ref sig .tc := ⟨.hbm, 1082, rfl⟩
abbrev main_while0b_call15_call0_v133 : Ref sig .tc := ⟨.hbm, 1083, rfl⟩
abbrev main_while0b_call15_call0_v134 : Ref sig .tc := ⟨.hbm, 1084, rfl⟩
abbrev main_while0b_call15_call0_v135 : Ref sig .tc := ⟨.hbm, 1085, rfl⟩
abbrev main_while0b_call15_call0_v136 : Ref sig .tc := ⟨.hbm, 1086, rfl⟩
abbrev main_while0b_call15_call0_v137 : Ref sig .tc := ⟨.hbm, 1087, rfl⟩
abbrev main_while0b_call15_call0_v138 : Ref sig .tc := ⟨.hbm, 1088, rfl⟩
abbrev main_while0b_call15_call0_v139 : Ref sig .tc := ⟨.hbm, 1089, rfl⟩
abbrev main_while0b_call15_call0_c_35 : Ref sig .tc := ⟨.hbm, 1090, rfl⟩
abbrev main_while0b_call15_call0_v140 : Ref sig .tc := ⟨.hbm, 1091, rfl⟩
abbrev main_while0b_call15_call0_v141 : Ref sig .tc := ⟨.hbm, 1092, rfl⟩
abbrev main_while0b_call15_call0_v142 : Ref sig .tc := ⟨.hbm, 1093, rfl⟩
abbrev main_while0b_call15_call0_c_36 : Ref sig .tc := ⟨.hbm, 1094, rfl⟩
abbrev main_while0b_call15_call0_v143 : Ref sig .tc := ⟨.hbm, 1095, rfl⟩
abbrev main_while0b_call15_call0_v144 : Ref sig .tc := ⟨.hbm, 1096, rfl⟩
abbrev main_while0b_call15_call0_c_37 : Ref sig .tc := ⟨.hbm, 1097, rfl⟩
abbrev main_while0b_call15_call0_v145 : Ref sig .tc := ⟨.hbm, 1098, rfl⟩
abbrev main_while0b_call15_call0_v146 : Ref sig .tc := ⟨.hbm, 1099, rfl⟩
abbrev main_while0b_call15_call0_v147 : Ref sig .tc := ⟨.hbm, 1100, rfl⟩
abbrev main_while0b_call15_call0_v148 : Ref sig .tc := ⟨.hbm, 1101, rfl⟩
abbrev main_while0b_call15_call0_v149 : Ref sig .tc := ⟨.hbm, 1102, rfl⟩
abbrev main_while0b_call15_call0_c_38 : Ref sig .tc := ⟨.hbm, 1103, rfl⟩
abbrev main_while0b_call15_call0_v150 : Ref sig .tc := ⟨.hbm, 1104, rfl⟩
abbrev main_while0b_call15_call0_v151 : Ref sig .tc := ⟨.hbm, 1105, rfl⟩
abbrev main_while0b_call15_call0_c_39 : Ref sig .tc := ⟨.hbm, 1106, rfl⟩
abbrev main_while0b_call15_call0_v152 : Ref sig .tc := ⟨.hbm, 1107, rfl⟩
abbrev main_while0b_call15_call0_v153 : Ref sig .tc := ⟨.hbm, 1108, rfl⟩
abbrev main_while0b_call15_call0_v154 : Ref sig .tc := ⟨.hbm, 1109, rfl⟩
abbrev main_while0b_call15_call0_v155 : Ref sig .tc := ⟨.hbm, 1110, rfl⟩
abbrev main_while0b_call15_call0_v156 : Ref sig .tc := ⟨.hbm, 1111, rfl⟩
abbrev main_while0b_call15_call0_c_40 : Ref sig .tc := ⟨.hbm, 1112, rfl⟩
abbrev main_while0b_call15_call0_v157 : Ref sig .tc := ⟨.hbm, 1113, rfl⟩
abbrev main_while0b_call15_call0_v158 : Ref sig .tc := ⟨.hbm, 1114, rfl⟩
abbrev main_while0b_call15_call0_c_41 : Ref sig .tc := ⟨.hbm, 1115, rfl⟩
abbrev main_while0b_call15_call0_v159 : Ref sig .tc := ⟨.hbm, 1116, rfl⟩
abbrev main_while0b_call15_call0_v160 : Ref sig .tc := ⟨.hbm, 1117, rfl⟩
abbrev main_while0b_call15_call0_v161 : Ref sig .tc := ⟨.hbm, 1118, rfl⟩
abbrev main_while0b_call15_call0_v162 : Ref sig .tc := ⟨.hbm, 1119, rfl⟩
abbrev main_while0b_call15_call0_v163 : Ref sig .tc := ⟨.hbm, 1120, rfl⟩
abbrev main_while0b_call15_call0_c_42 : Ref sig .tc := ⟨.hbm, 1121, rfl⟩
abbrev main_while0b_call15_call0_v164 : Ref sig .tc := ⟨.hbm, 1122, rfl⟩
abbrev main_while0b_call15_call0_v165 : Ref sig .tc := ⟨.hbm, 1123, rfl⟩
abbrev main_while0b_call15_call0_c_43 : Ref sig .tc := ⟨.hbm, 1124, rfl⟩
abbrev main_while0b_call15_call0_v166 : Ref sig .tc := ⟨.hbm, 1125, rfl⟩
abbrev main_while0b_call15_call0_v167 : Ref sig .tc := ⟨.hbm, 1126, rfl⟩
abbrev main_while0b_call15_call0_v168 : Ref sig .tc := ⟨.hbm, 1127, rfl⟩
abbrev main_while0b_call15_call0_v169 : Ref sig .tc := ⟨.hbm, 1128, rfl⟩
abbrev main_while0b_call15_call0_v170 : Ref sig .tc := ⟨.hbm, 1129, rfl⟩
abbrev main_while0b_call15_v15_0 : Ref sig .tc := ⟨.hbm, 1130, rfl⟩
abbrev main_while0b_call15_call0_v172 : Ref sig .tc := ⟨.hbm, 1131, rfl⟩
abbrev main_while0b_call15_call0_v173 : Ref sig .tc := ⟨.hbm, 1132, rfl⟩
abbrev main_while0b_call15_call0_c_44 : Ref sig .tc := ⟨.hbm, 1133, rfl⟩
abbrev main_while0b_call15_call0_v174 : Ref sig .tc := ⟨.hbm, 1134, rfl⟩
abbrev main_while0b_call15_v15_1 : Ref sig .tc := ⟨.hbm, 1135, rfl⟩
abbrev main_while0b_call15_v16 : Ref sig .tc := ⟨.hbm, 1136, rfl⟩
abbrev main_while0b_call15_c_1 : Ref sig .tc := ⟨.hbm, 1137, rfl⟩
abbrev main_while0b_call15_v17 : Ref sig .tc := ⟨.hbm, 1138, rfl⟩
abbrev main_while0b_call15_v18 : Ref sig .tc := ⟨.hbm, 1139, rfl⟩
abbrev main_while0b_call15_c_2 : Ref sig .tc := ⟨.hbm, 1140, rfl⟩
abbrev main_while0b_call15_v19 : Ref sig .tc := ⟨.hbm, 1141, rfl⟩
abbrev main_while0b_call15_v20 : Ref sig .tc := ⟨.hbm, 1142, rfl⟩
abbrev main_while0b_call15_v21 : Ref sig .tc := ⟨.hbm, 1143, rfl⟩
abbrev main_while0b_call15_cst : Ref sig .tc := ⟨.hbm, 1144, rfl⟩
abbrev main_while0b_call15_v22 : Ref sig .tc := ⟨.hbm, 1145, rfl⟩
abbrev main_while0b_call15_v23 : Ref sig .tc := ⟨.hbm, 1146, rfl⟩
abbrev main_while0b_call15_v24 : Ref sig .tc := ⟨.hbm, 1147, rfl⟩
abbrev main_while0b_call15_v25 : Ref sig .tc := ⟨.hbm, 1148, rfl⟩
abbrev main_while0b_call15_v26 : Ref sig .tc := ⟨.hbm, 1149, rfl⟩
abbrev main_while0b_call15_v27 : Ref sig .tc := ⟨.hbm, 1150, rfl⟩
abbrev main_while0b_call15_v28 : Ref sig .tc := ⟨.hbm, 1151, rfl⟩
abbrev main_while0b_call15_v29 : Ref sig .tc := ⟨.hbm, 1152, rfl⟩
abbrev main_while0b_v125 : Ref sig .tc := ⟨.hbm, 1153, rfl⟩
abbrev main_while0b_v126 : Ref sig .tc := ⟨.hbm, 1154, rfl⟩
abbrev main_while0b_v127 : Ref sig .tc := ⟨.hbm, 1155, rfl⟩
abbrev main_while0b_v128 : Ref sig .tc := ⟨.hbm, 1156, rfl⟩
abbrev main_while0b_v129 : Ref sig .tc := ⟨.hbm, 1157, rfl⟩
abbrev main_while0b_v130 : Ref sig .tc := ⟨.hbm, 1158, rfl⟩
abbrev main_while0b_call16_v0 : Ref sig .tc := ⟨.hbm, 1159, rfl⟩
abbrev main_while0b_v131 : Ref sig .tc := ⟨.hbm, 1160, rfl⟩
abbrev main_while0b_v132 : Ref sig .tc := ⟨.hbm, 1161, rfl⟩
abbrev main_while0b_c_53 : Ref sig .tc := ⟨.hbm, 1162, rfl⟩
abbrev main_while0b_call18_v0 : Ref sig .tc := ⟨.hbm, 1163, rfl⟩
abbrev main_while0b_call18_c : Ref sig .tc := ⟨.hbm, 1164, rfl⟩
abbrev main_while0b_call18_v1 : Ref sig .tc := ⟨.hbm, 1165, rfl⟩
abbrev main_while0b_call18_c_0 : Ref sig .tc := ⟨.hbm, 1166, rfl⟩
abbrev main_while0b_call18_v2 : Ref sig .tc := ⟨.hbm, 1167, rfl⟩
abbrev main_while0b_call18_v3 : Ref sig .tc := ⟨.hbm, 1168, rfl⟩
abbrev main_while0b_call18_c_1 : Ref sig .tc := ⟨.hbm, 1169, rfl⟩
abbrev main_while0b_call18_v4 : Ref sig .tc := ⟨.hbm, 1170, rfl⟩
abbrev main_while0b_call18_c_2 : Ref sig .tc := ⟨.hbm, 1171, rfl⟩
abbrev main_while0b_call18_v5 : Ref sig .tc := ⟨.hbm, 1172, rfl⟩
abbrev main_while0b_call18_c_3 : Ref sig .tc := ⟨.hbm, 1173, rfl⟩
abbrev main_while0b_call18_v6 : Ref sig .tc := ⟨.hbm, 1174, rfl⟩
abbrev main_while0b_call18_v7 : Ref sig .tc := ⟨.hbm, 1175, rfl⟩
abbrev main_while0b_call18_v8 : Ref sig .tc := ⟨.hbm, 1176, rfl⟩
abbrev main_while0b_call18_v9 : Ref sig .tc := ⟨.hbm, 1177, rfl⟩
abbrev main_while0b_v133 : Ref sig .tc := ⟨.hbm, 1178, rfl⟩
abbrev main_while0b_c_54 : Ref sig .tc := ⟨.hbm, 1179, rfl⟩
abbrev main_while0b_call19_v0 : Ref sig .tc := ⟨.hbm, 1180, rfl⟩
abbrev main_while0b_call19_c : Ref sig .tc := ⟨.hbm, 1181, rfl⟩
abbrev main_while0b_call19_v1 : Ref sig .tc := ⟨.hbm, 1182, rfl⟩
abbrev main_while0b_call19_c_0 : Ref sig .tc := ⟨.hbm, 1183, rfl⟩
abbrev main_while0b_call19_v2 : Ref sig .tc := ⟨.hbm, 1184, rfl⟩
abbrev main_while0b_call19_v3 : Ref sig .tc := ⟨.hbm, 1185, rfl⟩
abbrev main_while0b_call19_v4 : Ref sig .tc := ⟨.hbm, 1186, rfl⟩
abbrev main_while0b_call19_c_1 : Ref sig .tc := ⟨.hbm, 1187, rfl⟩
abbrev main_while0b_call19_v5 : Ref sig .tc := ⟨.hbm, 1188, rfl⟩
abbrev main_while0b_call19_v6 : Ref sig .tc := ⟨.hbm, 1189, rfl⟩
abbrev main_while0b_call19_c_2 : Ref sig .tc := ⟨.hbm, 1190, rfl⟩
abbrev main_while0b_call19_v7 : Ref sig .tc := ⟨.hbm, 1191, rfl⟩
abbrev main_while0b_call19_v8 : Ref sig .tc := ⟨.hbm, 1192, rfl⟩
abbrev main_while0b_call19_c_3 : Ref sig .tc := ⟨.hbm, 1193, rfl⟩
abbrev main_while0b_call19_v9 : Ref sig .tc := ⟨.hbm, 1194, rfl⟩
abbrev main_while0b_call19_v10 : Ref sig .tc := ⟨.hbm, 1195, rfl⟩
abbrev main_while0b_call19_v11 : Ref sig .tc := ⟨.hbm, 1196, rfl⟩
abbrev main_while0b_call19_v12 : Ref sig .tc := ⟨.hbm, 1197, rfl⟩
abbrev main_while0b_call19_v13 : Ref sig .tc := ⟨.hbm, 1198, rfl⟩
abbrev main_while0b_call19_v14 : Ref sig .tc := ⟨.hbm, 1199, rfl⟩
abbrev main_while0b_v134 : Ref sig .tc := ⟨.hbm, 1200, rfl⟩
abbrev main_while0b_v135 : Ref sig .tc := ⟨.hbm, 1201, rfl⟩
abbrev main_while0b_v136 : Ref sig .tc := ⟨.hbm, 1202, rfl⟩
abbrev main_while0b_c_55 : Ref sig .tc := ⟨.hbm, 1203, rfl⟩
abbrev main_while0b_c_56 : Ref sig .tc := ⟨.hbm, 1204, rfl⟩
abbrev main_while0b_call20_v0 : Ref sig .tc := ⟨.hbm, 1205, rfl⟩
abbrev main_while0b_call20_v1 : Ref sig .tc := ⟨.hbm, 1206, rfl⟩
abbrev main_while0b_v137 : Ref sig .tc := ⟨.hbm, 1207, rfl⟩
abbrev main_while0b_v138 : Ref sig .tc := ⟨.hbm, 1208, rfl⟩
abbrev main_while0b_v139 : Ref sig .tc := ⟨.hbm, 1209, rfl⟩
abbrev main_while0b_c_57 : Ref sig .tc := ⟨.hbm, 1210, rfl⟩
abbrev main_while0b_c_58 : Ref sig .tc := ⟨.hbm, 1211, rfl⟩
abbrev main_while0b_call21_v0 : Ref sig .tc := ⟨.hbm, 1212, rfl⟩
abbrev main_while0b_call21_v1 : Ref sig .tc := ⟨.hbm, 1213, rfl⟩
abbrev main_while0b_call21_v2 : Ref sig .tc := ⟨.hbm, 1214, rfl⟩
abbrev main_while0b_call21_v3 : Ref sig .tc := ⟨.hbm, 1215, rfl⟩
abbrev main_while0b_call21_v4 : Ref sig .tc := ⟨.hbm, 1216, rfl⟩
abbrev main_while0b_v140 : Ref sig .tc := ⟨.hbm, 1217, rfl⟩
abbrev main_while0b_c_59 : Ref sig .tc := ⟨.hbm, 1218, rfl⟩
abbrev main_while0b_v141 : Ref sig .tc := ⟨.hbm, 1219, rfl⟩
abbrev main_while0b_v142 : Ref sig .tc := ⟨.hbm, 1220, rfl⟩
abbrev main_while0b_c_60 : Ref sig .tc := ⟨.hbm, 1221, rfl⟩
abbrev main_while0b_v143 : Ref sig .tc := ⟨.hbm, 1222, rfl⟩
abbrev main_while0b_v144 : Ref sig .tc := ⟨.hbm, 1223, rfl⟩
abbrev main_while0b_v145 : Ref sig .tc := ⟨.hbm, 1224, rfl⟩
abbrev main_while0b_v146 : Ref sig .tc := ⟨.hbm, 1225, rfl⟩
abbrev main_while0b_v147 : Ref sig .tc := ⟨.hbm, 1226, rfl⟩
abbrev main_while0b_v148 : Ref sig .tc := ⟨.hbm, 1227, rfl⟩
abbrev main_while0b_c_61 : Ref sig .tc := ⟨.hbm, 1228, rfl⟩
abbrev main_while0b_v149 : Ref sig .tc := ⟨.hbm, 1229, rfl⟩
abbrev main_while0b_v150 : Ref sig .tc := ⟨.hbm, 1230, rfl⟩
abbrev main_while0b_c_62 : Ref sig .tc := ⟨.hbm, 1231, rfl⟩
abbrev main_while0b_v151 : Ref sig .tc := ⟨.hbm, 1232, rfl⟩
abbrev main_while0b_v152 : Ref sig .tc := ⟨.hbm, 1233, rfl⟩
abbrev main_while0b_v153 : Ref sig .tc := ⟨.hbm, 1234, rfl⟩
abbrev main_while0b_v154 : Ref sig .tc := ⟨.hbm, 1235, rfl⟩
abbrev main_while0b_v155 : Ref sig .tc := ⟨.hbm, 1236, rfl⟩
abbrev main_while0b_v156 : Ref sig .tc := ⟨.hbm, 1237, rfl⟩
abbrev main_while0b_v157 : Ref sig .tc := ⟨.hbm, 1238, rfl⟩
abbrev main_while0b_cst_63 : Ref sig .tc := ⟨.hbm, 1239, rfl⟩
abbrev main_while0b_cst_64 : Ref sig .tc := ⟨.hbm, 1240, rfl⟩
abbrev main_while0b_call22_v0 : Ref sig .tc := ⟨.hbm, 1241, rfl⟩
abbrev main_while0b_call22_v1 : Ref sig .tc := ⟨.hbm, 1242, rfl⟩
abbrev main_while0b_call22_v2 : Ref sig .tc := ⟨.hbm, 1243, rfl⟩
abbrev main_while0b_call22_v3 : Ref sig .tc := ⟨.hbm, 1244, rfl⟩
abbrev main_while0b_call22_v4 : Ref sig .tc := ⟨.hbm, 1245, rfl⟩
abbrev main_while0b_call22_v5 : Ref sig .tc := ⟨.hbm, 1246, rfl⟩
abbrev main_while0b_call22_v6 : Ref sig .tc := ⟨.hbm, 1247, rfl⟩
abbrev main_while0b_call22_v7 : Ref sig .tc := ⟨.hbm, 1248, rfl⟩
abbrev main_while0b_call22_v8 : Ref sig .tc := ⟨.hbm, 1249, rfl⟩
abbrev main_while0b_call22_c : Ref sig .tc := ⟨.hbm, 1250, rfl⟩
abbrev main_while0b_call22_v9 : Ref sig .tc := ⟨.hbm, 1251, rfl⟩
abbrev main_while0b_call22_v10 : Ref sig .tc := ⟨.hbm, 1252, rfl⟩
abbrev main_while0b_call22_c_0 : Ref sig .tc := ⟨.hbm, 1253, rfl⟩
abbrev main_while0b_call22_v11 : Ref sig .tc := ⟨.hbm, 1254, rfl⟩
abbrev main_while0b_call22_v12 : Ref sig .tc := ⟨.hbm, 1255, rfl⟩
abbrev main_while0b_call22_v13 : Ref sig .tc := ⟨.hbm, 1256, rfl⟩
abbrev main_while0b_call22_v14 : Ref sig .tc := ⟨.hbm, 1257, rfl⟩
abbrev main_while0b_call22_call0_v0 : Ref sig .tc := ⟨.hbm, 1258, rfl⟩
abbrev main_while0b_call22_call0_c : Ref sig .tc := ⟨.hbm, 1259, rfl⟩
abbrev main_while0b_call22_call0_v1 : Ref sig .tc := ⟨.hbm, 1260, rfl⟩
abbrev main_while0b_call22_call0_v2 : Ref sig .tc := ⟨.hbm, 1261, rfl⟩
abbrev main_while0b_call22_call0_v3 : Ref sig .tc := ⟨.hbm, 1262, rfl⟩
abbrev main_while0b_call22_call0_v4 : Ref sig .tc := ⟨.hbm, 1263, rfl⟩
abbrev main_while0b_call22_call0_v5 : Ref sig .tc := ⟨.hbm, 1264, rfl⟩
abbrev main_while0b_call22_call0_v6 : Ref sig .tc := ⟨.hbm, 1265, rfl⟩
abbrev main_while0b_call22_call0_c_0 : Ref sig .tc := ⟨.hbm, 1266, rfl⟩
abbrev main_while0b_call22_call0_v7 : Ref sig .tc := ⟨.hbm, 1267, rfl⟩
abbrev main_while0b_call22_call0_v8 : Ref sig .tc := ⟨.hbm, 1268, rfl⟩
abbrev main_while0b_call22_call0_c_1 : Ref sig .tc := ⟨.hbm, 1269, rfl⟩
abbrev main_while0b_call22_call0_v9 : Ref sig .tc := ⟨.hbm, 1270, rfl⟩
abbrev main_while0b_call22_call0_v10 : Ref sig .tc := ⟨.hbm, 1271, rfl⟩
abbrev main_while0b_call22_call0_v11 : Ref sig .tc := ⟨.hbm, 1272, rfl⟩
abbrev main_while0b_call22_call0_v12 : Ref sig .tc := ⟨.hbm, 1273, rfl⟩
abbrev main_while0b_call22_call0_v13 : Ref sig .tc := ⟨.hbm, 1274, rfl⟩
abbrev main_while0b_call22_call0_c_2 : Ref sig .tc := ⟨.hbm, 1275, rfl⟩
abbrev main_while0b_call22_call0_v14 : Ref sig .tc := ⟨.hbm, 1276, rfl⟩
abbrev main_while0b_call22_call0_v15 : Ref sig .tc := ⟨.hbm, 1277, rfl⟩
abbrev main_while0b_call22_call0_c_3 : Ref sig .tc := ⟨.hbm, 1278, rfl⟩
abbrev main_while0b_call22_call0_v16 : Ref sig .tc := ⟨.hbm, 1279, rfl⟩
abbrev main_while0b_call22_call0_v17 : Ref sig .tc := ⟨.hbm, 1280, rfl⟩
abbrev main_while0b_call22_call0_v18 : Ref sig .tc := ⟨.hbm, 1281, rfl⟩
abbrev main_while0b_call22_call0_v19 : Ref sig .tc := ⟨.hbm, 1282, rfl⟩
abbrev main_while0b_call22_call0_v20 : Ref sig .tc := ⟨.hbm, 1283, rfl⟩
abbrev main_while0b_call22_call0_c_4 : Ref sig .tc := ⟨.hbm, 1284, rfl⟩
abbrev main_while0b_call22_call0_v21 : Ref sig .tc := ⟨.hbm, 1285, rfl⟩
abbrev main_while0b_call22_call0_v22 : Ref sig .tc := ⟨.hbm, 1286, rfl⟩
abbrev main_while0b_call22_call0_c_5 : Ref sig .tc := ⟨.hbm, 1287, rfl⟩
abbrev main_while0b_call22_call0_v23 : Ref sig .tc := ⟨.hbm, 1288, rfl⟩
abbrev main_while0b_call22_call0_v24 : Ref sig .tc := ⟨.hbm, 1289, rfl⟩
abbrev main_while0b_call22_call0_v25 : Ref sig .tc := ⟨.hbm, 1290, rfl⟩
abbrev main_while0b_call22_call0_v26 : Ref sig .tc := ⟨.hbm, 1291, rfl⟩
abbrev main_while0b_call22_call0_v27 : Ref sig .tc := ⟨.hbm, 1292, rfl⟩
abbrev main_while0b_call22_call0_c_6 : Ref sig .tc := ⟨.hbm, 1293, rfl⟩
abbrev main_while0b_call22_call0_v28 : Ref sig .tc := ⟨.hbm, 1294, rfl⟩
abbrev main_while0b_call22_call0_v29 : Ref sig .tc := ⟨.hbm, 1295, rfl⟩
abbrev main_while0b_call22_call0_c_7 : Ref sig .tc := ⟨.hbm, 1296, rfl⟩
abbrev main_while0b_call22_call0_v30 : Ref sig .tc := ⟨.hbm, 1297, rfl⟩
abbrev main_while0b_call22_call0_v31 : Ref sig .tc := ⟨.hbm, 1298, rfl⟩
abbrev main_while0b_call22_call0_v32 : Ref sig .tc := ⟨.hbm, 1299, rfl⟩
abbrev main_while0b_call22_call0_v33 : Ref sig .tc := ⟨.hbm, 1300, rfl⟩
abbrev main_while0b_call22_call0_v34 : Ref sig .tc := ⟨.hbm, 1301, rfl⟩
abbrev main_while0b_call22_call0_v35 : Ref sig .tc := ⟨.hbm, 1302, rfl⟩
abbrev main_while0b_call22_call0_v36 : Ref sig .tc := ⟨.hbm, 1303, rfl⟩
abbrev main_while0b_call22_call0_v37 : Ref sig .tc := ⟨.hbm, 1304, rfl⟩
abbrev main_while0b_call22_call0_c_8 : Ref sig .tc := ⟨.hbm, 1305, rfl⟩
abbrev main_while0b_call22_call0_v38 : Ref sig .tc := ⟨.hbm, 1306, rfl⟩
abbrev main_while0b_call22_call0_v39 : Ref sig .tc := ⟨.hbm, 1307, rfl⟩
abbrev main_while0b_call22_call0_v40 : Ref sig .tc := ⟨.hbm, 1308, rfl⟩
abbrev main_while0b_call22_call0_c_9 : Ref sig .tc := ⟨.hbm, 1309, rfl⟩
abbrev main_while0b_call22_call0_v41 : Ref sig .tc := ⟨.hbm, 1310, rfl⟩
abbrev main_while0b_call22_call0_v42 : Ref sig .tc := ⟨.hbm, 1311, rfl⟩
abbrev main_while0b_call22_call0_c_10 : Ref sig .tc := ⟨.hbm, 1312, rfl⟩
abbrev main_while0b_call22_call0_v43 : Ref sig .tc := ⟨.hbm, 1313, rfl⟩
abbrev main_while0b_call22_call0_v44 : Ref sig .tc := ⟨.hbm, 1314, rfl⟩
abbrev main_while0b_call22_call0_v45 : Ref sig .tc := ⟨.hbm, 1315, rfl⟩
abbrev main_while0b_call22_call0_v46 : Ref sig .tc := ⟨.hbm, 1316, rfl⟩
abbrev main_while0b_call22_call0_v47 : Ref sig .tc := ⟨.hbm, 1317, rfl⟩
abbrev main_while0b_call22_call0_c_11 : Ref sig .tc := ⟨.hbm, 1318, rfl⟩
abbrev main_while0b_call22_call0_v48 : Ref sig .tc := ⟨.hbm, 1319, rfl⟩
abbrev main_while0b_call22_call0_v49 : Ref sig .tc := ⟨.hbm, 1320, rfl⟩
abbrev main_while0b_call22_call0_c_12 : Ref sig .tc := ⟨.hbm, 1321, rfl⟩
abbrev main_while0b_call22_call0_v50 : Ref sig .tc := ⟨.hbm, 1322, rfl⟩
abbrev main_while0b_call22_call0_v51 : Ref sig .tc := ⟨.hbm, 1323, rfl⟩
abbrev main_while0b_call22_call0_v52 : Ref sig .tc := ⟨.hbm, 1324, rfl⟩
abbrev main_while0b_call22_call0_v53 : Ref sig .tc := ⟨.hbm, 1325, rfl⟩
abbrev main_while0b_call22_call0_v54 : Ref sig .tc := ⟨.hbm, 1326, rfl⟩
abbrev main_while0b_call22_call0_c_13 : Ref sig .tc := ⟨.hbm, 1327, rfl⟩
abbrev main_while0b_call22_call0_v55 : Ref sig .tc := ⟨.hbm, 1328, rfl⟩
abbrev main_while0b_call22_call0_v56 : Ref sig .tc := ⟨.hbm, 1329, rfl⟩
abbrev main_while0b_call22_call0_c_14 : Ref sig .tc := ⟨.hbm, 1330, rfl⟩
abbrev main_while0b_call22_call0_v57 : Ref sig .tc := ⟨.hbm, 1331, rfl⟩
abbrev main_while0b_call22_call0_v58 : Ref sig .tc := ⟨.hbm, 1332, rfl⟩
abbrev main_while0b_call22_call0_v59 : Ref sig .tc := ⟨.hbm, 1333, rfl⟩
abbrev main_while0b_call22_call0_v60 : Ref sig .tc := ⟨.hbm, 1334, rfl⟩
abbrev main_while0b_call22_call0_v61 : Ref sig .tc := ⟨.hbm, 1335, rfl⟩
abbrev main_while0b_call22_call0_c_15 : Ref sig .tc := ⟨.hbm, 1336, rfl⟩
abbrev main_while0b_call22_call0_v62 : Ref sig .tc := ⟨.hbm, 1337, rfl⟩
abbrev main_while0b_call22_call0_v63 : Ref sig .tc := ⟨.hbm, 1338, rfl⟩
abbrev main_while0b_call22_call0_c_16 : Ref sig .tc := ⟨.hbm, 1339, rfl⟩
abbrev main_while0b_call22_call0_v64 : Ref sig .tc := ⟨.hbm, 1340, rfl⟩
abbrev main_while0b_call22_call0_v65 : Ref sig .tc := ⟨.hbm, 1341, rfl⟩
abbrev main_while0b_call22_call0_v66 : Ref sig .tc := ⟨.hbm, 1342, rfl⟩
abbrev main_while0b_call22_call0_v67 : Ref sig .tc := ⟨.hbm, 1343, rfl⟩
abbrev main_while0b_call22_call0_v68 : Ref sig .tc := ⟨.hbm, 1344, rfl⟩
abbrev main_while0b_call22_call0_v69 : Ref sig .tc := ⟨.hbm, 1345, rfl⟩
abbrev main_while0b_call22_call0_v70 : Ref sig .tc := ⟨.hbm, 1346, rfl⟩
abbrev main_while0b_call22_call0_v71 : Ref sig .tc := ⟨.hbm, 1347, rfl⟩
abbrev main_while0b_call22_call0_c_17 : Ref sig .tc := ⟨.hbm, 1348, rfl⟩
abbrev main_while0b_call22_call0_v72 : Ref sig .tc := ⟨.hbm, 1349, rfl⟩
abbrev main_while0b_call22_call0_v73 : Ref sig .tc := ⟨.hbm, 1350, rfl⟩
abbrev main_while0b_call22_call0_v74 : Ref sig .tc := ⟨.hbm, 1351, rfl⟩
abbrev main_while0b_call22_call0_c_18 : Ref sig .tc := ⟨.hbm, 1352, rfl⟩
abbrev main_while0b_call22_call0_v75 : Ref sig .tc := ⟨.hbm, 1353, rfl⟩
abbrev main_while0b_call22_call0_v76 : Ref sig .tc := ⟨.hbm, 1354, rfl⟩
abbrev main_while0b_call22_call0_c_19 : Ref sig .tc := ⟨.hbm, 1355, rfl⟩
abbrev main_while0b_call22_call0_v77 : Ref sig .tc := ⟨.hbm, 1356, rfl⟩
abbrev main_while0b_call22_call0_v78 : Ref sig .tc := ⟨.hbm, 1357, rfl⟩
abbrev main_while0b_call22_call0_v79 : Ref sig .tc := ⟨.hbm, 1358, rfl⟩
abbrev main_while0b_call22_call0_v80 : Ref sig .tc := ⟨.hbm, 1359, rfl⟩
abbrev main_while0b_call22_call0_v81 : Ref sig .tc := ⟨.hbm, 1360, rfl⟩
abbrev main_while0b_call22_call0_c_20 : Ref sig .tc := ⟨.hbm, 1361, rfl⟩
abbrev main_while0b_call22_call0_v82 : Ref sig .tc := ⟨.hbm, 1362, rfl⟩
abbrev main_while0b_call22_call0_v83 : Ref sig .tc := ⟨.hbm, 1363, rfl⟩
abbrev main_while0b_call22_call0_c_21 : Ref sig .tc := ⟨.hbm, 1364, rfl⟩
abbrev main_while0b_call22_call0_v84 : Ref sig .tc := ⟨.hbm, 1365, rfl⟩
abbrev main_while0b_call22_call0_v85 : Ref sig .tc := ⟨.hbm, 1366, rfl⟩
abbrev main_while0b_call22_call0_v86 : Ref sig .tc := ⟨.hbm, 1367, rfl⟩
abbrev main_while0b_call22_call0_v87 : Ref sig .tc := ⟨.hbm, 1368, rfl⟩
abbrev main_while0b_call22_call0_v88 : Ref sig .tc := ⟨.hbm, 1369, rfl⟩
abbrev main_while0b_call22_call0_c_22 : Ref sig .tc := ⟨.hbm, 1370, rfl⟩
abbrev main_while0b_call22_call0_v89 : Ref sig .tc := ⟨.hbm, 1371, rfl⟩
abbrev main_while0b_call22_call0_v90 : Ref sig .tc := ⟨.hbm, 1372, rfl⟩
abbrev main_while0b_call22_call0_c_23 : Ref sig .tc := ⟨.hbm, 1373, rfl⟩
abbrev main_while0b_call22_call0_v91 : Ref sig .tc := ⟨.hbm, 1374, rfl⟩
abbrev main_while0b_call22_call0_v92 : Ref sig .tc := ⟨.hbm, 1375, rfl⟩
abbrev main_while0b_call22_call0_v93 : Ref sig .tc := ⟨.hbm, 1376, rfl⟩
abbrev main_while0b_call22_call0_v94 : Ref sig .tc := ⟨.hbm, 1377, rfl⟩
abbrev main_while0b_call22_call0_v95 : Ref sig .tc := ⟨.hbm, 1378, rfl⟩
abbrev main_while0b_call22_call0_c_24 : Ref sig .tc := ⟨.hbm, 1379, rfl⟩
abbrev main_while0b_call22_call0_v96 : Ref sig .tc := ⟨.hbm, 1380, rfl⟩
abbrev main_while0b_call22_call0_v97 : Ref sig .tc := ⟨.hbm, 1381, rfl⟩
abbrev main_while0b_call22_call0_c_25 : Ref sig .tc := ⟨.hbm, 1382, rfl⟩
abbrev main_while0b_call22_call0_v98 : Ref sig .tc := ⟨.hbm, 1383, rfl⟩
abbrev main_while0b_call22_call0_v99 : Ref sig .tc := ⟨.hbm, 1384, rfl⟩
abbrev main_while0b_call22_call0_v100 : Ref sig .tc := ⟨.hbm, 1385, rfl⟩
abbrev main_while0b_call22_call0_v101 : Ref sig .tc := ⟨.hbm, 1386, rfl⟩
abbrev main_while0b_call22_call0_v102 : Ref sig .tc := ⟨.hbm, 1387, rfl⟩
abbrev main_while0b_call22_call0_v103 : Ref sig .tc := ⟨.hbm, 1388, rfl⟩
abbrev main_while0b_call22_call0_v104 : Ref sig .tc := ⟨.hbm, 1389, rfl⟩
abbrev main_while0b_call22_call0_v105 : Ref sig .tc := ⟨.hbm, 1390, rfl⟩
abbrev main_while0b_call22_call0_c_26 : Ref sig .tc := ⟨.hbm, 1391, rfl⟩
abbrev main_while0b_call22_call0_v106 : Ref sig .tc := ⟨.hbm, 1392, rfl⟩
abbrev main_while0b_call22_call0_v107 : Ref sig .tc := ⟨.hbm, 1393, rfl⟩
abbrev main_while0b_call22_call0_v108 : Ref sig .tc := ⟨.hbm, 1394, rfl⟩
abbrev main_while0b_call22_call0_c_27 : Ref sig .tc := ⟨.hbm, 1395, rfl⟩
abbrev main_while0b_call22_call0_v109 : Ref sig .tc := ⟨.hbm, 1396, rfl⟩
abbrev main_while0b_call22_call0_v110 : Ref sig .tc := ⟨.hbm, 1397, rfl⟩
abbrev main_while0b_call22_call0_c_28 : Ref sig .tc := ⟨.hbm, 1398, rfl⟩
abbrev main_while0b_call22_call0_v111 : Ref sig .tc := ⟨.hbm, 1399, rfl⟩
abbrev main_while0b_call22_call0_v112 : Ref sig .tc := ⟨.hbm, 1400, rfl⟩
abbrev main_while0b_call22_call0_v113 : Ref sig .tc := ⟨.hbm, 1401, rfl⟩
abbrev main_while0b_call22_call0_v114 : Ref sig .tc := ⟨.hbm, 1402, rfl⟩
abbrev main_while0b_call22_call0_v115 : Ref sig .tc := ⟨.hbm, 1403, rfl⟩
abbrev main_while0b_call22_call0_c_29 : Ref sig .tc := ⟨.hbm, 1404, rfl⟩
abbrev main_while0b_call22_call0_v116 : Ref sig .tc := ⟨.hbm, 1405, rfl⟩
abbrev main_while0b_call22_call0_v117 : Ref sig .tc := ⟨.hbm, 1406, rfl⟩
abbrev main_while0b_call22_call0_c_30 : Ref sig .tc := ⟨.hbm, 1407, rfl⟩
abbrev main_while0b_call22_call0_v118 : Ref sig .tc := ⟨.hbm, 1408, rfl⟩
abbrev main_while0b_call22_call0_v119 : Ref sig .tc := ⟨.hbm, 1409, rfl⟩
abbrev main_while0b_call22_call0_v120 : Ref sig .tc := ⟨.hbm, 1410, rfl⟩
abbrev main_while0b_call22_call0_v121 : Ref sig .tc := ⟨.hbm, 1411, rfl⟩
abbrev main_while0b_call22_call0_v122 : Ref sig .tc := ⟨.hbm, 1412, rfl⟩
abbrev main_while0b_call22_call0_c_31 : Ref sig .tc := ⟨.hbm, 1413, rfl⟩
abbrev main_while0b_call22_call0_v123 : Ref sig .tc := ⟨.hbm, 1414, rfl⟩
abbrev main_while0b_call22_call0_v124 : Ref sig .tc := ⟨.hbm, 1415, rfl⟩
abbrev main_while0b_call22_call0_c_32 : Ref sig .tc := ⟨.hbm, 1416, rfl⟩
abbrev main_while0b_call22_call0_v125 : Ref sig .tc := ⟨.hbm, 1417, rfl⟩
abbrev main_while0b_call22_call0_v126 : Ref sig .tc := ⟨.hbm, 1418, rfl⟩
abbrev main_while0b_call22_call0_v127 : Ref sig .tc := ⟨.hbm, 1419, rfl⟩
abbrev main_while0b_call22_call0_v128 : Ref sig .tc := ⟨.hbm, 1420, rfl⟩
abbrev main_while0b_call22_call0_v129 : Ref sig .tc := ⟨.hbm, 1421, rfl⟩
abbrev main_while0b_call22_call0_c_33 : Ref sig .tc := ⟨.hbm, 1422, rfl⟩
abbrev main_while0b_call22_call0_v130 : Ref sig .tc := ⟨.hbm, 1423, rfl⟩
abbrev main_while0b_call22_call0_v131 : Ref sig .tc := ⟨.hbm, 1424, rfl⟩
abbrev main_while0b_call22_call0_c_34 : Ref sig .tc := ⟨.hbm, 1425, rfl⟩
abbrev main_while0b_call22_call0_v132 : Ref sig .tc := ⟨.hbm, 1426, rfl⟩
abbrev main_while0b_call22_call0_v133 : Ref sig .tc := ⟨.hbm, 1427, rfl⟩
abbrev main_while0b_call22_call0_v134 : Ref sig .tc := ⟨.hbm, 1428, rfl⟩
abbrev main_while0b_call22_call0_v135 : Ref sig .tc := ⟨.hbm, 1429, rfl⟩
abbrev main_while0b_call22_call0_v136 : Ref sig .tc := ⟨.hbm, 1430, rfl⟩
abbrev main_while0b_call22_call0_v137 : Ref sig .tc := ⟨.hbm, 1431, rfl⟩
abbrev main_while0b_call22_call0_v138 : Ref sig .tc := ⟨.hbm, 1432, rfl⟩
abbrev main_while0b_call22_call0_v139 : Ref sig .tc := ⟨.hbm, 1433, rfl⟩
abbrev main_while0b_call22_call0_c_35 : Ref sig .tc := ⟨.hbm, 1434, rfl⟩
abbrev main_while0b_call22_call0_v140 : Ref sig .tc := ⟨.hbm, 1435, rfl⟩
abbrev main_while0b_call22_call0_v141 : Ref sig .tc := ⟨.hbm, 1436, rfl⟩
abbrev main_while0b_call22_call0_v142 : Ref sig .tc := ⟨.hbm, 1437, rfl⟩
abbrev main_while0b_call22_call0_c_36 : Ref sig .tc := ⟨.hbm, 1438, rfl⟩
abbrev main_while0b_call22_call0_v143 : Ref sig .tc := ⟨.hbm, 1439, rfl⟩
abbrev main_while0b_call22_call0_v144 : Ref sig .tc := ⟨.hbm, 1440, rfl⟩
abbrev main_while0b_call22_call0_c_37 : Ref sig .tc := ⟨.hbm, 1441, rfl⟩
abbrev main_while0b_call22_call0_v145 : Ref sig .tc := ⟨.hbm, 1442, rfl⟩
abbrev main_while0b_call22_call0_v146 : Ref sig .tc := ⟨.hbm, 1443, rfl⟩
abbrev main_while0b_call22_call0_v147 : Ref sig .tc := ⟨.hbm, 1444, rfl⟩
abbrev main_while0b_call22_call0_v148 : Ref sig .tc := ⟨.hbm, 1445, rfl⟩
abbrev main_while0b_call22_call0_v149 : Ref sig .tc := ⟨.hbm, 1446, rfl⟩
abbrev main_while0b_call22_call0_c_38 : Ref sig .tc := ⟨.hbm, 1447, rfl⟩
abbrev main_while0b_call22_call0_v150 : Ref sig .tc := ⟨.hbm, 1448, rfl⟩
abbrev main_while0b_call22_call0_v151 : Ref sig .tc := ⟨.hbm, 1449, rfl⟩
abbrev main_while0b_call22_call0_c_39 : Ref sig .tc := ⟨.hbm, 1450, rfl⟩
abbrev main_while0b_call22_call0_v152 : Ref sig .tc := ⟨.hbm, 1451, rfl⟩
abbrev main_while0b_call22_call0_v153 : Ref sig .tc := ⟨.hbm, 1452, rfl⟩
abbrev main_while0b_call22_call0_v154 : Ref sig .tc := ⟨.hbm, 1453, rfl⟩
abbrev main_while0b_call22_call0_v155 : Ref sig .tc := ⟨.hbm, 1454, rfl⟩
abbrev main_while0b_call22_call0_v156 : Ref sig .tc := ⟨.hbm, 1455, rfl⟩
abbrev main_while0b_call22_call0_c_40 : Ref sig .tc := ⟨.hbm, 1456, rfl⟩
abbrev main_while0b_call22_call0_v157 : Ref sig .tc := ⟨.hbm, 1457, rfl⟩
abbrev main_while0b_call22_call0_v158 : Ref sig .tc := ⟨.hbm, 1458, rfl⟩
abbrev main_while0b_call22_call0_c_41 : Ref sig .tc := ⟨.hbm, 1459, rfl⟩
abbrev main_while0b_call22_call0_v159 : Ref sig .tc := ⟨.hbm, 1460, rfl⟩
abbrev main_while0b_call22_call0_v160 : Ref sig .tc := ⟨.hbm, 1461, rfl⟩
abbrev main_while0b_call22_call0_v161 : Ref sig .tc := ⟨.hbm, 1462, rfl⟩
abbrev main_while0b_call22_call0_v162 : Ref sig .tc := ⟨.hbm, 1463, rfl⟩
abbrev main_while0b_call22_call0_v163 : Ref sig .tc := ⟨.hbm, 1464, rfl⟩
abbrev main_while0b_call22_call0_c_42 : Ref sig .tc := ⟨.hbm, 1465, rfl⟩
abbrev main_while0b_call22_call0_v164 : Ref sig .tc := ⟨.hbm, 1466, rfl⟩
abbrev main_while0b_call22_call0_v165 : Ref sig .tc := ⟨.hbm, 1467, rfl⟩
abbrev main_while0b_call22_call0_c_43 : Ref sig .tc := ⟨.hbm, 1468, rfl⟩
abbrev main_while0b_call22_call0_v166 : Ref sig .tc := ⟨.hbm, 1469, rfl⟩
abbrev main_while0b_call22_call0_v167 : Ref sig .tc := ⟨.hbm, 1470, rfl⟩
abbrev main_while0b_call22_call0_v168 : Ref sig .tc := ⟨.hbm, 1471, rfl⟩
abbrev main_while0b_call22_call0_v169 : Ref sig .tc := ⟨.hbm, 1472, rfl⟩
abbrev main_while0b_call22_call0_v170 : Ref sig .tc := ⟨.hbm, 1473, rfl⟩
abbrev main_while0b_call22_v15_0 : Ref sig .tc := ⟨.hbm, 1474, rfl⟩
abbrev main_while0b_call22_call0_v172 : Ref sig .tc := ⟨.hbm, 1475, rfl⟩
abbrev main_while0b_call22_call0_v173 : Ref sig .tc := ⟨.hbm, 1476, rfl⟩
abbrev main_while0b_call22_call0_c_44 : Ref sig .tc := ⟨.hbm, 1477, rfl⟩
abbrev main_while0b_call22_call0_v174 : Ref sig .tc := ⟨.hbm, 1478, rfl⟩
abbrev main_while0b_call22_v15_1 : Ref sig .tc := ⟨.hbm, 1479, rfl⟩
abbrev main_while0b_call22_v16 : Ref sig .tc := ⟨.hbm, 1480, rfl⟩
abbrev main_while0b_call22_c_1 : Ref sig .tc := ⟨.hbm, 1481, rfl⟩
abbrev main_while0b_call22_v17 : Ref sig .tc := ⟨.hbm, 1482, rfl⟩
abbrev main_while0b_call22_v18 : Ref sig .tc := ⟨.hbm, 1483, rfl⟩
abbrev main_while0b_call22_c_2 : Ref sig .tc := ⟨.hbm, 1484, rfl⟩
abbrev main_while0b_call22_v19 : Ref sig .tc := ⟨.hbm, 1485, rfl⟩
abbrev main_while0b_call22_v20 : Ref sig .tc := ⟨.hbm, 1486, rfl⟩
abbrev main_while0b_call22_v21 : Ref sig .tc := ⟨.hbm, 1487, rfl⟩
abbrev main_while0b_call22_cst : Ref sig .tc := ⟨.hbm, 1488, rfl⟩
abbrev main_while0b_call22_v22 : Ref sig .tc := ⟨.hbm, 1489, rfl⟩
abbrev main_while0b_call22_v23 : Ref sig .tc := ⟨.hbm, 1490, rfl⟩
abbrev main_while0b_call22_v24 : Ref sig .tc := ⟨.hbm, 1491, rfl⟩
abbrev main_while0b_call22_v25 : Ref sig .tc := ⟨.hbm, 1492, rfl⟩
abbrev main_while0b_call22_v26 : Ref sig .tc := ⟨.hbm, 1493, rfl⟩
abbrev main_while0b_call22_v27 : Ref sig .tc := ⟨.hbm, 1494, rfl⟩
abbrev main_while0b_call22_v28 : Ref sig .tc := ⟨.hbm, 1495, rfl⟩
abbrev main_while0b_call22_v29 : Ref sig .tc := ⟨.hbm, 1496, rfl⟩
abbrev main_while0b_v158 : Ref sig .tc := ⟨.hbm, 1497, rfl⟩
abbrev main_while0b_v159 : Ref sig .tc := ⟨.hbm, 1498, rfl⟩
abbrev main_while0b_v160 : Ref sig .tc := ⟨.hbm, 1499, rfl⟩
abbrev main_while0b_c_65 : Ref sig .tc := ⟨.hbm, 1500, rfl⟩
abbrev main_while0b_v161 : Ref sig .tc := ⟨.hbm, 1501, rfl⟩
abbrev main_while0b_v162 : Ref sig .tc := ⟨.hbm, 1502, rfl⟩
abbrev main_while0b_c_66 : Ref sig .tc := ⟨.hbm, 1503, rfl⟩
abbrev main_while0b_v163 : Ref sig .tc := ⟨.hbm, 1504, rfl⟩
abbrev main_while0b_v164 : Ref sig .tc := ⟨.hbm, 1505, rfl⟩
abbrev main_while0b_v165 : Ref sig .tc := ⟨.hbm, 1506, rfl⟩
abbrev main_while0b_v166 : Ref sig .tc := ⟨.hbm, 1507, rfl⟩
abbrev main_while0b_v167 : Ref sig .tc := ⟨.hbm, 1508, rfl⟩
abbrev main_while0b_v168 : Ref sig .tc := ⟨.hbm, 1509, rfl⟩
abbrev main_while0b_v169 : Ref sig .tc := ⟨.hbm, 1510, rfl⟩
abbrev main_while0b_v170 : Ref sig .tc := ⟨.hbm, 1511, rfl⟩
abbrev main_while0b_v171 : Ref sig .tc := ⟨.hbm, 1512, rfl⟩
abbrev main_while0b_c_67 : Ref sig .tc := ⟨.hbm, 1513, rfl⟩
abbrev main_while0b_v172 : Ref sig .tc := ⟨.hbm, 1514, rfl⟩
abbrev main_while0b_v173 : Ref sig .tc := ⟨.hbm, 1515, rfl⟩
abbrev main_while0b_c_68 : Ref sig .tc := ⟨.hbm, 1516, rfl⟩
abbrev main_while0b_v174 : Ref sig .tc := ⟨.hbm, 1517, rfl⟩
abbrev main_while0b_v175 : Ref sig .tc := ⟨.hbm, 1518, rfl⟩
abbrev main_while0b_v176 : Ref sig .tc := ⟨.hbm, 1519, rfl⟩
abbrev main_while0b_v177 : Ref sig .tc := ⟨.hbm, 1520, rfl⟩
abbrev main_while0b_v178 : Ref sig .tc := ⟨.hbm, 1521, rfl⟩
abbrev main_while0b_call23_v0 : Ref sig .tc := ⟨.hbm, 1522, rfl⟩
abbrev main_while0b_v179 : Ref sig .tc := ⟨.hbm, 1523, rfl⟩
abbrev main_while0b_c_69 : Ref sig .tc := ⟨.hbm, 1524, rfl⟩
abbrev main_while0b_v180 : Ref sig .tc := ⟨.hbm, 1525, rfl⟩
abbrev main_while0b_v181 : Ref sig .tc := ⟨.hbm, 1526, rfl⟩
abbrev main_while0b_c_70 : Ref sig .tc := ⟨.hbm, 1527, rfl⟩
abbrev main_while0b_v182 : Ref sig .tc := ⟨.hbm, 1528, rfl⟩
abbrev main_while0b_v183 : Ref sig .tc := ⟨.hbm, 1529, rfl⟩
abbrev main_while0b_v184 : Ref sig .tc := ⟨.hbm, 1530, rfl⟩
abbrev main_while0b_v185 : Ref sig .tc := ⟨.hbm, 1531, rfl⟩
abbrev main_while0b_v186 : Ref sig .tc := ⟨.hbm, 1532, rfl⟩
abbrev main_while0b_v187 : Ref sig .tc := ⟨.hbm, 1533, rfl⟩
abbrev main_while0b_call25_v0 : Ref sig .tc := ⟨.hbm, 1534, rfl⟩
abbrev main_while0b_call25_c : Ref sig .tc := ⟨.hbm, 1535, rfl⟩
abbrev main_while0b_v188 : Ref sig .tc := ⟨.hbm, 1536, rfl⟩
abbrev main_while0b_c_71 : Ref sig .tc := ⟨.hbm, 1537, rfl⟩
abbrev main_while0b_v189 : Ref sig .tc := ⟨.hbm, 1538, rfl⟩

abbrev nD : Nat := 1
abbrev τ : Topo := Topo.v7x

variable {F : FTy → Type} [FloatOps F]

abbrev main_while0_count : Scf.Loop 32 := ⟨0#32, 100#32, 1#32⟩
-- ==== Proof.Line.lean ====
/- A straight line of host operations in which every operation writes a buffer of its own, numbered above everything
   it reads and everything written before it. After such a line every operation's result is the contents found: the line
   is a system of equations that the final contents solve. -/
module

public import Idealize.ShloMosaic.Lib.StableHlo.Run

@[expose] public section

namespace Cert.Line

open Idealize.ShloMosaic Idealize.ShloMosaic.TcCoe

variable {τ : Topo} {sig : RefSig} {Val : EltTy → Type}

/-- The number of a buffer within its memory space. -/
abbrev rk (r : Ref sig .tc) : ℕ := r.idx.val

theorem ne_of_rk {r y : Ref sig .tc} (h : rk r ≠ rk y) :
    (Proc.devRef (τ := τ) .tc r) ≠ Proc.devRef .tc y :=
  fun e => h (by rw [Proc.devRef_injective .tc e])

/-- `op` writes one buffer, numbered `n`, and what it leaves there depends only on buffers numbered below `n`. -/
def Own (op : HloOp τ sig Val) (n : ℕ) : Prop :=
  ∃ y : Ref sig .tc, rk y = n ∧ op.writes = {Proc.devRef .tc y} ∧
    ∀ F G : Valuation τ sig Val, (∀ r : Ref sig .tc, rk r < n → F (Proc.devRef .tc r) = G (Proc.devRef .tc r)) →
      op.result F (Proc.devRef .tc y) = op.result G (Proc.devRef .tc y)

/-- Every operation of the list writes its own buffer, in rising order, all numbered in `[a, b)`. -/
def Rising (a : ℕ) : List (HloOp τ sig Val) → ℕ → Prop
  | [], b => a ≤ b
  | op :: l, b => ∃ n, a ≤ n ∧ Own op n ∧ Rising (n + 1) l b

theorem Rising.nil {a b : ℕ} (h : a ≤ b) : Rising a ([] : List (HloOp τ sig Val)) b := h

theorem Rising.cons {a n b : ℕ} {op : HloOp τ sig Val} {l : List (HloOp τ sig Val)} (ho : Own op n) (h : a ≤ n)
    (hl : Rising (n + 1) l b) : Rising a (op :: l) b := ⟨n, h, ho, hl⟩

theorem Rising.le {a b : ℕ} : ∀ {l : List (HloOp τ sig Val)}, Rising a l b → a ≤ b
  | [], h => h
  | _ :: _, ⟨_, h1, _, h3⟩ => by have := h3.le; omega

theorem Rising.weaken {a a' b : ℕ} (h : a' ≤ a) : ∀ {l : List (HloOp τ sig Val)}, Rising a l b → Rising a' l b
  | [], h' => le_trans h h'
  | _ :: _, ⟨n, h1, h2, h3⟩ => ⟨n, le_trans h h1, h2, h3⟩

theorem Rising.append {b c : ℕ} {l' : List (HloOp τ sig Val)} (h' : Rising b l' c) :
    ∀ {l : List (HloOp τ sig Val)} {a : ℕ}, Rising a l b → Rising a (l ++ l') c
  | [], _, h => h'.weaken h
  | _ :: _, _, ⟨n, h1, h2, h3⟩ => ⟨n, h1, h2, Rising.append h' h3⟩

/-- A buffer numbered below the line keeps its contents. -/
theorem Rising.keeps {b : ℕ} : ∀ {l : List (HloOp τ sig Val)} {a : ℕ}, Rising a l b →
    ∀ (V : Valuation τ sig Val) (r : Ref sig .tc), rk r < a → StableHlo.after l V (Proc.devRef .tc r) = V (Proc.devRef .tc r)
  | [], _, _, _, _, _ => rfl
  | op :: l, a, ⟨n, h1, ⟨y, hy, hw, _⟩, h3⟩, V, r, hr => by
    rw [StableHlo.after_cons, h3.keeps _ r (by omega)]
    exact op.result_of_not_mem V (by rw [hw, Finset.mem_singleton]; exact ne_of_rk (by omega))

/-- The contents after the line solve every operation's equation. -/
theorem Rising.solved {b : ℕ} : ∀ {l : List (HloOp τ sig Val)} {a : ℕ}, Rising a l b → ∀ V : Valuation τ sig Val,
    l.Forall fun op => op.result (StableHlo.after l V) = StableHlo.after l V
  | [], _, _, _ => trivial
  | op :: l, a, ⟨n, h1, ⟨y, hy, hw, hl⟩, h3⟩, V => by
    rw [List.forall_cons, StableHlo.after_cons]
    refine ⟨?_, h3.solved _⟩
    funext d
    by_cases hd : d ∈ op.writes
    · rw [hw, Finset.mem_singleton] at hd
      subst hd
      rw [h3.keeps _ y (by omega)]
      refine hl _ _ fun r hr => ?_
      rw [h3.keeps _ r (by omega)]
      exact op.result_of_not_mem V (by rw [hw, Finset.mem_singleton]; exact ne_of_rk (by omega))
    · exact op.result_of_not_mem _ hd

/-! ### Lines given stretch by stretch -/

/-- The stretches one after the other make a rising line. -/
def Lines (a : ℕ) (L : List (List (HloOp τ sig Val))) (b : ℕ) : Prop := Rising a L.flatten b

theorem Lines.nil {a b : ℕ} (h : a ≤ b) : Lines a ([] : List (List (HloOp τ sig Val))) b := h

theorem Lines.next {a b : ℕ} {L : List (List (HloOp τ sig Val))} (h : Lines a L b) : Lines a ([] :: L) b := h

theorem Lines.cons {a n b : ℕ} {op : HloOp τ sig Val} {l : List (HloOp τ sig Val)} {L : List (List (HloOp τ sig Val))}
    (ho : Own op n) (h : a ≤ n) (hl : Lines (n + 1) (l :: L) b) : Lines a ((op :: l) :: L) b := ⟨n, h, ho, hl⟩

theorem Lines.append {a b c : ℕ} {L L' : List (List (HloOp τ sig Val))} (h : Lines a L b) (h' : Lines b L' c) :
    Lines a (L ++ L') c := by
  unfold Lines; rw [List.flatten_append]; exact Rising.append h' h

theorem Lines.solved {a b : ℕ} {L : List (List (HloOp τ sig Val))} (h : Lines a L b) (V : Valuation τ sig Val) :
    L.Forall fun l => l.Forall fun op => op.result (StableHlo.after L.flatten V) = StableHlo.after L.flatten V := by
  have := Rising.solved h V
  rw [List.forall_iff_forall_mem] at this ⊢
  intro l hl
  rw [List.forall_iff_forall_mem]
  exact fun op ho => this op (List.mem_flatten.2 ⟨l, hl, ho⟩)

/-! ### The operations write their own buffers -/

theorem own_nullary (y : Ref sig .tc) (v : y.ty.Contents Val) (hy) :
    Own (StableHlo.nullary (τ := τ) y v hy) (rk y) :=
  ⟨y, rfl, rfl, fun F G _ => by rw [StableHlo.nullary_result, StableHlo.nullary_result]⟩

theorem own_unary (x y : Ref sig .tc) (f : x.ty.Contents Val → y.ty.Contents Val) (hx hy) (h : rk x < rk y) :
    Own (StableHlo.unary (τ := τ) x y f hx hy) (rk y) :=
  ⟨y, rfl, rfl, fun F G e => by rw [StableHlo.unary_result, StableHlo.unary_result, e x h]⟩

theorem own_binary (a b y : Ref sig .tc) (f : a.ty.Contents Val → b.ty.Contents Val → y.ty.Contents Val) (ha hb hy)
    (h : rk a < rk y ∧ rk b < rk y) : Own (StableHlo.binary (τ := τ) a b y f ha hb hy) (rk y) :=
  ⟨y, rfl, rfl, fun F G e => by rw [StableHlo.binary_result, StableHlo.binary_result, e a h.1, e b h.2]⟩

theorem own_ternary (c a b y : Ref sig .tc)
    (f : c.ty.Contents Val → a.ty.Contents Val → b.ty.Contents Val → y.ty.Contents Val) (hc ha hb hy)
    (h : rk c < rk y ∧ rk a < rk y ∧ rk b < rk y) : Own (StableHlo.ternary (τ := τ) c a b y f hc ha hb hy) (rk y) :=
  ⟨y, rfl, rfl, fun F G e => by
    rw [StableHlo.ternary_result, StableHlo.ternary_result, e c h.1, e a h.2.1, e b h.2.2]⟩

theorem own_reshape (x y : Ref sig .tc) (he hn hx hy) (h : rk x < rk y) :
    Own (StableHlo.reshape (τ := τ) (Val := Val) x y he hn hx hy) (rk y) :=
  ⟨y, rfl, rfl, fun F G e => by rw [StableHlo.reshape_result, StableHlo.reshape_result, e x h]⟩

theorem own_nary {n : ℕ} (xs : Fin n → Ref sig .tc) (y : Ref sig .tc)
    (f : ((k : Fin n) → (xs k).ty.Contents Val) → y.ty.Contents Val) (hxs hy) (h : ∀ k, rk (xs k) < rk y) :
    Own (StableHlo.nary (τ := τ) xs y f hxs hy) (rk y) :=
  ⟨y, rfl, rfl, fun F G e => by
    rw [StableHlo.nary_result, StableHlo.nary_result, funext fun k => e (xs k) (h k)]⟩

theorem own_unaryIndexed {n : ℕ} (a : Ref sig .tc) (ix : Fin n → Ref sig .tc) (T : BufTy) (y : Ref sig .tc)
    (f : a.ty.Contents Val → (Fin n → T.Contents Val) → y.ty.Contents Val) (hT ha hix hy)
    (h : rk a < rk y ∧ ∀ k, rk (ix k) < rk y) :
    Own (StableHlo.unaryIndexed (τ := τ) a ix T y f hT ha hix hy) (rk y) :=
  ⟨y, rfl, rfl, fun F G e => by
    rw [StableHlo.unaryIndexed_result, StableHlo.unaryIndexed_result, e a h.1,
      funext fun k => congrArg (cast _) (e (ix k) (h.2 k))]⟩

theorem own_binaryIndexed {n : ℕ} (a b : Ref sig .tc) (ix : Fin n → Ref sig .tc) (T : BufTy) (y : Ref sig .tc)
    (f : a.ty.Contents Val → b.ty.Contents Val → (Fin n → T.Contents Val) → y.ty.Contents Val) (hT ha hb hix hy)
    (h : rk a < rk y ∧ rk b < rk y ∧ ∀ k, rk (ix k) < rk y) :
    Own (StableHlo.binaryIndexed (τ := τ) a b ix T y f hT ha hb hix hy) (rk y) :=
  ⟨y, rfl, rfl, fun F G e => by
    rw [StableHlo.binaryIndexed_result, StableHlo.binaryIndexed_result, e a h.1, e b h.2.1,
      funext fun k => congrArg (cast _) (e (ix k) (h.2.2 k))]⟩

/-! ### What a solved equation says -/

/-- The contents of a typed buffer. -/
abbrev get {T : BufTy} (V : Valuation τ sig Val) (x : StableHlo.TRef sig T) : T.Contents Val :=
  x.ofBuf (V (Proc.devRef .tc x.ref))

variable {V : Valuation τ sig Val} {Tx Ta Tb Tc Ty : BufTy}

theorem eq_nullary {y : StableHlo.TRef sig Ty} {v : Ty.Contents Val}
    (h : (StableHlo.TRef.nullary (τ := τ) y v).result V = V) : get V y = v := by
  rw [get, ← congrFun h, StableHlo.nullary_result, StableHlo.TRef.ofBuf_toBuf]

theorem eq_unary {x : StableHlo.TRef sig Tx} {y : StableHlo.TRef sig Ty} {f : Tx.Contents Val → Ty.Contents Val}
    (h : (StableHlo.TRef.unary (τ := τ) x y f).result V = V) : get V y = f (get V x) := by
  conv_lhs => rw [get, ← congrFun h, StableHlo.unary_result, StableHlo.TRef.ofBuf_toBuf]

theorem eq_binary {a : StableHlo.TRef sig Ta} {b : StableHlo.TRef sig Tb} {y : StableHlo.TRef sig Ty}
    {f : Ta.Contents Val → Tb.Contents Val → Ty.Contents Val}
    (h : (StableHlo.TRef.binary (τ := τ) a b y f).result V = V) : get V y = f (get V a) (get V b) := by
  conv_lhs => rw [get, ← congrFun h, StableHlo.binary_result, StableHlo.TRef.ofBuf_toBuf]

theorem eq_ternary {c : StableHlo.TRef sig Tc} {a : StableHlo.TRef sig Ta} {b : StableHlo.TRef sig Tb}
    {y : StableHlo.TRef sig Ty} {f : Tc.Contents Val → Ta.Contents Val → Tb.Contents Val → Ty.Contents Val}
    (h : (StableHlo.TRef.ternary (τ := τ) c a b y f).result V = V) : get V y = f (get V c) (get V a) (get V b) := by
  conv_lhs => rw [get, ← congrFun h, StableHlo.ternary_result, StableHlo.TRef.ofBuf_toBuf]

theorem eq_reshape {x y : Ref sig .tc} {he hn hx hy}
    (h : (StableHlo.reshape (τ := τ) (Val := Val) x y he hn hx hy).result V = V) :
    V (Proc.devRef .tc y) = fun i => he ▸ shapeCast y.ty.shape (V (Proc.devRef .tc x)) hn i := by
  conv_lhs => rw [← congrFun h, StableHlo.reshape_result]

theorem eq_nary {n : ℕ} {xs : Fin n → Ref sig .tc} {y : Ref sig .tc}
    {f : ((k : Fin n) → (xs k).ty.Contents Val) → y.ty.Contents Val} {hxs hy}
    (h : (StableHlo.nary (τ := τ) xs y f hxs hy).result V = V) :
    V (Proc.devRef .tc y) = f fun k => V (Proc.devRef .tc (xs k)) := by
  conv_lhs => rw [← congrFun h, StableHlo.nary_result]

theorem eq_unaryIndexed {n : ℕ} {a : Ref sig .tc} {ix : Fin n → Ref sig .tc} {T : BufTy} {y : Ref sig .tc}
    {f : a.ty.Contents Val → (Fin n → T.Contents Val) → y.ty.Contents Val} {hT ha hix hy}
    (h : (StableHlo.unaryIndexed (τ := τ) a ix T y f hT ha hix hy).result V = V) :
    V (Proc.devRef .tc y) = f (V (Proc.devRef .tc a))
      (fun k => cast (congrArg (fun U : BufTy => U.Contents Val) (hT k)) (V (Proc.devRef .tc (ix k)))) := by
  conv_lhs => rw [← congrFun h, StableHlo.unaryIndexed_result]

/-! ### Composed: the result given what the operands hold -/

theorem un {x : StableHlo.TRef sig Tx} {y : StableHlo.TRef sig Ty} {f : Tx.Contents Val → Ty.Contents Val}
    {u : Tx.Contents Val} (h : (StableHlo.TRef.unary (τ := τ) x y f).result V = V) (ex : get V x = u) :
    get V y = f u := by rw [eq_unary h, ex]

theorem bin {a : StableHlo.TRef sig Ta} {b : StableHlo.TRef sig Tb} {y : StableHlo.TRef sig Ty}
    {f : Ta.Contents Val → Tb.Contents Val → Ty.Contents Val} {u : Ta.Contents Val} {w : Tb.Contents Val}
    (h : (StableHlo.TRef.binary (τ := τ) a b y f).result V = V) (ea : get V a = u) (eb : get V b = w) :
    get V y = f u w := by rw [eq_binary h, ea, eb]

theorem ter {c : StableHlo.TRef sig Tc} {a : StableHlo.TRef sig Ta} {b : StableHlo.TRef sig Tb}
    {y : StableHlo.TRef sig Ty} {f : Tc.Contents Val → Ta.Contents Val → Tb.Contents Val → Ty.Contents Val}
    {s : Tc.Contents Val} {u : Ta.Contents Val} {w : Tb.Contents Val}
    (h : (StableHlo.TRef.ternary (τ := τ) c a b y f).result V = V) (ec : get V c = s) (ea : get V a = u)
    (eb : get V b = w) : get V y = f s u w := by rw [eq_ternary h, ec, ea, eb]

theorem rnul {y : Ref sig .tc} {v : y.ty.Contents Val} {hy}
    (h : (StableHlo.nullary (τ := τ) y v hy).result V = V) : V (Proc.devRef .tc y) = v := by
  rw [← congrFun h, StableHlo.nullary_result]

theorem run {x y : Ref sig .tc} {f : x.ty.Contents Val → y.ty.Contents Val} {hx hy} {u : x.ty.Contents Val}
    (h : (StableHlo.unary (τ := τ) x y f hx hy).result V = V) (ex : V (Proc.devRef .tc x) = u) :
    V (Proc.devRef .tc y) = f u := by rw [← congrFun h, StableHlo.unary_result, ex]

theorem rbin {a b y : Ref sig .tc} {f : a.ty.Contents Val → b.ty.Contents Val → y.ty.Contents Val} {ha hb hy}
    {u : a.ty.Contents Val} {w : b.ty.Contents Val} (h : (StableHlo.binary (τ := τ) a b y f ha hb hy).result V = V)
    (ea : V (Proc.devRef .tc a) = u) (eb : V (Proc.devRef .tc b) = w) : V (Proc.devRef .tc y) = f u w := by
  rw [← congrFun h, StableHlo.binary_result, ea, eb]

theorem rter {c a b y : Ref sig .tc}
    {f : c.ty.Contents Val → a.ty.Contents Val → b.ty.Contents Val → y.ty.Contents Val} {hc ha hb hy}
    {s : c.ty.Contents Val} {u : a.ty.Contents Val} {w : b.ty.Contents Val}
    (h : (StableHlo.ternary (τ := τ) c a b y f hc ha hb hy).result V = V)
    (ec : V (Proc.devRef .tc c) = s) (ea : V (Proc.devRef .tc a) = u) (eb : V (Proc.devRef .tc b) = w) :
    V (Proc.devRef .tc y) = f s u w := by
  rw [← congrFun h, StableHlo.ternary_result, ec, ea, eb]

theorem cast_reshape {T T' : BufTy} {Sx Sy : Shape} {e : EltTy} (hx : T = ⟨Sx, e⟩) (hy : T' = ⟨Sy, e⟩)
    (he : T.elt = T'.elt) (hn' : T.shape.ShapeCasts T'.shape) (hn : Sx.ShapeCasts Sy) (v : T.Contents Val) :
    cast (congrArg (fun U : BufTy => U.Contents Val) hy) (fun i => he ▸ shapeCast T'.shape v hn' i : T'.Contents Val)
      = shapeCast Sy (cast (congrArg (fun U : BufTy => U.Contents Val) hx) v : (⟨Sx, e⟩ : BufTy).Contents Val) hn := by
  subst hx hy; rfl

theorem eq_treshape {Sx Sy : Shape} {e : EltTy} {x : StableHlo.TRef sig ⟨Sx, e⟩} {y : StableHlo.TRef sig ⟨Sy, e⟩} {he}
    {hn : Sx.ShapeCasts Sy} (h : (StableHlo.TRef.reshape (τ := τ) (Val := Val) x y he hn).result V = V) :
    get V y = shapeCast Sy (get V x) hn := by
  rw [get, eq_reshape h]; exact cast_reshape x.ty_eq y.ty_eq _ _ hn _

end Cert.Line

end
-- ==== Proof.Threefry.lean ====
/- The generator of random words both programs write out: four rounds of add, rotate and exclusive or, five times, with
   a key added after each four. Here it is one function of four words, and the host operations that spell it compute that
   function place by place. -/
module

public import proofs.«01_k».proof.Proof.Line

@[expose] public section

namespace Cert.Threefry

open Idealize.ShloMosaic Idealize.ShloMosaic.TcCoe Cert.Line

abbrev W := BitVec 32

/-- One round: the sum, and the second word rotated and mixed with the sum. -/
def rnd (R R' : ℕ) (p : W × W) : W × W := (p.1 + p.2, (p.1 + p.2) ^^^ ((p.2 <<< R) ||| (p.2 >>> R')))

/-- A key added to the pair, the second word also with a counter. -/
def inj (a b n : W) (p : W × W) : W × W := (p.1 + a, p.2 + b + n)

/-- Four rounds of the first kind, then a key. -/
def grpA (a b n : W) (p : W × W) : W × W := inj a b n (rnd 6 26 (rnd 26 6 (rnd 15 17 (rnd 13 19 p))))
/-- Four rounds of the second kind, then a key. -/
def grpB (a b n : W) (p : W × W) : W × W := inj a b n (rnd 24 8 (rnd 16 16 (rnd 29 3 (rnd 17 15 p))))

/-- The third key. -/
def key2 (a b : W) : W := a ^^^ b ^^^ 466688986#32

/-- Two words from two keys and two counters. -/
def tf (a b x0 x1 : W) : W × W :=
  grpA (key2 a b) a 5#32 (grpB b (key2 a b) 4#32 (grpA a b 3#32 (grpB (key2 a b) a 2#32
    (grpA b (key2 a b) 1#32 (x0 + a, x1 + b)))))

variable {τ : Topo} {sig : RefSig} {F : FTy → Type} [FloatOps F]

/-- `V` solves the equation of every operation of the list. -/
def Solved (V : Valuation τ sig (Elt F)) : List (HloOp τ sig (Elt F)) → Prop
  | [] => True
  | op :: l => op.result V = V ∧ Solved V l

theorem solved_of {V : Valuation τ sig (Elt F)} : ∀ {l : List (HloOp τ sig (Elt F))},
    (∀ op ∈ l, op.result V = V) → Solved V l
  | [], _ => trivial
  | _ :: _, h => ⟨h _ (List.mem_cons_self ..), solved_of fun op ho => h op (List.mem_cons_of_mem _ ho)⟩

variable {V : Valuation τ sig (Elt F)} {S K C : Shape} {rest : List (HloOp τ sig (Elt F))}

theorem rot_step {xa xb s b a b' a' o x : StableHlo.TRef sig ⟨S, .i32⟩} {c c' : StableHlo.TRef sig ⟨C, .i32⟩}
    {R R' : W} {d d' : Fin C.rank → Fin S.rank} {hd hd'} (hR : R.toNat < 32) (hR' : R'.toNat < 32)
    (h : Solved V (StableHlo.TRef.binary xa xb s addi
      :: StableHlo.TRef.nullary c (constantI C 32 R)
      :: StableHlo.TRef.unary c b (broadcastInDim S d hd)
      :: StableHlo.TRef.binary xb b a Host.shli
      :: StableHlo.TRef.nullary c' (constantI C 32 R')
      :: StableHlo.TRef.unary c' b' (broadcastInDim S d' hd')
      :: StableHlo.TRef.binary xb b' a' Host.shrui
      :: StableHlo.TRef.binary a a' o ori
      :: StableHlo.TRef.binary s o x xori :: rest)) :
    (∀ i, ((get V s i, get V x i) : W × W) = rnd R.toNat R'.toNat (get V xa i, get V xb i)) ∧ Solved V rest := by
  obtain ⟨h1, h2, h3, h4, h5, h6, h7, h8, h9, hr⟩ := h
  refine ⟨fun i => ?_, hr⟩
  have e1 := congrFun (eq_binary h1) i
  have e3 := congrFun (eq_unary h3) i
  rw [eq_nullary h2] at e3
  have e4 := congrFun (eq_binary h4) i
  have e6 := congrFun (eq_unary h6) i
  rw [eq_nullary h5] at e6
  have e7 := congrFun (eq_binary h7) i
  have e8 := congrFun (eq_binary h8) i
  have e9 := congrFun (eq_binary h9) i
  have k3 : get V b i = R := e3
  have k6 : get V b' i = R' := e6
  have k4 : get V a i = (get V xb i : W) <<< R.toNat := by
    rw [e4]; show IntOp.shli .host (get V xb i) (get V b i) = _; rw [k3, IntOp.shli, if_pos hR]; rfl
  have k7 : get V a' i = (get V xb i : W) >>> R'.toNat := by
    rw [e7]; show IntOp.shrui .host (get V xb i) (get V b' i) = _; rw [k6, IntOp.shrui, if_pos hR']; rfl
  refine Prod.ext e1 ?_
  show get V x i = _
  rw [e9]
  show (get V s i : W) ^^^ get V o i = _
  rw [e8]
  show (get V s i : W) ^^^ ((get V a i : W) ||| get V a' i) = _
  rw [k4, k7, e1]; rfl

theorem inj_step {s x b1 b2 b3 y1 y2 y3 : StableHlo.TRef sig ⟨S, .i32⟩} {k1 k2 : StableHlo.TRef sig ⟨K, .i32⟩}
    {c : StableHlo.TRef sig ⟨C, .i32⟩} {n : W} {d : Fin C.rank → Fin S.rank} {hd} {f1 f2 : (K.Idx → W) → S.Idx → W}
    (h : Solved V (StableHlo.TRef.unary k1 b1 f1
      :: StableHlo.TRef.binary s b1 y1 addi
      :: StableHlo.TRef.unary k2 b2 f2
      :: StableHlo.TRef.binary x b2 y2 addi
      :: StableHlo.TRef.nullary c (constantI C 32 n)
      :: StableHlo.TRef.unary c b3 (broadcastInDim S d hd)
      :: StableHlo.TRef.binary y2 b3 y3 addi :: rest)) :
    (∀ i, ((get V y1 i, get V y3 i) : W × W) = inj (f1 (get V k1) i) (f2 (get V k2) i) n (get V s i, get V x i))
      ∧ Solved V rest := by
  obtain ⟨h1, h2, h3, h4, h5, h6, h7, hr⟩ := h
  refine ⟨fun i => ?_, hr⟩
  have e1 := congrFun (eq_unary h1) i
  have e2 := congrFun (eq_binary h2) i
  have e3 := congrFun (eq_unary h3) i
  have e4 := congrFun (eq_binary h4) i
  have e6 := congrFun (eq_unary h6) i
  rw [eq_nullary h5] at e6
  have k6 : get V b3 i = n := e6
  have e7 := congrFun (eq_binary h7) i
  refine Prod.ext ?_ ?_
  · show get V y1 i = _
    rw [e2]; show (get V s i : W) + get V b1 i = _; rw [e1]; rfl
  · show get V y3 i = _
    rw [e7]; show (get V y2 i : W) + get V b3 i = _; rw [e4, k6]
    show ((get V x i : W) + get V b2 i) + n = _; rw [e3]; rfl

section Groups
variable {xa xb s1 b1 a1 b1' a1' o1 x1 s2 b2 a2 b2' a2' o2 x2 s3 b3 a3 b3' a3' o3 x3 s4 b4 a4 b4' a4' o4 x4
    d1 d2 d3 y1 y2 y3 : StableHlo.TRef sig ⟨S, .i32⟩} {c1 c1' c2 c2' c3 c3' c4 c4' c5 : StableHlo.TRef sig ⟨C, .i32⟩}
    {k1 k2 : StableHlo.TRef sig ⟨K, .i32⟩} {n : W} {e : Fin C.rank → Fin S.rank} {he : C.BroadcastsInDim S e}
    {f : (K.Idx → W) → S.Idx → W}

/-- The operations of four rounds with the rotations given, and the key after them. -/
abbrev groupOps (R1 R1' R2 R2' R3 R3' R4 R4' : W) (xa xb s1 b1 a1 b1' a1' o1 x1 s2 b2 a2 b2' a2' o2 x2 s3 b3 a3 b3' a3' o3 x3 s4 b4 a4 b4' a4' o4 x4
    d1 d2 d3 y1 y2 y3 : StableHlo.TRef sig ⟨S, .i32⟩) (c1 c1' c2 c2' c3 c3' c4 c4' c5 : StableHlo.TRef sig ⟨C, .i32⟩)
    (k1 k2 : StableHlo.TRef sig ⟨K, .i32⟩) (n : W) (e : Fin C.rank → Fin S.rank) (he : C.BroadcastsInDim S e)
    (f : (K.Idx → W) → S.Idx → W) (rest : List (HloOp τ sig (Elt F))) : List (HloOp τ sig (Elt F)) :=
  StableHlo.TRef.binary xa xb s1 addi
      :: StableHlo.TRef.nullary c1 (constantI C 32 R1)
      :: StableHlo.TRef.unary c1 b1 (broadcastInDim S e he)
      :: StableHlo.TRef.binary xb b1 a1 Host.shli
      :: StableHlo.TRef.nullary c1' (constantI C 32 R1')
      :: StableHlo.TRef.unary c1' b1' (broadcastInDim S e he)
      :: StableHlo.TRef.binary xb b1' a1' Host.shrui
      :: StableHlo.TRef.binary a1 a1' o1 ori
      :: StableHlo.TRef.binary s1 o1 x1 xori
      :: StableHlo.TRef.binary s1 x1 s2 addi
      :: StableHlo.TRef.nullary c2 (constantI C 32 R2)
      :: StableHlo.TRef.unary c2 b2 (broadcastInDim S e he)
      :: StableHlo.TRef.binary x1 b2 a2 Host.shli
      :: StableHlo.TRef.nullary c2' (constantI C 32 R2')
      :: StableHlo.TRef.unary c2' b2' (broadcastInDim S e he)
      :: StableHlo.TRef.binary x1 b2' a2' Host.shrui
      :: StableHlo.TRef.binary a2 a2' o2 ori
      :: StableHlo.TRef.binary s2 o2 x2 xori
      :: StableHlo.TRef.binary s2 x2 s3 addi
      :: StableHlo.TRef.nullary c3 (constantI C 32 R3)
      :: StableHlo.TRef.unary c3 b3 (broadcastInDim S e he)
      :: StableHlo.TRef.binary x2 b3 a3 Host.shli
      :: StableHlo.TRef.nullary c3' (constantI C 32 R3')
      :: StableHlo.TRef.unary c3' b3' (broadcastInDim S e he)
      :: StableHlo.TRef.binary x2 b3' a3' Host.shrui
      :: StableHlo.TRef.binary a3 a3' o3 ori
      :: StableHlo.TRef.binary s3 o3 x3 xori
      :: StableHlo.TRef.binary s3 x3 s4 addi
      :: StableHlo.TRef.nullary c4 (constantI C 32 R4)
      :: StableHlo.TRef.unary c4 b4 (broadcastInDim S e he)
      :: StableHlo.TRef.binary x3 b4 a4 Host.shli
      :: StableHlo.TRef.nullary c4' (constantI C 32 R4')
      :: StableHlo.TRef.unary c4' b4' (broadcastInDim S e he)
      :: StableHlo.TRef.binary x3 b4' a4' Host.shrui
      :: StableHlo.TRef.binary a4 a4' o4 ori
      :: StableHlo.TRef.binary s4 o4 x4 xori
      :: StableHlo.TRef.unary k1 d1 f
      :: StableHlo.TRef.binary s4 d1 y1 addi
      :: StableHlo.TRef.unary k2 d2 f
      :: StableHlo.TRef.binary x4 d2 y2 addi
      :: StableHlo.TRef.nullary c5 (constantI C 32 n)
      :: StableHlo.TRef.unary c5 d3 (broadcastInDim S e he)
      :: StableHlo.TRef.binary y2 d3 y3 addi :: rest

theorem grpA_step (h : Solved V (groupOps 13#32 19#32 15#32 17#32 26#32 6#32 6#32 26#32 xa xb s1 b1 a1 b1' a1' o1 x1 s2 b2
      a2 b2' a2' o2 x2 s3 b3 a3 b3' a3' o3 x3 s4 b4 a4 b4' a4' o4 x4 d1 d2 d3 y1 y2 y3 c1 c1' c2 c2' c3 c3' c4 c4' c5 k1 k2 n
      e he f rest)) :
    (∀ i, ((get V y1 i, get V y3 i) : W × W) = grpA (f (get V k1) i) (f (get V k2) i) n (get V xa i, get V xb i))
      ∧ Solved V rest := by
  obtain ⟨r1, h⟩ := rot_step (by decide) (by decide) h
  obtain ⟨r2, h⟩ := rot_step (by decide) (by decide) h
  obtain ⟨r3, h⟩ := rot_step (by decide) (by decide) h
  obtain ⟨r4, h⟩ := rot_step (by decide) (by decide) h
  obtain ⟨r5, h⟩ := inj_step h
  exact ⟨fun i => by rw [r5, r4, r3, r2, r1]; rfl, h⟩

theorem grpB_step (h : Solved V (groupOps 17#32 15#32 29#32 3#32 16#32 16#32 24#32 8#32 xa xb s1 b1 a1 b1' a1' o1 x1 s2 b2
      a2 b2' a2' o2 x2 s3 b3 a3 b3' a3' o3 x3 s4 b4 a4 b4' a4' o4 x4 d1 d2 d3 y1 y2 y3 c1 c1' c2 c2' c3 c3' c4 c4' c5 k1 k2 n
      e he f rest)) :
    (∀ i, ((get V y1 i, get V y3 i) : W × W) = grpB (f (get V k1) i) (f (get V k2) i) n (get V xa i, get V xb i))
      ∧ Solved V rest := by
  obtain ⟨r1, h⟩ := rot_step (by decide) (by decide) h
  obtain ⟨r2, h⟩ := rot_step (by decide) (by decide) h
  obtain ⟨r3, h⟩ := rot_step (by decide) (by decide) h
  obtain ⟨r4, h⟩ := rot_step (by decide) (by decide) h
  obtain ⟨r5, h⟩ := inj_step h
  exact ⟨fun i => by rw [r5, r4, r3, r2, r1]; rfl, h⟩

end Groups

/-- The first additions with one key for all places. -/
theorem pre_one {k0 k1 u c k2 : StableHlo.TRef sig ⟨K, .i32⟩} {b0 b1 x0 x1 y0 y1 : StableHlo.TRef sig ⟨S, .i32⟩}
    {f : (K.Idx → W) → S.Idx → W}
    (h : Solved V (StableHlo.TRef.binary k0 k1 u xori
      :: StableHlo.TRef.nullary c (constantI K 32 466688986#32)
      :: StableHlo.TRef.binary u c k2 xori
      :: StableHlo.TRef.unary k0 b0 f
      :: StableHlo.TRef.binary x0 b0 y0 addi
      :: StableHlo.TRef.unary k1 b1 f
      :: StableHlo.TRef.binary x1 b1 y1 addi :: rest))
    (hf : ∀ i, ∃ j, ∀ x, f x i = x j) :
    ((∀ i, f (get V k2) i = key2 (f (get V k0) i) (f (get V k1) i))
      ∧ ∀ i, ((get V y0 i, get V y1 i) : W × W) = ((get V x0 i : W) + f (get V k0) i, (get V x1 i : W) + f (get V k1) i))
      ∧ Solved V rest := by
  obtain ⟨h1, h2, h3, h4, h5, h6, h7, hr⟩ := h
  refine ⟨⟨fun i => ?_, fun i => ?_⟩, hr⟩
  · obtain ⟨j, hj⟩ := hf i
    rw [hj, hj, hj, eq_binary h3, eq_binary h1, eq_nullary h2]; rfl
  · rw [eq_binary h5, eq_binary h7, eq_unary h4, eq_unary h6]; rfl

/-- The first additions with keys of their own and counters shared between the keys. -/
theorem pre_many {X : Shape} {k0 k1 u c' k2 : StableHlo.TRef sig ⟨K, .i32⟩} {c : StableHlo.TRef sig ⟨C, .i32⟩}
    {x0 x1 : StableHlo.TRef sig ⟨X, .i32⟩} {b0 b1 e0 e1 y0 y1 : StableHlo.TRef sig ⟨S, .i32⟩}
    {d : Fin C.rank → Fin K.rank} {hd} {f : (K.Idx → W) → S.Idx → W} {g : (X.Idx → W) → S.Idx → W}

    (h : Solved V (StableHlo.TRef.binary k0 k1 u xori
      :: StableHlo.TRef.nullary c (constantI C 32 466688986#32)
      :: StableHlo.TRef.unary c c' (broadcastInDim K d hd)
      :: StableHlo.TRef.binary u c' k2 xori
      :: StableHlo.TRef.unary x0 e0 g
      :: StableHlo.TRef.unary k0 b0 f
      :: StableHlo.TRef.binary e0 b0 y0 addi
      :: StableHlo.TRef.unary x1 e1 g
      :: StableHlo.TRef.unary k1 b1 f
      :: StableHlo.TRef.binary e1 b1 y1 addi :: rest))
    (hf : ∀ i, ∃ j, ∀ x, f x i = x j) :
    ((∀ i, f (get V k2) i = key2 (f (get V k0) i) (f (get V k1) i))
      ∧ ∀ i, ((get V y0 i, get V y1 i) : W × W)
          = ((g (get V x0) i : W) + f (get V k0) i, (g (get V x1) i : W) + f (get V k1) i))
      ∧ Solved V rest := by
  obtain ⟨h1, h2, h3, h4, h5, h6, h7, h8, h9, h10, hr⟩ := h
  refine ⟨⟨fun i => ?_, fun i => ?_⟩, hr⟩
  · obtain ⟨j, hj⟩ := hf i
    rw [hj, hj, hj, eq_binary h4, eq_binary h1, eq_unary h3, eq_nullary h2]; rfl
  · rw [eq_binary h7, eq_binary h10, eq_unary h5, eq_unary h8, eq_unary h6, eq_unary h9]; rfl

/-- A stretch of a line is solved. -/
theorem solved_at {a b n : ℕ} {L : List (List (HloOp τ sig (Elt F)))} (hL : Lines a L b) (U : Valuation τ sig (Elt F))
    {l : List (HloOp τ sig (Elt F))} (hn : L[n]? = some l) : Solved (StableHlo.after L.flatten U) l :=
  solved_of ((List.forall_iff_forall_mem.1 ((List.forall_iff_forall_mem.1 (hL.solved U)) l (List.mem_of_getElem? hn))))

/-- The five groups after the first additions. -/
theorem tf_of {a b c x0 x1 : W} {p0 p1 p2 p3 p4 p5 : W × W} (hc : c = key2 a b) (h0 : p0 = (x0 + a, x1 + b))
    (h1 : p1 = grpA b c 1#32 p0) (h2 : p2 = grpB c a 2#32 p1) (h3 : p3 = grpA a b 3#32 p2)
    (h4 : p4 = grpB b c 4#32 p3) (h5 : p5 = grpA c a 5#32 p4) : p5 = tf a b x0 x1 := by
  rw [h5, h4, h3, h2, h1, h0, hc]; rfl

end Cert.Threefry

end
-- ==== Proof.HostLine.lean ====
/- The kernel's operations before the launch make a line: every operation writes a buffer of its own. -/
module

public import proofs.«01_k».proof.Proof.Threefry
public import proofs.«01_k».proof.Proof.Gen.KernelIdeal.Frame

@[expose] public section

set_option maxRecDepth 16384

namespace Cert.KernelIdeal.Host

open Idealize.ShloMosaic Idealize.ShloMosaic.TcCoe Cert.Line Cert.Threefry Cert.KernelIdeal.Gen

variable {F : FTy → Type} [FloatOps F]

/-- The operations before the launch. -/
noncomputable abbrev hostLines : List (List (HloOp τ sig (Elt F))) :=
  [hostOps0, hostOps0_1, hostOps0_2, hostOps0_3] ++ ([hostOps0_4, hostOps0_5] ++ [hostOps0_6, hostOps0_7])

set_option maxHeartbeats 4000000 in
theorem host_lines : Lines (rk main_cst) (hostLines (F := F)) (rk main_v26 + 1) := by
  refine Lines.append (b := rk main_cst_3 + 1) ?_ (Lines.append (b := rk main_cst_5 + 1) ?_ ?_)
  all_goals
    repeat
      with_reducible first
        | refine Lines.cons (own_nullary _ _ _) (by decide) ?_
        | refine Lines.cons (own_unary _ _ _ _ _ (by decide)) (by decide) ?_
        | refine Lines.cons (own_binary _ _ _ _ _ _ _ (by decide)) (by decide) ?_
        | refine Lines.cons (own_ternary _ _ _ _ _ _ _ _ _ (by decide)) (by decide) ?_
        | refine Lines.cons (own_reshape _ _ _ _ _ _ (by decide)) (by decide) ?_
        | refine Lines.cons (own_nary _ _ _ _ _ (by decide)) (by decide) ?_
        | refine Lines.next ?_
    exact Lines.nil (Nat.le_refl _)

end Cert.KernelIdeal.Host

end
-- ==== Proof.Words.lean ====
/- What the two programs draw, place by place: counters split off a wide count, the fraction a word gives, the uniform
   draw between two bounds; and small readings of shape operations at a place. -/
module

public import proofs.«01_k».proof.Proof.Threefry
public import Idealize.ShloMosaic.Lib.ValueIdx
public import Idealize.ShloMosaic.Lib.ValueLayout

@[expose] public section

namespace Cert.Words

open Idealize.ShloMosaic Idealize.ShloMosaic.TcCoe Cert.Threefry Idealize.ShloMosaic.ValueIdx

/-- One of a pair. -/
def pick (c : Fin 2) (p : W × W) : W := if c = 0 then p.1 else p.2

variable {F : FTy → Type} [FloatOps F]

/-- A bit pattern's float. -/
abbrev lit (b : W) : F .f32 := FloatOps.ofBits .f32 b

theorem shr32 (t : W) : IntOp.shrui .host t 32#32 = 0#32 := by rw [shrui_host, shrui_32]

theorem and_ones (t : W) : IntOp.andi t 4294967295#32 = t := BitVec.and_allOnes (x := t)

theorem cnt_lo (n : ℕ) : ((BitVec.ofNat 64 n).setWidth 32 : W) = BitVec.ofNat 32 n := by
  apply BitVec.eq_of_toNat_eq; simp [BitVec.toNat_setWidth]

theorem cnt_hi (n : ℕ) (h : n < 4294967296) : ((IntOp.shrui .host (BitVec.ofNat 64 n) 32#64).setWidth 32 : W) = 0#32 := by
  rw [IntOp.shrui, if_pos (by decide)]
  apply BitVec.eq_of_toNat_eq
  simp [BitVec.toNat_setWidth, BitVec.toNat_ushiftRight]
  omega

theorem mul_cnt (a n : ℕ) : (BitVec.ofNat 64 a) * (BitVec.ofNat 64 n) = BitVec.ofNat 64 (a * n) := by
  apply BitVec.eq_of_toNat_eq; simp [BitVec.toNat_mul, Nat.mul_mod]

theorem add_cnt (a n : ℕ) : (BitVec.ofNat 64 a) + (BitVec.ofNat 64 n) = BitVec.ofNat 64 (a + n) := by
  apply BitVec.eq_of_toNat_eq; simp [BitVec.toNat_add]

theorem shr9 (b : W) : IntOp.shrui .host b 9#32 = b >>> 9 := by
  rw [IntOp.shrui, if_pos (by decide)]; rfl

/-- A fraction from a word's upper bits. -/
def frac (b : W) : F .f32 :=
  FloatOps.subf (FloatOps.ofBits .f32 ((b >>> 9) ||| 1065353216#32)) (lit 0x3F800000#32)

/-- A draw between the bounds both programs take. -/
def uni (b : W) : F .f32 :=
  FloatOps.maximumf (lit 0x2B8CBCCC#32)
    (FloatOps.addf (FloatOps.mulf (frac b) (FloatOps.subf (lit 0x3F800000#32) (lit 0x2B8CBCCC#32))) (lit 0x2B8CBCCC#32))

theorem uni_of {f : F .f32} {b : W} (h : f = frac b) :
    FloatOps.maximumf (lit 0x2B8CBCCC#32) (FloatOps.addf (FloatOps.mulf f
      (FloatOps.subf (lit 0x3F800000#32) (lit 0x2B8CBCCC#32))) (lit 0x2B8CBCCC#32)) = uni b := by rw [h]; rfl

/-- A draw on the open interval around zero. -/
def sym (b : W) : F .f32 :=
  FloatOps.maximumf (lit 0xBF7FFFFF#32)
    (FloatOps.addf (FloatOps.mulf (frac b) (lit 0x40000000#32)) (lit 0xBF7FFFFF#32))

/-- A drawn word: the two words of a key and a counter, merged. -/
def draw (a b n : W) : W := (tf a b 0#32 n).1 ^^^ (tf a b 0#32 n).2

theorem merged {p q a b n : W} (t : (p, q) = tf a b 0#32 n) : p ^^^ q = draw a b n := by
  rw [draw, ← t]

/-- One word of a key derived from a key by a number. -/
def sub (a b n : W) (c : Fin 2) : W := pick c (tf a b 0#32 n)

/-! ### Shape operations at a place -/

theorem bcast0 {α : Type} {S : Shape} {d : Fin 0 → Fin S.rank} {h} (x : (⟨0, ![]⟩ : Shape).Idx → α) (i : S.Idx) :
    broadcastInDim (s := ⟨0, ![]⟩) S d h x i = x ix0 := congrArg x (funext fun a => a.elim0)

theorem cast10 {α : Type} {h} (x : (⟨1, ![1]⟩ : Shape).Idx → α) :
    shapeCast (s := ⟨1, ![1]⟩) ⟨0, ![]⟩ x h ix0 = x (ix1 0) :=
  congrArg x (funext fun a => match a with | ⟨0, _⟩ => Subsingleton.elim (α := Fin 1) _ _)

theorem slice1 {α : Type} {n m o : ℕ} {h} (x : (⟨1, ![n]⟩ : Shape).Idx → α) (a : Fin m) (ha : o + a.val < n) :
    extractStridedSlice (s := ⟨1, ![n]⟩) ⟨1, ![m]⟩ ![o] x h (ix1 a) = x (ix1 ⟨o + a.val, ha⟩) :=
  congrArg x (funext fun b => match b with | ⟨0, _⟩ => rfl)

theorem cat1 {α : Type} {h : Shape.Concatenates [⟨1, ![1]⟩, ⟨1, ![1]⟩] ⟨1, ![2]⟩ 0} (x y : (⟨1, ![1]⟩ : Shape).Idx → α) (c : Fin 2) :
    concatenate (⟨1, ![2]⟩ : Shape) 0 [⟨⟨1, ![1]⟩, x⟩, ⟨⟨1, ![1]⟩, y⟩] h (ix1 c) = if c = 0 then x (ix1 0) else y (ix1 0) := by
  match c with
  | 0 => exact congrArg x (funext fun b => match b with | ⟨0, _⟩ => Subsingleton.elim (α := Fin 1) _ _)
  | 1 => exact congrArg y (funext fun b => match b with | ⟨0, _⟩ => Subsingleton.elim (α := Fin 1) _ _)

theorem cat1_fst {α : Type} {h : Shape.Concatenates [⟨1, ![1]⟩, ⟨1, ![1]⟩] ⟨1, ![2]⟩ 0} (x y : (⟨1, ![1]⟩ : Shape).Idx → α) :
    concatenate (⟨1, ![2]⟩ : Shape) 0 [⟨⟨1, ![1]⟩, x⟩, ⟨⟨1, ![1]⟩, y⟩] h (ix1 0) = x (ix1 0) := cat1 x y 0

theorem cat1_snd {α : Type} {h : Shape.Concatenates [⟨1, ![1]⟩, ⟨1, ![1]⟩] ⟨1, ![2]⟩ 0} (x y : (⟨1, ![1]⟩ : Shape).Idx → α) :
    concatenate (⟨1, ![2]⟩ : Shape) 0 [⟨⟨1, ![1]⟩, x⟩, ⟨⟨1, ![1]⟩, y⟩] h (ix1 1) = y (ix1 0) := cat1 x y 1

theorem cat2_fst {α : Type} {n : ℕ} {h : Shape.Concatenates [⟨2, ![n, 1]⟩, ⟨2, ![n, 1]⟩] ⟨2, ![n, 2]⟩ 1} (x y : (⟨2, ![n, 1]⟩ : Shape).Idx → α)
    (i : Fin n) : concatenate (⟨2, ![n, 2]⟩ : Shape) 1 [⟨⟨2, ![n, 1]⟩, x⟩, ⟨⟨2, ![n, 1]⟩, y⟩] h (ix2 i 0) = x (ix2 i 0) :=
  congrArg x (funext fun b => match b with | ⟨0, _⟩ => rfl | ⟨1, _⟩ => Subsingleton.elim (α := Fin 1) _ _)

theorem cat2_snd {α : Type} {n : ℕ} {h : Shape.Concatenates [⟨2, ![n, 1]⟩, ⟨2, ![n, 1]⟩] ⟨2, ![n, 2]⟩ 1} (x y : (⟨2, ![n, 1]⟩ : Shape).Idx → α)
    (i : Fin n) : concatenate (⟨2, ![n, 2]⟩ : Shape) 1 [⟨⟨2, ![n, 1]⟩, x⟩, ⟨⟨2, ![n, 1]⟩, y⟩] h (ix2 i 1) = y (ix2 i 0) :=
  congrArg y (funext fun b => match b with | ⟨0, _⟩ => rfl | ⟨1, _⟩ => Subsingleton.elim (α := Fin 1) _ _)

theorem cat3_fst {α : Type} {n m : ℕ} {h : Shape.Concatenates [⟨3, ![n, m, 1]⟩, ⟨3, ![n, m, 1]⟩] ⟨3, ![n, m, 2]⟩ 2}
    (x y : (⟨3, ![n, m, 1]⟩ : Shape).Idx → α) (i : Fin n) (j : Fin m) :
    concatenate (⟨3, ![n, m, 2]⟩ : Shape) 2 [⟨⟨3, ![n, m, 1]⟩, x⟩, ⟨⟨3, ![n, m, 1]⟩, y⟩] h (ix3 i j 0) = x (ix3 i j 0) :=
  congrArg x (funext fun b => match b with | ⟨0, _⟩ => rfl | ⟨1, _⟩ => rfl | ⟨2, _⟩ => Subsingleton.elim (α := Fin 1) _ _)

theorem cat3_snd {α : Type} {n m : ℕ} {h : Shape.Concatenates [⟨3, ![n, m, 1]⟩, ⟨3, ![n, m, 1]⟩] ⟨3, ![n, m, 2]⟩ 2}
    (x y : (⟨3, ![n, m, 1]⟩ : Shape).Idx → α) (i : Fin n) (j : Fin m) :
    concatenate (⟨3, ![n, m, 2]⟩ : Shape) 2 [⟨⟨3, ![n, m, 1]⟩, x⟩, ⟨⟨3, ![n, m, 1]⟩, y⟩] h (ix3 i j 1) = y (ix3 i j 0) :=
  congrArg y (funext fun b => match b with | ⟨0, _⟩ => rfl | ⟨1, _⟩ => rfl | ⟨2, _⟩ => Subsingleton.elim (α := Fin 1) _ _)

theorem bcol {α : Type} {n : ℕ} (hn : n ≠ 1) {h} (x : (⟨1, ![n]⟩ : Shape).Idx → α) (i : Fin n) (j : Fin 1) :
    broadcastInDim (s := ⟨1, ![n]⟩) ⟨2, ![n, 1]⟩ ![0] h x (ix2 i j) = x (ix1 i) :=
  congrArg x (funext fun b => match b with | ⟨0, _⟩ => dif_neg hn)

theorem brow {α : Type} {n : ℕ} (hn : n ≠ 1) {h} (x : (⟨1, ![n]⟩ : Shape).Idx → α) (i : Fin 1) (j : Fin n) :
    broadcastInDim (s := ⟨1, ![n]⟩) ⟨2, ![1, n]⟩ ![1] h x (ix2 i j) = x (ix1 j) :=
  congrArg x (funext fun b => match b with | ⟨0, _⟩ => dif_neg hn)

theorem bcols {α : Type} {n m : ℕ} (hn : n ≠ 1) {h} (x : (⟨2, ![n, 1]⟩ : Shape).Idx → α) (i : Fin n) (j : Fin m) :
    broadcastInDim (s := ⟨2, ![n, 1]⟩) ⟨2, ![n, m]⟩ ![0, 1] h x (ix2 i j) = x (ix2 i 0) :=
  congrArg x (funext fun b => match b with | ⟨0, _⟩ => dif_neg hn | ⟨1, _⟩ => dif_pos rfl)

theorem brows {α : Type} {n m : ℕ} (hn : m ≠ 1) {h} (x : (⟨2, ![1, m]⟩ : Shape).Idx → α) (i : Fin n) (j : Fin m) :
    broadcastInDim (s := ⟨2, ![1, m]⟩) ⟨2, ![n, m]⟩ ![0, 1] h x (ix2 i j) = x (ix2 0 j) :=
  congrArg x (funext fun b => match b with | ⟨0, _⟩ => dif_pos rfl | ⟨1, _⟩ => dif_neg hn)

theorem blast {α : Type} {n m : ℕ} (hn : n ≠ 1) (hm : m ≠ 1) {h} (x : (⟨2, ![n, m]⟩ : Shape).Idx → α) (i : Fin n) (j : Fin m) (k : Fin 1) :
    broadcastInDim (s := ⟨2, ![n, m]⟩) ⟨3, ![n, m, 1]⟩ ![0, 1] h x (ix3 i j k) = x (ix2 i j) :=
  congrArg x (funext fun b => match b with | ⟨0, _⟩ => dif_neg hn | ⟨1, _⟩ => dif_neg hm)

theorem cast_col {α : Type} {n : ℕ} {h} (x : (⟨2, ![n, 1]⟩ : Shape).Idx → α) (i : Fin n) :
    shapeCast (s := ⟨2, ![n, 1]⟩) ⟨1, ![n]⟩ x h (ix1 i) = x (ix2 i 0) :=
  shapeCast_apply x h _ _ (by
    rw [Shape.rowMajor_val_two, Shape.rowMajor_val_one]
    show i.val * 1 + 0 = i.val
    omega)

theorem cast_mid {α : Type} {n m : ℕ} {h} (x : (⟨3, ![n, 1, m]⟩ : Shape).Idx → α) (i : Fin n) (j : Fin m) :
    shapeCast (s := ⟨3, ![n, 1, m]⟩) ⟨2, ![n, m]⟩ x h (ix2 i j) = x (ix3 i 0 j) :=
  shapeCast_apply x h _ _ (by
    rw [Shape.rowMajor_val_two, Shape.rowMajor_val_three]
    show (i.val * 1 + 0) * m + j.val = i.val * m + j.val
    rw [Nat.mul_one, Nat.add_zero])

theorem cast_into {α : Type} {n m : ℕ} {h} (x : (⟨2, ![n, m]⟩ : Shape).Idx → α) (i : Fin n) (j : Fin m) :
    shapeCast (s := ⟨2, ![n, m]⟩) ⟨3, ![n, 1, m]⟩ x h (ix3 i 0 j) = x (ix2 i j) :=
  shapeCast_apply x h _ _ (by
    rw [Shape.rowMajor_val_two, Shape.rowMajor_val_three]
    show i.val * m + j.val = (i.val * 1 + 0) * m + j.val
    rw [Nat.mul_one, Nat.add_zero])

theorem page_of {α : Type} {n r : ℕ} {hs h} (x : (⟨3, ![n, 3, 2]⟩ : Shape).Idx → α) (hr : r < 3) (i : Fin n) (c : Fin 2) :
    shapeCast ⟨2, ![n, 2]⟩ (extractStridedSlice ⟨3, ![n, 1, 2]⟩ ![0, r, 0] x hs) h (ix2 i c) = x (ix3 i ⟨r, hr⟩ c) := by
  rw [cast_mid]; exact slice3_axis1_apply r x hs i 0 c ⟨r, hr⟩ rfl

theorem row_of {α : Type} {n r : ℕ} {hs h} (x : (⟨2, ![n, 2]⟩ : Shape).Idx → α) (hr : r < n) (c : Fin 2) :
    shapeCast ⟨1, ![2]⟩ (extractStridedSlice ⟨2, ![1, 2]⟩ ![r, 0] x hs) h (ix1 c) = x (ix2 ⟨r, hr⟩ c) := by
  rw [shapeCast_1a_a_apply]; exact slice2_axis0_apply r x hs 0 c ⟨r, hr⟩ rfl

/-! ### The pieces of the keys and the counters -/

section Pieces
open Cert.Line
variable {τ : Topo} {sig : RefSig} {V : Valuation τ sig (Elt F)}

/-- One word of a list, as a scalar. -/
theorem key_part {n o : ℕ} {x : StableHlo.TRef sig ⟨⟨1, ![n]⟩, .i32⟩} {a : StableHlo.TRef sig ⟨⟨1, ![1]⟩, .i32⟩}
    {b : StableHlo.TRef sig ⟨⟨0, ![]⟩, .i32⟩} {hs he hn} (ho : o < n)
    (h : (StableHlo.TRef.unary (τ := τ) x a (extractStridedSlice ⟨1, ![1]⟩ ![o] · hs)).result V = V)
    (h' : (StableHlo.TRef.reshape (τ := τ) (Val := Elt F) a b he hn).result V = V) :
    get V b ix0 = get V x (ix1 ⟨o, ho⟩) := by
  rw [eq_treshape h', cast10, eq_unary h]; exact slice1 _ (0 : Fin 1) ho

/-- One word of every key of a table. -/
theorem key_col {n o : ℕ} {x : StableHlo.TRef sig ⟨⟨2, ![n, 2]⟩, .i32⟩} {a : StableHlo.TRef sig ⟨⟨2, ![n, 1]⟩, .i32⟩}
    {b : StableHlo.TRef sig ⟨⟨1, ![n]⟩, .i32⟩} {hs he hn} (ho : o < 2)
    (h : (StableHlo.TRef.unary (τ := τ) x a (extractStridedSlice ⟨2, ![n, 1]⟩ ![0, o] · hs)).result V = V)
    (h' : (StableHlo.TRef.reshape (τ := τ) (Val := Elt F) a b he hn).result V = V) (i : Fin n) :
    get V b (ix1 i) = get V x (ix2 i ⟨o, ho⟩) := by
  rw [eq_treshape h', cast_col, eq_unary h]; exact slice2_axis1_apply o _ hs i 0 ⟨o, ho⟩ rfl

/-- The counters of a line of `n` places: the place's number in the low words, nothing in the high words. -/
theorem counters {n : ℕ} (hn : n < 4294967296) {C : Shape} {i p q w v : StableHlo.TRef sig ⟨⟨1, ![n]⟩, .i64⟩}
    {lo hi : StableHlo.TRef sig ⟨⟨1, ![n]⟩, .i32⟩} {c c' : StableHlo.TRef sig ⟨C, .i64⟩}
    {d d' : Fin C.rank → Fin 1} {hd hd' hl hl'}
    (h0 : (StableHlo.TRef.nullary (τ := τ) i (iotaInDim ⟨1, ![n]⟩ 64 0)).result V = V)
    (h1 : (StableHlo.TRef.nullary (τ := τ) c (constantI C 64 1#64)).result V = V)
    (h2 : (StableHlo.TRef.unary (τ := τ) c p (broadcastInDim ⟨1, ![n]⟩ d hd)).result V = V)
    (h3 : (StableHlo.TRef.binary (τ := τ) p i q muli).result V = V)
    (h4 : (StableHlo.TRef.nullary (τ := τ) c' (constantI C 64 32#64)).result V = V)
    (h5 : (StableHlo.TRef.unary (τ := τ) c' w (broadcastInDim ⟨1, ![n]⟩ d' hd')).result V = V)
    (h6 : (StableHlo.TRef.binary (τ := τ) q w v Host.shrui).result V = V)
    (h7 : (StableHlo.TRef.unary (τ := τ) q lo (trunci 32 · hl)).result V = V)
    (h8 : (StableHlo.TRef.unary (τ := τ) v hi (trunci 32 · hl')).result V = V) (a : Fin n) :
    get V lo (ix1 a) = BitVec.ofNat 32 a.val ∧ get V hi (ix1 a) = 0#32 := by
  have eq := bin h3 (un h2 (eq_nullary h1)) (eq_nullary h0)
  rw [un h7 eq, un h8 (bin h6 eq (un h5 (eq_nullary h4)))]
  have e : ((1#64 : BitVec 64) * BitVec.ofNat 64 a.val) = BitVec.ofNat 64 a.val := by
    rw [show (1#64 : BitVec 64) = BitVec.ofNat 64 1 from rfl, mul_cnt, one_mul]
  constructor
  · show (((1#64 : BitVec 64) * BitVec.ofNat 64 a.val).setWidth 32 : W) = _
    rw [e, cnt_lo]
  · show ((IntOp.shrui .host ((1#64 : BitVec 64) * BitVec.ofNat 64 a.val) 32#64).setWidth 32 : W) = _
    rw [e, cnt_hi _ (by omega)]

/-- The fraction of the merged words. -/
theorem frac_tail {S C : Shape} {a b x s o c9 co : StableHlo.TRef sig ⟨S, .i32⟩} {k k' : StableHlo.TRef sig ⟨C, .i32⟩}
    {kf : StableHlo.TRef sig ⟨C, .f32⟩} {f f1 y : StableHlo.TRef sig ⟨S, .f32⟩} {d d' d'' : Fin C.rank → Fin S.rank}
    {hd hd' hd''} {rest : List (HloOp τ sig (Elt F))}
    (h : Solved V (StableHlo.TRef.binary a b x xori
      :: StableHlo.TRef.nullary k (constantI C 32 9#32)
      :: StableHlo.TRef.unary k c9 (broadcastInDim S d hd)
      :: StableHlo.TRef.binary x c9 s Host.shrui
      :: StableHlo.TRef.nullary k' (constantI C 32 1065353216#32)
      :: StableHlo.TRef.unary k' co (broadcastInDim S d' hd')
      :: StableHlo.TRef.binary s co o ori
      :: StableHlo.TRef.unary o f (bitcastToFloat .f32)
      :: StableHlo.TRef.nullary kf (constant C .f32 0x3F800000#32)
      :: StableHlo.TRef.unary kf f1 (broadcastInDim S d'' hd'')
      :: StableHlo.TRef.binary f f1 y subf :: rest)) :
    (∀ i, get V y i = frac ((get V a i : W) ^^^ get V b i)) ∧ Solved V rest := by
  obtain ⟨h1, h2, h3, h4, h5, h6, h7, h8, h9, h10, h11, hr⟩ := h
  refine ⟨fun i => ?_, hr⟩
  rw [bin h11 (un h8 (bin h7 (bin h4 (eq_binary h1) (un h3 (eq_nullary h2))) (un h6 (eq_nullary h5)))) (un h10 (eq_nullary h9))]
  show FloatOps.subf (FloatOps.ofBits .f32 ((IntOp.shrui .host ((get V a i : W) ^^^ get V b i) 9#32) ||| 1065353216#32)) (lit 0x3F800000#32) = _
  rw [shr9]; rfl

end Pieces

end Cert.Words

end
-- ==== Proof.HostDraw.lean ====
/- The kernel's draws on the host: the keys of every step and the draws of its two tests. -/
module

public import proofs.«01_k».proof.Proof.HostLine
public import proofs.«01_k».proof.Proof.Words
public import Idealize.ShloMosaic.Lib.ValueLayoutCasts

@[expose] public section

set_option maxRecDepth 16384

namespace Cert.KernelIdeal.Host

open Idealize.ShloMosaic Idealize.ShloMosaic.TcCoe Cert.Line Cert.Threefry Cert.Words Cert.KernelIdeal.Gen
open Idealize.ShloMosaic.ValueIdx

variable {F : FTy → Type} [FloatOps F] {V : Valuation τ sig (Elt F)}

/-- The base key. -/
theorem base_key (h : Solved V hostOps0) : (V main_v6 : S2.Idx → W) (ix1 0) = 0#32 ∧ (V main_v6 : S2.Idx → W) (ix1 1) = 42#32
    ∧ (∀ t : Fin 100, (V main_v8 : S100.Idx → W) (ix1 t) = BitVec.ofNat 32 t.val)
    ∧ ∀ i : Fin 32, (V main_cst : S32.Idx → F .f32) (ix1 i) = lit (lit0 (S32.rowMajor (ix1 i))) := by
  obtain ⟨hb, h0, h1, h2, h3, h4, h5, h6, h7, h8, h9, h10, h11, -⟩ := h
  have e := rbin h9 (run h4 (run h3 (rbin h2 (rnul h0) (rnul h1)))) (run h8 (run h7 (rbin h6 (rnul h0) (rnul h5))))
  refine ⟨?_, ?_, fun t => ?_, fun i => ?_⟩
  · exact (congrFun e (ix1 0)).trans ((cat1_fst _ _).trans ((bcast0 _ _).trans (shr32 42#32)))
  · exact (congrFun e (ix1 1)).trans ((cat1_snd _ _).trans ((bcast0 _ _).trans (and_ones 42#32)))
  · exact congrFun (run h11 (rnul h10)) (ix1 t)
  · exact congrFun (rnul hb) (ix1 i)

/-- Every step's key. -/
theorem fold_all (h : Solved V hostOps0_1) (t : Fin 100) (c : Fin 2) :
    (V main_v9 : S100x2.Idx → W) (ix2 t c) = sub ((V main_v6 : S2.Idx → W) (ix1 0)) ((V main_v6 : S2.Idx → W) (ix1 1))
      ((V main_v8 : S100.Idx → W) (ix1 t)) c := by
  obtain ⟨h0, h1, h2, h3, h4, h5, h6, h7, h8, h9, h10, h11, h12, h13, h14, h⟩ := h
  obtain ⟨⟨p2, p0⟩, h⟩ := pre_one h fun _ => ⟨_, fun _ => rfl⟩
  obtain ⟨g1, h⟩ := grpA_step h
  obtain ⟨g2, h⟩ := grpB_step h
  obtain ⟨g3, h⟩ := grpA_step h
  obtain ⟨g4, h⟩ := grpB_step h
  obtain ⟨g5, h⟩ := grpA_step h
  obtain ⟨hc, -⟩ := h
  have u := tf_of (p2 (ix2 t 0)) (p0 (ix2 t 0)) (g1 _) (g2 _) (g3 _) (g4 _) (g5 _)
  rw [bcast0, bcast0] at u
  have e := bin h8 (un h3 (bin h2 (rfl : get V (.of main_v8 : StableHlo.TRef sig ⟨S100, .i32⟩) = _) (un h1 (eq_nullary h0))))
    (un h7 (bin h6 (rfl : get V (.of main_v8 : StableHlo.TRef sig ⟨S100, .i32⟩) = _) (un h5 (eq_nullary h4))))
  have x0 := (congrFun (un h13 e) (ix2 t 0)).trans ((slice2_axis1_apply 0 _ _ t 0 0 rfl).trans ((cat2_fst _ _ t).trans
    ((bcol (by decide) _ t 0).trans (shr32 ((V main_v8 : S100.Idx → W) (ix1 t))))))
  have x1 := (congrFun (un h14 e) (ix2 t 0)).trans ((slice2_axis1_apply 1 _ _ t 0 1 rfl).trans ((cat2_snd _ _ t).trans
    ((bcol (by decide) _ t 0).trans (and_ones ((V main_v8 : S100.Idx → W) (ix1 t))))))
  rw [key_part (by decide) h9 h10, key_part (by decide) h11 h12, x0, x1] at u
  match c with
  | 0 => exact (congrFun (eq_binary hc) (ix2 t 0)).trans ((cat2_fst _ _ t).trans (congrArg Prod.fst u))
  | 1 => exact (congrFun (eq_binary hc) (ix2 t 1)).trans ((cat2_snd _ _ t).trans (congrArg Prod.snd u))

/-- Every step's three keys. -/
theorem split_all (h : Solved V hostOps0_2) (t : Fin 100) (r : Fin 3) (c : Fin 2) :
    (V main_v10 : S100x3x2.Idx → W) (ix3 t r c) = sub ((V main_v9 : S100x2.Idx → W) (ix2 t 0)) ((V main_v9 : S100x2.Idx → W) (ix2 t 1))
      (BitVec.ofNat 32 r.val) c := by
  obtain ⟨h0, h1, h2, h3, h4, h5, h6, h7, h8, h9, h10, h11, h12, h13, h14, h15, h16, h⟩ := h
  obtain ⟨⟨p2, p0⟩, h⟩ := pre_many h fun _ => ⟨_, fun _ => rfl⟩
  obtain ⟨g1, h⟩ := grpA_step h
  obtain ⟨g2, h⟩ := grpB_step h
  obtain ⟨g3, h⟩ := grpA_step h
  obtain ⟨g4, h⟩ := grpB_step h
  obtain ⟨g5, h⟩ := grpA_step h
  obtain ⟨ha, hb, hc, -⟩ := h
  have u := tf_of (p2 (ix2 t r)) (p0 (ix2 t r)) (g1 _) (g2 _) (g3 _) (g4 _) (g5 _)
  obtain ⟨lo, hi⟩ := counters (by decide) h4 h5 h6 h7 h8 h9 h10 h11 h12 r
  rw [bcols (by decide), bcols (by decide), brows (by decide), brows (by decide), eq_unary h13, eq_unary h14, eq_unary h15,
    eq_unary h16, brow (by decide), brow (by decide), bcol (by decide), bcol (by decide), key_col (by decide) h0 h1,
    key_col (by decide) h2 h3, lo, hi] at u
  have e := bin hc (eq_unary ha) (eq_unary hb)
  match c with
  | 0 => exact (congrFun e (ix3 t r 0)).trans ((cat3_fst _ _ t r).trans ((blast (by decide) (by decide) _ t r 0).trans (congrArg Prod.fst u)))
  | 1 => exact (congrFun e (ix3 t r 1)).trans ((cat3_snd _ _ t r).trans ((blast (by decide) (by decide) _ t r 0).trans (congrArg Prod.snd u)))

/-- The three keys one by one, and the bounds of the draws. -/
theorem keys_all (h : Solved V hostOps0_3) :
    (∀ (t : Fin 100) (c : Fin 2), (V main_v12 : S100x2.Idx → W) (ix2 t c) = (V main_v10 : S100x3x2.Idx → W) (ix3 t 0 c)
      ∧ (V main_v14 : S100x2.Idx → W) (ix2 t c) = (V main_v10 : S100x3x2.Idx → W) (ix3 t 1 c)
      ∧ (V main_v16 : S100x2.Idx → W) (ix2 t c) = (V main_v10 : S100x3x2.Idx → W) (ix3 t 2 c))
    ∧ (V main_cst_2 : S_.Idx → F .f32) = constant S_ .f32 0x2B8CBCCC#32
    ∧ (V main_cst_3 : S_.Idx → F .f32) = constant S_ .f32 0x3F800000#32 := by
  obtain ⟨h0, h1, h2, h3, h4, h5, h6, h7, -⟩ := h
  have e1 : (V main_v12 : S100x2.Idx → W) = shapeCast S100x2 (V main_v11 : S100x1x2.Idx → W) shapeCasts_S100x1x2_S100x2 := eq_reshape h1
  have e3 : (V main_v14 : S100x2.Idx → W) = shapeCast S100x2 (V main_v13 : S100x1x2.Idx → W) shapeCasts_S100x1x2_S100x2 := eq_reshape h3
  have e5 : (V main_v16 : S100x2.Idx → W) = shapeCast S100x2 (V main_v15 : S100x1x2.Idx → W) shapeCasts_S100x1x2_S100x2 := eq_reshape h5
  rw [run h0 rfl] at e1
  rw [run h2 rfl] at e3
  rw [run h4 rfl] at e5
  refine ⟨fun t c => ⟨?_, ?_, ?_⟩, rnul h6, rnul h7⟩
  · rw [e1]; exact page_of _ (by decide) t c
  · rw [e3]; exact page_of _ (by decide) t c
  · rw [e5]; exact page_of _ (by decide) t c

/-- The uniform draws of the acceptances. -/
theorem uniform_a (h : Solved V hostOps0_4) (hl : (V main_cst_2 : S_.Idx → F .f32) = constant S_ .f32 0x2B8CBCCC#32)
    (hh : (V main_cst_3 : S_.Idx → F .f32) = constant S_ .f32 0x3F800000#32) (t : Fin 100) (i : Fin 32) :
    (V main_v17 : S100x32.Idx → F .f32) (ix2 t i) = uni (draw ((V main_v14 : S100x2.Idx → W) (ix2 t 0))
      ((V main_v14 : S100x2.Idx → W) (ix2 t 1)) (BitVec.ofNat 32 i.val)) := by
  obtain ⟨b0, b1, b2, b3, h0, h1, h2, h3, h4, h5, h6, h7, h8, h9, h10, h11, h12, h13, h14, h15, h16, h⟩ := h
  obtain ⟨⟨p2, p0⟩, h⟩ := pre_many h fun _ => ⟨_, fun _ => rfl⟩
  obtain ⟨g1, h⟩ := grpA_step h
  obtain ⟨g2, h⟩ := grpB_step h
  obtain ⟨g3, h⟩ := grpA_step h
  obtain ⟨g4, h⟩ := grpB_step h
  obtain ⟨g5, h⟩ := grpA_step h
  have u := tf_of (p2 (ix2 t i)) (p0 (ix2 t i)) (g1 _) (g2 _) (g3 _) (g4 _) (g5 _)
  obtain ⟨lo, hi⟩ := counters (by decide) h4 h5 h6 h7 h8 h9 h10 h11 h12 i
  rw [bcols (by decide), bcols (by decide), brows (by decide), brows (by decide), eq_unary h13, eq_unary h14, eq_unary h15,
    eq_unary h16, brow (by decide), brow (by decide), bcol (by decide), bcol (by decide), key_col (by decide) h0 h1,
    key_col (by decide) h2 h3, lo, hi] at u
  obtain ⟨f, q1, q2, q3, q4, q5, q6, q7, q8, q9, q10, -⟩ := frac_tail h
  have l2 := un b2 (un b0 hl)
  have l3 := un b3 (un b1 hh)
  have w := bin q10 (un q9 (un q8 l2)) (bin q7 (bin q4 rfl (un q3 (un q2 (bin q1 l3 l2)))) (un q6 (un q5 l2)))
  exact (congrFun w (ix2 t i)).trans (uni_of ((f (ix2 t i)).trans (congrArg frac (merged u))))

/-- The uniform draws of the swaps. -/
theorem uniform_s (h : Solved V hostOps0_6) (hl : (V main_cst_4 : S_.Idx → F .f32) = constant S_ .f32 0x2B8CBCCC#32)
    (hh : (V main_cst_5 : S_.Idx → F .f32) = constant S_ .f32 0x3F800000#32) (t : Fin 100) (i : Fin 32) :
    (V main_v19 : S100x32.Idx → F .f32) (ix2 t i) = uni (draw ((V main_v16 : S100x2.Idx → W) (ix2 t 0))
      ((V main_v16 : S100x2.Idx → W) (ix2 t 1)) (BitVec.ofNat 32 i.val)) := by
  obtain ⟨b0, b1, b2, b3, h0, h1, h2, h3, h4, h5, h6, h7, h8, h9, h10, h11, h12, h13, h14, h15, h16, h⟩ := h
  obtain ⟨⟨p2, p0⟩, h⟩ := pre_many h fun _ => ⟨_, fun _ => rfl⟩
  obtain ⟨g1, h⟩ := grpA_step h
  obtain ⟨g2, h⟩ := grpB_step h
  obtain ⟨g3, h⟩ := grpA_step h
  obtain ⟨g4, h⟩ := grpB_step h
  obtain ⟨g5, h⟩ := grpA_step h
  have u := tf_of (p2 (ix2 t i)) (p0 (ix2 t i)) (g1 _) (g2 _) (g3 _) (g4 _) (g5 _)
  obtain ⟨lo, hi⟩ := counters (by decide) h4 h5 h6 h7 h8 h9 h10 h11 h12 i
  rw [bcols (by decide), bcols (by decide), brows (by decide), brows (by decide), eq_unary h13, eq_unary h14, eq_unary h15,
    eq_unary h16, brow (by decide), brow (by decide), bcol (by decide), bcol (by decide), key_col (by decide) h0 h1,
    key_col (by decide) h2 h3, lo, hi] at u
  obtain ⟨f, q1, q2, q3, q4, q5, q6, q7, q8, q9, q10, -⟩ := frac_tail h
  have l2 := un b2 (un b0 hl)
  have l3 := un b3 (un b1 hh)
  have w := bin q10 (un q9 (un q8 l2)) (bin q7 (bin q4 rfl (un q3 (un q2 (bin q1 l3 l2)))) (un q6 (un q5 l2)))
  exact (congrFun w (ix2 t i)).trans (uni_of ((f (ix2 t i)).trans (congrArg frac (merged u))))

/-- What the launch reads. -/
theorem given (h5 : Solved V hostOps0_5) (h7 : Solved V hostOps0_7) :
    ((V main_cst_4 : S_.Idx → F .f32) = constant S_ .f32 0x2B8CBCCC#32
      ∧ (V main_cst_5 : S_.Idx → F .f32) = constant S_ .f32 0x3F800000#32)
    ∧ (∀ (t : Fin 100) (c : Fin 2), (V main_v21 : S100x1x2.Idx → W) (ix3 t 0 c) = (V main_v12 : S100x2.Idx → W) (ix2 t c))
    ∧ (∀ (t : Fin 100) (i : Fin 32),
        (V main_v24 : S100x32x2.Idx → F .f32) (ix3 t i 0) = FloatOps.hostUnary .log ((V main_v17 : S100x32.Idx → F .f32) (ix2 t i))
        ∧ (V main_v24 : S100x32x2.Idx → F .f32) (ix3 t i 1) = FloatOps.hostUnary .log ((V main_v19 : S100x32.Idx → F .f32) (ix2 t i)))
    ∧ (∀ i : Fin 32, (V main_v25 : S32x1.Idx → F .f32) (ix2 i 0) = (V main_cst : S32.Idx → F .f32) (ix1 i))
    ∧ ∀ j : Fin 2048, (V main_v26 : S1x2048.Idx → F .f32) (ix2 0 j) = (V main_arg2 : S2048.Idx → F .f32) (ix1 j) := by
  obtain ⟨a0, a1, a2, -⟩ := h5
  obtain ⟨h0, h1, h2, h3, h4, h5, h6, -⟩ := h7
  have e1 : (V main_v21 : S100x1x2.Idx → W) = shapeCast S100x1x2 (V main_v12 : S100x2.Idx → W) shapeCasts_S100x2_S100x1x2 := eq_reshape h1
  have e5 : (V main_v25 : S32x1.Idx → F .f32) = shapeCast S32x1 (V main_cst : S32.Idx → F .f32) shapeCasts_S32_S32x1 := eq_reshape h5
  have e6 : (V main_v26 : S1x2048.Idx → F .f32) = shapeCast S1x2048 (V main_arg2 : S2048.Idx → F .f32) shapeCasts_S2048_S1x2048 := eq_reshape h6
  have e4 := rbin h4 (run h2 (run a0 rfl)) (run h3 (run h0 rfl))
  refine ⟨⟨rnul a1, rnul a2⟩, fun t c => ?_, fun t i => ⟨?_, ?_⟩, fun i => ?_, fun j => ?_⟩
  · rw [e1]; exact cast_into _ t c
  · exact (congrFun e4 (ix3 t i 0)).trans ((cat3_fst _ _ t i).trans (blast (by decide) (by decide) _ t i 0))
  · exact (congrFun e4 (ix3 t i 1)).trans ((cat3_snd _ _ t i).trans (blast (by decide) (by decide) _ t i 0))
  · rw [e5]; exact shapeCast_a_a1_apply _ _ i 0
  · rw [e6]; exact shapeCast_a_1a_apply _ _ 0 j

end Cert.KernelIdeal.Host

end
-- ==== Proof.KernelNoise.lean ====
/- The kernel's random words: the generator it writes out on a whole block of counters is, place by place, the function of
   four words that the host programs compute, and what follows is a draw on the open interval around zero. -/
module

public import proofs.«01_k».proof.Proof.Words
public import proofs.«01_k».proof.Proof.Gen.KernelIdeal.Skeleton

@[expose] public section

noncomputable section

namespace Cert.KernelIdeal.Body

open Idealize.ShloMosaic Idealize.SL.Sem Cert.KernelIdeal Cert.KernelIdeal.Gen Cert.Threefry Cert.Words

variable {F : FTy → Type} [FloatOps F]

/-- One round as the kernel writes it. -/
def turn (R R' : W) (p : W × W) : W × W :=
  (p.1 + p.2, IntOp.xori (IntOp.ori (IntOp.shli .vector p.2 R) (IntOp.shrui .vector p.2 R')) (p.1 + p.2))

theorem turn_eq {R R' : W} (hR : R.toNat < 32) (hR' : R'.toNat < 32) (p : W × W) : turn R R' p = rnd R.toNat R'.toNat p := by
  refine Prod.ext rfl ?_
  show IntOp.xori (IntOp.ori (IntOp.shli .vector p.2 R) (IntOp.shrui .vector p.2 R')) (p.1 + p.2) = (p.1 + p.2) ^^^ _
  rw [IntOp.shli, IntOp.shrui, if_pos hR, if_pos hR']
  exact BitVec.xor_comm _ _

theorem turns_a {p p1 p2 p3 : W × W} {q a b n : W} {q' : W} (h1 : p1 = turn 13#32 19#32 p) (h2 : p2 = turn 15#32 17#32 p1)
    (h3 : p3 = turn 26#32 6#32 p2) (h4 : (q, q') = inj a b n (turn 6#32 26#32 p3)) : (q, q') = grpA a b n p := by
  rw [h4, h3, h2, h1]
  simp only [turn_eq (R := 13#32) (R' := 19#32) (by decide) (by decide), turn_eq (R := 15#32) (R' := 17#32) (by decide) (by decide),
    turn_eq (R := 26#32) (R' := 6#32) (by decide) (by decide), turn_eq (R := 6#32) (R' := 26#32) (by decide) (by decide)]
  rfl

theorem turns_b {p p1 p2 p3 : W × W} {q a b n : W} {q' : W} (h1 : p1 = turn 17#32 15#32 p) (h2 : p2 = turn 29#32 3#32 p1)
    (h3 : p3 = turn 16#32 16#32 p2) (h4 : (q, q') = inj a b n (turn 24#32 8#32 p3)) : (q, q') = grpB a b n p := by
  rw [h4, h3, h2, h1]
  simp only [turn_eq (R := 17#32) (R' := 15#32) (by decide) (by decide), turn_eq (R := 29#32) (R' := 3#32) (by decide) (by decide),
    turn_eq (R := 16#32) (R' := 16#32) (by decide) (by decide), turn_eq (R := 24#32) (R' := 8#32) (by decide) (by decide)]
  rfl

section Chain

variable (a b : W)

/-- The third key, as the kernel's scalar unit makes it. -/
def k2 : W := Scalar.xori (Scalar.xori a b) 466688986#32
def w24 : IVec S32x2048 32 := k0_pay24 (F := F) b (k2 a b) (k0_pay11 (F := F) a b) (k0_pay12 (F := F) a b) (k0_pay13 (F := F) a b)
def w25 : IVec S32x2048 32 := k0_pay25 (F := F) b (k2 a b) (k0_pay11 (F := F) a b) (k0_pay12 (F := F) a b) (k0_pay13 (F := F) a b)
def w35 : IVec S32x2048 32 := k0_pay35 (F := F) a b (k2 a b) (w24 (F := F) a b) (w25 (F := F) a b) k0_pay26
def w36 : IVec S32x2048 32 := k0_pay36 (F := F) a b (k2 a b) (w24 (F := F) a b) (w25 (F := F) a b) k0_pay26
def w37 : IVec S32x2048 32 := k0_pay37 (F := F) a b (k2 a b) (w24 (F := F) a b) (w25 (F := F) a b) k0_pay26
def w48 : IVec S32x2048 32 := k0_pay48 (F := F) b (k2 a b) (w35 (F := F) a b) (w36 (F := F) a b) (w37 (F := F) a b)
def w49 : IVec S32x2048 32 := k0_pay49 (F := F) b (k2 a b) (w35 (F := F) a b) (w36 (F := F) a b) (w37 (F := F) a b)
/-- The block of draws. -/
def noise : FVec F S32x2048 .f32 := k0_pay51 (F := F) a (k2 a b) (w48 (F := F) a b) (w49 (F := F) a b) k0_pay50

/-- A place's counter. -/
def place (i : S32x2048.Idx) : W := BitVec.ofNat 32 (2048 * (i 0).val + (i 1).val)

theorem place_eq (i : S32x2048.Idx) :
    IntOp.addi (IntOp.muli (BitVec.ofNat 32 (0 * S32x2048.size 0 + (i 0).val)) 2048#32)
      (BitVec.ofNat 32 (0 * S32x2048.size 1 + (i 1).val)) = place i := by
  rw [Nat.zero_mul, Nat.zero_add, Nat.zero_mul, Nat.zero_add]
  apply BitVec.eq_of_toNat_eq
  simp [IntOp.addi, IntOp.muli, place, BitVec.toNat_add, BitVec.toNat_mul, Nat.mul_comm]

theorem start (i : S32x2048.Idx) : k0_pay9 (F := F) b i = place i + b := by rw [← place_eq]; rfl

theorem group1 (i : S32x2048.Idx) :
    ((k0_pay17 (k0_pay11 (F := F) a b) (k0_pay12 (F := F) a b) (k0_pay13 (F := F) a b) i + b, k0_pay18 (k2 a b) (k0_pay11 (F := F) a b) (k0_pay12 (F := F) a b) (k0_pay13 (F := F) a b) i) : W × W)
      = grpA b (k2 a b) 1#32 (0#32 + a, k0_pay9 (F := F) b i) :=
  turns_a (p1 := (k0_pay10 (F := F) a b i, k0_pay11 (F := F) a b i))
    (p2 := (k0_pay12 (F := F) a b i, k0_pay14 (k0_pay11 (F := F) a b) (k0_pay12 (F := F) a b) (k0_pay13 (F := F) a b) i))
    (p3 := (k0_pay15 (k0_pay11 (F := F) a b) (k0_pay12 (F := F) a b) (k0_pay13 (F := F) a b) i, k0_pay16 (k0_pay11 (F := F) a b) (k0_pay12 (F := F) a b) (k0_pay13 (F := F) a b) i)) rfl rfl rfl rfl

theorem group2 (i : S32x2048.Idx) :
    ((k0_pay25 (F := F) b (k2 a b) (k0_pay11 (F := F) a b) (k0_pay12 (F := F) a b) (k0_pay13 (F := F) a b) i + k2 a b, k0_pay27 (F := F) a (w24 (F := F) a b) (w25 (F := F) a b) k0_pay26 i) : W × W)
      = grpB (k2 a b) a 2#32 (k0_pay17 (k0_pay11 (F := F) a b) (k0_pay12 (F := F) a b) (k0_pay13 (F := F) a b) i + b, k0_pay18 (k2 a b) (k0_pay11 (F := F) a b) (k0_pay12 (F := F) a b) (k0_pay13 (F := F) a b) i) :=
  turns_b (p1 := (k0_pay19 (F := F) b (k2 a b) (k0_pay11 (F := F) a b) (k0_pay12 (F := F) a b) (k0_pay13 (F := F) a b) i, k0_pay20 (F := F) b (k2 a b) (k0_pay11 (F := F) a b) (k0_pay12 (F := F) a b) (k0_pay13 (F := F) a b) i))
    (p2 := (k0_pay21 (F := F) b (k2 a b) (k0_pay11 (F := F) a b) (k0_pay12 (F := F) a b) (k0_pay13 (F := F) a b) i, k0_pay22 (F := F) b (k2 a b) (k0_pay11 (F := F) a b) (k0_pay12 (F := F) a b) (k0_pay13 (F := F) a b) i))
    (p3 := (k0_pay23 (F := F) b (k2 a b) (k0_pay11 (F := F) a b) (k0_pay12 (F := F) a b) (k0_pay13 (F := F) a b) i, k0_pay24 (F := F) b (k2 a b) (k0_pay11 (F := F) a b) (k0_pay12 (F := F) a b) (k0_pay13 (F := F) a b) i)) rfl rfl rfl rfl

theorem group3 (i : S32x2048.Idx) :
    ((k0_pay34 (F := F) a (k2 a b) (w24 (F := F) a b) (w25 (F := F) a b) k0_pay26 i + a, k0_pay35 (F := F) a b (k2 a b) (w24 (F := F) a b) (w25 (F := F) a b) k0_pay26 i) : W × W)
      = grpA a b 3#32 (k0_pay25 (F := F) b (k2 a b) (k0_pay11 (F := F) a b) (k0_pay12 (F := F) a b) (k0_pay13 (F := F) a b) i + k2 a b, k0_pay27 (F := F) a (w24 (F := F) a b) (w25 (F := F) a b) k0_pay26 i) :=
  turns_a (p1 := (k0_pay28 (F := F) a (k2 a b) (w24 (F := F) a b) (w25 (F := F) a b) k0_pay26 i, k0_pay29 (F := F) a (k2 a b) (w24 (F := F) a b) (w25 (F := F) a b) k0_pay26 i))
    (p2 := (k0_pay30 (F := F) a (k2 a b) (w24 (F := F) a b) (w25 (F := F) a b) k0_pay26 i, k0_pay31 (F := F) a (k2 a b) (w24 (F := F) a b) (w25 (F := F) a b) k0_pay26 i))
    (p3 := (k0_pay32 (F := F) a (k2 a b) (w24 (F := F) a b) (w25 (F := F) a b) k0_pay26 i, k0_pay33 (F := F) a (k2 a b) (w24 (F := F) a b) (w25 (F := F) a b) k0_pay26 i)) rfl rfl rfl rfl

theorem group4 (i : S32x2048.Idx) :
    ((k0_pay43 (w35 (F := F) a b) (w36 (F := F) a b) (w37 (F := F) a b) i + b, k0_pay44 (k2 a b) (w35 (F := F) a b) (w36 (F := F) a b) (w37 (F := F) a b) i) : W × W)
      = grpB b (k2 a b) 4#32 (k0_pay34 (F := F) a (k2 a b) (w24 (F := F) a b) (w25 (F := F) a b) k0_pay26 i + a, k0_pay35 (F := F) a b (k2 a b) (w24 (F := F) a b) (w25 (F := F) a b) k0_pay26 i) :=
  turns_b (p1 := (k0_pay36 (F := F) a b (k2 a b) (w24 (F := F) a b) (w25 (F := F) a b) k0_pay26 i, k0_pay38 (w35 (F := F) a b) (w36 (F := F) a b) (w37 (F := F) a b) i))
    (p2 := (k0_pay39 (w35 (F := F) a b) (w36 (F := F) a b) (w37 (F := F) a b) i, k0_pay40 (w35 (F := F) a b) (w36 (F := F) a b) (w37 (F := F) a b) i))
    (p3 := (k0_pay41 (w35 (F := F) a b) (w36 (F := F) a b) (w37 (F := F) a b) i, k0_pay42 (w35 (F := F) a b) (w36 (F := F) a b) (w37 (F := F) a b) i)) rfl rfl rfl rfl

/-- The two words after the last four rounds, and the draw they make. -/
theorem noise_eq (i : S32x2048.Idx) : noise (F := F) a b i = sym (draw a b (place i)) := by
  obtain ⟨q, q', e, hn⟩ : ∃ q q' : W, ((q, q') : W × W) = grpA (k2 a b) a 5#32 (k0_pay43 (w35 (F := F) a b) (w36 (F := F) a b) (w37 (F := F) a b) i + b, k0_pay44 (k2 a b) (w35 (F := F) a b) (w36 (F := F) a b) (w37 (F := F) a b) i)
      ∧ noise (F := F) a b i = FloatOps.maximumf (lit 0xBF7FFFFF#32) (FloatOps.addf (FloatOps.mulf
          (FloatOps.subf (FloatOps.ofBits .f32 (IntOp.ori (IntOp.shrui .vector (q ^^^ q') 9#32) 1065353216#32)) (lit 0x3F800000#32))
          (lit 0x40000000#32)) (lit 0xBF7FFFFF#32)) :=
    ⟨_, _, turns_a (p1 := (k0_pay45 (F := F) b (k2 a b) (w35 (F := F) a b) (w36 (F := F) a b) (w37 (F := F) a b) i, k0_pay46 (F := F) b (k2 a b) (w35 (F := F) a b) (w36 (F := F) a b) (w37 (F := F) a b) i))
      (p2 := (k0_pay47 (F := F) b (k2 a b) (w35 (F := F) a b) (w36 (F := F) a b) (w37 (F := F) a b) i, k0_pay48 (F := F) b (k2 a b) (w35 (F := F) a b) (w36 (F := F) a b) (w37 (F := F) a b) i))
      (p3 := (w49 (F := F) a b i, IntOp.xori (IntOp.ori (IntOp.shli .vector (w48 (F := F) a b i) 26#32)
        (IntOp.shrui .vector (w48 (F := F) a b i) 6#32)) (w49 (F := F) a b i))) rfl rfl rfl rfl, rfl⟩
  have t : ((q, q') : W × W) = tf a b 0#32 (place i) := by
    rw [e, group4, group3, group2, group1, start]; rfl
  rw [hn, merged t, IntOp.shrui, if_pos (by decide)]; rfl

end Chain

end Cert.KernelIdeal.Body

end
-- ==== Proof.KernelRun.lean ====
/- What the kernel's body leaves in the two buffers it carries from one grid point to the next, and in the result at the
   last point: the generated runs' pieces, read as one function of the blocks the point reads. -/
module

public import proofs.«01_k».proof.Proof.KernelNoise
public import proofs.«01_k».proof.Proof.Gen.KernelIdeal.Value
public import Idealize.ShloMosaic.Lib.Pipeline.Value
public import Idealize.ShloMosaic.Lib.Tactic

@[expose] public section

noncomputable section

namespace Cert.KernelIdeal.Body

open Idealize.ShloMosaic Idealize.ShloMosaic.TcCoe Idealize.SL.Sem Cert.KernelIdeal Cert.KernelIdeal.Gen Cert.Threefry

variable {F : FTy → Type} [FloatOps F]

/-- The step's parity, as the kernel's scalar unit makes it. -/
def par (g : W) : W :=
  let d : BitVec 32 := Scalar.select (Scalar.cmpi .eq 2#32 0#32) 1#32 2#32
  let q : BitVec 32 := Scalar.remsi g d
  Scalar.select (Scalar.andi (Scalar.xori (Scalar.cmpi .slt q 0#32) (Scalar.cmpi .slt d 0#32)) (Scalar.cmpi .ne q 0#32))
    (Scalar.addi q d) q

/-- The column of row numbers. -/
def rows : IVec S32x1 32 := iota .tc S32x1 32 [0] iota_S32x1_d0_w32

section Values

variable (g a b : W) (x1 : Vec F S1x32x2 .f32) (A : Vec F S2048x2048 .f32) (c : Vec F S1x2048 .f32) (β : Vec F S32x1 .f32)
  (X : Vec F S32x2048 .f32) (L : Vec F S32x1 .f32)

def near_ : IVec S32x2048 1 := k0_pay53 (F := F) a (k2 a b) (w48 (F := F) a b) (w49 (F := F) a b) k0_pay50
def depthLo : FVec F S32x2048 .f32 := k0_pay54 a (k2 a b) (w48 (F := F) a b) (w49 (F := F) a b) k0_pay50
def depthHi : FVec F S32x2048 .f32 := k0_pay55 a (k2 a b) (w48 (F := F) a b) (w49 (F := F) a b) k0_pay50
def arg_ : FVec F S32x2048 .f32 := k0_pay56 (near_ (F := F) a b) (depthLo a b) (depthHi a b)
def poly_ : FVec F S32x2048 .f32 := k0_pay57 (near_ (F := F) a b) (depthLo a b) (depthHi a b)
def last_ : FVec F S32x2048 .f32 := k0_pay58 (near_ (F := F) a b)

/-- The points after the accept or reject. -/
def midX : FVec F S32x2048 .f32 :=
  k0_pay64 A (k0_pay5 c) (k0_pay6 β) X L (noise a b) (arg_ a b) (poly_ a b) (last_ a b) x1
/-- The log densities after the accept or reject. -/
def midL : FVec F S32x1 .f32 :=
  k0_pay65 A (k0_pay5 c) (k0_pay6 β) X L (noise a b) (arg_ a b) (poly_ a b) (last_ a b) x1

def gap_ (L : FVec F S32x1 .f32) : FVec F S32x1 .f32 := k0_pay69 (k0_pay6 β) L (par g) rows
def pairU : FVec F S32x1 .f32 := k0_pay70 (k0_pay60 x1) (par g) rows

/-- The points a body leaves. -/
def endX : FVec F S32x2048 .f32 :=
  k0_pay3 (midX a b x1 A c β X L) (par g) (k0_pay67 (midX a b x1 A c β X L) (par g) rows)
    (gap_ g β (midL a b x1 A c β X L)) (pairU g x1) (k0_pay71 rows) (k0_pay72 rows)
/-- The log densities a body leaves. -/
def endL : FVec F S32x1 .f32 :=
  k0_pay4 (midL a b x1 A c β X L) (par g) (k0_pay68 (midL a b x1 A c β X L) (par g) rows)
    (gap_ g β (midL a b x1 A c β X L)) (pairU g x1) (k0_pay71 rows) (k0_pay72 rows)
/-- The points the last body writes out. -/
def outX : FVec F S32x2048 .f32 :=
  k0_pay2 (midX a b x1 A c β X L) (par g) (k0_pay67 (midX a b x1 A c β X L) (par g) rows)
    (gap_ g β (midL a b x1 A c β X L)) (pairU g x1) (k0_pay71 rows) (k0_pay72 rows)

end Values

theorem hz : (![0, 0] : Fin 2 → Nat) = fun _ => 0 := funext fun a => by fin_cases a <;> rfl
theorem hz3 : (![0, 0, 0] : Fin 3 → Nat) = fun _ => 0 := funext fun a => by fin_cases a <;> rfl

/-- The two key words of a point's block. -/
def word0 (x0 : Vec F S1x1x2 .i32) : W :=
  View.ld x0 (Rect.unit (s := S1x1x2) ![0, 0, 0] S1x1x1.size inb_S1x1x2_S1x1x1_0_0_0) (Shape.Idx.first (s := S1x1x1) (by rw [numel1_S1x1x1]; decide))
def word1 (x0 : Vec F S1x1x2 .i32) : W :=
  View.ld x0 (Rect.unit (s := S1x1x2) ![0, 0, 1] S1x1x1.size inb_S1x1x2_S1x1x1_0_0_1) (Shape.Idx.first (s := S1x1x1) (by rw [numel1_S1x1x1]; decide))

section Runs

variable (c : Dev nD) (i : grid0.Coords) (arg1 : Memref sig .tc .smem S1x1x2 .i32) (harg1 : arg1.IsWhole)
  (arg2 : Memref sig .tc .vmem S1x32x2 .f32) (harg2 : arg2.IsWhole) (arg3 : Memref sig .tc .vmem S32x2048 .f32) (harg3 : arg3.IsWhole)
  (arg4 : Memref sig .tc .vmem S2048x2048 .f32) (harg4 : arg4.IsWhole) (arg5 : Memref sig .tc .vmem S1x2048 .f32) (harg5 : arg5.IsWhole)
  (arg6 : Memref sig .tc .vmem S32x1 .f32) (harg6 : arg6.IsWhole) (arg7 : Memref sig .tc .vmem S32x2048 .f32) (harg7 : arg7.IsWhole)
  (arg8 : Memref sig .tc .vmem S32x2048 .f32) (harg8 : arg8.IsWhole) (arg9 : Memref sig .tc .vmem S32x1 .f32) (harg9 : arg9.IsWhole)
  (x0 : Vec F S1x1x2 .i32) (x1 : Vec F S1x32x2 .f32) (x2 : Vec F S32x2048 .f32) (x3 : Vec F S2048x2048 .f32)
  (x4 : Vec F S1x2048 .f32) (x5 : Vec F S32x1 .f32) (xs0 : Vec F S32x2048 .f32) (xs1 : Vec F S32x1 .f32)

/-- The first point: the body starts from the given points and their log densities. -/
theorem points_A (hc0 : cond0_0 i) (hc1 : ¬cond0_1 i) :
    sout0_A_0 c i arg1 harg1 arg2 harg2 arg3 harg3 arg4 harg4 arg5 harg5 arg6 harg6 arg7 harg7
    arg8 harg8 arg9 harg9 hc0 hc1 x0 x1 x2 x3 x4 x5
      = endX (BitVec.ofNat 32 (i 0).val) (word0 x0) (word1 x0) x1 x3 x4 x5 (k0_pay7 x2) (k0_pay8 x3 x4 x2) := by
  unfold sout0_A_0
  rw [View.read_writes_eq_canon _ _ _ (scover0_A_0 c i arg1 harg1 arg2 harg2 arg3 harg3 arg4 harg4 arg5 harg5 arg6 harg6 arg7 harg7
    arg8 harg8 arg9 harg9 hc0 hc1 x0 x1 x2 x3 x4 x5)]
  unfold kernelRun0_A
  dsimp only
  sl_unfold_words
  rw [View.canon_cons_unit_zero (S := S32x2048) hz]
  simp only [View.readCov_unit_zero (S := S32x2048) _ hz, View.readCov_unit_zero (S := S32x1) _ hz]
  simp only [View.readAt_eq_ld, harg1.read_unread, harg2.read_unread, harg3.read_unread, harg4.read_unread, harg5.read_unread,
    harg6.read_unread, harg8.read_unread, harg9.read_unread, View.ld_unit_zero (S := S32x2048) hz,
    View.ld_unit_zero (S := S2048x2048) hz, View.ld_unit_zero (S := S1x2048) hz, View.ld_unit_zero (S := S32x1) hz,
    View.ld_unit_zero (S := S1x32x2) hz3]
  rfl

theorem likes_A (hc0 : cond0_0 i) (hc1 : ¬cond0_1 i) :
    sout0_A_1 c i arg1 harg1 arg2 harg2 arg3 harg3 arg4 harg4 arg5 harg5 arg6 harg6 arg7 harg7
    arg8 harg8 arg9 harg9 hc0 hc1 x0 x1 x2 x3 x4 x5
      = endL (BitVec.ofNat 32 (i 0).val) (word0 x0) (word1 x0) x1 x3 x4 x5 (k0_pay7 x2) (k0_pay8 x3 x4 x2) := by
  unfold sout0_A_1
  rw [View.read_writes_eq_canon _ _ _ (scover0_A_1 c i arg1 harg1 arg2 harg2 arg3 harg3 arg4 harg4 arg5 harg5 arg6 harg6 arg7 harg7
    arg8 harg8 arg9 harg9 hc0 hc1 x0 x1 x2 x3 x4 x5)]
  unfold kernelRun0_A
  dsimp only
  sl_unfold_words
  rw [View.canon_cons_unit_zero (S := S32x1) hz]
  simp only [View.readCov_unit_zero (S := S32x2048) _ hz, View.readCov_unit_zero (S := S32x1) _ hz]
  simp only [View.readAt_eq_ld, harg1.read_unread, harg2.read_unread, harg3.read_unread, harg4.read_unread, harg5.read_unread,
    harg6.read_unread, harg8.read_unread, harg9.read_unread, View.ld_unit_zero (S := S32x2048) hz,
    View.ld_unit_zero (S := S2048x2048) hz, View.ld_unit_zero (S := S1x2048) hz, View.ld_unit_zero (S := S32x1) hz,
    View.ld_unit_zero (S := S1x32x2) hz3]
  rfl

/-- The points in between: the body starts from what it finds. -/
theorem points_B (hc0 : ¬cond0_0 i) (hc1 : ¬cond0_1 i) :
    sout0_B_0 c i arg1 harg1 arg2 harg2 arg3 harg3 arg4 harg4 arg5 harg5 arg6 harg6 arg7 harg7
    arg8 harg8 arg9 harg9 hc0 hc1 x0 x1 x2 x3 x4 x5 xs0 xs1
      = endX (BitVec.ofNat 32 (i 0).val) (word0 x0) (word1 x0) x1 x3 x4 x5 xs0 xs1 := by
  unfold sout0_B_0
  rw [View.read_writes_eq_canon _ _ _ (scover0_B_0 c i arg1 harg1 arg2 harg2 arg3 harg3 arg4 harg4 arg5 harg5 arg6 harg6 arg7 harg7
    arg8 harg8 arg9 harg9 hc0 hc1 x0 x1 x2 x3 x4 x5 xs0 xs1)]
  unfold kernelRun0_B
  dsimp only
  rw [View.canon_unit_zero hz]
  sl_unfold_words
  simp only [View.readAt_eq_ld, harg1.read_unread, harg2.read_unread, harg3.read_unread, harg4.read_unread, harg5.read_unread,
    harg6.read_unread, harg8.read_unread, harg9.read_unread, View.ld_unit_zero (S := S32x2048) hz,
    View.ld_unit_zero (S := S2048x2048) hz, View.ld_unit_zero (S := S1x2048) hz, View.ld_unit_zero (S := S32x1) hz,
    View.ld_unit_zero (S := S1x32x2) hz3]
  rfl

theorem likes_B (hc0 : ¬cond0_0 i) (hc1 : ¬cond0_1 i) :
    sout0_B_1 c i arg1 harg1 arg2 harg2 arg3 harg3 arg4 harg4 arg5 harg5 arg6 harg6 arg7 harg7
    arg8 harg8 arg9 harg9 hc0 hc1 x0 x1 x2 x3 x4 x5 xs0 xs1
      = endL (BitVec.ofNat 32 (i 0).val) (word0 x0) (word1 x0) x1 x3 x4 x5 xs0 xs1 := by
  unfold sout0_B_1
  rw [View.read_writes_eq_canon _ _ _ (scover0_B_1 c i arg1 harg1 arg2 harg2 arg3 harg3 arg4 harg4 arg5 harg5 arg6 harg6 arg7 harg7
    arg8 harg8 arg9 harg9 hc0 hc1 x0 x1 x2 x3 x4 x5 xs0 xs1)]
  unfold kernelRun0_B
  dsimp only
  rw [View.canon_unit_zero hz]
  sl_unfold_words
  simp only [View.readAt_eq_ld, harg1.read_unread, harg2.read_unread, harg3.read_unread, harg4.read_unread, harg5.read_unread,
    harg6.read_unread, harg8.read_unread, harg9.read_unread, View.ld_unit_zero (S := S32x2048) hz,
    View.ld_unit_zero (S := S2048x2048) hz, View.ld_unit_zero (S := S1x2048) hz, View.ld_unit_zero (S := S32x1) hz,
    View.ld_unit_zero (S := S1x32x2) hz3]
  rfl

/-- The last point. -/
theorem points_C (hc0 : ¬cond0_0 i) (hc1 : cond0_1 i) :
    sout0_C_0 c i arg1 harg1 arg2 harg2 arg3 harg3 arg4 harg4 arg5 harg5 arg6 harg6 arg7 harg7
    arg8 harg8 arg9 harg9 hc0 hc1 x0 x1 x2 x3 x4 x5 xs0 xs1
      = endX (BitVec.ofNat 32 (i 0).val) (word0 x0) (word1 x0) x1 x3 x4 x5 xs0 xs1 := by
  unfold sout0_C_0
  rw [View.read_writes_eq_canon _ _ _ (scover0_C_0 c i arg1 harg1 arg2 harg2 arg3 harg3 arg4 harg4 arg5 harg5 arg6 harg6 arg7 harg7
    arg8 harg8 arg9 harg9 hc0 hc1 x0 x1 x2 x3 x4 x5 xs0 xs1)]
  unfold kernelRun0_C
  dsimp only
  rw [View.canon_unit_zero hz]
  sl_unfold_words
  simp only [View.readAt_eq_ld, harg1.read_unread, harg2.read_unread, harg3.read_unread, harg4.read_unread, harg5.read_unread,
    harg6.read_unread, harg8.read_unread, harg9.read_unread, View.ld_unit_zero (S := S32x2048) hz,
    View.ld_unit_zero (S := S2048x2048) hz, View.ld_unit_zero (S := S1x2048) hz, View.ld_unit_zero (S := S32x1) hz,
    View.ld_unit_zero (S := S1x32x2) hz3]
  rfl

theorem likes_C (hc0 : ¬cond0_0 i) (hc1 : cond0_1 i) :
    sout0_C_1 c i arg1 harg1 arg2 harg2 arg3 harg3 arg4 harg4 arg5 harg5 arg6 harg6 arg7 harg7
    arg8 harg8 arg9 harg9 hc0 hc1 x0 x1 x2 x3 x4 x5 xs0 xs1
      = endL (BitVec.ofNat 32 (i 0).val) (word0 x0) (word1 x0) x1 x3 x4 x5 xs0 xs1 := by
  unfold sout0_C_1
  rw [View.read_writes_eq_canon _ _ _ (scover0_C_1 c i arg1 harg1 arg2 harg2 arg3 harg3 arg4 harg4 arg5 harg5 arg6 harg6 arg7 harg7
    arg8 harg8 arg9 harg9 hc0 hc1 x0 x1 x2 x3 x4 x5 xs0 xs1)]
  unfold kernelRun0_C
  dsimp only
  rw [View.canon_unit_zero hz]
  sl_unfold_words
  simp only [View.readAt_eq_ld, harg1.read_unread, harg2.read_unread, harg3.read_unread, harg4.read_unread, harg5.read_unread,
    harg6.read_unread, harg8.read_unread, harg9.read_unread, View.ld_unit_zero (S := S32x2048) hz,
    View.ld_unit_zero (S := S2048x2048) hz, View.ld_unit_zero (S := S1x2048) hz, View.ld_unit_zero (S := S32x1) hz,
    View.ld_unit_zero (S := S1x32x2) hz3]
  rfl

/-- What the last point writes out. -/
theorem out_C (hc0 : ¬cond0_0 i) (hc1 : cond0_1 i) :
    out0_C_6 c i arg1 harg1 arg2 harg2 arg3 harg3 arg4 harg4 arg5 harg5 arg6 harg6 arg7 harg7
    arg8 harg8 arg9 harg9 hc0 hc1 x0 x1 x2 x3 x4 x5 xs0 xs1
      = outX (BitVec.ofNat 32 (i 0).val) (word0 x0) (word1 x0) x1 x3 x4 x5 xs0 xs1 := by
  unfold out0_C_6
  rw [View.read_writes_eq_canon _ _ _ (cover0_C_6 c i arg1 harg1 arg2 harg2 arg3 harg3 arg4 harg4 arg5 harg5 arg6 harg6 arg7 harg7
    arg8 harg8 arg9 harg9 hc0 hc1 x0 x1 x2 x3 x4 x5 xs0 xs1)]
  unfold kernelRun0_C
  dsimp only
  rw [View.canon_unit_zero hz]
  sl_unfold_words
  simp only [View.readAt_eq_ld, harg1.read_unread, harg2.read_unread, harg3.read_unread, harg4.read_unread, harg5.read_unread,
    harg6.read_unread, harg8.read_unread, harg9.read_unread, View.ld_unit_zero (S := S32x2048) hz,
    View.ld_unit_zero (S := S2048x2048) hz, View.ld_unit_zero (S := S1x2048) hz, View.ld_unit_zero (S := S32x1) hz,
    View.ld_unit_zero (S := S1x32x2) hz3]
  rfl

end Runs

end Cert.KernelIdeal.Body

end
-- ==== Proof.Step.lean ====
/- One step of the tempered chains, written once: a proposal from a draw, the chains' accept or reject, and the exchange
   between neighbours. Both programs are shown to make this step. -/
module

public import proofs.«01_k».proof.Proof.Words
public import proofs.«01_k».proof.Proof.Gen.KernelIdeal

@[expose] public section

noncomputable section

namespace Cert.Step

open Idealize.ShloMosaic Idealize.ShloMosaic.ValueIdx Cert.Threefry Cert.Words
open Cert.KernelIdeal (S1x2048 S32x2048 S2048x2048 S32 dot_S32x2048_S2048x2048_S32x2048_1_0_0_1_n_n)

variable {F : FTy → Type} [FloatOps F]

/-! ### The proposal -/

/-- How deep in the tail a draw lies. -/
def depth (u : F .f32) : F .f32 :=
  FloatOps.subf (lit 0x00000000#32) (FloatOps.log1p (FloatOps.mulf u (FloatOps.subf (lit 0x00000000#32) u)))
/-- Whether the draw lies in the middle. -/
def near (u : F .f32) : BitVec 1 := FloatOps.cmpf .olt (depth u) (lit 0x40A00000#32)
/-- What the polynomial is taken at. -/
def arg (u : F .f32) : F .f32 :=
  Scalar.select (near u) (FloatOps.subf (depth u) (lit 0x40200000#32)) (FloatOps.subf (FloatOps.sqrt (depth u)) (lit 0x40400000#32))
/-- One coefficient, then the rest times the argument. -/
def horner (c : BitVec 1) (v : F .f32) (x y : W) (p : F .f32) : F .f32 :=
  FloatOps.addf (Scalar.select c (lit x) (lit y)) (FloatOps.mulf p v)
def poly (c : BitVec 1) (v : F .f32) : F .f32 :=
  horner c v 0x3FC02E2F#32 0x40354F7E#32 (horner c v 0x3E7C8F63#32 0x3F8036DB#32 (horner c v 0xBB88E4EF#32 0x3C1AA57E#32
    (horner c v 0xBAA45408#32 0xBBF9C5D7#32 (horner c v 0x396532DB#32 0x3BBC127B#32 (horner c v 0xB6935AC1#32 0xBB70BDE7#32
      (horner c v 0xB66C7357#32 0x3AB0DC72#32 (horner c v 0x34B84B36#32 0x38D3B56B#32
        (Scalar.select c (lit 0x32F16588#32) (lit 0xB951F09B#32)))))))))
/-- The inverse error function of a draw. -/
def inverse (u : F .f32) : F .f32 :=
  Scalar.select (FloatOps.cmpf .oeq (FloatOps.absf u) (lit 0x3F800000#32))
    (FloatOps.mulf (lit 0x7F800000#32) u) (FloatOps.mulf (poly (near u) (arg u)) u)
def propose (s u : F .f32) : F .f32 :=
  FloatOps.addf s (FloatOps.mulf (lit 0x3CA3D70A#32) (FloatOps.mulf (lit 0x3FB504F3#32) (inverse u)))

/-! ### A chain's log density -/

/-- Half the squared length, negated, of a row less the centre, times the matrix. -/
def like (A : FVec F S2048x2048 .f32) (c : Fin 2048 → F .f32) (X : FVec F S32x2048 .f32) (r : Fin 32) : F .f32 :=
  FloatOps.mulf (lit 0xBF000000#32)
    (multiReduction .add [1] S32
      (mulf (matmul dot_S32x2048_S2048x2048_S32x2048_1_0_0_1_n_n none (subf X fun i => c (i 1)) A (constant S32x2048 .f32 0x00000000#32))
        (matmul dot_S32x2048_S2048x2048_S32x2048_1_0_0_1_n_n none (subf X fun i => c (i 1)) A (constant S32x2048 .f32 0x00000000#32)))
      0x00000000#32 (by decide) (.inl rfl) rfl (ix1 r))

/-! ### The step -/

/-- The row a chain exchanges with at a step: the next when their parities agree, else the one before, held inside. -/
def mate (t : ℕ) (r : Fin 32) : Fin 32 :=
  if r.val % 2 = t % 2 then ⟨min (r.val + 1) 31, by omega⟩ else ⟨r.val - 1, by omega⟩

/-- What a step reads: the matrix, the centre, the temperatures, the draws. -/
structure Inputs (F : FTy → Type) [FloatOps F] where
  A : FVec F S2048x2048 .f32
  c : Fin 2048 → F .f32
  β : Fin 32 → F .f32
  z : FVec F S32x2048 .f32
  u : Fin 32 → F .f32
  u' : Fin 32 → F .f32

/-- The chains' points and their log densities. -/
structure State (F : FTy → Type) [FloatOps F] where
  X : FVec F S32x2048 .f32
  L : Fin 32 → F .f32

variable (I : Inputs F) (s : State F) (t : ℕ)

def proposed : FVec F S32x2048 .f32 := fun i => propose (s.X i) (I.z i)
def accepts (r : Fin 32) : BitVec 1 :=
  FloatOps.cmpf .olt (I.u r) (FloatOps.mulf (I.β r) (FloatOps.subf (like I.A I.c (proposed I s) r) (s.L r)))
/-- After the accept or reject. -/
def moved : State F where
  X := fun i => Scalar.select (accepts I s (i 0)) (proposed I s i) (s.X i)
  L := fun r => Scalar.select (accepts I s r) (like I.A I.c (proposed I s) r) (s.L r)
def gap (r : Fin 32) : F .f32 :=
  FloatOps.mulf (FloatOps.subf (I.β r) (I.β (mate t r))) (FloatOps.subf (s.L (mate t r)) (s.L r))
/-- Whether a chain exchanges. -/
def swaps (r : Fin 32) : BitVec 1 :=
  IntOp.andi (FloatOps.cmpf .olt (I.u' (min r (mate t r))) (gap I s t r)) (BitVec.ofBool (mate t r != r))
/-- After the exchange. -/
def swapped : State F where
  X := fun i => Scalar.select (swaps I s t (i 0)) (s.X (ix2 (mate t (i 0)) (i 1))) (s.X i)
  L := fun r => Scalar.select (swaps I s t r) (s.L (mate t r)) (s.L r)
def step : State F := swapped I (moved I s) t

end Cert.Step

end
-- ==== Proof.KernelStep.lean ====
/- The kernel's body makes one step of the tempered chains: the values it leaves, read place by place. -/
module

public import proofs.«01_k».proof.Proof.KernelRun
public import proofs.«01_k».proof.Proof.Step
public import Idealize.ShloMosaic.Lib.ValueLayoutCasts

@[expose] public section

noncomputable section

namespace Cert.KernelIdeal.Body

open Idealize.ShloMosaic Idealize.ShloMosaic.TcCoe Idealize.ShloMosaic.ValueIdx Idealize.ShloMosaic.Pipeline
  Idealize.SL.Sem Cert.KernelIdeal Cert.KernelIdeal.Gen Cert.Threefry Cert.Words Cert.Step

variable {F : FTy → Type} [FloatOps F]

/-! ### Rows -/

theorem col_at {α : Type} {n m : ℕ} (hn : n ≠ 1) (x : (⟨2, ![n, 1]⟩ : Shape).Idx → α) (h : (⟨2, ![n, 1]⟩ : Shape).Broadcasts ⟨2, ![n, m]⟩)
    (i : Fin n) (j : Fin m) : broadcastTo ⟨2, ![n, m]⟩ x h (ix2 i j) = x (ix2 i 0) :=
  broadcastTo_apply x h (ix2 i j) (ix2 i 0) fun a => match a with
    | ⟨0, _⟩ => (if_neg hn).symm
    | ⟨1, _⟩ => (if_pos rfl).symm

/-- Rows moved up by one: every row but the last reads the next. -/
theorem up_at {α : Type} {m : ℕ} (x : (⟨2, ![32, m]⟩ : Shape).Idx → α) (h1 h2)
    (h : Shape.Concatenates [⟨2, ![31, m]⟩, ⟨2, ![1, m]⟩] ⟨2, ![32, m]⟩ 0) (r k : Fin 32) (hk : k.val = r.val + 1) (c : Fin m) :
    concatenate (⟨2, ![32, m]⟩ : Shape) 0 [⟨⟨2, ![31, m]⟩, extractStridedSlice ⟨2, ![31, m]⟩ ![1, 0] x h1⟩,
      ⟨⟨2, ![1, m]⟩, extractStridedSlice ⟨2, ![1, m]⟩ ![0, 0] x h2⟩] h (ix2 r c) = x (ix2 k c) := by
  have hr : r.val < 31 := by omega
  refine (concatenate_pair_apply_left _ _ _ h (ix2 r c) rfl (ix2 ⟨r.val, hr⟩ c) fun b => ?_).trans
    (slice2_axis0_apply 1 x h1 ⟨r.val, hr⟩ c k (by rw [hk, Nat.add_comm]))
  match b with
  | ⟨0, _⟩ => rfl
  | ⟨1, _⟩ => rfl

/-- Rows moved down by one: every row but the first reads the one before. -/
theorem down_at {α : Type} {m : ℕ} (x : (⟨2, ![32, m]⟩ : Shape).Idx → α) (h1 h2)
    (h : Shape.Concatenates [⟨2, ![1, m]⟩, ⟨2, ![31, m]⟩] ⟨2, ![32, m]⟩ 0) (r k : Fin 32) (hk : k.val + 1 = r.val) (c : Fin m) :
    concatenate (⟨2, ![32, m]⟩ : Shape) 0 [⟨⟨2, ![1, m]⟩, extractStridedSlice ⟨2, ![1, m]⟩ ![31, 0] x h1⟩,
      ⟨⟨2, ![31, m]⟩, extractStridedSlice ⟨2, ![31, m]⟩ ![0, 0] x h2⟩] h (ix2 r c) = x (ix2 k c) := by
  have hr : k.val < 31 := by omega
  refine (concatenate_pair_apply_right _ _ _ h (ix2 r c) rfl rfl (ix2 ⟨k.val, hr⟩ c) (fun b hb => ?_) hk).trans
    (slice2_axis0_apply 0 x h2 ⟨k.val, hr⟩ c k (Nat.zero_add _).symm)
  match b with
  | ⟨0, _⟩ => exact absurd rfl hb
  | ⟨1, _⟩ => rfl

/-! ### Parities -/

theorem par_step : ∀ t : Fin 100, par (BitVec.ofNat 32 t.val) = BitVec.ofNat 32 (t.val % 2) := by decide +kernel

/-- A row's parity as the vector unit makes it. -/
def parRow (r : W) : W :=
  let d : BitVec 32 := Scalar.select (Scalar.cmpi .eq 2#32 0#32) 1#32 2#32
  let q : BitVec 32 := IntOp.remsi .vector r d
  Scalar.select (IntOp.andi (IntOp.xori (IntOp.cmpi .slt q 0#32) (Scalar.cmpi .slt d 0#32)) (IntOp.cmpi .ne q 0#32))
    (IntOp.addi q d) q

theorem par_row : ∀ r : Fin 32, parRow (BitVec.ofNat 32 (0 * 32 + r.val)) = BitVec.ofNat 32 (r.val % 2) := by decide +kernel

theorem same_parity : ∀ p q : Fin 2, IntOp.cmpi .eq (BitVec.ofNat 32 p.val) (BitVec.ofNat 32 q.val) = BitVec.ofBool (p == q) := by
  decide +kernel

theorem edge_bit : ∀ (p : Fin 2) (r : Fin 32), IntOp.ori (Scalar.cmpi .eq (BitVec.ofNat 32 p.val) 0#32)
    (IntOp.xori (IntOp.ori (IntOp.cmpi .eq (BitVec.ofNat 32 (0 * 32 + r.val)) 0#32) (IntOp.cmpi .eq (BitVec.ofNat 32 (0 * 32 + r.val)) 31#32)) 1#1)
      = BitVec.ofBool (mate p.val r != r) := by decide +kernel

theorem mate_mod (t : ℕ) (r : Fin 32) : mate (t % 2) r = mate t r := by unfold mate; rw [Nat.mod_mod]

section Exchange

variable {t : ℕ} (ht : t < 100) (r : Fin 32)
include ht

theorem up_bit : k0_pay66 (par (BitVec.ofNat 32 t)) rows (ix2 r 0) = BitVec.ofBool (decide (r.val % 2 = t % 2)) := by
  refine (show k0_pay66 (par (BitVec.ofNat 32 t)) rows (ix2 r 0) = IntOp.cmpi .eq (parRow (BitVec.ofNat 32 (0 * 32 + r.val))) (par (BitVec.ofNat 32 t))
    from rfl).trans ?_
  rw [par_row, par_step ⟨t, ht⟩, same_parity ⟨r.val % 2, Nat.mod_lt _ (by decide)⟩ ⟨t % 2, Nat.mod_lt _ (by decide)⟩]
  exact congrArg BitVec.ofBool (by simp [BEq.beq, Fin.ext_iff])

/-- The choice between the two moves reads the row a chain exchanges with, when there is one. -/
theorem choice {α : Type} {u d : α} {x : Fin 32 → α} (hne : mate t r ≠ r)
    (hu : ∀ k : Fin 32, k.val = r.val + 1 → u = x k) (hd : ∀ k : Fin 32, k.val + 1 = r.val → d = x k) :
    Scalar.select (k0_pay66 (par (BitVec.ofNat 32 t)) rows (ix2 r 0)) u d = x (mate t r) := by
  rw [up_bit ht]
  unfold mate at hne ⊢
  by_cases h : r.val % 2 = t % 2
  · rw [if_pos h] at hne ⊢
    rw [decide_eq_true h]
    exact hu _ (by have : min (r.val + 1) 31 ≠ r.val := fun e => hne (Fin.ext e); show min (r.val + 1) 31 = _; omega)
  · rw [if_neg h] at hne ⊢
    rw [decide_eq_false h]
    exact hd _ (by have : r.val - 1 ≠ r.val := fun e => hne (Fin.ext e); show r.val - 1 + 1 = _; omega)

variable (hne : mate t r ≠ r)
include hne

theorem mate_points (X : FVec F S32x2048 .f32) (c : Fin 2048) :
    k0_pay67 X (par (BitVec.ofNat 32 t)) rows (ix2 r c) = X (ix2 (mate t r) c) := by
  refine (congrArg (fun b => Scalar.select b _ _) ((col_at (by decide) _ _ r c).trans (congrFun (shapeCast_self _ _) _))).trans ?_
  exact choice ht r (x := fun k => X (ix2 k c)) hne (fun k hk => up_at X _ _ _ r k hk c) (fun k hk => down_at X _ _ _ r k hk c)

theorem mate_col (L : FVec F S32x1 .f32) :
    k0_pay68 L (par (BitVec.ofNat 32 t)) rows (ix2 r 0) = L (ix2 (mate t r) 0) :=
  choice ht r (x := fun k => L (ix2 k 0)) hne (fun k hk => up_at L _ _ _ r k hk 0) (fun k hk => down_at L _ _ _ r k hk 0)

theorem mate_gap (β L : FVec F S32x1 .f32) :
    k0_pay69 β L (par (BitVec.ofNat 32 t)) rows (ix2 r 0)
      = FloatOps.mulf (FloatOps.subf (β (ix2 r 0)) (β (ix2 (mate t r) 0))) (FloatOps.subf (L (ix2 (mate t r) 0)) (L (ix2 r 0))) :=
  congrArg₂ FloatOps.mulf (congrArg (FloatOps.subf (β (ix2 r 0))) (mate_col ht r hne β))
    (congrArg (FloatOps.subf · (L (ix2 r 0))) (mate_col ht r hne L))

theorem mate_draw (u : FVec F S32x1 .f32) :
    k0_pay70 u (par (BitVec.ofNat 32 t)) rows (ix2 r 0) = u (ix2 (min r (mate t r)) 0) := by
  refine (show k0_pay70 u (par (BitVec.ofNat 32 t)) rows (ix2 r 0) = Scalar.select (k0_pay66 (par (BitVec.ofNat 32 t)) rows (ix2 r 0))
    (u (ix2 r 0)) _ from rfl).trans ?_
  refine choice ht r (x := fun k => u (ix2 (min r k) 0)) hne (fun k hk => ?_) (fun k hk => ?_)
  · exact congrArg (fun k => u (ix2 k 0)) (min_eq_left (show r ≤ k from by rw [Fin.le_def]; omega)).symm
  · refine (down_at u _ _ _ r k hk 0).trans ?_
    exact congrArg (fun k => u (ix2 k 0)) (min_eq_right (show k ≤ r from by rw [Fin.le_def]; omega)).symm

omit hne

/-- The bit by which a chain exchanges. -/
theorem swap_bit (v345 v354 : FVec F S32x1 .f32) :
    k0_pay1 (F := F) (par (BitVec.ofNat 32 t)) v345 v354 (k0_pay71 rows) (k0_pay72 rows) (ix2 r 0)
      = IntOp.andi (FloatOps.cmpf .olt (v354 (ix2 r 0)) (v345 (ix2 r 0))) (BitVec.ofBool (mate t r != r)) := by
  refine (show k0_pay1 (F := F) (par (BitVec.ofNat 32 t)) v345 v354 (k0_pay71 rows) (k0_pay72 rows) (ix2 r 0)
    = IntOp.andi (FloatOps.cmpf .olt (v354 (ix2 r 0)) (v345 (ix2 r 0))) (IntOp.ori (Scalar.cmpi .eq (par (BitVec.ofNat 32 t)) 0#32)
        (IntOp.xori (IntOp.ori (IntOp.cmpi .eq (BitVec.ofNat 32 (0 * 32 + r.val)) 0#32) (IntOp.cmpi .eq (BitVec.ofNat 32 (0 * 32 + r.val)) 31#32)) 1#1))
    from rfl).trans ?_
  rw [par_step ⟨t, ht⟩, edge_bit ⟨t % 2, Nat.mod_lt _ (by decide)⟩ r, mate_mod]

end Exchange

/-! ### The step -/

/-- What a point of the grid reads. -/
def inputs (a b : W) (x1 : Vec F S1x32x2 .f32) (A : Vec F S2048x2048 .f32) (c : Vec F S1x2048 .f32) (β : Vec F S32x1 .f32) : Inputs F where
  A := A
  c := fun j => c (ix2 0 j)
  β := fun r => β (ix2 r 0)
  z := fun i => sym (draw a b (place i))
  u := fun r => x1 (ix3 0 r 0)
  u' := fun r => x1 (ix3 0 r 1)

/-- A pair of the kernel's buffers as a state. -/
def state (X : FVec F S32x2048 .f32) (L : FVec F S32x1 .f32) : State F := ⟨X, fun r => L (ix2 r 0)⟩

theorem blockDraw (x1 : Vec F S1x32x2 .f32) (r : Fin 32) (k : Fin 2) : k0_pay59 x1 (ix2 r k) = x1 (ix3 0 r k) :=
  shapeCast_1ab_ab_apply x1 _ r k

theorem first_draw (x1 : Vec F S1x32x2 .f32) (h : S32x2.Slices ![0, 0] S32x1) (r : Fin 32) :
    extractStridedSlice S32x1 ![0, 0] (k0_pay59 x1) h (ix2 r 0) = x1 (ix3 0 r 0) :=
  (slice2_axis1_apply 0 _ h r 0 0 rfl).trans (blockDraw x1 r 0)

theorem second_draw (x1 : Vec F S1x32x2 .f32) (r : Fin 32) : k0_pay60 x1 (ix2 r 0) = x1 (ix3 0 r 1) :=
  (slice2_axis1_apply 1 (k0_pay59 x1) slices_S32x2_o0_1_S32x1 r 0 1 rfl).trans (blockDraw x1 r 1)

/-- A row of a single row, spread over all of them. -/
theorem row_all {α : Type} (c : S1x2048.Idx → α) (h : S1x2048.Broadcasts S32x2048) :
    broadcastTo S32x2048 c h = fun i => c (ix2 0 (i 1)) :=
  funext fun i => (congrArg (broadcastTo S32x2048 c h) (eq_ix2 i)).trans (broadcastTo_1b_ab_apply c h (i 0) (i 1))

/-- A column of log densities, from the points and the rows of the centre. -/
def likeCol (A : FVec F S2048x2048 .f32) (X m : FVec F S32x2048 .f32) : FVec F S32x1 .f32 :=
  mulf (broadcast S32x1 (lit 0xBF000000#32)) (shapeCast S32x1
    (multiReduction .add [1] S32
      (mulf (matmul dot_S32x2048_S2048x2048_S32x2048_1_0_0_1_n_n none (subf X m) A (constant S32x2048 .f32 0x00000000#32))
        (matmul dot_S32x2048_S2048x2048_S32x2048_1_0_0_1_n_n none (subf X m) A (constant S32x2048 .f32 0x00000000#32)))
      0x00000000#32 reduces_S32x2048_S32 (.inl rfl) rfl) shapeCasts_S32_S32x1)

theorem centre_rows (c : Vec F S1x2048 .f32) :
    broadcastTo S32x2048 (k0_pay5 c) broadcasts_S1x2048_S32x2048 = fun i => c (ix2 0 (i 1)) :=
  (congrArg (fun m => broadcastTo S32x2048 m broadcasts_S1x2048_S32x2048) (shapeCast_self c _)).trans (row_all c _)

theorem likeCol_eq (A : FVec F S2048x2048 .f32) (c : Vec F S1x2048 .f32) (X : FVec F S32x2048 .f32) (r : Fin 32) :
    likeCol A X (broadcastTo S32x2048 (k0_pay5 c) broadcasts_S1x2048_S32x2048) (ix2 r 0) = like A (fun j => c (ix2 0 j)) X r := by
  rw [centre_rows]
  exact congrArg (FloatOps.mulf (lit 0xBF000000#32)) (shapeCast_a_a1_apply _ shapeCasts_S32_S32x1 r 0)

theorem pick_eq {α : Type} {c c' : BitVec 1} {x x' y y' : α} (hc : c = c') (hx : x = x') (hy : y = y') :
    Scalar.select c x y = Scalar.select c' x' y' := by rw [hc, hx, hy]

theorem like_first (A : Vec F S2048x2048 .f32) (c : Vec F S1x2048 .f32) (X : Vec F S32x2048 .f32) (r : Fin 32) :
    k0_pay8 A c X (ix2 r 0) = like A (fun j => c (ix2 0 j)) X r := by
  unfold k0_pay8
  rw [shapeCast_self]
  exact likeCol_eq A c X r

section Step

variable (a b : W) (x1 : Vec F S1x32x2 .f32) (A : Vec F S2048x2048 .f32) (c : Vec F S1x2048 .f32) (β : Vec F S32x1 .f32)
  (X : Vec F S32x2048 .f32) (L : Vec F S32x1 .f32)

theorem points_proposed : k0_pay61 X (noise a b) (arg_ a b) (poly_ a b) (last_ (F := F) a b) = proposed (inputs a b x1 A c β) (state X L) :=
  funext fun i => (show k0_pay61 X (noise a b) (arg_ a b) (poly_ a b) (last_ (F := F) a b) i = propose (X i) (noise a b i) from rfl).trans
    (congrArg (propose (X i)) (noise_eq a b i))

theorem likes_proposed (r : Fin 32) :
    k0_pay62 A (k0_pay5 c) X (noise a b) (arg_ a b) (poly_ a b) (last_ (F := F) a b) (ix2 r 0)
      = like A (fun j => c (ix2 0 j)) (proposed (inputs a b x1 A c β) (state X L)) r := by
  unfold k0_pay62
  rw [points_proposed a b x1 A c β X L]
  exact likeCol_eq A c _ r

theorem accept_bit (r : Fin 32) :
    k0_pay63 A (k0_pay5 c) (k0_pay6 β) X L (noise a b) (arg_ a b) (poly_ a b) (last_ (F := F) a b) x1 (ix2 r 0)
      = accepts (inputs a b x1 A c β) (state X L) r := by
  unfold k0_pay63 k0_pay6
  rw [shapeCast_self]
  exact congrArg₂ (FloatOps.cmpf .olt) (first_draw x1 slices_S32x2_o0_0_S32x1 r) (congrArg (FloatOps.mulf (β (ix2 r 0)))
    (congrArg (FloatOps.subf · (L (ix2 r 0))) (likes_proposed a b x1 A c β X L r)))

theorem mid_points : midX a b x1 A c β X L = (moved (inputs a b x1 A c β) (state X L)).X := by
  funext i
  rw [eq_ix2 i]
  unfold midX k0_pay64
  refine pick_eq (?_ : broadcastTo S32x2048 _ broadcasts_S32x1_S32x2048 (ix2 (i 0) (i 1)) = _) ?_ rfl
  · exact ((col_at (by decide) _ _ _ _).trans (congrFun (shapeCast_self _ _) _)).trans (accept_bit a b x1 A c β X L _)
  · exact congrFun (points_proposed a b x1 A c β X L) _

theorem mid_likes (r : Fin 32) : midL a b x1 A c β X L (ix2 r 0) = (moved (inputs a b x1 A c β) (state X L)).L r :=
  pick_eq (accept_bit a b x1 A c β X L r) (likes_proposed a b x1 A c β X L r) rfl

theorem mid_state : state (midX a b x1 A c β X L) (midL a b x1 A c β X L) = moved (inputs a b x1 A c β) (state X L) := by
  show State.mk _ _ = State.mk _ _
  rw [mid_points]
  exact congrArg _ (funext (mid_likes a b x1 A c β X L))

variable {t : ℕ} (ht : t < 100)
include ht

theorem swaps_bit (r : Fin 32) :
    k0_pay1 (par (BitVec.ofNat 32 t)) (gap_ (BitVec.ofNat 32 t) β L) (pairU (BitVec.ofNat 32 t) x1) (k0_pay71 rows) (k0_pay72 rows) (ix2 r 0)
      = swaps (inputs a b x1 A c β) (state X L) t r := by
  refine (swap_bit ht r _ _).trans ?_
  unfold swaps
  by_cases hne : mate t r = r
  · rw [show (mate t r != r) = false from by rw [hne]; exact bne_self_eq_false r]
    exact (BitVec.and_zero (x := _)).trans (BitVec.and_zero (x := _)).symm
  · refine congrArg (IntOp.andi · _) (congrArg₂ (FloatOps.cmpf .olt) ?_ ?_)
    · exact (mate_draw ht r hne _).trans (second_draw x1 _)
    · refine (mate_gap ht r hne _ L).trans ?_
      unfold k0_pay6
      rw [shapeCast_self]
      rfl

theorem out_swapped :
    k0_pay2 X (par (BitVec.ofNat 32 t)) (k0_pay67 X (par (BitVec.ofNat 32 t)) rows) (gap_ (BitVec.ofNat 32 t) β L)
      (pairU (BitVec.ofNat 32 t) x1) (k0_pay71 rows) (k0_pay72 rows) = (swapped (inputs a b x1 A c β) (state X L) t).X := by
  funext i
  rw [eq_ix2 i]
  have e := (((col_at (by decide) _ _ (i 0) (i 1)).trans (congrFun (shapeCast_self _ _) _)).trans (swaps_bit a b x1 A c β X L ht (i 0)) :
    broadcastTo S32x2048 (shapeCast S32x1 (k0_pay1 (par (BitVec.ofNat 32 t)) (gap_ (BitVec.ofNat 32 t) β L) (pairU (BitVec.ofNat 32 t) x1)
      (k0_pay71 rows) (k0_pay72 rows)) (by decide)) (by decide) (ix2 (i 0) (i 1)) = swaps (inputs a b x1 A c β) (state X L) t (i 0))
  by_cases hne : mate t (i 0) = i 0
  · have z : swaps (inputs a b x1 A c β) (state X L) t (i 0) = 0#1 := by
      unfold swaps
      rw [show (mate t (i 0) != i 0) = false from by rw [hne]; exact bne_self_eq_false _]
      exact BitVec.and_zero
    refine (congrArg (fun w => Scalar.select w _ _) (e.trans z)).trans ?_
    exact (congrArg (fun w => Scalar.select w (X (ix2 (mate t (i 0)) (i 1))) (X (ix2 (i 0) (i 1)))) z).symm
  · unfold k0_pay2; exact pick_eq e (mate_points ht (i 0) hne X (i 1)) rfl

theorem likes_swapped (r : Fin 32) :
    k0_pay4 L (par (BitVec.ofNat 32 t)) (k0_pay68 L (par (BitVec.ofNat 32 t)) rows) (gap_ (BitVec.ofNat 32 t) β L)
      (pairU (BitVec.ofNat 32 t) x1) (k0_pay71 rows) (k0_pay72 rows) (ix2 r 0) = (swapped (inputs a b x1 A c β) (state X L) t).L r := by
  unfold k0_pay4
  rw [shapeCast_self]
  have e := swaps_bit a b x1 A c β X L ht r
  by_cases hne : mate t r = r
  · have z : swaps (inputs a b x1 A c β) (state X L) t r = 0#1 := by
      unfold swaps
      rw [show (mate t r != r) = false from by rw [hne]; exact bne_self_eq_false _]
      exact BitVec.and_zero
    refine (congrArg (fun w => Scalar.select w _ _) (e.trans z)).trans ?_
    exact (congrArg (fun w => Scalar.select w (L (ix2 (mate t r) 0)) (L (ix2 r 0))) z).symm
  · exact pick_eq e (mate_col ht r hne L) rfl

/-- The body makes the step. -/
theorem out_step : outX (BitVec.ofNat 32 t) a b x1 A c β X L = (step (inputs a b x1 A c β) (state X L) t).X := by
  refine (out_swapped a b x1 A c β (midX a b x1 A c β X L) (midL a b x1 A c β X L) ht).trans ?_
  rw [mid_state]
  rfl

theorem end_step : state (endX (BitVec.ofNat 32 t) a b x1 A c β X L) (endL (BitVec.ofNat 32 t) a b x1 A c β X L)
    = step (inputs a b x1 A c β) (state X L) t := by
  have eX : endX (BitVec.ofNat 32 t) a b x1 A c β X L = outX (BitVec.ofNat 32 t) a b x1 A c β X L := by
    unfold endX k0_pay3 outX; exact shapeCast_self _ _
  have eL : (fun r => endL (BitVec.ofNat 32 t) a b x1 A c β X L (ix2 r 0)) = (step (inputs a b x1 A c β) (state X L) t).L := by
    funext r
    refine (likes_swapped a b x1 A c β (midX a b x1 A c β X L) (midL a b x1 A c β X L) ht r).trans ?_
    rw [mid_state]
    rfl
  show State.mk _ _ = State.mk _ _
  rw [eX, eL, out_step a b x1 A c β X L ht]
  rfl

end Step

end Cert.KernelIdeal.Body

end
-- ==== Proof.Draws.lean ====
/- What a step of either program reads, from the base key: the step's three keys and the draws made of them. -/
module

public import proofs.«01_k».proof.Proof.Step

@[expose] public section

noncomputable section

namespace Cert.Step

open Idealize.ShloMosaic Idealize.ShloMosaic.ValueIdx Cert.Threefry Cert.Words
open Cert.KernelIdeal (S1x2048 S32x2048 S2048x2048 S32)

variable {F : FTy → Type} [FloatOps F]

/-- A word of a step's `r`-th key, from the base key. -/
def part (k : Fin 2 → W) (t r : ℕ) (c : Fin 2) : W :=
  sub (sub (k 0) (k 1) (BitVec.ofNat 32 t) 0) (sub (k 0) (k 1) (BitVec.ofNat 32 t) 1) (BitVec.ofNat 32 r) c

/-- The logarithm of a key's uniform draw. -/
def logUni (a b : W) (i : Fin 32) : F .f32 := FloatOps.hostUnary .log (uni (draw a b (BitVec.ofNat 32 i.val)))

/-- What step `t` reads: its draws come from the base key, the rest from the arguments. -/
def drawn (k : Fin 2 → W) (A : FVec F S2048x2048 .f32) (c : Fin 2048 → F .f32) (β : Fin 32 → F .f32) (t : ℕ) : Inputs F where
  A := A
  c := c
  β := β
  z := fun i => sym (draw (part k t 0 0) (part k t 0 1) (BitVec.ofNat 32 (2048 * (i 0).val + (i 1).val)))
  u := logUni (part k t 1 0) (part k t 1 1)
  u' := logUni (part k t 2 0) (part k t 2 1)

/-- The chains after `n` steps. -/
def walk (k : Fin 2 → W) (A : FVec F S2048x2048 .f32) (c : Fin 2048 → F .f32) (β : Fin 32 → F .f32) (X : FVec F S32x2048 .f32) :
    ℕ → State F
  | 0 => ⟨X, like A c X⟩
  | n + 1 => step (drawn k A c β n) (walk k A c β X n) n

/-- The base key. -/
def seed (c : Fin 2) : W := if c = 0 then 0#32 else 42#32

end Cert.Step

end
-- ==== Proof.KernelBlocks.lean ====
/- What a grid point reads: the blocks of the arrays the host operations left, as draws from the base key and the arguments. -/
module

public import proofs.«01_k».proof.Proof.HostDraw
public import proofs.«01_k».proof.Proof.KernelStep
public import proofs.«01_k».proof.Proof.Draws
public import proofs.«01_k».proof.Proof.Gen.KernelIdeal.Value

@[expose] public section

set_option maxRecDepth 16384

noncomputable section

namespace Cert.KernelIdeal.Body

open Idealize.ShloMosaic Idealize.ShloMosaic.TcCoe Idealize.ShloMosaic.ValueIdx Idealize.ShloMosaic.Pipeline
  Cert.KernelIdeal Cert.KernelIdeal.Gen Cert.Line Cert.Threefry Cert.Words Cert.Step

variable {F : FTy → Type} [FloatOps F] (m : (ℓ : Loc nD τ sig) → Buf (Elt F) ℓ) (c : Dev nD)

/-! ### The arrays -/

/-- The temperatures. -/
def temps (r : Fin 32) : F .f32 := lit (lit0 (S32.rowMajor (ix1 r)))

/-- The contents the host operations leave. -/
abbrev U : Valuation τ sig (Elt F) := StableHlo.after (Host.hostLines (F := F)).flatten fun b => m (c, b)

theorem host_solved {n : ℕ} {l : List (HloOp τ sig (Elt F))} (h : (Host.hostLines (F := F))[n]? = some l) : Solved (U m c) l :=
  solved_at Host.host_lines _ h

theorem part_all (t : Fin 100) (r : Fin 3) (a : Fin 2) :
    (U m c main_v10 : S100x3x2.Idx → W) (ix3 t r a) = part seed t.val r.val a := by
  obtain ⟨k0, k1, k8, -⟩ := Host.base_key (host_solved m c (n := 0) rfl)
  have f : ∀ a : Fin 2, (U m c main_v9 : S100x2.Idx → W) (ix2 t a) = sub (seed 0) (seed 1) (BitVec.ofNat 32 t.val) a := fun a =>
    (Host.fold_all (host_solved m c (n := 1) rfl) t a).trans (by rw [k0, k1, k8 t]; rfl)
  exact (Host.split_all (host_solved m c (n := 2) rfl) t r a).trans (congrArg₂ (fun x y => sub x y (BitVec.ofNat 32 r.val) a) (f 0) (f 1))

theorem key_array (t : Fin 100) (a : Fin 2) : (U m c main_v21 : S100x1x2.Idx → W) (ix3 t 0 a) = part seed t.val 0 a :=
  ((Host.given (host_solved m c (n := 5) rfl) (host_solved m c (n := 7) rfl)).2.1 t a).trans
    (((Host.keys_all (host_solved m c (n := 3) rfl)).1 t a).1.trans (part_all m c t 0 a))

theorem draw_array (t : Fin 100) (i : Fin 32) :
    (U m c main_v24 : S100x32x2.Idx → F .f32) (ix3 t i 0) = logUni (part seed t.val 1 0) (part seed t.val 1 1) i
    ∧ (U m c main_v24 : S100x32x2.Idx → F .f32) (ix3 t i 1) = logUni (part seed t.val 2 0) (part seed t.val 2 1) i := by
  obtain ⟨⟨l4, l5⟩, -, g, -⟩ := Host.given (host_solved m c (n := 5) rfl) (host_solved m c (n := 7) rfl)
  obtain ⟨ks, l2, l3⟩ := Host.keys_all (host_solved m c (n := 3) rfl)
  refine ⟨(g t i).1.trans (congrArg (FloatOps.hostUnary (F := F) .log) ?_), (g t i).2.trans (congrArg (FloatOps.hostUnary (F := F) .log) ?_)⟩
  · exact (Host.uniform_a (host_solved m c (n := 4) rfl) l2 l3 t i).trans
      (congrArg₂ (fun a b => (uni (draw a b (BitVec.ofNat 32 i.val)) : F .f32)) ((ks t 0).2.1.trans (part_all m c t 1 0))
        ((ks t 1).2.1.trans (part_all m c t 1 1)))
  · exact (Host.uniform_s (host_solved m c (n := 6) rfl) l4 l5 t i).trans
      (congrArg₂ (fun a b => (uni (draw a b (BitVec.ofNat 32 i.val)) : F .f32)) ((ks t 0).2.2.trans (part_all m c t 2 0))
        ((ks t 1).2.2.trans (part_all m c t 2 1)))

theorem temp_array (r : Fin 32) : (U m c main_v25 : S32x1.Idx → F .f32) (ix2 r 0) = temps r :=
  ((Host.given (host_solved m c (n := 5) rfl) (host_solved m c (n := 7) rfl)).2.2.2.1 r).trans
    ((Host.base_key (host_solved m c (n := 0) rfl)).2.2.2 r)

theorem centre_array (j : Fin 2048) : (U m c main_v26 : S1x2048.Idx → F .f32) (ix2 0 j)
    = (m ((c : Thread nD τ).loc main_arg2) : S2048.Idx → F .f32) (ix1 j) :=
  ((Host.given (host_solved m c (n := 5) rfl) (host_solved m c (n := 7) rfl)).2.2.2.2 j).trans (congrFun (V_main_arg2 m c) (ix1 j))

/-! ### The blocks -/

theorem blocks_at : ∀ t : Fin cfg0.N, (grid0.coords t 0).val = t.val
    ∧ (win0_0.index t 0 = t.val ∧ win0_0.index t 1 = 0 ∧ win0_0.index t 2 = 0)
    ∧ (win0_1.index t 0 = t.val ∧ win0_1.index t 1 = 0 ∧ win0_1.index t 2 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0) :=
  (by decide +kernel : ∀ t : Fin grid0.N, _)

/-- A grid point's number. -/
abbrev num (t : Fin cfg0.N) : Fin 100 := ⟨t.val, lt_of_lt_of_eq t.isLt N_0⟩

section Reads
variable (t : Fin cfg0.N)

theorem read0 (A : S100x1x2.Idx → W) (a : Fin 2) :
    (((cfg0.win 0).blk t).view.read (Elt F) A : S1x1x2.Idx → W) (ix3 0 0 a) = A (ix3 (num t) 0 a) := by
  obtain ⟨-, ⟨e0, e1, e2⟩, -⟩ := blocks_at t
  refine congrArg A (funext fun d => Fin.ext ?_)
  match d with
  | ⟨0, _⟩ => show win0_0.index t 0 * 1 + 1 * 0 = t.val; omega
  | ⟨1, _⟩ => show win0_0.index t 1 * 1 + 1 * 0 = 0; omega
  | ⟨2, _⟩ => show win0_0.index t 2 * 2 + 1 * a.val = a.val; omega

theorem read1 (A : S100x32x2.Idx → F .f32) (i : Fin 32) (a : Fin 2) :
    (((cfg0.win 1).blk t).view.read (Elt F) A : S1x32x2.Idx → F .f32) (ix3 0 i a) = A (ix3 (num t) i a) := by
  obtain ⟨-, -, ⟨e0, e1, e2⟩, -⟩ := blocks_at t
  refine congrArg A (funext fun d => Fin.ext ?_)
  match d with
  | ⟨0, _⟩ => show win0_1.index t 0 * 1 + 1 * 0 = t.val; omega
  | ⟨1, _⟩ => show win0_1.index t 1 * 32 + 1 * i.val = i.val; omega
  | ⟨2, _⟩ => show win0_1.index t 2 * 2 + 1 * a.val = a.val; omega

theorem read2 (A : S32x2048.Idx → F .f32) : (((cfg0.win 2).blk t).view.read (Elt F) A : S32x2048.Idx → F .f32) = A := by
  obtain ⟨-, -, -, ⟨e0, e1⟩, -⟩ := blocks_at t
  refine funext fun i => congrArg A (funext fun d => Fin.ext ?_)
  match d with
  | ⟨0, _⟩ => show win0_2.index t 0 * 32 + 1 * (i 0).val = (i 0).val; omega
  | ⟨1, _⟩ => show win0_2.index t 1 * 2048 + 1 * (i 1).val = (i 1).val; omega

theorem read3 (A : S2048x2048.Idx → F .f32) : (((cfg0.win 3).blk t).view.read (Elt F) A : S2048x2048.Idx → F .f32) = A := by
  obtain ⟨-, -, -, -, ⟨e0, e1⟩, -⟩ := blocks_at t
  refine funext fun i => congrArg A (funext fun d => Fin.ext ?_)
  match d with
  | ⟨0, _⟩ => show win0_3.index t 0 * 2048 + 1 * (i 0).val = (i 0).val; omega
  | ⟨1, _⟩ => show win0_3.index t 1 * 2048 + 1 * (i 1).val = (i 1).val; omega

theorem read4 (A : S1x2048.Idx → F .f32) (j : Fin 2048) :
    (((cfg0.win 4).blk t).view.read (Elt F) A : S1x2048.Idx → F .f32) (ix2 0 j) = A (ix2 0 j) := by
  obtain ⟨-, -, -, -, -, ⟨e0, e1⟩, -⟩ := blocks_at t
  refine congrArg A (funext fun d => Fin.ext ?_)
  match d with
  | ⟨0, _⟩ => show win0_4.index t 0 * 1 + 1 * 0 = 0; omega
  | ⟨1, _⟩ => show win0_4.index t 1 * 2048 + 1 * j.val = j.val; omega

theorem read5 (A : S32x1.Idx → F .f32) (r : Fin 32) :
    (((cfg0.win 5).blk t).view.read (Elt F) A : S32x1.Idx → F .f32) (ix2 r 0) = A (ix2 r 0) := by
  obtain ⟨-, -, -, -, -, -, ⟨e0, e1⟩⟩ := blocks_at t
  refine congrArg A (funext fun d => Fin.ext ?_)
  match d with
  | ⟨0, _⟩ => show win0_5.index t 0 * 32 + 1 * r.val = r.val; omega
  | ⟨1, _⟩ => show win0_5.index t 1 * 1 + 1 * 0 = 0; omega

end Reads

theorem key_block (t : Fin cfg0.N) (a : Fin 2) : (iblk m c 0 t : S1x1x2.Idx → W) (ix3 0 0 a) = part seed t.val 0 a :=
  (read0 (F := F) t (U m c main_v21) a).trans (key_array m c (num t) a)

theorem draw_block (t : Fin cfg0.N) (i : Fin 32) (a : Fin 2) :
    (iblk m c 1 t : S1x32x2.Idx → F .f32) (ix3 0 i a) = (U m c main_v24 : S100x32x2.Idx → F .f32) (ix3 (num t) i a) :=
  read1 t (U m c main_v24) i a

theorem start_block (t : Fin cfg0.N) : (iblk m c 2 t : S32x2048.Idx → F .f32) = m ((c : Thread nD τ).loc main_arg0) :=
  (read2 t (U m c main_arg0)).trans (V_main_arg0 m c)

theorem matrix_block (t : Fin cfg0.N) : (iblk m c 3 t : S2048x2048.Idx → F .f32) = m ((c : Thread nD τ).loc main_arg1) :=
  (read3 t (U m c main_arg1)).trans (V_main_arg1 m c)

theorem centre_block (t : Fin cfg0.N) (j : Fin 2048) : (iblk m c 4 t : S1x2048.Idx → F .f32) (ix2 0 j)
    = (m ((c : Thread nD τ).loc main_arg2) : S2048.Idx → F .f32) (ix1 j) :=
  (read4 t (U m c main_v26) j).trans (centre_array m c j)

theorem temp_block (t : Fin cfg0.N) (r : Fin 32) : (iblk m c 5 t : S32x1.Idx → F .f32) (ix2 r 0) = temps r :=
  (read5 t (U m c main_v25) r).trans (temp_array m c r)

theorem words_at (x0 : Vec F S1x1x2 .i32) : word0 x0 = x0 (ix3 0 0 0) ∧ word1 x0 = x0 (ix3 0 0 1) := by
  constructor
  · refine congrArg x0 (funext fun d => Fin.ext ?_)
    match d with
    | ⟨0, _⟩ => rfl
    | ⟨1, _⟩ => rfl
    | ⟨2, _⟩ => rfl
  · refine congrArg x0 (funext fun d => Fin.ext ?_)
    match d with
    | ⟨0, _⟩ => rfl
    | ⟨1, _⟩ => rfl
    | ⟨2, _⟩ => rfl

/-- What a grid point reads. -/
theorem point_inputs (t : Fin cfg0.N) :
    inputs (word0 (iblk m c 0 t)) (word1 (iblk m c 0 t)) (iblk m c 1 t) (iblk m c 3 t) (iblk m c 4 t) (iblk m c 5 t)
      = drawn seed (m ((c : Thread nD τ).loc main_arg1)) (fun j => (m ((c : Thread nD τ).loc main_arg2) : S2048.Idx → F .f32) (ix1 j))
          temps t.val := by
  have w0 : word0 (F := F) (iblk m c 0 t) = part seed t.val 0 0 := (words_at _).1.trans (key_block m c t 0)
  have w1 : word1 (F := F) (iblk m c 0 t) = part seed t.val 0 1 := (words_at _).2.trans (key_block m c t 1)
  have u : (fun r => (iblk m c 1 t : S1x32x2.Idx → F .f32) (ix3 0 r 0)) = logUni (part seed t.val 1 0) (part seed t.val 1 1) :=
    funext fun r => (draw_block m c t r 0).trans (draw_array m c (num t) r).1
  have u' : (fun r => (iblk m c 1 t : S1x32x2.Idx → F .f32) (ix3 0 r 1)) = logUni (part seed t.val 2 0) (part seed t.val 2 1) :=
    funext fun r => (draw_block m c t r 1).trans (draw_array m c (num t) r).2
  have ec : (fun j => (iblk m c 4 t : S1x2048.Idx → F .f32) (ix2 0 j)) = fun j => (m ((c : Thread nD τ).loc main_arg2) : S2048.Idx → F .f32) (ix1 j) :=
    funext (centre_block m c t)
  have eb : (fun r => (iblk m c 5 t : S32x1.Idx → F .f32) (ix2 r 0)) = temps := funext (temp_block m c t)
  unfold inputs drawn
  rw [w0, w1, matrix_block, u, u', ec, eb]
  rfl

end Cert.KernelIdeal.Body

end
-- ==== Proof.KernelWalk.lean ====
/- The kernel's grid: after every point the carried buffers hold the chains after that many steps. -/
module

public import proofs.«01_k».proof.Proof.KernelBlocks

@[expose] public section

set_option maxRecDepth 16384

noncomputable section

namespace Cert.KernelIdeal.Body

open Idealize.ShloMosaic Idealize.ShloMosaic.TcCoe Idealize.ShloMosaic.ValueIdx Idealize.ShloMosaic.Pipeline
  Cert.KernelIdeal Cert.KernelIdeal.Gen Cert.KernelIdeal.Value Cert.Line Cert.Threefry Cert.Words Cert.Step

variable {F : FTy → Type} [FloatOps F] (m : (ℓ : Loc nD τ sig) → Buf (Elt F) ℓ) (c : Dev nD)

/-- The chains after `n` steps from the kernel's arguments. -/
abbrev chains (n : ℕ) : State F :=
  walk seed (m ((c : Thread nD τ).loc main_arg1)) (fun j => (m ((c : Thread nD τ).loc main_arg2) : S2048.Idx → F .f32) (ix1 j))
    temps (m ((c : Thread nD τ).loc main_arg0)) n

/-- A point's step, from the state it finds. -/
theorem point_step (t : Fin cfg0.N) (X : FVec F S32x2048 .f32) (L : FVec F S32x1 .f32) (h : state X L = chains m c t.val) :
    state (endX (BitVec.ofNat 32 (grid0.coords t 0).val) (word0 (iblk m c 0 t)) (word1 (iblk m c 0 t)) (iblk m c 1 t) (iblk m c 3 t)
        (iblk m c 4 t) (iblk m c 5 t) X L)
      (endL (BitVec.ofNat 32 (grid0.coords t 0).val) (word0 (iblk m c 0 t)) (word1 (iblk m c 0 t)) (iblk m c 1 t) (iblk m c 3 t)
        (iblk m c 4 t) (iblk m c 5 t) X L) = chains m c (t.val + 1) := by
  rw [(blocks_at t).1, end_step _ _ _ _ _ _ _ _ (num t).isLt, point_inputs, h]
  rfl

/-- The last point's result. -/
theorem point_out (t : Fin cfg0.N) (X : FVec F S32x2048 .f32) (L : FVec F S32x1 .f32) (h : state X L = chains m c t.val) :
    outX (BitVec.ofNat 32 (grid0.coords t 0).val) (word0 (iblk m c 0 t)) (word1 (iblk m c 0 t)) (iblk m c 1 t) (iblk m c 3 t)
        (iblk m c 4 t) (iblk m c 5 t) X L = (chains m c (t.val + 1)).X := by
  rw [(blocks_at t).1, out_step _ _ _ _ _ _ _ _ (num t).isLt, point_inputs, h]
  rfl

/-- What the first point starts from. -/
theorem first_state (t : Fin cfg0.N) :
    state (k0_pay7 (iblk m c 2 t)) (k0_pay8 (iblk m c 3 t) (iblk m c 4 t) (iblk m c 2 t)) = chains m c 0 := by
  refine congrArg₂ State.mk ((shapeCast_self _ _).trans (start_block m c t)) (funext fun r => ?_)
  refine (like_first _ _ _ r).trans ?_
  rw [start_block, matrix_block, show (fun j => (iblk m c 4 t : S1x2048.Idx → F .f32) (ix2 0 j)) = _ from funext (centre_block m c t)]

/-- The carried buffers after point `n`. -/
theorem carried : ∀ (n : ℕ) (hn : n < cfg0.N),
    state (outsAt0 m c n hn).2.1 (outsAt0 m c n hn).2.2 = chains m c (n + 1)
  | 0, hn => by
    rw [outsAt0_zero, stAt0_A m c ⟨0, hn⟩ _ (Nat.zero_mod _) (show ¬0 % 100 = 99 by decide)]
    dsimp only
    rw [points_A, likes_A]
    exact point_step m c ⟨0, hn⟩ _ _ (first_state m c ⟨0, hn⟩)
  | n + 1, hn => by
    have ih := carried n (Nat.lt_of_succ_lt hn)
    have hN : n + 1 < 100 := lt_of_lt_of_eq hn N_0
    have h0 : ¬(n + 1) % 100 = 0 := by omega
    rw [outsAt0_succ]
    by_cases h1 : (n + 1) % 100 = 99
    · rw [stAt0_C m c ⟨n + 1, hn⟩ _ h0 h1]
      dsimp only
      rw [points_C, likes_C]
      exact point_step m c ⟨n + 1, hn⟩ _ _ ih
    · rw [stAt0_B m c ⟨n + 1, hn⟩ _ h0 h1]
      dsimp only
      rw [points_B, likes_B]
      exact point_step m c ⟨n + 1, hn⟩ _ _ ih

/-- What the last point writes out. -/
theorem written : ∀ (n : ℕ) (hn : n < cfg0.N), n % 100 = 99 → (outsAt0 m c n hn).1 = (chains m c (n + 1)).X
  | 0, _, h => absurd h (by decide)
  | n + 1, hn, h1 => by
    have ih := carried m c n (Nat.lt_of_succ_lt hn)
    have h0 : ¬(n + 1) % 100 = 0 := by omega
    rw [outsAt0_succ, stAt0_C m c ⟨n + 1, hn⟩ _ h0 h1]
    dsimp only
    rw [out_C]
    exact point_out m c ⟨n + 1, hn⟩ _ _ ih

/-- The kernel's result: the points after a hundred steps. -/
theorem result_eq : G6 m c = (chains m c 100).X := by
  have h99 : 99 < cfg0.N := lt_of_lt_of_eq (by decide) N_0.symm
  exact (G6_last m c).trans ((congrArg Prod.fst (outsAt0_sweep m c 99 h99)).symm.trans (written m c 99 h99 rfl))

end Cert.KernelIdeal.Body

end
-- ==== Proof.RefLine.lean ====
/- The reference's loop body, up to the copies that end it, is a line: every operation writes a buffer of its own. -/
module

public import proofs.«01_k».proof.Proof.Line
public import proofs.«01_k».proof.Proof.Gen.ReferenceIdeal.Run

@[expose] public section

set_option maxRecDepth 16384

namespace Cert.ReferenceIdeal.Body

open Idealize.ShloMosaic Idealize.ShloMosaic.TcCoe Cert.Line Cert.ReferenceIdeal.Gen

variable {F : FTy → Type} [FloatOps F]

/-- The loop body without its last stretch, in four parts. -/
abbrev part0 : List (List (HloOp τ sig (Elt F))) := [while0Ops0, while0Ops0_1, while0Ops0_2, while0Ops0_3, while0Ops0_4]
@[inherit_doc part0]
abbrev part1 : List (List (HloOp τ sig (Elt F))) :=
  [while0Ops0_5, while0Ops0_6, while0Ops0_7, while0Ops0_8, while0Ops0_9, while0Ops0_10, while0Ops0_11, while0Ops0_12, while0Ops0_13, while0Ops0_14, while0Ops0_15, while0Ops0_16, while0Ops0_17, while0Ops0_18, while0Ops0_19, while0Ops0_20, while0Ops0_21, while0Ops0_22, while0Ops0_23, while0Ops0_24, while0Ops0_25, while0Ops0_26, while0Ops0_27, while0Ops0_28]
@[inherit_doc part0]
abbrev part2 : List (List (HloOp τ sig (Elt F))) :=
  [while0Ops0_29, while0Ops0_30, while0Ops0_31, while0Ops0_32, while0Ops0_33, while0Ops0_34, while0Ops0_35, while0Ops0_36, while0Ops0_37, while0Ops0_38, while0Ops0_39, while0Ops0_40, while0Ops0_41]
@[inherit_doc part0]
abbrev part3 : List (List (HloOp τ sig (Elt F))) :=
  [while0Ops0_42, while0Ops0_43, while0Ops0_44, while0Ops0_45, while0Ops0_46, while0Ops0_47]

/-- The loop body without its last stretch. -/
abbrev bodyLines : List (List (HloOp τ sig (Elt F))) := part0 ++ (part1 ++ (part2 ++ part3))

set_option maxHeartbeats 4000000 in
theorem body_lines : Lines (rk main_while0b_call0_v0) (bodyLines (F := F)) (rk main_while0b_v188 + 1) := by
  refine Lines.append (b := rk main_while0b_v43 + 1) ?_ (Lines.append (b := rk main_while0b_cst_52 + 1) ?_
    (Lines.append (b := rk main_while0b_cst_64 + 1) ?_ ?_))
  all_goals
    repeat
      with_reducible first
        | refine Lines.cons (own_nullary _ _ _) (by decide) ?_
        | refine Lines.cons (own_unary _ _ _ _ _ (by decide)) (by decide) ?_
        | refine Lines.cons (own_binary _ _ _ _ _ _ _ (by decide)) (by decide) ?_
        | refine Lines.cons (own_ternary _ _ _ _ _ _ _ _ _ (by decide)) (by decide) ?_
        | refine Lines.cons (own_reshape _ _ _ _ _ _ (by decide)) (by decide) ?_
        | refine Lines.cons (own_nary _ _ _ _ _ (by decide)) (by decide) ?_
        | refine Lines.cons (own_unaryIndexed _ _ _ _ _ _ _ _ _ (by decide)) (by decide) ?_
        | refine Lines.cons (own_binaryIndexed _ _ _ _ _ _ _ _ _ _ _ (by decide)) (by decide) ?_
        | refine Lines.next ?_
    exact Lines.nil (Nat.le_refl _)

end Cert.ReferenceIdeal.Body

end
-- ==== Proof.RefDraw.lean ====
/- The reference's draws in one step of its loop, from the contents its loop body solves. -/
module

public import proofs.«01_k».proof.Proof.RefLine
public import proofs.«01_k».proof.Proof.Words

@[expose] public section

set_option maxRecDepth 16384

namespace Cert.ReferenceIdeal.Body

open Idealize.ShloMosaic Idealize.ShloMosaic.TcCoe Cert.Line Cert.Threefry Cert.Words Cert.ReferenceIdeal.Gen
open Idealize.ShloMosaic.ValueIdx

variable {F : FTy → Type} [FloatOps F] {V : Valuation τ sig (Elt F)}

/-- The step's key: the base key and the step's number. -/
theorem fold_step (h : Solved V while0Ops0_2) (c : Fin 2) :
    (V main_while0b_v21 : S2.Idx → W) (ix1 c) = sub ((V main_v18_1 : S2.Idx → W) (ix1 0)) ((V main_v18_1 : S2.Idx → W) (ix1 1))
      ((V main_while0b_v20 : S_.Idx → W) ix0) c := by
  obtain ⟨h0, h1, h2, h3, h4, h5, h6, h7, h8, h9, h10, h11, h12, h⟩ := h
  obtain ⟨⟨p2, p0⟩, h⟩ := pre_one h fun _ => ⟨_, fun _ => rfl⟩
  obtain ⟨g1, h⟩ := grpA_step h
  obtain ⟨g2, h⟩ := grpB_step h
  obtain ⟨g3, h⟩ := grpA_step h
  obtain ⟨g4, h⟩ := grpB_step h
  obtain ⟨g5, h⟩ := grpA_step h
  obtain ⟨hc, -⟩ := h
  have t := tf_of (p2 (ix1 0)) (p0 (ix1 0)) (g1 _) (g2 _) (g3 _) (g4 _) (g5 _)
  rw [bcast0, bcast0] at t
  have e4 := bin h6 (un h2 (bin h1 (rfl : get V (.of main_while0b_v20 : StableHlo.TRef sig ⟨S_, .i32⟩) = _) (eq_nullary h0)))
    (un h5 (bin h4 (rfl : get V (.of main_while0b_v20 : StableHlo.TRef sig ⟨S_, .i32⟩) = _) (eq_nullary h3)))
  have x0 := (congrFun (un h11 e4) (ix1 0)).trans ((slice1 _ (0 : Fin 1) (by decide)).trans ((cat1_fst _ _).trans (shr32 ((V main_while0b_v20 : S_.Idx → W) ix0))))
  have x1 := (congrFun (un h12 e4) (ix1 0)).trans ((slice1 _ (0 : Fin 1) (by decide)).trans ((cat1_snd _ _).trans ((bcast0 _ _).trans (and_ones ((V main_while0b_v20 : S_.Idx → W) ix0)))))
  rw [key_part (by decide) h7 h8, key_part (by decide) h9 h10, x0, x1] at t
  refine (congrFun (eq_binary hc) (ix1 c)).trans ((cat1 _ _ c).trans ?_)
  match c with
  | 0 => exact congrArg Prod.fst t
  | 1 => exact congrArg Prod.snd t

/-- The step's three keys. -/
theorem split_step (h : Solved V while0Ops0_3) (r : Fin 3) (c : Fin 2) :
    (V main_while0b_v22 : S3x2.Idx → W) (ix2 r c) = sub ((V main_while0b_v21 : S2.Idx → W) (ix1 0))
      ((V main_while0b_v21 : S2.Idx → W) (ix1 1)) (BitVec.ofNat 32 r.val) c := by
  obtain ⟨h0, h1, h2, h3, h4, h5, h6, h7, h8, h9, h10, h11, h12, h⟩ := h
  obtain ⟨⟨p2, p0⟩, h⟩ := pre_one h fun _ => ⟨_, fun _ => rfl⟩
  obtain ⟨g1, h⟩ := grpA_step h
  obtain ⟨g2, h⟩ := grpB_step h
  obtain ⟨g3, h⟩ := grpA_step h
  obtain ⟨g4, h⟩ := grpB_step h
  obtain ⟨g5, h⟩ := grpA_step h
  obtain ⟨ha, hb, hc, -⟩ := h
  have t := tf_of (p2 (ix1 r)) (p0 (ix1 r)) (g1 _) (g2 _) (g3 _) (g4 _) (g5 _)
  rw [bcast0, bcast0] at t
  obtain ⟨lo, hi⟩ := counters (by decide) h4 h5 h6 h7 h8 h9 h10 h11 h12 r
  rw [key_part (by decide) h0 h1, key_part (by decide) h2 h3, lo, hi] at t
  have e := bin hc (eq_unary ha) (eq_unary hb)
  match c with
  | 0 => exact (congrFun e (ix2 r 0)).trans ((cat2_fst _ _ r).trans ((bcol (by decide) _ r 0).trans (congrArg Prod.fst t)))
  | 1 => exact (congrFun e (ix2 r 1)).trans ((cat2_snd _ _ r).trans ((bcol (by decide) _ r 0).trans (congrArg Prod.snd t)))

/-- The three keys one by one. -/
theorem keys_step (h : Solved V while0Ops0_4) (c : Fin 2) :
    ((V main_while0b_v24 : S2.Idx → W) (ix1 c) = (V main_while0b_v22 : S3x2.Idx → W) (ix2 0 c)
      ∧ (V main_while0b_v26 : S2.Idx → W) (ix1 c) = (V main_while0b_v22 : S3x2.Idx → W) (ix2 1 c)
      ∧ (V main_while0b_v28 : S2.Idx → W) (ix1 c) = (V main_while0b_v22 : S3x2.Idx → W) (ix2 2 c))
    ∧ (V main_while0b_v30 : S_.Idx → W) ix0 = (V main_while0b_v24 : S2.Idx → W) (ix1 0)
    ∧ (V main_while0b_v32 : S_.Idx → W) ix0 = (V main_while0b_v24 : S2.Idx → W) (ix1 1) := by
  obtain ⟨h0, h1, h2, h3, h4, h5, h6, h7, h8, h9, -⟩ := h
  have e1 : (V main_while0b_v24 : S2.Idx → W) = shapeCast S2 (V main_while0b_v23 : S1x2.Idx → W) shapeCasts_S1x2_S2 := eq_reshape h1
  have e3 : (V main_while0b_v26 : S2.Idx → W) = shapeCast S2 (V main_while0b_v25 : S1x2.Idx → W) shapeCasts_S1x2_S2 := eq_reshape h3
  have e5 : (V main_while0b_v28 : S2.Idx → W) = shapeCast S2 (V main_while0b_v27 : S1x2.Idx → W) shapeCasts_S1x2_S2 := eq_reshape h5
  have e7 : (V main_while0b_v30 : S_.Idx → W) = shapeCast S_ (V main_while0b_v29 : S1.Idx → W) shapeCasts_S1_S_ := eq_reshape h7
  have e9 : (V main_while0b_v32 : S_.Idx → W) = shapeCast S_ (V main_while0b_v31 : S1.Idx → W) shapeCasts_S1_S_ := eq_reshape h9
  rw [run h0 rfl] at e1
  rw [run h2 rfl] at e3
  rw [run h4 rfl] at e5
  rw [run h6 rfl] at e7
  rw [run h8 rfl] at e9
  refine ⟨⟨?_, ?_, ?_⟩, ?_, ?_⟩
  · rw [e1]; exact row_of _ (by decide) c
  · rw [e3]; exact row_of _ (by decide) c
  · rw [e5]; exact row_of _ (by decide) c
  · rw [e7]; exact (cast10 _).trans (slice1 _ (0 : Fin 1) (by decide))
  · rw [e9]; exact (cast10 _).trans (slice1 _ (0 : Fin 1) (by decide))

/-- The counters of the proposal's draws. -/
theorem counts_step (h : Solved V while0Ops0_4) (i : Fin 32) (j : Fin 2048) :
    (V main_while0b_v42 : S32x2048.Idx → W) (ix2 i j) = BitVec.ofNat 32 (2048 * i.val + j.val)
    ∧ (V main_while0b_v43 : S32x2048.Idx → W) (ix2 i j) = 0#32 := by
  obtain ⟨-, -, -, -, -, -, -, -, -, -, h0, h1, h2, h3, h4, h5, h6, h7, h8, h9, h10, h11, h12, h13, -⟩ := h
  have e8 := rbin h8 (rbin h4 (run h3 (rnul h2)) (rnul h0)) (rbin h7 (run h6 (rnul h5)) (rnul h1))
  have q : ((2048#64 : BitVec 64) * BitVec.ofNat 64 i.val + (1#64 : BitVec 64) * BitVec.ofNat 64 j.val)
      = BitVec.ofNat 64 (2048 * i.val + j.val) := by
    rw [show (2048#64 : BitVec 64) = BitVec.ofNat 64 2048 from rfl, show (1#64 : BitVec 64) = BitVec.ofNat 64 1 from rfl,
      mul_cnt, mul_cnt, add_cnt, one_mul]
  constructor
  · refine (congrFun (run h12 e8) (ix2 i j)).trans ?_
    show (((2048#64 : BitVec 64) * BitVec.ofNat 64 i.val + (1#64 : BitVec 64) * BitVec.ofNat 64 j.val).setWidth 32 : W) = _
    rw [q, cnt_lo]
  · refine (congrFun (run h13 (rbin h11 e8 (run h10 (rnul h9)))) (ix2 i j)).trans ?_
    show ((IntOp.shrui .host ((2048#64 : BitVec 64) * BitVec.ofNat 64 i.val + (1#64 : BitVec 64) * BitVec.ofNat 64 j.val) 32#64).setWidth 32 : W) = _
    rw [q, cnt_hi _ (by omega)]

/-- The proposal's words. -/
theorem words_step (h : Solved V while0Ops0_5) (i : S32x2048.Idx) :
    ((V main_while0b_v44_0 : S32x2048.Idx → W) i, (V main_while0b_v44_1 : S32x2048.Idx → W) i)
      = tf ((V main_while0b_v30 : S_.Idx → W) ix0) ((V main_while0b_v32 : S_.Idx → W) ix0)
        ((V main_while0b_v43 : S32x2048.Idx → W) i) ((V main_while0b_v42 : S32x2048.Idx → W) i) := by
  obtain ⟨⟨p2, p0⟩, h⟩ := pre_one h fun _ => ⟨_, fun _ => rfl⟩
  obtain ⟨g1, h⟩ := grpA_step h
  obtain ⟨g2, h⟩ := grpB_step h
  obtain ⟨g3, h⟩ := grpA_step h
  obtain ⟨g4, h⟩ := grpB_step h
  obtain ⟨g5, h⟩ := grpA_step h
  have t := tf_of (p2 i) (p0 i) (g1 _) (g2 _) (g3 _) (g4 _) (g5 _)
  rw [bcast0, bcast0] at t
  exact t

/-- The uniform draw of the acceptance. -/
theorem uniform_a (h : Solved V while0Ops0_29) (hl : (V main_while0b_cst_51 : S_.Idx → F .f32) = constant S_ .f32 0x2B8CBCCC#32)
    (hh : (V main_while0b_cst_52 : S_.Idx → F .f32) = constant S_ .f32 0x3F800000#32) (i : Fin 32) :
    (V main_while0b_v125 : S32.Idx → F .f32) (ix1 i) = uni (draw ((V main_while0b_v26 : S2.Idx → W) (ix1 0))
      ((V main_while0b_v26 : S2.Idx → W) (ix1 1)) (BitVec.ofNat 32 i.val)) := by
  obtain ⟨b0, b1, b2, b3, h0, h1, h2, h3, h4, h5, h6, h7, h8, h9, h10, h11, h12, h⟩ := h
  obtain ⟨⟨p2, p0⟩, h⟩ := pre_one h fun _ => ⟨_, fun _ => rfl⟩
  obtain ⟨g1, h⟩ := grpA_step h
  obtain ⟨g2, h⟩ := grpB_step h
  obtain ⟨g3, h⟩ := grpA_step h
  obtain ⟨g4, h⟩ := grpB_step h
  obtain ⟨g5, h⟩ := grpA_step h
  have t := tf_of (p2 (ix1 i)) (p0 (ix1 i)) (g1 _) (g2 _) (g3 _) (g4 _) (g5 _)
  rw [bcast0, bcast0] at t
  obtain ⟨lo, hi⟩ := counters (by decide) h4 h5 h6 h7 h8 h9 h10 h11 h12 i
  rw [key_part (by decide) h0 h1, key_part (by decide) h2 h3, lo, hi] at t
  obtain ⟨f, q1, q2, q3, q4, q5, q6, q7, -⟩ := frac_tail h
  have l2 := un b2 (un b0 hl)
  have l3 := un b3 (un b1 hh)
  have w := bin q7 (un q6 l2) (bin q5 (bin q3 rfl (un q2 (bin q1 l3 l2))) (un q4 l2))
  exact (congrFun w (ix1 i)).trans (uni_of ((f (ix1 i)).trans (congrArg frac (merged t))))

/-- The uniform draw of the swap. -/
theorem uniform_s (h : Solved V while0Ops0_42) (hl : (V main_while0b_cst_63 : S_.Idx → F .f32) = constant S_ .f32 0x2B8CBCCC#32)
    (hh : (V main_while0b_cst_64 : S_.Idx → F .f32) = constant S_ .f32 0x3F800000#32) (i : Fin 32) :
    (V main_while0b_v158 : S32.Idx → F .f32) (ix1 i) = uni (draw ((V main_while0b_v28 : S2.Idx → W) (ix1 0))
      ((V main_while0b_v28 : S2.Idx → W) (ix1 1)) (BitVec.ofNat 32 i.val)) := by
  obtain ⟨b0, b1, b2, b3, h0, h1, h2, h3, h4, h5, h6, h7, h8, h9, h10, h11, h12, h⟩ := h
  obtain ⟨⟨p2, p0⟩, h⟩ := pre_one h fun _ => ⟨_, fun _ => rfl⟩
  obtain ⟨g1, h⟩ := grpA_step h
  obtain ⟨g2, h⟩ := grpB_step h
  obtain ⟨g3, h⟩ := grpA_step h
  obtain ⟨g4, h⟩ := grpB_step h
  obtain ⟨g5, h⟩ := grpA_step h
  have t := tf_of (p2 (ix1 i)) (p0 (ix1 i)) (g1 _) (g2 _) (g3 _) (g4 _) (g5 _)
  rw [bcast0, bcast0] at t
  obtain ⟨lo, hi⟩ := counters (by decide) h4 h5 h6 h7 h8 h9 h10 h11 h12 i
  rw [key_part (by decide) h0 h1, key_part (by decide) h2 h3, lo, hi] at t
  obtain ⟨f, q1, q2, q3, q4, q5, q6, q7, -⟩ := frac_tail h
  have l2 := un b2 (un b0 hl)
  have l3 := un b3 (un b1 hh)
  have w := bin q7 (un q6 l2) (bin q5 (bin q3 rfl (un q2 (bin q1 l3 l2))) (un q4 l2))
  exact (congrFun w (ix1 i)).trans (uni_of ((f (ix1 i)).trans (congrArg frac (merged t))))

end Cert.ReferenceIdeal.Body

end
-- ==== Proof.RefNormal.lean ====
/- The reference's proposal in one step of its loop: the words drawn, made a normal draw, and the points moved by it. -/
module

public import proofs.«01_k».proof.Proof.RefDraw
public import proofs.«01_k».proof.Proof.Step
public import Idealize.ShloMosaic.Lib.KernelVsHost

@[expose] public section

set_option maxRecDepth 16384

namespace Cert.ReferenceIdeal.Body

open Idealize.ShloMosaic Idealize.ShloMosaic.TcCoe Cert.Line Cert.Threefry Cert.Words Cert.Step Cert.ReferenceIdeal.Gen
open Idealize.ShloMosaic.ValueIdx

/-- The loop body's operations all hold of the contents. -/
abbrev Whole {F : FTy → Type} [FloatOps F] (V : Valuation τ sig (Elt F)) : Prop :=
  ∀ (n : ℕ) (l : List (HloOp τ sig (Elt F))), (bodyLines (F := F))[n]? = some l → Solved V l

section
variable {F : FTy → Type} [FloatOps F] {V : Valuation τ sig (Elt F)}

/-- The draw on the open interval around zero. -/
theorem sym_step (h : Solved V while0Ops0_6) (i : S32x2048.Idx) :
    (V main_while0b_v58 : S32x2048.Idx → F .f32) i = sym (IntOp.xori ((V main_while0b_v44_0 : S32x2048.Idx → W) i) ((V main_while0b_v44_1 : S32x2048.Idx → W) i)) := by
  obtain ⟨h0, h1, h2, h3, h4, h5, h6, h7, h8, h9, h10, h11, h12, h13, h14, h15, h16, h17, h18, h19, -⟩ := h
  have e3 := rbin h3 (rbin h0 rfl rfl) (run h2 (rnul h1))
  have e6 := run h7 (rbin h6 e3 (run h5 (rnul h4)))
  have e16 := rbin h16 (rbin h13 (rbin h10 e6 (run h9 (rnul h8))) (run h12 (rnul h11))) (run h15 (rnul h14))
  refine (congrFun (rbin h19 (run h18 (rnul h17)) e16) i).trans ?_
  exact congrArg (fun b : W => FloatOps.maximumf (lit 0xBF7FFFFF#32) (FloatOps.addf (FloatOps.mulf (FloatOps.subf
    (FloatOps.ofBits .f32 (b ||| 1065353216#32)) (lit 0x3F800000#32)) (lit 0x40000000#32)) (lit 0xBF7FFFFF#32)) : W → F .f32)
      (shrui_host _ 9#32 |>.trans (by rfl))

end

variable {V : Valuation τ sig (Elt Ideal)}

theorem pick_eq {α : Type} {c c' : BitVec 1} {x x' y y' : α} (hc : c = c') (hx : x = x') (hy : y = y') :
    Scalar.select c x y = Scalar.select c' x' y' := by rw [hc, hx, hy]

/-- How deep a draw lies, as the reference makes it. -/
theorem depth_step (h : Solved V while0Ops0_6) :
    (V main_while0b_v62 : S32x2048.Idx → Ideal .f32) = (fun i => depth ((V main_while0b_v58 : S32x2048.Idx → Ideal .f32) i) : S32x2048.Idx → Ideal .f32) := by
  obtain ⟨-, -, -, -, -, -, -, -, -, -, -, -, -, -, -, -, -, -, -, -, h0, h1, h2, h3, -⟩ := h
  funext i
  refine (congrFun (run h3 (run h2 (rbin h1 (run h0 rfl) rfl))) i).trans ?_
  refine (Ideal.subf_zero_eq_hostNegf _).symm.trans (congrArg (fun y : Ideal .f32 => FloatOps.subf (lit 0x00000000#32) (FloatOps.log1p y)) ?_)
  exact (congrArg (fun y : Ideal .f32 => FloatOps.mulf y _) (Ideal.subf_zero_eq_hostNegf _).symm).trans (mul_comm (G := EReal) _ _)

/-- One coefficient of the two polynomials, chosen draw by draw. -/
theorem coeff {c : StableHlo.TRef sig ⟨S32x2048, .i1⟩} {bx bY y : StableHlo.TRef sig ⟨S32x2048, .f32⟩} {kx ky : StableHlo.TRef sig ⟨S_, .f32⟩}
    {X Y : W} (h : Solved V (StableHlo.TRef.unary kx bx (broadcastInDim S32x2048 ![] bcast_S_S32x2048)
      :: StableHlo.TRef.unary ky bY (broadcastInDim S32x2048 ![] bcast_S_S32x2048) :: StableHlo.TRef.ternary c bx bY y select :: []))
    {w : S32x2048.Idx → BitVec 1} (hc : get V c = w) (hx : get V kx = constant (F := Ideal) S_ .f32 X) (hy : get V ky = constant (F := Ideal) S_ .f32 Y) :
    get V y = (fun i => Scalar.select (w i) (lit X) (lit Y) : S32x2048.Idx → Ideal .f32) := by
  obtain ⟨h0, h1, h2, -⟩ := h
  exact ter h2 hc (un h0 hx) (un h1 hy)

/-- The inverse error function of the draws. -/
theorem inverse_step (B : Whole V) :
    (V main_while0b_v111 : S32x2048.Idx → Ideal .f32)
      = (fun i => inverse ((V main_while0b_v58 : S32x2048.Idx → Ideal .f32) i) : S32x2048.Idx → Ideal .f32) := by
  have ed := depth_step (B 6 _ rfl)
  obtain ⟨-, -, -, -, -, -, -, -, -, -, -, -, -, -, -, -, -, -, -, -, -, -, -, -, k0, k1, k2, k3, k4, k5, k6, k7, k8, k9, -⟩ := B 6 _ rfl
  have ec : (V main_while0b_v64 : S32x2048.Idx → BitVec 1)
      = (fun i => near (F := Ideal) ((V main_while0b_v58 : S32x2048.Idx → Ideal .f32) i) : S32x2048.Idx → BitVec 1) :=
    rbin k2 ed (run k1 (rnul k0))
  have ev : (V main_while0b_v70 : S32x2048.Idx → Ideal .f32)
      = (fun i => arg ((V main_while0b_v58 : S32x2048.Idx → Ideal .f32) i) : S32x2048.Idx → Ideal .f32) := ter (B 7 _ rfl).1 ec (rbin k5 ed (run k4 (rnul k3))) (rbin k9 (run k6 ed) (run k8 (rnul k7)))
  obtain ⟨a0, a1, -⟩ := B 8 _ rfl
  have p0 := coeff (B 9 _ rfl) ec (rnul a0) (rnul a1)
  obtain ⟨b0, b1, -⟩ := B 10 _ rfl
  have q1 := coeff (B 11 _ rfl) ec (rnul b0) (rnul b1)
  obtain ⟨c0, c1, c2, c3, c4, c5, -⟩ := B 12 _ rfl
  have p1 := rbin c3 (run c2 q1) (rbin c1 (run c0 p0) ev)
  have q2 := coeff (B 13 _ rfl) ec (rnul c4) (rnul c5)
  obtain ⟨d0, d1, d2, d3, d4, -⟩ := B 14 _ rfl
  have p2 := rbin d2 (run d1 q2) (rbin d0 p1 ev)
  have q3 := coeff (B 15 _ rfl) ec (rnul d3) (rnul d4)
  obtain ⟨e0, e1, e2, e3, e4, -⟩ := B 16 _ rfl
  have p3 := rbin e2 (run e1 q3) (rbin e0 p2 ev)
  have q4 := coeff (B 17 _ rfl) ec (rnul e3) (rnul e4)
  obtain ⟨f0, f1, f2, f3, f4, -⟩ := B 18 _ rfl
  have p4 := rbin f2 (run f1 q4) (rbin f0 p3 ev)
  have q5 := coeff (B 19 _ rfl) ec (rnul f3) (rnul f4)
  obtain ⟨g0, g1, g2, g3, g4, -⟩ := B 20 _ rfl
  have p5 := rbin g2 (run g1 q5) (rbin g0 p4 ev)
  have q6 := coeff (B 21 _ rfl) ec (rnul g3) (rnul g4)
  obtain ⟨h0, h1, h2, h3, h4, -⟩ := B 22 _ rfl
  have p6 := rbin h2 (run h1 q6) (rbin h0 p5 ev)
  have q7 := coeff (B 23 _ rfl) ec (rnul h3) (rnul h4)
  obtain ⟨i0, i1, i2, i3, i4, -⟩ := B 24 _ rfl
  have p7 := rbin i2 (run i1 q7) (rbin i0 p6 ev)
  have q8 := coeff (B 25 _ rfl) ec (rnul i3) (rnul i4)
  obtain ⟨j0, j1, j2, j3, j4, j5, j6, j7, j8, j9, j10, -⟩ := B 26 _ rfl
  have p8 := rbin j2 (run j1 q8) (rbin j0 p7 ev)
  have e := ter (B 27 _ rfl).1 (rbin j6 (run j3 rfl) (run j5 (rnul j4))) (rbin j9 rfl (run j8 (rnul j7))) (rbin j10 p8 rfl)
  funext i
  exact (congrFun e i).trans (pick_eq rfl (mul_comm (G := EReal) _ _) rfl)

/-- The points proposed. -/
theorem propose_step (B : Whole V) (i : S32x2048.Idx) :
    (V main_while0b_v116 : S32x2048.Idx → Ideal .f32) i
      = propose (F := Ideal) ((V main_v18_7 : S32x2048.Idx → Ideal .f32) i) ((V main_while0b_v58 : S32x2048.Idx → Ideal .f32) i) := by
  obtain ⟨h0, h1, h2, h3, h4, h5, h6, -⟩ := B 28 _ rfl
  exact congrFun (rbin h6 rfl (rbin h5 (run h4 (rnul h3)) (rbin h2 (run h1 (rnul h0)) (inverse_step B)))) i

/-- The host's product, square and sum make the log density. -/
theorem like_host (A : S2048x2048.Idx → Ideal .f32) (c : Fin 2048 → Ideal .f32) (X m : S32x2048.Idx → Ideal .f32)
    (hm : ∀ i j, m (ix2 i j) = c j) (r : Fin 32) :
    FloatOps.mulf (lit 0xBF000000#32 : Ideal .f32) (Host.reduceAdd
      (mulf (Host.dotGeneral (φ₁ := .f32) (φ₂ := .f32) dot_S32x2048_S2048x2048_S32x2048_1_0_0_1_n_n none (subf X m) A)
        (Host.dotGeneral (φ₁ := .f32) (φ₂ := .f32) dot_S32x2048_S2048x2048_S32x2048_1_0_0_1_n_n none (subf X m) A))
      (constant (F := Ideal) S_ .f32 0x00000000#32) reducesTo_S32x2048_S32_d1 h_S_ (ix1 r)) = like (F := Ideal) A c X r := by
  have em : m = fun i => c (i 1) := funext fun i => (congrArg m (eq_ix2 i)).trans (hm _ _)
  subst em
  unfold like
  refine congrArg (FloatOps.mulf (lit 0xBF000000#32 : Ideal .f32)) ?_
  refine (congrFun (multiReduction_add_eq_hostReduceAdd (t := S32) (a := 1) (mulf _ _) 0x00000000#32 (by decide) (.inl rfl) rfl
    (constant (F := Ideal) S_ .f32 0x00000000#32) reducesTo_S32x2048_S32_d1 h_S_ Ideal.ofBits_zero_f32) (ix1 r)).symm.trans ?_
  exact congrArg (fun Y : FVec Ideal S32x2048 .f32 => multiReduction .add [1] S32 (mulf Y Y) 0x00000000#32 (by decide) (.inl rfl) rfl (ix1 r))
    (matmul_zero_eq_dotGeneral dot_S32x2048_S2048x2048_S32x2048_1_0_0_1_n_n none (subf X fun i => c (i 1)) A).symm

/-- The log densities of the points proposed. -/
theorem like_step (B : Whole V) (r : Fin 32) :
    (V main_while0b_v124 : S32.Idx → Ideal .f32) (ix1 r)
      = like (F := Ideal) (V main_v18_3 : S2048x2048.Idx → Ideal .f32) (fun j => (V main_v18_2 : S2048.Idx → Ideal .f32) (ix1 j))
        (V main_while0b_v116 : S32x2048.Idx → Ideal .f32) r := by
  obtain ⟨-, -, -, -, -, -, -, h7, h8, h9, h10, h11, h12, h13, h14, h15, h16, -⟩ := B 28 _ rfl
  have e9 := rbin h9 rfl (run h8 (run h7 rfl))
  refine (congrFun (rbin h16 (run h15 (rnul h14)) (rbin h13 (rbin h11 (rbin h10 e9 rfl) (rbin h10 e9 rfl)) (rnul h12))) (ix1 r)).trans ?_
  exact like_host _ _ _ _ (fun i j => (brows (by decide) _ i j).trans (brow (by decide) _ 0 j)) r

end Cert.ReferenceIdeal.Body

end
-- ==== Proof.RefSwap.lean ====
/- The reference's exchange in one step of its loop: the parities, the row each chain meets, and what is taken from it. -/
module

public import proofs.«01_k».proof.Proof.RefNormal
public import Idealize.ShloMosaic.Lib.Routing.OpsSet
public import Idealize.ShloMosaic.Lib.DynamicIndex

@[expose] public section

set_option maxRecDepth 16384

namespace Cert.ReferenceIdeal.Body

open Idealize.ShloMosaic
open Idealize.ShloMosaic.TcCoe Cert.Line Cert.Threefry Cert.Words Cert.Step Cert.ReferenceIdeal.Gen
open Idealize.ShloMosaic.ValueIdx

/-! ### Words -/

/-- A word's parity as the host makes it. -/
def hostPar (w : W) : W :=
  let d : W := Scalar.select (IntOp.cmpi .eq (2#32 : W) 0#32) 1#32 2#32
  let q : W := IntOp.remsi .host w d
  Scalar.select (IntOp.andi (IntOp.cmpi .ne (IntOp.cmpi .slt q 0#32) (IntOp.cmpi .slt d 0#32)) (IntOp.cmpi .ne q 0#32))
    (IntOp.addi q d) q

theorem par_word : ∀ t : Fin 100, hostPar (BitVec.ofNat 32 t.val) = BitVec.ofNat 32 (t.val % 2) := by decide +kernel

theorem par_row : ∀ r : Fin 32, hostPar (BitVec.ofNat 32 r.val) = BitVec.ofNat 32 (r.val % 2) := by decide +kernel

theorem mate_word : ∀ (p : Fin 2) (r : Fin 32), IntOp.minsi 31#32 (IntOp.maxsi 0#32 (IntOp.addi (BitVec.ofNat 32 r.val)
    (Scalar.select (IntOp.cmpi .eq (BitVec.ofNat 32 (r.val % 2)) (BitVec.ofNat 32 p.val)) 1#32 4294967295#32)))
      = BitVec.ofNat 32 (mate p.val r).val := by decide +kernel

theorem wrap_word : ∀ k : Fin 32, Scalar.select (IntOp.cmpi .slt (BitVec.ofNat 32 k.val) 0#32)
    (IntOp.addi (BitVec.ofNat 32 k.val) 32#32) (BitVec.ofNat 32 k.val) = BitVec.ofNat 32 k.val := by decide +kernel

theorem min_word : ∀ r k : Fin 32, IntOp.minsi (BitVec.ofNat 32 r.val) (BitVec.ofNat 32 k.val) = BitVec.ofNat 32 (min r k).val := by
  decide +kernel

theorem ne_word : ∀ k r : Fin 32, IntOp.cmpi .ne (BitVec.ofNat 32 k.val) (BitVec.ofNat 32 r.val) = BitVec.ofBool (k != r) := by
  decide +kernel

theorem mate_mod (t : ℕ) (r : Fin 32) : mate (t % 2) r = mate t r := by unfold mate; rw [Nat.mod_mod]

/-! ### Takes -/

/-- A row number, held inside the rows, as the column a take reads. -/
abbrev wrap (w : S32.Idx → W) : S32x1.Idx → W :=
  broadcastInDim S32x1 ![0] bcast_S32_S32x1_0 (select (cmpi .slt w (broadcastInDim S32 ![] bcast_S_S32 (constantI S_ 32 0#32)))
    (addi w (broadcastInDim S32 ![] bcast_S_S32 (constantI S_ 32 32#32))) w)

theorem wrap_at (w : S32.Idx → W) (r k : Fin 32) (hw : w (ix1 r) = BitVec.ofNat 32 k.val) : wrap w (ix2 r 0) = BitVec.ofNat 32 k.val := by
  refine (bcol (by decide) _ r 0).trans ?_
  refine Eq.trans (b := Scalar.select (IntOp.cmpi .slt (w (ix1 r)) 0#32) (IntOp.addi (w (ix1 r)) 32#32) (w (ix1 r))) rfl ?_
  rw [hw]
  exact wrap_word k

theorem take_at {α : Type} (x : S32.Idx → α) (w : S32.Idx → W) (r k : Fin 32) (hw : w (ix1 r) = BitVec.ofNat 32 k.val) :
    Host.gather gather_S32_S32x1_S32_n_0_n_n_0_1_1 x (wrap w) (ix1 r) = x (ix1 k) :=
  Routing.gather_take1 gather_S32_S32x1_S32_n_0_n_n_0_1_1 rfl rfl rfl rfl x (wrap w) r k (wrap_at w r k hw) (by decide)

theorem take_row {α : Type} (x : S32x2048.Idx → α) (w : S32.Idx → W) (r k : Fin 32) (c : Fin 2048) (hw : w (ix1 r) = BitVec.ofNat 32 k.val) :
    Host.gather gather_S32x2048_S32x1_S32x2048_1_0_n_n_0_1_12048 x (wrap w) (ix2 r c) = x (ix2 k c) :=
  Routing.gather_row gather_S32x2048_S32x1_S32x2048_1_0_n_n_0_1_12048 rfl rfl rfl rfl rfl x (wrap w) r c k (wrap_at w r k hw) (by decide)

variable {F : FTy → Type} [FloatOps F] {V : Valuation τ sig (Elt F)}

/-! ### The step's number -/

theorem number_step (B : Whole V) {t : ℕ} (ht : t < 100) (hn : (V main_v18_6 : S_.Idx → W) = fun _ => BitVec.ofNat 32 t)
    (hi : ∀ k : Fin 100, (V main_v18_0 : S100.Idx → W) (ix1 k) = BitVec.ofNat 32 k.val) :
    (V main_while0b_v19 : S_.Idx → W) ix0 = BitVec.ofNat 32 t := by
  obtain ⟨h0, h1, -⟩ := B 0 _ rfl
  have e1 : (V main_while0b_v19 : S_.Idx → W) = shapeCast S_ (V main_while0b_call0_v0 : S1.Idx → W) shapeCasts_S1_S_ := eq_reshape h1
  rw [e1]
  refine (cast10 _).trans ?_
  have hoff : S100.Slices (![t] : Fin 1 → ℕ) S1 := ⟨rfl, fun a => by
    obtain rfl : a = (0 : Fin 1) := Subsingleton.elim (α := Fin 1) _ _
    show t + 1 ≤ 100
    omega⟩
  have e0 : (V main_while0b_call0_v0 : S1.Idx → W) = extractStridedSlice S1 ![t] (V main_v18_0 : S100.Idx → W) hoff :=
    (eq_unaryIndexed h0).trans (Host.dynamicSlice_eq_extractStridedSlice S1 (V main_v18_0 : S100.Idx → W) _ ![t] sliceFits_S100_S1 hoff fun (a : Fin 1) => by
      obtain rfl : a = (0 : Fin 1) := Subsingleton.elim (α := Fin 1) _ _
      refine (congrArg (fun w : S_.Idx → W => (w (Shape.Idx.first h_S_)).toInt) hn).trans ?_
      exact toInt_ofNat_of_lt (by omega))
  rw [e0]
  exact (slice1 _ (0 : Fin 1) (by show t + 0 < 100; omega)).trans (hi ⟨t, ht⟩)

/-! ### The row a chain meets -/

theorem parity_step (h33 : Solved V while0Ops0_33) (h34 : Solved V while0Ops0_34) :
    (V main_while0b_v133 : S_.Idx → W) = fun i => hostPar ((V main_while0b_v19 : S_.Idx → W) i) := by
  obtain ⟨h0, h1, h2, h3, h4, h5, h6, h7, h8, h9, h10, h11, h12, h13, h14, h15, -⟩ := h34
  have e0 := un h0 (rnul h33.1)
  have e4 := ter h4 (bin h2 e0 (eq_nullary h1)) (eq_nullary h3) e0
  have e5 := bin h5 (rfl : get V (.of main_while0b_v19 : StableHlo.TRef sig ⟨S_, .i32⟩) = _) e4
  exact ter h15 (bin h13 (bin h12 (bin h9 e5 (eq_nullary h8)) (bin h11 e4 (eq_nullary h10))) (bin h7 e5 (eq_nullary h6)))
    (bin h14 e5 e4) e5

theorem rows_step (h35 : Solved V while0Ops0_35) (h36 : Solved V while0Ops0_36) :
    (V main_while0b_v134 : S32.Idx → W) = fun i => hostPar ((V main_v18_5 : S32.Idx → W) i) := by
  obtain ⟨h0, h1, h2, h3, h4, h5, h6, h7, h8, h9, h10, h11, h12, h13, h14, h15, h16, h17, h18, h19, h20, -⟩ := h36
  have e0 := un h0 (rnul h35.1)
  have e4 := ter h4 (bin h2 e0 (eq_nullary h1)) (eq_nullary h3) e0
  have e6 := bin h6 (rfl : get V (.of main_v18_5 : StableHlo.TRef sig ⟨S32, .i32⟩) = _) (un h5 e4)
  exact ter h20 (bin h17 (bin h16 (bin h12 e6 (un h11 (eq_nullary h10))) (un h15 (bin h14 e4 (eq_nullary h13))))
    (bin h9 e6 (un h8 (eq_nullary h7)))) (bin h19 e6 (un h18 e4)) e6

theorem mate_at {a p q : W} {t : ℕ} {r : Fin 32} (ha : a = BitVec.ofNat 32 r.val) (hq : q = BitVec.ofNat 32 (r.val % 2))
    (hp : p = BitVec.ofNat 32 (t % 2)) : IntOp.minsi 31#32 (IntOp.maxsi 0#32 (IntOp.addi a
      (Scalar.select (IntOp.cmpi .eq q p) 1#32 4294967295#32))) = BitVec.ofNat 32 (mate t r).val := by
  subst ha hq hp
  exact (mate_word ⟨t % 2, Nat.mod_lt _ (by decide)⟩ r).trans (congrArg (fun k : Fin 32 => BitVec.ofNat 32 k.val) (mate_mod t r))

theorem mate_all (h37 : Solved V while0Ops0_37) (h38 : Solved V while0Ops0_38) (h39 : Solved V while0Ops0_39)
    (h40 : Solved V while0Ops0_40) : (V main_while0b_v140 : S32.Idx → W) = fun i => IntOp.minsi 31#32 (IntOp.maxsi 0#32
      (IntOp.addi ((V main_v18_5 : S32.Idx → W) i) (Scalar.select (IntOp.cmpi .eq ((V main_while0b_v134 : S32.Idx → W) i)
        (broadcastInDim S32 ![] bcast_S_S32 (V main_while0b_v133 : S_.Idx → W) i)) 1#32 4294967295#32))) := by
  obtain ⟨a0, a1, a2, a3, -⟩ := h37
  obtain ⟨b0, b1, b2, -⟩ := h38
  obtain ⟨c0, c1, c2, c3, -⟩ := h39
  obtain ⟨d0, d1, d2, d3, d4, d5, -⟩ := h40
  have e2 := ter b2 (rbin a1 rfl (run a0 rfl)) (un b0 (rnul a2)) (un b1 (rnul a3))
  exact bin d5 (un d4 (un d3 (rnul c3))) (bin d2 (un d1 (un d0 (rnul c2))) (rbin c1 rfl (run c0 e2)))

theorem mate_step (B : Whole V) {t : ℕ} (ht : t < 100) (hn : (V main_while0b_v19 : S_.Idx → W) ix0 = BitVec.ofNat 32 t)
    (hr : ∀ r : Fin 32, (V main_v18_5 : S32.Idx → W) (ix1 r) = BitVec.ofNat 32 r.val) (r : Fin 32) :
    (V main_while0b_v140 : S32.Idx → W) (ix1 r) = BitVec.ofNat 32 (mate t r).val := by
  have ep : (V main_while0b_v133 : S_.Idx → W) ix0 = BitVec.ofNat 32 (t % 2) :=
    (congrFun (parity_step (B 33 _ rfl) (B 34 _ rfl)) ix0).trans ((congrArg hostPar hn).trans (par_word ⟨t, ht⟩))
  have er : (V main_while0b_v134 : S32.Idx → W) (ix1 r) = BitVec.ofNat 32 (r.val % 2) :=
    (congrFun (rows_step (B 35 _ rfl) (B 36 _ rfl)) (ix1 r)).trans ((congrArg hostPar (hr r)).trans (par_row r))
  exact (congrFun (mate_all (B 37 _ rfl) (B 38 _ rfl) (B 39 _ rfl) (B 40 _ rfl)) (ix1 r)).trans
    (mate_at (hr r) er ((bcast0 _ _).trans ep))

section Taken

variable (B : Whole V) {t : ℕ} (r : Fin 32) (hm : ∀ r : Fin 32, (V main_while0b_v140 : S32.Idx → W) (ix1 r) = BitVec.ofNat 32 (mate t r).val)
include B hm

/-- How much better the pair would fit exchanged. -/
theorem gap_step : (V main_while0b_v157 : S32.Idx → F .f32) (ix1 r)
    = FloatOps.mulf (FloatOps.subf ((V main_v18_4 : S32.Idx → F .f32) (ix1 r)) ((V main_v18_4 : S32.Idx → F .f32) (ix1 (mate t r))))
      (FloatOps.subf ((V main_while0b_v132 : S32.Idx → F .f32) (ix1 (mate t r))) ((V main_while0b_v132 : S32.Idx → F .f32) (ix1 r))) := by
  obtain ⟨h0, h1, h2, h3, h4, h5, h6, h7, h8, h9, k0, k1, k2, k3, k4, k5, k6, k7, k8, k9, k10, -⟩ := B 41 _ rfl
  have e1 := rbin h8 rfl (run h7 (rter h6 (rbin h2 rfl (run h1 (rnul h0))) (rbin h5 rfl (run h4 (rnul h3))) rfl))
  have e2 := rbin k8 rfl (run k7 (rter k6 (rbin k2 rfl (run k1 (rnul k0))) (rbin k5 rfl (run k4 (rnul k3))) rfl))
  refine (congrFun (rbin k10 (rbin h9 rfl e1) (rbin k9 e2 rfl)) (ix1 r)).trans ?_
  exact congrArg₂ FloatOps.mulf
    (congrArg (FloatOps.subf ((V main_v18_4 : S32.Idx → F .f32) (ix1 r))) (take_at (V main_v18_4 : S32.Idx → F .f32) (V main_while0b_v140) r _ (hm r)))
    (congrArg (fun y : F .f32 => FloatOps.subf y ((V main_while0b_v132 : S32.Idx → F .f32) (ix1 r)))
      (take_at (V main_while0b_v132 : S32.Idx → F .f32) (V main_while0b_v140) r _ (hm r)))

/-- Whether a chain exchanges. -/
theorem swap_step (hr : ∀ r : Fin 32, (V main_v18_5 : S32.Idx → W) (ix1 r) = BitVec.ofNat 32 r.val) :
    (V main_while0b_v170 : S32.Idx → BitVec 1) (ix1 r) = IntOp.andi (FloatOps.cmpf .olt
      ((V main_while0b_v159 : S32.Idx → F .f32) (ix1 (min r (mate t r)))) ((V main_while0b_v157 : S32.Idx → F .f32) (ix1 r)))
      (BitVec.ofBool (mate t r != r)) := by
  obtain ⟨-, h1, h2, h3, h4, h5, h6, h7, h8, h9, h10, h11, h12, h13, -⟩ := B 43 _ rfl
  have e1 := rbin h1 (rfl : V main_v18_5 = _) (rfl : V main_while0b_v140 = _)
  have e10 := rbin h10 rfl (run h9 (rter h8 (rbin h4 rfl (run h3 (rnul h2))) (rbin h7 rfl (run h6 (rnul h5))) rfl))
  refine (congrFun (rbin h13 (rbin h11 e10 rfl) (rbin h12 rfl rfl)) (ix1 r)).trans ?_
  refine congrArg₂ IntOp.andi (congrArg (fun y : F .f32 => FloatOps.cmpf .olt y ((V main_while0b_v157 : S32.Idx → F .f32) (ix1 r)))
    (take_at (V main_while0b_v159 : S32.Idx → F .f32) (V main_while0b_v160) r (min r (mate t r)) ?_)) ?_
  · refine (congrFun e1 (ix1 r)).trans ?_
    refine Eq.trans (b := IntOp.minsi ((V main_v18_5 : S32.Idx → W) (ix1 r)) ((V main_while0b_v140 : S32.Idx → W) (ix1 r))) rfl ?_
    rw [hr, hm]
    exact min_word r _
  · refine Eq.trans (b := IntOp.cmpi .ne ((V main_while0b_v140 : S32.Idx → W) (ix1 r)) ((V main_v18_5 : S32.Idx → W) (ix1 r))) rfl ?_
    rw [hr, hm]
    exact ne_word _ r

/-- The points after the exchange. -/
theorem points_step (c : Fin 2048) : (V main_while0b_v179 : S32x2048.Idx → F .f32) (ix2 r c)
    = Scalar.select ((V main_while0b_v170 : S32.Idx → BitVec 1) (ix1 r)) ((V main_while0b_v131 : S32x2048.Idx → F .f32) (ix2 (mate t r) c))
      ((V main_while0b_v131 : S32x2048.Idx → F .f32) (ix2 r c)) := by
  obtain ⟨-, -, -, -, -, -, -, -, -, -, -, -, -, -, h0, k0, k1, k2, k3, k4, k5, k6, k7, k8, -⟩ := B 43 _ rfl
  obtain ⟨a0, a1, -⟩ := B 44 _ rfl
  have e := rbin k8 rfl (run k7 (rter k6 (rbin k2 rfl (run k1 (rnul k0))) (rbin k5 rfl (run k4 (rnul k3))) rfl))
  refine (congrFun (ter a1 (un a0 (run h0 rfl)) e rfl) (ix2 r c)).trans ?_
  exact pick_eq ((bcols (by decide) _ r c).trans (bcol (by decide) _ r 0))
    (take_row (V main_while0b_v131 : S32x2048.Idx → F .f32) (V main_while0b_v140) r _ c (hm r)) rfl

/-- The log densities after the exchange. -/
theorem likes_step : (V main_while0b_v187 : S32.Idx → F .f32) (ix1 r)
    = Scalar.select ((V main_while0b_v170 : S32.Idx → BitVec 1) (ix1 r)) ((V main_while0b_v132 : S32.Idx → F .f32) (ix1 (mate t r)))
      ((V main_while0b_v132 : S32.Idx → F .f32) (ix1 r)) := by
  obtain ⟨k0, k1, k2, k3, k4, k5, k6, k7, k8, -⟩ := B 45 _ rfl
  have e := rbin k8 rfl (run k7 (rter k6 (rbin k2 rfl (run k1 (rnul k0))) (rbin k5 rfl (run k4 (rnul k3))) rfl))
  refine (congrFun (ter (B 46 _ rfl).1 rfl e rfl) (ix1 r)).trans ?_
  exact pick_eq rfl (take_at (V main_while0b_v132 : S32.Idx → F .f32) (V main_while0b_v140) r _ (hm r)) rfl

end Taken

end Cert.ReferenceIdeal.Body

end
-- ==== Proof.RefStep.lean ====
/- One step of the reference's loop is the step written once. -/
module

public import proofs.«01_k».proof.Proof.RefSwap
public import proofs.«01_k».proof.Proof.Draws

@[expose] public section

set_option maxRecDepth 16384

namespace Cert.ReferenceIdeal.Body

open Idealize.ShloMosaic Idealize.ShloMosaic.TcCoe Cert.Line Cert.Threefry Cert.Words Cert.Step Cert.ReferenceIdeal.Gen
open Idealize.ShloMosaic.ValueIdx

variable {V : Valuation τ sig (Elt Ideal)}

/-- The key the loop carries. -/
abbrev baseKey (V : Valuation τ sig (Elt Ideal)) (c : Fin 2) : W := (V main_v18_1 : S2.Idx → W) (ix1 c)

/-- What the step reads, from what the loop carries. -/
noncomputable abbrev read (V : Valuation τ sig (Elt Ideal)) (t : ℕ) : Inputs Ideal :=
  drawn (baseKey V) (V main_v18_3 : S2048x2048.Idx → Ideal .f32) (fun j => (V main_v18_2 : S2048.Idx → Ideal .f32) (ix1 j))
    (fun r => (V main_v18_4 : S32.Idx → Ideal .f32) (ix1 r)) t

/-- The chains the loop carries. -/
abbrev held (V : Valuation τ sig (Elt Ideal)) : State Ideal :=
  ⟨(V main_v18_7 : S32x2048.Idx → Ideal .f32), fun r => (V main_v18_8 : S32.Idx → Ideal .f32) (ix1 r)⟩

theorem draw_of {a a' b b' x y n : W} {p q : W} (h : (p, q) = tf a b x y) (ha : a = a') (hb : b = b') (hx : x = 0#32) (hy : y = n) :
    IntOp.xori p q = draw a' b' n := by
  subst ha hb hx hy
  exact congrArg (fun s : W × W => s.1 ^^^ s.2) h

section Keys

variable (B : Whole V) {t : ℕ} (hn : (V main_while0b_v19 : S_.Idx → W) ix0 = BitVec.ofNat 32 t)
include B hn

theorem part_step (r : Fin 3) (c : Fin 2) : (V main_while0b_v22 : S3x2.Idx → W) (ix2 r c) = part (baseKey V) t r.val c := by
  have e : (V main_while0b_v20 : S_.Idx → W) ix0 = BitVec.ofNat 32 t := (congrFun (run (B 1 _ rfl).1 rfl) ix0).trans hn
  have f : ∀ c : Fin 2, (V main_while0b_v21 : S2.Idx → W) (ix1 c) = sub (baseKey V 0) (baseKey V 1) (BitVec.ofNat 32 t) c := fun c =>
    (fold_step (B 2 _ rfl) c).trans (congrArg (fun w => sub (baseKey V 0) (baseKey V 1) w c) e)
  exact (split_step (B 3 _ rfl) r c).trans (congrArg₂ (fun a b => sub a b (BitVec.ofNat 32 r.val) c) (f 0) (f 1))

theorem draw_step (i : S32x2048.Idx) : (V main_while0b_v58 : S32x2048.Idx → Ideal .f32) i = (read V t).z i := by
  obtain ⟨⟨h24, -, -⟩, h30, h32⟩ := keys_step (B 4 _ rfl) 0
  obtain ⟨⟨h24', -, -⟩, -, -⟩ := keys_step (B 4 _ rfl) 1
  have e0 : (V main_while0b_v30 : S_.Idx → W) ix0 = part (baseKey V) t 0 0 := h30.trans (h24.trans (part_step B hn 0 0))
  have e1 : (V main_while0b_v32 : S_.Idx → W) ix0 = part (baseKey V) t 0 1 := h32.trans (h24'.trans (part_step B hn 0 1))
  obtain ⟨r, c, rfl⟩ : ∃ r c, i = ix2 r c := ⟨i 0, i 1, eq_ix2 i⟩
  have hc := counts_step (B 4 _ rfl) r c
  exact (sym_step (B 6 _ rfl) (ix2 r c)).trans (congrArg (fun w : W => (sym w : Ideal .f32))
    (draw_of (words_step (B 5 _ rfl) (ix2 r c)) e0 e1 hc.2 hc.1))

theorem accept_step (r : Fin 32) : (V main_while0b_v126 : S32.Idx → Ideal .f32) (ix1 r) = (read V t).u r := by
  obtain ⟨-, -, -, -, -, -, -, -, -, -, -, -, -, -, -, -, -, k0, k1, -⟩ := B 28 _ rfl
  refine (congrFun (run (B 30 _ rfl).1 rfl) (ix1 r)).trans (congrArg (FloatOps.hostUnary (F := Ideal) .log) ?_)
  exact (uniform_a (B 29 _ rfl) (rnul k0) (rnul k1) r).trans
    (congrArg₂ (fun a b => (uni (draw a b (BitVec.ofNat 32 r.val)) : Ideal .f32))
      ((keys_step (B 4 _ rfl) 0).1.2.1.trans (part_step B hn 1 0)) ((keys_step (B 4 _ rfl) 1).1.2.1.trans (part_step B hn 1 1)))

theorem exchange_step (r : Fin 32) : (V main_while0b_v159 : S32.Idx → Ideal .f32) (ix1 r) = (read V t).u' r := by
  obtain ⟨-, -, -, -, -, -, -, -, -, -, -, -, -, -, -, -, -, -, -, -, -, k0, k1, -⟩ := B 41 _ rfl
  refine (congrFun (run (B 43 _ rfl).1 rfl) (ix1 r)).trans (congrArg (FloatOps.hostUnary (F := Ideal) .log) ?_)
  exact (uniform_s (B 42 _ rfl) (rnul k0) (rnul k1) r).trans
    (congrArg₂ (fun a b => (uni (draw a b (BitVec.ofNat 32 r.val)) : Ideal .f32))
      ((keys_step (B 4 _ rfl) 0).1.2.2.trans (part_step B hn 2 0)) ((keys_step (B 4 _ rfl) 1).1.2.2.trans (part_step B hn 2 1)))

theorem proposed_step : (V main_while0b_v116 : S32x2048.Idx → Ideal .f32) = proposed (read V t) (held V) :=
  funext fun i => (propose_step B i).trans (congrArg (propose (F := Ideal) ((V main_v18_7 : S32x2048.Idx → Ideal .f32) i)) (draw_step B hn i))

theorem proposed_like (r : Fin 32) : (V main_while0b_v124 : S32.Idx → Ideal .f32) (ix1 r)
    = like (read V t).A (read V t).c (proposed (read V t) (held V)) r :=
  (like_step B r).trans (congrArg (fun X => like (F := Ideal) (read V t).A (read V t).c X r) (proposed_step B hn))

theorem accepts_step (r : Fin 32) : (V main_while0b_v129 : S32.Idx → BitVec 1) (ix1 r) = accepts (read V t) (held V) r := by
  obtain ⟨-, h1, h2, h3, -⟩ := B 30 _ rfl
  refine (congrFun (rbin h3 rfl (rbin h2 rfl (rbin h1 rfl rfl))) (ix1 r)).trans ?_
  exact congrArg₂ (FloatOps.cmpf (F := Ideal) (φ := .f32) .olt) (accept_step B hn r) (congrArg (fun y : Ideal .f32 =>
    FloatOps.mulf (F := Ideal) ((V main_v18_4 : S32.Idx → Ideal .f32) (ix1 r)) (FloatOps.subf y ((V main_v18_8 : S32.Idx → Ideal .f32) (ix1 r))))
      (proposed_like B hn r))

theorem moved_points (i : S32x2048.Idx) :
    (V main_while0b_v131 : S32x2048.Idx → Ideal .f32) i = (moved (read V t) (held V)).X i := by
  obtain ⟨-, -, -, -, h4, -⟩ := B 30 _ rfl
  obtain ⟨a0, a1, -⟩ := B 31 _ rfl
  obtain ⟨r, c, rfl⟩ : ∃ r c, i = ix2 r c := ⟨i 0, i 1, eq_ix2 i⟩
  refine (congrFun (ter a1 (un a0 (run h4 rfl)) rfl rfl) (ix2 r c)).trans ?_
  exact pick_eq ((bcols (by decide) _ r c).trans ((bcol (by decide) _ r 0).trans (accepts_step B hn r)))
    (congrFun (proposed_step B hn) (ix2 r c)) rfl

theorem moved_likes (r : Fin 32) :
    (V main_while0b_v132 : S32.Idx → Ideal .f32) (ix1 r) = (moved (read V t) (held V)).L r := by
  refine (congrFun (ter (B 32 _ rfl).1 rfl rfl rfl) (ix1 r)).trans ?_
  exact pick_eq (accepts_step B hn r) (proposed_like B hn r) rfl

variable (ht : t < 100) (hr : ∀ r : Fin 32, (V main_v18_5 : S32.Idx → W) (ix1 r) = BitVec.ofNat 32 r.val)
include ht hr

theorem swaps_step (r : Fin 32) : (V main_while0b_v170 : S32.Idx → BitVec 1) (ix1 r)
    = swaps (read V t) (moved (read V t) (held V)) t r := by
  have hm := mate_step B ht hn hr
  refine (swap_step B r hm hr).trans (congrArg (fun b => IntOp.andi b (BitVec.ofBool (mate t r != r))) ?_)
  exact congrArg₂ (FloatOps.cmpf (F := Ideal) (φ := .f32) .olt) (exchange_step B hn _) ((gap_step B r hm).trans
    (congrArg₂ (fun x y : Ideal .f32 => FloatOps.mulf (F := Ideal) (φ := .f32)
      (FloatOps.subf ((V main_v18_4 : S32.Idx → Ideal .f32) (ix1 r)) ((V main_v18_4 : S32.Idx → Ideal .f32) (ix1 (mate t r)))) (FloatOps.subf x y))
      (moved_likes B hn _) (moved_likes B hn _)))

/-- One step of the loop. -/
theorem whole_step : (⟨(V main_while0b_v179 : S32x2048.Idx → Ideal .f32), fun r => (V main_while0b_v187 : S32.Idx → Ideal .f32) (ix1 r)⟩ : State Ideal)
    = step (read V t) (held V) t := by
  have hm := mate_step B ht hn hr
  have eX : (V main_while0b_v179 : S32x2048.Idx → Ideal .f32) = (step (read V t) (held V) t).X := by
    funext i
    obtain ⟨r, c, rfl⟩ : ∃ r c, i = ix2 r c := ⟨i 0, i 1, eq_ix2 i⟩
    exact (points_step B r hm c).trans (pick_eq (swaps_step B hn ht hr r) (moved_points B hn _) (moved_points B hn _))
  have eL : (fun r => (V main_while0b_v187 : S32.Idx → Ideal .f32) (ix1 r)) = (step (read V t) (held V) t).L := by
    funext r
    exact (likes_step B r hm).trans (pick_eq (swaps_step B hn ht hr r) (moved_likes B hn _) (moved_likes B hn _))
  rw [eX, eL]

end Keys

end Cert.ReferenceIdeal.Body

end
-- ==== Proof.RefLoop.lean ====
/- The reference's loop: what it carries at its start, and after every step. -/
module

public import proofs.«01_k».proof.Proof.RefStep

@[expose] public section

set_option maxRecDepth 16384

namespace Cert.ReferenceIdeal.Body

open Idealize.ShloMosaic Idealize.ShloMosaic.TcCoe Cert.Line Cert.Threefry Cert.Words Cert.Step Cert.ReferenceIdeal.Gen
open Idealize.ShloMosaic.ValueIdx StableHlo Cert.ReferenceIdeal.Value

/-- What the loop carries unchanged. -/
structure Carries (k : Fin 2 → W) (A : S2048x2048.Idx → Ideal .f32) (c : Fin 2048 → Ideal .f32) (β : Fin 32 → Ideal .f32)
    (V : Valuation τ sig (Elt Ideal)) : Prop where
  steps : ∀ n : Fin 100, (V main_v18_0 : S100.Idx → W) (ix1 n) = BitVec.ofNat 32 n.val
  key : baseKey V = k
  centre : (fun j => (V main_v18_2 : S2048.Idx → Ideal .f32) (ix1 j)) = c
  matrix : (V main_v18_3 : S2048x2048.Idx → Ideal .f32) = A
  temps : (fun r => (V main_v18_4 : S32.Idx → Ideal .f32) (ix1 r)) = β
  rows : ∀ r : Fin 32, (V main_v18_5 : S32.Idx → W) (ix1 r) = BitVec.ofNat 32 r.val

/-- The buffers carried unchanged. -/
abbrev fixed : List (Ref sig .tc) := [main_v18_0, main_v18_1, main_v18_2, main_v18_3, main_v18_4, main_v18_5]

section
variable {k : Fin 2 → W} {A : S2048x2048.Idx → Ideal .f32} {c : Fin 2048 → Ideal .f32} {β : Fin 32 → Ideal .f32}
  {V V' : Valuation τ sig (Elt Ideal)}

theorem Carries.of_eq (h : Carries k A c β V) (e : ∀ r ∈ fixed, V' (Proc.devRef .tc r) = V (Proc.devRef .tc r)) : Carries k A c β V' where
  steps n := (congrFun (e main_v18_0 (by decide)) (ix1 n)).trans (h.steps n)
  key := (funext fun i => congrFun (e main_v18_1 (by decide)) (ix1 i)).trans h.key
  centre := (funext fun j => congrFun (e main_v18_2 (by decide)) (ix1 j)).trans h.centre
  matrix := (e main_v18_3 (by decide)).trans h.matrix
  temps := (funext fun r => congrFun (e main_v18_4 (by decide)) (ix1 r)).trans h.temps
  rows r := (congrFun (e main_v18_5 (by decide)) (ix1 r)).trans (h.rows r)

theorem Carries.read (h : Carries k A c β V) (t : ℕ) : read V t = drawn k A c β t := by
  obtain ⟨-, rfl, rfl, rfl, rfl, -⟩ := h
  rfl

theorem held_eq (e7 : V' (Proc.devRef .tc main_v18_7) = V (Proc.devRef .tc main_v18_7))
    (e8 : V' (Proc.devRef .tc main_v18_8) = V (Proc.devRef .tc main_v18_8)) : held V' = held V := by
  unfold held; rw [e7, e8]
end

section Trip
variable (V : Valuation τ sig (Elt Ideal))

/-- After the body's line, before the copies that end it. -/
noncomputable abbrev mid : Valuation τ sig (Elt Ideal) := after (bodyLines (F := Ideal)).flatten (after condOps V)

theorem trip_eq : afterL bodyI (after condOps V) = after while0Ops0_48 (mid V) := by
  rw [afterL_eq_after_flatten, show (bodyI (F := Ideal)) = bodyLines ++ [while0Ops0_48] from rfl, List.flatten_append, after_append]
  rfl

theorem mid_keeps {r : Ref sig .tc} (h : rk r < rk main_while0b_call0_v0) (hc : r ∉ condOps_W) :
    mid V (Proc.devRef .tc r) = V (Proc.devRef .tc r) :=
  (Rising.keeps body_lines _ r h).trans (after_of_writes_sub condOps V condOps_writes hc)

theorem trip_keeps {r : Ref sig .tc} (h : rk r < rk main_while0b_call0_v0) (hc : r ∉ condOps_W) (hw : r ∉ while0Ops0_48_W) :
    afterL bodyI (after condOps V) (Proc.devRef .tc r) = V (Proc.devRef .tc r) := by
  rw [trip_eq]
  exact (after_of_writes_sub while0Ops0_48 _ while0Ops0_48_writes hw).trans (mid_keeps V h hc)

theorem last_points (X : Valuation τ sig (Elt Ideal)) :
    after while0Ops0_48 X (Proc.devRef .tc main_v18_7) = X (Proc.devRef .tc main_while0b_v179) := by
  after_results
  rfl

theorem last_likes (X : Valuation τ sig (Elt Ideal)) :
    after while0Ops0_48 X (Proc.devRef .tc main_v18_8) = X (Proc.devRef .tc main_while0b_v187) := by
  after_results
  rfl

variable {V} {k : Fin 2 → W} {A : S2048x2048.Idx → Ideal .f32} {c : Fin 2048 → Ideal .f32} {β : Fin 32 → Ideal .f32} {t : ℕ}

/-- A trip makes the step. -/
theorem trip_step (h : Carries k A c β V) (ht : t < 100) (hn : (V main_v18_6 : S_.Idx → W) = fun _ => BitVec.ofNat 32 t) :
    Carries k A c β (afterL bodyI (after condOps V))
      ∧ held (afterL bodyI (after condOps V)) = step (drawn k A c β t) (held V) t := by
  have ef : ∀ r ∈ fixed, rk r < rk main_while0b_call0_v0 ∧ r ∉ condOps_W ∧ r ∉ while0Ops0_48_W := by decide +kernel
  have hm : Carries k A c β (mid V) := h.of_eq fun r hr => mid_keeps V (ef r hr).1 (ef r hr).2.1
  have B : Whole (mid V) := fun n l hl => solved_at body_lines _ hl
  have h19 := number_step B ht ((mid_keeps V (r := main_v18_6) (by decide +kernel) (by decide +kernel)).trans hn) hm.steps
  refine ⟨h.of_eq fun r hr => trip_keeps V (ef r hr).1 (ef r hr).2.1 (ef r hr).2.2, ?_⟩
  have e := whole_step B h19 ht hm.rows
  rw [hm.read t, held_eq (V := V) (mid_keeps V (r := main_v18_7) (by decide +kernel) (by decide +kernel))
    (mid_keeps V (r := main_v18_8) (by decide +kernel) (by decide +kernel))] at e
  rw [← e, trip_eq]
  unfold held
  rw [last_points, last_likes]

end Trip

/-! ### The start -/

set_option maxHeartbeats 1000000 in
theorem entry_lines : Lines (rk main_cst) [hostOps0 (F := Ideal)] (rk main_v18_9 + 1) := by
  repeat
    with_reducible first
      | refine Lines.cons (own_nullary _ _ _) (by decide) ?_
      | refine Lines.cons (own_unary _ _ _ _ _ (by decide)) (by decide) ?_
      | refine Lines.cons (own_binary _ _ _ _ _ _ _ (by decide)) (by decide) ?_
      | refine Lines.next ?_
  exact Lines.nil (Nat.le_refl _)

/-- The temperatures. -/
noncomputable def temps (r : Fin 32) : Ideal .f32 := lit (lit0 (S32.rowMajor (ix1 r)))

theorem entry_solved {V : Valuation τ sig (Elt Ideal)} (h : Solved V hostOps0) :
    Carries seed (V main_arg1 : S2048x2048.Idx → Ideal .f32) (fun j => (V main_arg2 : S2048.Idx → Ideal .f32) (ix1 j)) temps V
      ∧ held V = ⟨(V main_arg0 : S32x2048.Idx → Ideal .f32), like (F := Ideal) (V main_arg1 : S2048x2048.Idx → Ideal .f32)
          (fun j => (V main_arg2 : S2048.Idx → Ideal .f32) (ix1 j)) (V main_arg0 : S32x2048.Idx → Ideal .f32)⟩ := by
  obtain ⟨h0, h1, h2, h3, h4, h5, h6, h7, h8, h9, h10, h11, h12, h13, h14, h15, h16, h17, h18, h19, h20, h21, h22, h23, h24, h25,
    i0, i1, i2, i3, i4, i5, i6, i7, i8, -⟩ := h
  have ek := rbin h10 (run h5 (run h4 (rbin h3 (rnul h1) (rnul h2)))) (run h9 (run h8 (rbin h7 (rnul h1) (rnul h6))))
  have el := rbin h21 (run h20 (rnul h19)) (rbin h18 (rbin h16 (rbin h15 (rbin h14 rfl (run h13 (run h12 rfl))) rfl)
    (rbin h15 (rbin h14 rfl (run h13 (run h12 rfl))) rfl)) (rnul h17))
  refine ⟨⟨fun n => congrFun (run i0 (rnul h22)) (ix1 n), funext fun a => ?_, ?_, run i3 rfl, ?_, fun r => congrFun (run i5 (rnul h11)) (ix1 r)⟩, ?_⟩
  · refine (congrFun (run i1 ek) (ix1 a)).trans ?_
    match a with
    | 0 => exact (cat1_fst _ _).trans ((bcast0 _ _).trans (shr32 42#32))
    | 1 => exact (cat1_snd _ _).trans ((bcast0 _ _).trans (and_ones 42#32))
  · exact funext fun j => congrFun (run i2 rfl) (ix1 j)
  · exact funext fun r => congrFun (run i4 (rnul h0)) (ix1 r)
  · have e7 : (V main_v18_7 : S32x2048.Idx → Ideal .f32) = (V main_arg0 : S32x2048.Idx → Ideal .f32) := run i7 rfl
    have e8 : (fun r => (V main_v18_8 : S32.Idx → Ideal .f32) (ix1 r)) = like (F := Ideal) (V main_arg1 : S2048x2048.Idx → Ideal .f32)
        (fun j => (V main_arg2 : S2048.Idx → Ideal .f32) (ix1 j)) (V main_arg0 : S32x2048.Idx → Ideal .f32) :=
      funext fun r => (congrFun (run i8 el) (ix1 r)).trans
        (like_host _ _ _ _ (fun i j => (brows (by decide) _ i j).trans (brow (by decide) _ 0 j)) r)
    exact congrArg₂ State.mk e7 e8

section Run
variable (m : (ℓ : Loc nD τ sig) → Buf (Elt Ideal) ℓ) (c : Dev nD)

theorem entry_keeps {r : Ref sig .tc} (h : rk r < rk main_cst) : entryContents preI m c (Proc.devRef .tc r) = launchContents m c (Proc.devRef .tc r) :=
  (congrFun (afterL_eq_after_flatten preI _) _).trans (Rising.keeps entry_lines _ r h)

/-- The chains after `k` trips. -/
theorem at_walk : ∀ k ≤ 100,
    Carries seed (launchContents m c (Proc.devRef .tc main_arg1) : S2048x2048.Idx → Ideal .f32)
        (fun j => (launchContents m c (Proc.devRef .tc main_arg2) : S2048.Idx → Ideal .f32) (ix1 j)) temps (atK m k c)
      ∧ held (atK m k c) = walk seed (launchContents m c (Proc.devRef .tc main_arg1) : S2048x2048.Idx → Ideal .f32)
        (fun j => (launchContents m c (Proc.devRef .tc main_arg2) : S2048.Idx → Ideal .f32) (ix1 j)) temps
        (launchContents m c (Proc.devRef .tc main_arg0) : S32x2048.Idx → Ideal .f32) k
  | 0, _ => by
    have h : Solved (entryContents preI m c) hostOps0 := by
      rw [show entryContents preI m c = after [hostOps0 (F := Ideal)].flatten (launchContents m c) from afterL_eq_after_flatten preI _]
      exact solved_at entry_lines _ (n := 0) rfl
    have e := entry_solved h
    rw [entry_keeps m c (r := main_arg0) (by decide +kernel), entry_keeps m c (r := main_arg1) (by decide +kernel),
      entry_keeps m c (r := main_arg2) (by decide +kernel)] at e
    exact e
  | k + 1, hk => by
    obtain ⟨h, e⟩ := at_walk k (by omega)
    have := trip_step h (t := k) (by omega) ((atK_ctr m c k).trans (funext fun _ => by unfold Scf.iv; rw [BitVec.zero_add, BitVec.mul_one]))
    rw [e] at this
    exact this

/-- An argument is never written. -/
theorem at_keeps {r : Ref sig .tc} (h0 : rk r < rk main_cst) (h : rk r < rk main_while0b_call0_v0) (hc : r ∉ condOps_W) (hw : r ∉ while0Ops0_48_W) :
    ∀ k, atK m k c (Proc.devRef .tc r) = launchContents m c (Proc.devRef .tc r)
  | 0 => entry_keeps m c h0
  | k + 1 => (trip_keeps (atK m k c) h hc hw).trans (at_keeps h0 h hc hw k)

end Run

end Cert.ReferenceIdeal.Body

end
-- ==== Proof.RefRun.lean ====
/- The reference's run: its arguments stay, and its result is the points after a hundred steps. -/
module

public import proofs.«01_k».proof.Proof.RefLoop

@[expose] public section

set_option maxRecDepth 16384

noncomputable section

namespace Cert.ReferenceIdeal.Body

open Idealize.ShloMosaic Idealize.ShloMosaic.TcCoe Idealize.SL.Sem Cert.Line Cert.Threefry Cert.Words Cert.Step Cert.ReferenceIdeal.Gen
open Idealize.ShloMosaic.ValueIdx StableHlo Cert.ReferenceIdeal.Value

variable (m : (ℓ : Loc nD τ sig) → Buf (Elt Ideal) ℓ) (ρ : Dev nD → PrngReg) (c : Dev nD)

/-- The chains after `n` steps from the reference's arguments. -/
abbrev chains (n : ℕ) : State Ideal :=
  walk seed (m ((c.tc : Thread nD τ).loc main_arg1)) (fun j => (m ((c.tc : Thread nD τ).loc main_arg2) : S2048.Idx → Ideal .f32) (ix1 j))
    temps (m ((c.tc : Thread nD τ).loc main_arg0)) n

theorem final_points : finalContents condOps preI bodyI postI 100 m c (Proc.devRef .tc main_v18_7) = (chains m c 100).X :=
  (after_of_writes_sub condOps (atK m 100 c) condOps_writes (r := main_v18_7) (by decide +kernel)).trans
    (congrArg State.X (at_walk m c 100 (Nat.le_refl _)).2)

theorem final_keeps {r : Ref sig .tc} (h0 : rk r < rk main_cst) (h : rk r < rk main_while0b_call0_v0) (hc : r ∉ condOps_W) (hw : r ∉ while0Ops0_48_W) :
    finalContents condOps preI bodyI postI 100 m c (Proc.devRef .tc r) = m ((c.tc : Thread nD τ).loc r) :=
  (after_of_writes_sub condOps (atK m 100 c) condOps_writes hc).trans (at_keeps m c h0 h hc hw 100)

/-- The run. -/
theorem run_main : θ_run (defs (F := Ideal)) (onTc (τ := τ) (main (F := Ideal))) ⟨m, fun _ => 0, ρ⟩ fun r =>
    (∀ c : Dev nD, r.2.mem ((c.tc : Thread nD τ).loc main_v18_7) = (chains m c 100).X
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0 :=
  (θ_run _ _ _).mono (fun r h => ⟨fun c =>
      ⟨(h c main_v18_7 (by decide +kernel)).trans (final_points m c),
        (h c main_arg0 (by decide +kernel)).trans (final_keeps m c (by decide +kernel) (by decide +kernel) (by decide +kernel) (by decide +kernel)),
        (h c main_arg1 (by decide +kernel)).trans (final_keeps m c (by decide +kernel) (by decide +kernel) (by decide +kernel) (by decide +kernel)),
        (h c main_arg2 (by decide +kernel)).trans (final_keeps m c (by decide +kernel) (by decide +kernel) (by decide +kernel) (by decide +kernel))⟩,
      sem_eq_zero_of_no_sems (by decide) r.2⟩)
    (run_fold m ρ)

end Cert.ReferenceIdeal.Body

end
-- ==== Proof.lean ====
/- The certificate's claims. The three frames: the kernel's at the words, the kernel's at the extended reals, and the
   reference's. The kernel's idealization rewrites no operation. And at the extended reals the kernel and the reference
   end with the same points: each is the walk of `Draws.lean`, a hundred steps of the one `Step.lean` states. -/
module

public import proofs.«01_k».proof.Defs
public import proofs.«01_k».proof.Proof.Gen.Kernel.Frame
public import proofs.«01_k».proof.Proof.Gen.Kernel.Value
public import proofs.«01_k».proof.Proof.Gen.KernelIdeal.Frame
public import proofs.«01_k».proof.Proof.Gen.KernelIdeal.Value
public import proofs.«01_k».proof.Proof.KernelWalk
public import proofs.«01_k».proof.Proof.Gen.ReferenceIdeal.Run
public import proofs.«01_k».proof.Proof.RefRun

@[expose] public section

noncomputable section

namespace Cert.Proof

open Idealize.ShloMosaic Idealize.ShloMosaic.TcCoe Idealize.SL.Sem

/-- The two programs hold one table of inverse temperatures. -/
theorem temps_eq : (Cert.KernelIdeal.Body.temps : Fin 32 → Ideal .f32) = Cert.ReferenceIdeal.Body.temps := rfl

/-- From equal arguments the two programs walk the same chains. -/
theorem chains_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (n : ℕ) : Cert.ReferenceIdeal.Body.chains m' c n = Cert.KernelIdeal.Body.chains m c n := by
  rw [Cert.ReferenceIdeal.Body.chains, Cert.KernelIdeal.Body.chains, temps_eq, h0, h1, h2]

theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => (θ_run _ _ _).mono (fun _ h => ⟨fun c => (h.1 c).2, h.2⟩) (Cert.ReferenceIdeal.Body.run_main m ρ),
  trivial,
  fun m ρ m' ρ' _ same => ⟨fun c => (Cert.KernelIdeal.Body.chains m c 100).X,
    (θ_run _ _ _).mono (fun _ h c => ⟨(h c).1.trans (Cert.KernelIdeal.Body.result_eq m c), (h c).2⟩) (Cert.KernelIdeal.Value.run m ρ),
    (θ_run _ _ _).mono (fun _ h c => ⟨(h.1 c).1.trans (congrArg Cert.Step.State.X (chains_eq m m' c (same c).1 (same c).2.1 (same c).2.2 100)), (h.1 c).2⟩)
      (Cert.ReferenceIdeal.Body.run_main m' ρ')⟩⟩

end Cert.Proof

end
